-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9))).1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9))).2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9))).2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9))).2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9))).2.2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9))).1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9))).2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9))).2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9))).2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9))).2.2.2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)) (v2 : (c : Dev Cert.KernelIdeal.nD) → Buf (Elt Ideal) ((c.tc : Thread Cert.KernelIdeal.nD Cert.KernelIdeal.τ).loc Cert.KernelIdeal.main_v10_2)) (v3 : (c : Dev Cert.KernelIdeal.nD) → Buf (Elt Ideal) ((c.tc : Thread Cert.KernelIdeal.nD Cert.KernelIdeal.τ).loc Cert.KernelIdeal.main_v10_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_v10_2) = v2 c
          ∧ r.2.mem ((c.tc : Thread Cert.KernelIdeal.nD Cert.KernelIdeal.τ).loc Cert.KernelIdeal.main_v10_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_v51) = v2 c
          ∧ r.2.mem ((c.tc : Thread Cert.ReferenceIdeal.nD Cert.ReferenceIdeal.τ).loc Cert.ReferenceIdeal.main_v53) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  IdealRules.named_const.Statement Cert.Kernel2Ideal.κ "gamma3" .f32 0x3F474682#32 ((10436900611138725869172867285320967420499386398293333045633692797639857278619179096472846825397665828940838712011497657616843071082257665693759918212890625 / 13407807929942597099574024998205846127479365820592393377723561443721764030073546976801874298166903427690031858186486050853753882811946569946433649006084096 : ℝ) : EReal)
  ∧ IdealRules.named_const.Statement Cert.Kernel2Ideal.κ "gamma2" .f32 0x3F1AF7A1#32 ((439985273984774139364885786774155225074372621425249766976946157772109425125407741241214744259687760072793219732307971501512893104906241 / 726838724295606890549323807888004534353641360687318060281490199180639288113397923326191050713763565560762521606266177933534601628614656 : ℝ) : EReal)
  ∧ IdealRules.named_const.Statement Cert.Kernel2Ideal.κ "gamma1" .f32 0x3EBADF84#32 ((14381201289858923833733732277241427911251598557516928831287151963615866190845260542210496569296551598609485715599361 / 39402006196394479212279040100143613805079739270465446667948293404245721771497210611414266254884915640806627990306816 : ℝ) : EReal)
  ∧ IdealRules.named_const.Statement Cert.Kernel2Ideal.κ "gamma0" .f32 0x3E063AE5#32 ((279993793990258235750468749959300213014699042596341116563305503247751586492770004816505534904321 / 2135987035920910082395021706169552114602704522356652769947041607822219725780640550022962086936576 : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v353)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v353) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v602) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  IdealRules.named_const.Statement Cert.Kernel3Ideal.κ "gamma0" .f32 0x3E063AE5#32 ((279993793990258235750468749959300213014699042596341116563305503247751586492770004816505534904321 / 2135987035920910082395021706169552114602704522356652769947041607822219725780640550022962086936576 : ℝ) : EReal)
  ∧ IdealRules.named_const.Statement Cert.Kernel3Ideal.κ "gamma1" .f32 0x3EBADF84#32 ((14381201289858923833733732277241427911251598557516928831287151963615866190845260542210496569296551598609485715599361 / 39402006196394479212279040100143613805079739270465446667948293404245721771497210611414266254884915640806627990306816 : ℝ) : EReal)
  ∧ IdealRules.named_const.Statement Cert.Kernel3Ideal.κ "gamma2" .f32 0x3F1AF7A1#32 ((439985273984774139364885786774155225074372621425249766976946157772109425125407741241214744259687760072793219732307971501512893104906241 / 726838724295606890549323807888004534353641360687318060281490199180639288113397923326191050713763565560762521606266177933534601628614656 : ℝ) : EReal)
  ∧ IdealRules.named_const.Statement Cert.Kernel3Ideal.κ "gamma3" .f32 0x3F474682#32 ((10436900611138725869172867285320967420499386398293333045633692797639857278619179096472846825397665828940838712011497657616843071082257665693759918212890625 / 13407807929942597099574024998205846127479365820592393377723561443721764030073546976801874298166903427690031858186486050853753882811946569946433649006084096 : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)) →
    ∃ (v0 : (c : Dev Cert.Kernel3Ideal.nD) → Buf (Elt Ideal) ((c.tc : Thread Cert.Kernel3Ideal.nD Cert.Kernel3Ideal.τ).loc Cert.Kernel3Ideal.main_v78_0)) (v1 : (c : Dev Cert.Kernel3Ideal.nD) → Buf (Elt Ideal) ((c.tc : Thread Cert.Kernel3Ideal.nD Cert.Kernel3Ideal.τ).loc Cert.Kernel3Ideal.main_v78_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v78_0) = v0 c
          ∧ r.2.mem ((c.tc : Thread Cert.Kernel3Ideal.nD Cert.Kernel3Ideal.τ).loc Cert.Kernel3Ideal.main_v78_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v332) = v0 c
          ∧ r.2.mem ((c.tc : Thread Cert.Reference3Ideal.nD Cert.Reference3Ideal.τ).loc Cert.Reference3Ideal.main_v349) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v20_0)) (v1 : (c : Dev Cert.Kernel4Ideal.nD) → Buf (Elt Ideal) ((c.tc : Thread Cert.Kernel4Ideal.nD Cert.Kernel4Ideal.τ).loc Cert.Kernel4Ideal.main_v20_1)) (v2 : (c : Dev Cert.Kernel4Ideal.nD) → Buf (Elt Ideal) ((c.tc : Thread Cert.Kernel4Ideal.nD Cert.Kernel4Ideal.τ).loc Cert.Kernel4Ideal.main_v20_2)) (v3 : (c : Dev Cert.Kernel4Ideal.nD) → Buf (Elt Ideal) ((c.tc : Thread Cert.Kernel4Ideal.nD Cert.Kernel4Ideal.τ).loc Cert.Kernel4Ideal.main_v20_3)) (v4 : (c : Dev Cert.Kernel4Ideal.nD) → Buf (Elt Ideal) ((c.tc : Thread Cert.Kernel4Ideal.nD Cert.Kernel4Ideal.τ).loc Cert.Kernel4Ideal.main_v20_4)) (v5 : (c : Dev Cert.Kernel4Ideal.nD) → Buf (Elt Ideal) ((c.tc : Thread Cert.Kernel4Ideal.nD Cert.Kernel4Ideal.τ).loc Cert.Kernel4Ideal.main_v20_5)) (v6 : (c : Dev Cert.Kernel4Ideal.nD) → Buf (Elt Ideal) ((c.tc : Thread Cert.Kernel4Ideal.nD Cert.Kernel4Ideal.τ).loc Cert.Kernel4Ideal.main_v20_6)) (v7 : (c : Dev Cert.Kernel4Ideal.nD) → Buf (Elt Ideal) ((c.tc : Thread Cert.Kernel4Ideal.nD Cert.Kernel4Ideal.τ).loc Cert.Kernel4Ideal.main_v20_7)) (v8 : (c : Dev Cert.Kernel4Ideal.nD) → Buf (Elt Ideal) ((c.tc : Thread Cert.Kernel4Ideal.nD Cert.Kernel4Ideal.τ).loc Cert.Kernel4Ideal.main_v20_8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v20_0) = v0 c
          ∧ r.2.mem ((c.tc : Thread Cert.Kernel4Ideal.nD Cert.Kernel4Ideal.τ).loc Cert.Kernel4Ideal.main_v20_1) = v1 c
          ∧ r.2.mem ((c.tc : Thread Cert.Kernel4Ideal.nD Cert.Kernel4Ideal.τ).loc Cert.Kernel4Ideal.main_v20_2) = v2 c
          ∧ r.2.mem ((c.tc : Thread Cert.Kernel4Ideal.nD Cert.Kernel4Ideal.τ).loc Cert.Kernel4Ideal.main_v20_3) = v3 c
          ∧ r.2.mem ((c.tc : Thread Cert.Kernel4Ideal.nD Cert.Kernel4Ideal.τ).loc Cert.Kernel4Ideal.main_v20_4) = v4 c
          ∧ r.2.mem ((c.tc : Thread Cert.Kernel4Ideal.nD Cert.Kernel4Ideal.τ).loc Cert.Kernel4Ideal.main_v20_5) = v5 c
          ∧ r.2.mem ((c.tc : Thread Cert.Kernel4Ideal.nD Cert.Kernel4Ideal.τ).loc Cert.Kernel4Ideal.main_v20_6) = v6 c
          ∧ r.2.mem ((c.tc : Thread Cert.Kernel4Ideal.nD Cert.Kernel4Ideal.τ).loc Cert.Kernel4Ideal.main_v20_7) = v7 c
          ∧ r.2.mem ((c.tc : Thread Cert.Kernel4Ideal.nD Cert.Kernel4Ideal.τ).loc Cert.Kernel4Ideal.main_v20_8) = v8 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v81) = v0 c
          ∧ r.2.mem ((c.tc : Thread Cert.Reference4Ideal.nD Cert.Reference4Ideal.τ).loc Cert.Reference4Ideal.main_v82) = v1 c
          ∧ r.2.mem ((c.tc : Thread Cert.Reference4Ideal.nD Cert.Reference4Ideal.τ).loc Cert.Reference4Ideal.main_v83) = v2 c
          ∧ r.2.mem ((c.tc : Thread Cert.Reference4Ideal.nD Cert.Reference4Ideal.τ).loc Cert.Reference4Ideal.main_v84) = v3 c
          ∧ r.2.mem ((c.tc : Thread Cert.Reference4Ideal.nD Cert.Reference4Ideal.τ).loc Cert.Reference4Ideal.main_v85) = v4 c
          ∧ r.2.mem ((c.tc : Thread Cert.Reference4Ideal.nD Cert.Reference4Ideal.τ).loc Cert.Reference4Ideal.main_v86) = v5 c
          ∧ r.2.mem ((c.tc : Thread Cert.Reference4Ideal.nD Cert.Reference4Ideal.τ).loc Cert.Reference4Ideal.main_v87) = v6 c
          ∧ r.2.mem ((c.tc : Thread Cert.Reference4Ideal.nD Cert.Reference4Ideal.τ).loc Cert.Reference4Ideal.main_v88) = v7 c
          ∧ r.2.mem ((c.tc : Thread Cert.Reference4Ideal.nD Cert.Reference4Ideal.τ).loc Cert.Reference4Ideal.main_v89) = v8 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v6_0)) (v1 : (c : Dev Cert.Kernel5Ideal.nD) → Buf (Elt Ideal) ((c.tc : Thread Cert.Kernel5Ideal.nD Cert.Kernel5Ideal.τ).loc Cert.Kernel5Ideal.main_v6_1)) (v2 : (c : Dev Cert.Kernel5Ideal.nD) → Buf (Elt Ideal) ((c.tc : Thread Cert.Kernel5Ideal.nD Cert.Kernel5Ideal.τ).loc Cert.Kernel5Ideal.main_v6_2)) (v3 : (c : Dev Cert.Kernel5Ideal.nD) → Buf (Elt Ideal) ((c.tc : Thread Cert.Kernel5Ideal.nD Cert.Kernel5Ideal.τ).loc Cert.Kernel5Ideal.main_v6_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6_0) = v0 c
          ∧ r.2.mem ((c.tc : Thread Cert.Kernel5Ideal.nD Cert.Kernel5Ideal.τ).loc Cert.Kernel5Ideal.main_v6_1) = v1 c
          ∧ r.2.mem ((c.tc : Thread Cert.Kernel5Ideal.nD Cert.Kernel5Ideal.τ).loc Cert.Kernel5Ideal.main_v6_2) = v2 c
          ∧ r.2.mem ((c.tc : Thread Cert.Kernel5Ideal.nD Cert.Kernel5Ideal.τ).loc Cert.Kernel5Ideal.main_v6_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v29) = v0 c
          ∧ r.2.mem ((c.tc : Thread Cert.Reference5Ideal.nD Cert.Reference5Ideal.τ).loc Cert.Reference5Ideal.main_v31) = v1 c
          ∧ r.2.mem ((c.tc : Thread Cert.Reference5Ideal.nD Cert.Reference5Ideal.τ).loc Cert.Reference5Ideal.main_v33) = v2 c
          ∧ r.2.mem ((c.tc : Thread Cert.Reference5Ideal.nD Cert.Reference5Ideal.τ).loc Cert.Reference5Ideal.main_v35) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v0) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite4 : Cert.Pre_finite4.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
-- ==== Pre_finite4.lean ====
abbrev S1x2048x1024 : Shape := ⟨3, ![1, 2048, 1024]⟩
abbrev S1x1024 : Shape := ⟨2, ![1, 1024]⟩
abbrev S1x1024x3712 : Shape := ⟨3, ![1, 1024, 3712]⟩
abbrev S1x2176 : Shape := ⟨2, ![1, 2176]⟩
abbrev S1x64x512 : Shape := ⟨3, ![1, 64, 512]⟩
abbrev S1x512 : Shape := ⟨2, ![1, 512]⟩
abbrev S_ : Shape := ⟨0, ![]⟩

class Facts : Prop where
  bcast_S_S1x2048x1024 : S_.BroadcastsInDim S1x2048x1024 (![] : Fin 0 → Fin S1x2048x1024.rank)
  bcast_S_S1x1024 : S_.BroadcastsInDim S1x1024 (![] : Fin 0 → Fin S1x1024.rank)
  bcast_S_S1x1024x3712 : S_.BroadcastsInDim S1x1024x3712 (![] : Fin 0 → Fin S1x1024x3712.rank)
  bcast_S_S1x2176 : S_.BroadcastsInDim S1x2176 (![] : Fin 0 → Fin S1x2176.rank)
  bcast_S_S1x512 : S_.BroadcastsInDim S1x512 (![] : Fin 0 → Fin S1x512.rank)

variable [Facts]

def fn {F : FTy → Type} [FloatOps F] (main_arg0 : FVec F S1x2048x1024 .f32) (main_arg1 : FVec F S1x1024 .f32) (main_arg2 : FVec F S1x1024x3712 .f32) (main_arg3 : FVec F S1x2176 .f32) (main_arg4 : FVec F S1x64x512 .f32) (main_arg5 : FVec F S1x512 .f32) (main_arg6 : FVec F S1x64x512 .f32) (main_arg7 : FVec F S1x512 .f32) (main_arg8 : FVec F S1x512 .f32) (main_arg9 : FVec F S1x512 .f32) : IVec S1x2048x1024 1 × IVec S1x1024 1 × IVec S1x1024x3712 1 × IVec S1x2176 1 × IVec S1x512 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024x3712 .f32 := Host.absf main_arg2
  let main_cst_1 : FVec F S_ .f32 := constant S_ .f32 0x7F800000#32
  let main_v7 : FVec F S1x1024x3712 .f32 := broadcastInDim S1x1024x3712 ![] bcast_S_S1x1024x3712 main_cst_1
  let main_v8 : IVec S1x1024x3712 1 := cmpf .olt main_v6 main_v7
  let main_v9 : FVec F S1x2176 .f32 := Host.absf main_arg3
  let main_cst_2 : FVec F S_ .f32 := constant S_ .f32 0x7F800000#32
  let main_v10 : FVec F S1x2176 .f32 := broadcastInDim S1x2176 ![] bcast_S_S1x2176 main_cst_2
  let main_v11 : IVec S1x2176 1 := cmpf .olt main_v9 main_v10
  let main_v12 : FVec F S1x512 .f32 := Host.absf main_arg8
  let main_cst_3 : FVec F S_ .f32 := constant S_ .f32 0x7F800000#32
  let main_v13 : FVec F S1x512 .f32 := broadcastInDim S1x512 ![] bcast_S_S1x512 main_cst_3
  let main_v14 : IVec S1x512 1 := cmpf .olt main_v12 main_v13
  (main_v2, main_v5, main_v8, main_v11, main_v14)
-- ==== Kernel.lean ====
abbrev S1x2048x1024 : Shape := ⟨3, ![1, 2048, 1024]⟩
abbrev S1x1024 : Shape := ⟨2, ![1, 1024]⟩
abbrev S1x1024x3712 : Shape := ⟨3, ![1, 1024, 3712]⟩
abbrev S1x2048x3712 : Shape := ⟨3, ![1, 2048, 3712]⟩
abbrev S1024x3712 : Shape := ⟨2, ![1024, 3712]⟩
abbrev S3712x1024 : Shape := ⟨2, ![3712, 1024]⟩
abbrev S2048x1024 : Shape := ⟨2, ![2048, 1024]⟩
abbrev S1x2048x512 : Shape := ⟨3, ![1, 2048, 512]⟩
abbrev S2048x512 : Shape := ⟨2, ![2048, 512]⟩
abbrev S1x2048x2176 : Shape := ⟨3, ![1, 2048, 2176]⟩
abbrev S2048x2176 : Shape := ⟨2, ![2048, 2176]⟩
abbrev S4x464x1024 : Shape := ⟨3, ![4, 464, 1024]⟩
abbrev S1x256x1024 : Shape := ⟨3, ![1, 256, 1024]⟩
abbrev S256x1024 : Shape := ⟨2, ![256, 1024]⟩
abbrev S256x512 : Shape := ⟨2, ![256, 512]⟩
abbrev S256x2176 : Shape := ⟨2, ![256, 2176]⟩
abbrev S256 : Shape := ⟨1, ![256]⟩
abbrev S256x1 : Shape := ⟨2, ![256, 1]⟩
abbrev S1024x1024 : Shape := ⟨2, ![1024, 1024]⟩
abbrev S512x1024 : Shape := ⟨2, ![512, 1024]⟩
abbrev S2176x1024 : Shape := ⟨2, ![2176, 1024]⟩
abbrev S1024 : Shape := ⟨1, ![1024]⟩
abbrev S464x1024 : Shape := ⟨2, ![464, 1024]⟩
abbrev S1x464x1024 : Shape := ⟨3, ![1, 464, 1024]⟩

abbrev nBuf : Space → Nat
  | .hbm => 19
  | .vmem => 18
  | .smem => 0
  | _ => 0

abbrev bufTy : (tb : Table) → Fin (tcTables nBuf tb) → BufTy
  | .hbm, ⟨0, _⟩ => ⟨S1x2048x1024, .f32⟩
  | .hbm, ⟨1, _⟩ => ⟨S1x1024, .f32⟩
  | .hbm, ⟨2, _⟩ => ⟨S1x1024x3712, .f32⟩
  | .hbm, ⟨3, _⟩ => ⟨S1x2048x3712, .f32⟩
  | .hbm, ⟨4, _⟩ => ⟨S1x2048x1024, .f32⟩
  | .hbm, ⟨5, _⟩ => ⟨S1024x3712, .f32⟩
  | .hbm, ⟨6, _⟩ => ⟨S3712x1024, .f32⟩
  | .hbm, ⟨7, _⟩ => ⟨S3712x1024, .bf16⟩
  | .hbm, ⟨8, _⟩ => ⟨S1x2048x1024, .f32⟩
  | .hbm, ⟨9, _⟩ => ⟨S2048x1024, .f32⟩
  | .hbm, ⟨10, _⟩ => ⟨S1x2048x512, .f32⟩
  | .hbm, ⟨11, _⟩ => ⟨S2048x512, .f32⟩
  | .hbm, ⟨12, _⟩ => ⟨S1x2048x2176, .f32⟩
  | .hbm, ⟨13, _⟩ => ⟨S2048x2176, .f32⟩
  | .hbm, ⟨14, _⟩ => ⟨S2048x1024, .f32⟩
  | .hbm, ⟨15, _⟩ => ⟨S1x2048x1024, .f32⟩
  | .hbm, ⟨16, _⟩ => ⟨S1x1024, .f32⟩
  | .hbm, ⟨17, _⟩ => ⟨S4x464x1024, .bf16⟩
  | .hbm, ⟨18, _⟩ => ⟨S4x464x1024, .bf16⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | .local _ .vmem, ⟨5, _⟩ => ⟨S256x512, .f32⟩
  | .local _ .vmem, ⟨6, _⟩ => ⟨S256x512, .f32⟩
  | .local _ .vmem, ⟨7, _⟩ => ⟨S256x2176, .f32⟩
  | .local _ .vmem, ⟨8, _⟩ => ⟨S256x2176, .f32⟩
  | .local _ .vmem, ⟨9, _⟩ => ⟨S256x1024, .f32⟩
  | .local _ .vmem, ⟨10, _⟩ => ⟨S256x1024, .f32⟩
  | .local _ .vmem, ⟨11, _⟩ => ⟨S3712x1024, .bf16⟩
  | .local _ .vmem, ⟨12, _⟩ => ⟨S1x256x1024, .f32⟩
  | .local _ .vmem, ⟨13, _⟩ => ⟨S1x256x1024, .f32⟩
  | .local _ .vmem, ⟨14, _⟩ => ⟨S1x1024, .f32⟩
  | .local _ .vmem, ⟨15, _⟩ => ⟨S4x464x1024, .bf16⟩
  | .local _ .vmem, ⟨16, _⟩ => ⟨S4x464x1024, .bf16⟩
  | .local _ .vmem, ⟨17, _⟩ => ⟨S3712x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev main_v10_2 : Ref sig .tc := ⟨.hbm, 17, rfl⟩
abbrev main_v10_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v92 : BitVec 1 := Scalar.cmpi .eq arg0 c7_i32
  let v93 : BitVec 32 := Scalar.extui v92
  let c0_i32_50 : BitVec 32 := 0#32
  let v94 : BitVec 1 := Scalar.cmpi .ne v93 c0_i32_50
  v94

def k0_cond3 : BitVec 1 :=
  let c0_i32_53 : BitVec 32 := 0#32
  let c0_i32_54 : BitVec 32 := 0#32
  let v97 : BitVec 1 := Scalar.cmpi .eq c0_i32_53 c0_i32_54
  let v98 : BitVec 32 := Scalar.extui v97
  let c0_i32_55 : BitVec 32 := 0#32
  let v99 : BitVec 1 := Scalar.cmpi .ne v98 c0_i32_55
  v99

def k0_cond5 : BitVec 1 :=
  let c0_i32_60 : BitVec 32 := 0#32
  let c1_i32 : BitVec 32 := 1#32
  let v105 : BitVec 1 := Scalar.cmpi .eq c0_i32_60 c1_i32
  let v106 : BitVec 32 := Scalar.extui v105
  let c0_i32_61 : BitVec 32 := 0#32
  let v107 : BitVec 1 := Scalar.cmpi .ne v106 c0_i32_61
  v107

def k0_cond7 : BitVec 1 :=
  let c0_i32_66 : BitVec 32 := 0#32
  let c0_i32_67 : BitVec 32 := 0#32
  let v113 : BitVec 1 := Scalar.cmpi .eq c0_i32_66 c0_i32_67
  let v114 : BitVec 32 := Scalar.extui v113
  let c0_i32_68 : BitVec 32 := 0#32
  let v115 : BitVec 1 := Scalar.cmpi .ne v114 c0_i32_68
  v115

def k0_cond9 : BitVec 1 :=
  let c0_i32_73 : BitVec 32 := 0#32
  let c1_i32_74 : BitVec 32 := 1#32
  let v121 : BitVec 1 := Scalar.cmpi .eq c0_i32_73 c1_i32_74
  let v122 : BitVec 32 := Scalar.extui v121
  let c0_i32_75 : BitVec 32 := 0#32
  let v123 : BitVec 1 := Scalar.cmpi .ne v122 c0_i32_75
  v123

def k0_cond11 : BitVec 1 :=
  let c0_i32_80 : BitVec 32 := 0#32
  let c0_i32_81 : BitVec 32 := 0#32
  let v129 : BitVec 1 := Scalar.cmpi .eq c0_i32_80 c0_i32_81
  let v130 : BitVec 32 := Scalar.extui v129
  let c0_i32_82 : BitVec 32 := 0#32
  let v131 : BitVec 1 := Scalar.cmpi .ne v130 c0_i32_82
  v131

def k0_cond13 : BitVec 1 :=
  let c0_i32_87 : BitVec 32 := 0#32
  let c1_i32_88 : BitVec 32 := 1#32
  let v137 : BitVec 1 := Scalar.cmpi .eq c0_i32_87 c1_i32_88
  let v138 : BitVec 32 := Scalar.extui v137
  let c0_i32_89 : BitVec 32 := 0#32
  let v139 : BitVec 1 := Scalar.cmpi .ne v138 c0_i32_89
  v139

def k0_cond15 : BitVec 1 :=
  let c0_i32_94 : BitVec 32 := 0#32
  let c0_i32_95 : BitVec 32 := 0#32
  let v145 : BitVec 1 := Scalar.cmpi .eq c0_i32_94 c0_i32_95
  let v146 : BitVec 32 := Scalar.extui v145
  let c0_i32_96 : BitVec 32 := 0#32
  let v147 : BitVec 1 := Scalar.cmpi .ne v146 c0_i32_96
  v147

def k0_cond17 : BitVec 1 :=
  let c0_i32_101 : BitVec 32 := 0#32
  let c1_i32_102 : BitVec 32 := 1#32
  let v153 : BitVec 1 := Scalar.cmpi .eq c0_i32_101 c1_i32_102
  let v154 : BitVec 32 := Scalar.extui v153
  let c0_i32_103 : BitVec 32 := 0#32
  let v155 : BitVec 1 := Scalar.cmpi .ne v154 c0_i32_103
  v155

def k0_cond4 : BitVec 1 :=
  let c0_i32_56 : BitVec 32 := 0#32
  let c0_i32_57 : BitVec 32 := 0#32
  let v100 : BitVec 1 := Scalar.cmpi .ne c0_i32_56 c0_i32_57
  let v101 : BitVec 32 := Scalar.extui v100
  let c0_i32_58 : BitVec 32 := 0#32
  let v102 : BitVec 1 := Scalar.cmpi .ne v101 c0_i32_58
  v102

def k0_cond6 : BitVec 1 :=
  let c0_i32_62 : BitVec 32 := 0#32
  let c1_i32_63 : BitVec 32 := 1#32
  let v108 : BitVec 1 := Scalar.cmpi .ne c0_i32_62 c1_i32_63
  let v109 : BitVec 32 := Scalar.extui v108
  let c0_i32_64 : BitVec 32 := 0#32
  let v110 : BitVec 1 := Scalar.cmpi .ne v109 c0_i32_64
  v110

def k0_cond8 : BitVec 1 :=
  let c0_i32_69 : BitVec 32 := 0#32
  let c0_i32_70 : BitVec 32 := 0#32
  let v116 : BitVec 1 := Scalar.cmpi .ne c0_i32_69 c0_i32_70
  let v117 : BitVec 32 := Scalar.extui v116
  let c0_i32_71 : BitVec 32 := 0#32
  let v118 : BitVec 1 := Scalar.cmpi .ne v117 c0_i32_71
  v118

def k0_cond10 : BitVec 1 :=
  let c0_i32_76 : BitVec 32 := 0#32
  let c1_i32_77 : BitVec 32 := 1#32
  let v124 : BitVec 1 := Scalar.cmpi .ne c0_i32_76 c1_i32_77
  let v125 : BitVec 32 := Scalar.extui v124
  let c0_i32_78 : BitVec 32 := 0#32
  let v126 : BitVec 1 := Scalar.cmpi .ne v125 c0_i32_78
  v126

def k0_cond12 : BitVec 1 :=
  let c0_i32_83 : BitVec 32 := 0#32
  let c0_i32_84 : BitVec 32 := 0#32
  let v132 : BitVec 1 := Scalar.cmpi .ne c0_i32_83 c0_i32_84
  let v133 : BitVec 32 := Scalar.extui v132
  let c0_i32_85 : BitVec 32 := 0#32
  let v134 : BitVec 1 := Scalar.cmpi .ne v133 c0_i32_85
  v134

def k0_cond14 : BitVec 1 :=
  let c0_i32_90 : BitVec 32 := 0#32
  let c1_i32_91 : BitVec 32 := 1#32
  let v140 : BitVec 1 := Scalar.cmpi .ne c0_i32_90 c1_i32_91
  let v141 : BitVec 32 := Scalar.extui v140
  let c0_i32_92 : BitVec 32 := 0#32
  let v142 : BitVec 1 := Scalar.cmpi .ne v141 c0_i32_92
  v142

def k0_cond16 : BitVec 1 :=
  let c0_i32_97 : BitVec 32 := 0#32
  let c0_i32_98 : BitVec 32 := 0#32
  let v148 : BitVec 1 := Scalar.cmpi .ne c0_i32_97 c0_i32_98
  let v149 : BitVec 32 := Scalar.extui v148
  let c0_i32_99 : BitVec 32 := 0#32
  let v150 : BitVec 1 := Scalar.cmpi .ne v149 c0_i32_99
  v150

def k0_cond18 : BitVec 1 :=
  let c0_i32_104 : BitVec 32 := 0#32
  let c1_i32_105 : BitVec 32 := 1#32
  let v156 : BitVec 1 := Scalar.cmpi .ne c0_i32_104 c1_i32_105
  let v157 : BitVec 32 := Scalar.extui v156
  let c0_i32_106 : BitVec 32 := 0#32
  let v158 : BitVec 1 := Scalar.cmpi .ne v157 c0_i32_106
  v158

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2176 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S3712x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x464x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x464x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S1x2048x1024 : Shape := ⟨3, ![1, 2048, 1024]⟩
abbrev S1x1024 : Shape := ⟨2, ![1, 1024]⟩
abbrev S1x1024x3712 : Shape := ⟨3, ![1, 1024, 3712]⟩
abbrev S1x2048x3712 : Shape := ⟨3, ![1, 2048, 3712]⟩
abbrev S1024 : Shape := ⟨1, ![1024]⟩
abbrev S_ : Shape := ⟨0, ![]⟩
abbrev S1x2048 : Shape := ⟨2, ![1, 2048]⟩
abbrev S1x2048x1 : Shape := ⟨3, ![1, 2048, 1]⟩
abbrev S1x1x1024 : Shape := ⟨3, ![1, 1, 1024]⟩
abbrev S1024x3712 : Shape := ⟨2, ![1024, 3712]⟩
abbrev S3712x1024 : Shape := ⟨2, ![3712, 1024]⟩
abbrev S2048 : Shape := ⟨1, ![2048]⟩
abbrev S4x2x464x1024 : Shape := ⟨4, ![4, 2, 464, 1024]⟩
abbrev S4x1x464x1024 : Shape := ⟨4, ![4, 1, 464, 1024]⟩
abbrev S4x464x1024 : Shape := ⟨3, ![4, 464, 1024]⟩

abbrev nBuf : Space → Nat
  | .hbm => 68
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x1024, .f32⟩
  | .hbm, ⟨2, _⟩ => ⟨S1x1024x3712, .f32⟩
  | .hbm, ⟨3, _⟩ => ⟨S1x2048x3712, .f32⟩
  | .hbm, ⟨4, _⟩ => ⟨S1x2048x1024, .f32⟩
  | .hbm, ⟨5, _⟩ => ⟨S1024, .f32⟩
  | .hbm, ⟨6, _⟩ => ⟨S1x2048x1024, .f32⟩
  | .hbm, ⟨7, _⟩ => ⟨S_, .f32⟩
  | .hbm, ⟨8, _⟩ => ⟨S1x2048, .f32⟩
  | .hbm, ⟨9, _⟩ => ⟨S1x2048x1, .f32⟩
  | .hbm, ⟨10, _⟩ => ⟨S_, .f32⟩
  | .hbm, ⟨11, _⟩ => ⟨S1x2048x1, .f32⟩
  | .hbm, ⟨12, _⟩ => ⟨S1x2048x1, .f32⟩
  | .hbm, ⟨13, _⟩ => ⟨S_, .f32⟩
  | .hbm, ⟨14, _⟩ => ⟨S1x2048x1, .f32⟩
  | .hbm, ⟨15, _⟩ => ⟨S1x2048x1, .f32⟩
  | .hbm, ⟨16, _⟩ => ⟨S1x2048x1, .f32⟩
  | .hbm, ⟨17, _⟩ => ⟨S1x2048x1, .f32⟩
  | .hbm, ⟨18, _⟩ => ⟨S_, .f32⟩
  | .hbm, ⟨19, _⟩ => ⟨S1x2048x1, .f32⟩
  | .hbm, ⟨20, _⟩ => ⟨S1x2048x1, .f32⟩
  | .hbm, ⟨21, _⟩ => ⟨S1x2048x1024, .f32⟩
  | .hbm, ⟨22, _⟩ => ⟨S1x2048x1024, .f32⟩
  | .hbm, ⟨23, _⟩ => ⟨S1x1x1024, .f32⟩
  | .hbm, ⟨24, _⟩ => ⟨S1x2048x1024, .f32⟩
  | .hbm, ⟨25, _⟩ => ⟨S1x2048x1024, .f32⟩
  | .hbm, ⟨26, _⟩ => ⟨S1024x3712, .f32⟩
  | .hbm, ⟨27, _⟩ => ⟨S1x2048x3712, .f32⟩
  | .hbm, ⟨28, _⟩ => ⟨S3712x1024, .f32⟩
  | .hbm, ⟨29, _⟩ => ⟨S1024x3712, .f32⟩
  | .hbm, ⟨30, _⟩ => ⟨S1x2048x1024, .f32⟩
  | .hbm, ⟨31, _⟩ => ⟨S1x1024x3712, .f32⟩
  | .hbm, ⟨32, _⟩ => ⟨S1x2048x1024, .f32⟩
  | .hbm, ⟨33, _⟩ => ⟨S_, .f32⟩
  | .hbm, ⟨34, _⟩ => ⟨S1x1024, .f32⟩
  | .hbm, ⟨35, _⟩ => ⟨S1x1x1024, .f32⟩
  | .hbm, ⟨36, _⟩ => ⟨S1x2048x1024, .f32⟩
  | .hbm, ⟨37, _⟩ => ⟨S1x2048x1024, .f32⟩
  | .hbm, ⟨38, _⟩ => ⟨S_, .f32⟩
  | .hbm, ⟨39, _⟩ => ⟨S1024, .f32⟩
  | .hbm, ⟨40, _⟩ => ⟨S1x2048x1024, .f32⟩
  | .hbm, ⟨41, _⟩ => ⟨S_, .f32⟩
  | .hbm, ⟨42, _⟩ => ⟨S1x2048, .f32⟩
  | .hbm, ⟨43, _⟩ => ⟨S1x2048x1, .f32⟩
  | .hbm, ⟨44, _⟩ => ⟨S1x2048x1024, .f32⟩
  | .hbm, ⟨45, _⟩ => ⟨S1x2048x1024, .f32⟩
  | .hbm, ⟨46, _⟩ => ⟨S1x2048x1024, .f32⟩
  | .hbm, ⟨47, _⟩ => ⟨S1x2048x1, .f32⟩
  | .hbm, ⟨48, _⟩ => ⟨S_, .f32⟩
  | .hbm, ⟨49, _⟩ => ⟨S1x2048x1, .f32⟩
  | .hbm, ⟨50, _⟩ => ⟨S1x2048x1, .f32⟩
  | .hbm, ⟨51, _⟩ => ⟨S_, .f32⟩
  | .hbm, ⟨52, _⟩ => ⟨S2048, .f32⟩
  | .hbm, ⟨53, _⟩ => ⟨S1x2048, .f32⟩
  | .hbm, ⟨54, _⟩ => ⟨S1x2048x1024, .f32⟩
  | .hbm, ⟨55, _⟩ => ⟨S1x2048x1024, .f32⟩
  | .hbm, ⟨56, _⟩ => ⟨S1x2048x1024, .f32⟩
  | .hbm, ⟨57, _⟩ => ⟨S1x2048x1024, .f32⟩
  | .hbm, ⟨58, _⟩ => ⟨S1x2048x1024, .f32⟩
  | .hbm, ⟨59, _⟩ => ⟨S1x1024, .f32⟩
  | .hbm, ⟨60, _⟩ => ⟨S1024x3712, .f32⟩
  | .hbm, ⟨61, _⟩ => ⟨S3712x1024, .f32⟩
  | .hbm, ⟨62, _⟩ => ⟨S3712x1024, .bf16⟩
  | .hbm, ⟨63, _⟩ => ⟨S4x2x464x1024, .bf16⟩
  | .hbm, ⟨64, _⟩ => ⟨S4x1x464x1024, .bf16⟩
  | .hbm, ⟨65, _⟩ => ⟨S4x464x1024, .bf16⟩
  | .hbm, ⟨66, _⟩ => ⟨S4x1x464x1024, .bf16⟩
  | .hbm, ⟨67, _⟩ => ⟨S4x464x1024, .bf16⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩

abbrev nD : Nat := 1
abbrev τ : Topo := Topo.v7x

variable {F : FTy → Type} [FloatOps F]
-- ==== Kernel2.lean ====
abbrev S2048x1536 : Shape := ⟨2, ![2048, 1536]⟩
abbrev S2048x512 : Shape := ⟨2, ![2048, 512]⟩
abbrev S32 : Shape := ⟨1, ![32]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S1x2048x1x64 : Shape := ⟨4, ![1, 2048, 1, 64]⟩
abbrev S1x2048x4x64 : Shape := ⟨4, ![1, 2048, 4, 64]⟩
abbrev S2048x256 : Shape := ⟨2, ![2048, 256]⟩
abbrev S4 : Shape := ⟨1, ![4]⟩
abbrev S64 : Shape := ⟨1, ![64]⟩
abbrev S4x1x1 : Shape := ⟨3, ![4, 1, 1]⟩
abbrev S64x1 : Shape := ⟨2, ![64, 1]⟩
abbrev S1x64 : Shape := ⟨2, ![1, 64]⟩
abbrev S64x64 : Shape := ⟨2, ![64, 64]⟩
abbrev S1x64x64 : Shape := ⟨3, ![1, 64, 64]⟩
abbrev S4x64x64 : Shape := ⟨3, ![4, 64, 64]⟩
abbrev S4x1 : Shape := ⟨2, ![4, 1]⟩
abbrev S4x64 : Shape := ⟨2, ![4, 64]⟩
abbrev S256 : Shape := ⟨1, ![256]⟩
abbrev S1x256 : Shape := ⟨2, ![1, 256]⟩
abbrev S4x256 : Shape := ⟨2, ![4, 256]⟩
abbrev S4x1x256 : Shape := ⟨3, ![4, 1, 256]⟩
abbrev S4x64x256 : Shape := ⟨3, ![4, 64, 256]⟩
abbrev S4x64x1 : Shape := ⟨3, ![4, 64, 1]⟩
abbrev S1x2048x1x32 : Shape := ⟨4, ![1, 2048, 1, 32]⟩
abbrev S1x2048x4x32 : Shape := ⟨4, ![1, 2048, 4, 32]⟩
abbrev S1x2048x4x128 : Shape := ⟨4, ![1, 2048, 4, 128]⟩
abbrev S64x4 : Shape := ⟨2, ![64, 4]⟩
abbrev S1x4x1x1 : Shape := ⟨4, ![1, 4, 1, 1]⟩
abbrev S1x32x64x4x64 : Shape := ⟨5, ![1, 32, 64, 4, 64]⟩
abbrev S1x32x64x4x128 : Shape := ⟨5, ![1, 32, 64, 4, 128]⟩
abbrev S1x1x64x4x1 : Shape := ⟨5, ![1, 1, 64, 4, 1]⟩
abbrev S32x1x4x64x128 : Shape := ⟨5, ![32, 1, 4, 64, 128]⟩
abbrev S1x4x64x128 : Shape := ⟨4, ![1, 4, 64, 128]⟩
abbrev S0x1x4x64x128 : Shape := ⟨5, ![0, 1, 4, 64, 128]⟩
abbrev S1x1x4x64x128 : Shape := ⟨5, ![1, 1, 4, 64, 128]⟩
abbrev S16x1x4x64x128 : Shape := ⟨5, ![16, 1, 4, 64, 128]⟩
abbrev S32x4x64x128 : Shape := ⟨4, ![32, 4, 64, 128]⟩
abbrev S1x32x1x4x1x64x1x128 : Shape := ⟨8, ![1, 32, 1, 4, 1, 64, 1, 128]⟩
abbrev S1x32x1x4x4x64x1x128 : Shape := ⟨8, ![1, 32, 1, 4, 4, 64, 1, 128]⟩
abbrev S32x4x256x128 : Shape := ⟨4, ![32, 4, 256, 128]⟩
abbrev S4x256x1 : Shape := ⟨3, ![4, 256, 1]⟩
abbrev S1x4x256x1 : Shape := ⟨4, ![1, 4, 256, 1]⟩
abbrev S2048x1024 : Shape := ⟨2, ![2048, 1024]⟩
abbrev S512x1536 : Shape := ⟨2, ![512, 1536]⟩
abbrev S8x4x256x128 : Shape := ⟨4, ![8, 4, 256, 128]⟩
abbrev S512x512 : Shape := ⟨2, ![512, 512]⟩
abbrev S512x256 : Shape := ⟨2, ![512, 256]⟩
abbrev S512x1024 : Shape := ⟨2, ![512, 1024]⟩
abbrev S4x256x128 : Shape := ⟨3, ![4, 256, 128]⟩
abbrev S1x256x128 : Shape := ⟨3, ![1, 256, 128]⟩
abbrev S256x128 : Shape := ⟨2, ![256, 128]⟩
abbrev S64x128 : Shape := ⟨2, ![64, 128]⟩
abbrev S1x1x256x128 : Shape := ⟨4, ![1, 1, 256, 128]⟩
abbrev S64x256 : Shape := ⟨2, ![64, 256]⟩
abbrev S1x64x256 : Shape := ⟨3, ![1, 64, 256]⟩

abbrev nBuf : Space → Nat
  | .hbm => 390
  | .vmem => 17
  | .smem => 0
  | _ => 0

abbrev hbmTy0_0 (i : Nat) : BufTy := match i % 128 with
  | 0 => ⟨S2048x1536, .f32⟩
  | 1 => ⟨S2048x512, .f32⟩
  | 2 => ⟨S32, .f32⟩
  | 3 => ⟨S32, .f32⟩
  | 4 => ⟨S_, .f32⟩
  | 5 => ⟨S32, .f32⟩
  | 6 => ⟨S32, .f32⟩
  | 7 => ⟨S_, .f32⟩
  | 8 => ⟨S32, .f32⟩
  | 9 => ⟨S32, .f32⟩
  | 10 => ⟨S32, .f32⟩
  | 11 => ⟨S2048, .f32⟩
  | 12 => ⟨S2048x1, .f32⟩
  | 13 => ⟨S1x32, .f32⟩
  | 14 => ⟨S2048x32, .f32⟩
  | 15 => ⟨S2048x32, .f32⟩
  | 16 => ⟨S2048x32, .f32⟩
  | 17 => ⟨S2048x32, .f32⟩
  | 18 => ⟨S2048x32, .f32⟩
  | 19 => ⟨S2048x64, .f32⟩
  | 20 => ⟨S1x2048x1x64, .f32⟩
  | 21 => ⟨S1x2048x4x64, .f32⟩
  | 22 => ⟨S2048x256, .f32⟩
  | 23 => ⟨S2048x32, .f32⟩
  | 24 => ⟨S2048x64, .f32⟩
  | 25 => ⟨S1x2048x1x64, .f32⟩
  | 26 => ⟨S1x2048x4x64, .f32⟩
  | 27 => ⟨S2048x256, .f32⟩
  | 28 => ⟨S4, .f32⟩
  | 29 => ⟨S_, .f32⟩
  | 30 => ⟨S4, .f32⟩
  | 31 => ⟨S4, .f32⟩
  | 32 => ⟨S_, .f32⟩
  | 33 => ⟨S4, .f32⟩
  | 34 => ⟨S4, .f32⟩
  | 35 => ⟨S_, .f32⟩
  | 36 => ⟨S4, .f32⟩
  | 37 => ⟨S4, .f32⟩
  | 38 => ⟨S4, .f32⟩
  | 39 => ⟨S64, .f32⟩
  | 40 => ⟨S4x1x1, .f32⟩
  | 41 => ⟨S64x1, .f32⟩
  | 42 => ⟨S1x64, .f32⟩
  | 43 => ⟨S64x64, .f32⟩
  | 44 => ⟨S64x64, .f32⟩
  | 45 => ⟨S64x64, .f32⟩
  | 46 => ⟨S64x64, .f32⟩
  | 47 => ⟨S1x64x64, .f32⟩
  | 48 => ⟨S4x64x64, .f32⟩
  | 49 => ⟨S4x64x64, .f32⟩
  | 50 => ⟨S4x64x64, .f32⟩
  | 51 => ⟨S4x64x64, .f32⟩
  | 52 => ⟨S4x1, .f32⟩
  | 53 => ⟨S1x64, .f32⟩
  | 54 => ⟨S_, .f32⟩
  | 55 => ⟨S1x64, .f32⟩
  | 56 => ⟨S1x64, .f32⟩
  | 57 => ⟨S4x64, .f32⟩
  | 58 => ⟨S4x64, .f32⟩
  | 59 => ⟨S4x64, .f32⟩
  | 60 => ⟨S4x64, .f32⟩
  | 61 => ⟨S4x1, .f32⟩
  | 62 => ⟨S1x64, .f32⟩
  | 63 => ⟨S_, .f32⟩
  | 64 => ⟨S1x64, .f32⟩
  | 65 => ⟨S1x64, .f32⟩
  | 66 => ⟨S4x64, .f32⟩
  | 67 => ⟨S4x64, .f32⟩
  | 68 => ⟨S4x64, .f32⟩
  | 69 => ⟨S4x64, .f32⟩
  | 70 => ⟨S256, .i32⟩
  | 71 => ⟨S_, .i32⟩
  | 72 => ⟨S_, .i32⟩
  | 73 => ⟨S256, .i32⟩
  | 74 => ⟨S256, .i32⟩
  | 75 => ⟨S256, .i32⟩
  | 76 => ⟨S_, .i32⟩
  | 77 => ⟨S256, .i32⟩
  | 78 => ⟨S256, .i1⟩
  | 79 => ⟨S256, .i32⟩
  | 80 => ⟨S256, .i32⟩
  | 81 => ⟨S_, .i32⟩
  | 82 => ⟨S256, .i32⟩
  | 83 => ⟨S256, .i1⟩
  | 84 => ⟨S256, .i1⟩
  | 85 => ⟨S_, .i32⟩
  | 86 => ⟨S256, .i32⟩
  | 87 => ⟨S256, .i32⟩
  | 88 => ⟨S256, .i32⟩
  | 89 => ⟨S1x256, .i32⟩
  | 90 => ⟨S4, .i32⟩
  | 91 => ⟨S4x1, .i32⟩
  | 92 => ⟨S4x256, .i32⟩
  | 93 => ⟨S4x256, .i32⟩
  | 94 => ⟨S4x256, .i1⟩
  | 95 => ⟨S4x256, .f32⟩
  | 96 => ⟨S4x1x256, .f32⟩
  | 97 => ⟨S4x64x256, .f32⟩
  | 98 => ⟨S4x64x1, .f32⟩
  | 99 => ⟨S4x64x256, .f32⟩
  | 100 => ⟨S4x64x256, .f32⟩
  | 101 => ⟨S4x64x1, .f32⟩
  | 102 => ⟨S4x64x256, .f32⟩
  | 103 => ⟨S4x64x256, .f32⟩
  | 104 => ⟨S2048x256, .f32⟩
  | 105 => ⟨S1x2048x4x64, .f32⟩
  | 106 => ⟨S2048, .i32⟩
  | 107 => ⟨S32, .f32⟩
  | 108 => ⟨S32, .f32⟩
  | 109 => ⟨S_, .f32⟩
  | 110 => ⟨S32, .f32⟩
  | 111 => ⟨S32, .f32⟩
  | 112 => ⟨S_, .f32⟩
  | 113 => ⟨S32, .f32⟩
  | 114 => ⟨S32, .f32⟩
  | 115 => ⟨S32, .f32⟩
  | 116 => ⟨S2048, .f32⟩
  | 117 => ⟨S2048x1, .f32⟩
  | 118 => ⟨S1x32, .f32⟩
  | 119 => ⟨S2048x32, .f32⟩
  | 120 => ⟨S2048x32, .f32⟩
  | 121 => ⟨S2048x32, .f32⟩
  | 122 => ⟨S2048x32, .f32⟩
  | 123 => ⟨S1x2048x1x32, .f32⟩
  | 124 => ⟨S2048x32, .f32⟩
  | 125 => ⟨S1x2048x1x32, .f32⟩
  | 126 => ⟨S1x2048x4x32, .f32⟩
  | 127 => ⟨S1x2048x4x32, .f32⟩
  | _ => ⟨S2048x1536, .f32⟩

abbrev hbmTy0_1 (i : Nat) : BufTy := match i % 128 with
  | 0 => ⟨S1x2048x4x32, .f32⟩
  | 1 => ⟨S1x2048x4x32, .f32⟩
  | 2 => ⟨S1x2048x4x32, .f32⟩
  | 3 => ⟨S1x2048x4x32, .f32⟩
  | 4 => ⟨S1x2048x4x32, .f32⟩
  | 5 => ⟨S1x2048x4x32, .f32⟩
  | 6 => ⟨S1x2048x4x32, .f32⟩
  | 7 => ⟨S1x2048x4x32, .f32⟩
  | 8 => ⟨S1x2048x4x32, .f32⟩
  | 9 => ⟨S1x2048x4x32, .f32⟩
  | 10 => ⟨S1x2048x4x64, .f32⟩
  | 11 => ⟨S_, .f32⟩
  | 12 => ⟨S1x2048x4x64, .f32⟩
  | 13 => ⟨S1x2048x4x64, .f32⟩
  | 14 => ⟨S2048x512, .f32⟩
  | 15 => ⟨S1x2048x4x128, .f32⟩
  | 16 => ⟨S4, .f32⟩
  | 17 => ⟨S_, .f32⟩
  | 18 => ⟨S4, .f32⟩
  | 19 => ⟨S4, .f32⟩
  | 20 => ⟨S_, .f32⟩
  | 21 => ⟨S4, .f32⟩
  | 22 => ⟨S4, .f32⟩
  | 23 => ⟨S_, .f32⟩
  | 24 => ⟨S4, .f32⟩
  | 25 => ⟨S4, .f32⟩
  | 26 => ⟨S4, .f32⟩
  | 27 => ⟨S64, .f32⟩
  | 28 => ⟨S4x1, .f32⟩
  | 29 => ⟨S1x64, .f32⟩
  | 30 => ⟨S_, .f32⟩
  | 31 => ⟨S1x64, .f32⟩
  | 32 => ⟨S1x64, .f32⟩
  | 33 => ⟨S4x64, .f32⟩
  | 34 => ⟨S4x64, .f32⟩
  | 35 => ⟨S4x64, .f32⟩
  | 36 => ⟨S4x64, .f32⟩
  | 37 => ⟨S64x4, .f32⟩
  | 38 => ⟨S_, .f32⟩
  | 39 => ⟨S4, .f32⟩
  | 40 => ⟨S4, .f32⟩
  | 41 => ⟨S4, .f32⟩
  | 42 => ⟨S1x4x1x1, .f32⟩
  | 43 => ⟨S1x32x64x4x64, .f32⟩
  | 44 => ⟨S1x32x64x4x128, .f32⟩
  | 45 => ⟨S1x1x64x4x1, .f32⟩
  | 46 => ⟨S1x32x64x4x64, .f32⟩
  | 47 => ⟨S1x32x64x4x64, .f32⟩
  | 48 => ⟨S32x1x4x64x128, .f32⟩
  | 49 => ⟨S_, .f32⟩
  | 50 => ⟨S1x4x64x128, .f32⟩
  | 51 => ⟨S0x1x4x64x128, .f32⟩
  | 52 => ⟨S32x1x4x64x128, .f32⟩
  | 53 => ⟨S_, .f32⟩
  | 54 => ⟨S0x1x4x64x128, .f32⟩
  | 55 => ⟨S1x1x4x64x128, .f32⟩
  | 56 => ⟨S1x4x64x128, .f32⟩
  | 57 => ⟨S1x4x64x128, .f32⟩
  | 58 => ⟨S1x4x64x128, .f32⟩
  | 59 => ⟨S1x4x64x128, .f32⟩
  | 60 => ⟨S1x1x4x64x128, .f32⟩
  | 61 => ⟨S1x4x64x128, .f32⟩
  | 62 => ⟨S1x4x64x128, .f32⟩
  | 63 => ⟨S1x4x64x128, .f32⟩
  | 64 => ⟨S1x4x64x128, .f32⟩
  | 65 => ⟨S1x1x4x64x128, .f32⟩
  | 66 => ⟨S1x4x64x128, .f32⟩
  | 67 => ⟨S1x4x64x128, .f32⟩
  | 68 => ⟨S1x4x64x128, .f32⟩
  | 69 => ⟨S1x4x64x128, .f32⟩
  | 70 => ⟨S1x1x4x64x128, .f32⟩
  | 71 => ⟨S1x4x64x128, .f32⟩
  | 72 => ⟨S1x4x64x128, .f32⟩
  | 73 => ⟨S1x4x64x128, .f32⟩
  | 74 => ⟨S1x4x64x128, .f32⟩
  | 75 => ⟨S1x1x4x64x128, .f32⟩
  | 76 => ⟨S1x4x64x128, .f32⟩
  | 77 => ⟨S1x4x64x128, .f32⟩
  | 78 => ⟨S1x4x64x128, .f32⟩
  | 79 => ⟨S1x4x64x128, .f32⟩
  | 80 => ⟨S1x1x4x64x128, .f32⟩
  | 81 => ⟨S1x4x64x128, .f32⟩
  | 82 => ⟨S1x4x64x128, .f32⟩
  | 83 => ⟨S1x4x64x128, .f32⟩
  | 84 => ⟨S1x4x64x128, .f32⟩
  | 85 => ⟨S1x1x4x64x128, .f32⟩
  | 86 => ⟨S1x4x64x128, .f32⟩
  | 87 => ⟨S1x4x64x128, .f32⟩
  | 88 => ⟨S1x4x64x128, .f32⟩
  | 89 => ⟨S1x4x64x128, .f32⟩
  | 90 => ⟨S1x1x4x64x128, .f32⟩
  | 91 => ⟨S1x4x64x128, .f32⟩
  | 92 => ⟨S1x4x64x128, .f32⟩
  | 93 => ⟨S1x4x64x128, .f32⟩
  | 94 => ⟨S1x4x64x128, .f32⟩
  | 95 => ⟨S1x1x4x64x128, .f32⟩
  | 96 => ⟨S1x4x64x128, .f32⟩
  | 97 => ⟨S1x4x64x128, .f32⟩
  | 98 => ⟨S1x4x64x128, .f32⟩
  | 99 => ⟨S1x4x64x128, .f32⟩
  | 100 => ⟨S1x1x4x64x128, .f32⟩
  | 101 => ⟨S1x4x64x128, .f32⟩
  | 102 => ⟨S1x4x64x128, .f32⟩
  | 103 => ⟨S1x4x64x128, .f32⟩
  | 104 => ⟨S1x4x64x128, .f32⟩
  | 105 => ⟨S1x1x4x64x128, .f32⟩
  | 106 => ⟨S1x4x64x128, .f32⟩
  | 107 => ⟨S1x4x64x128, .f32⟩
  | 108 => ⟨S1x4x64x128, .f32⟩
  | 109 => ⟨S1x4x64x128, .f32⟩
  | 110 => ⟨S1x1x4x64x128, .f32⟩
  | 111 => ⟨S1x4x64x128, .f32⟩
  | 112 => ⟨S1x4x64x128, .f32⟩
  | 113 => ⟨S1x4x64x128, .f32⟩
  | 114 => ⟨S1x4x64x128, .f32⟩
  | 115 => ⟨S1x1x4x64x128, .f32⟩
  | 116 => ⟨S1x4x64x128, .f32⟩
  | 117 => ⟨S1x4x64x128, .f32⟩
  | 118 => ⟨S1x4x64x128, .f32⟩
  | 119 => ⟨S1x4x64x128, .f32⟩
  | 120 => ⟨S1x1x4x64x128, .f32⟩
  | 121 => ⟨S1x4x64x128, .f32⟩
  | 122 => ⟨S1x4x64x128, .f32⟩
  | 123 => ⟨S1x4x64x128, .f32⟩
  | 124 => ⟨S1x4x64x128, .f32⟩
  | 125 => ⟨S1x1x4x64x128, .f32⟩
  | 126 => ⟨S1x4x64x128, .f32⟩
  | 127 => ⟨S1x4x64x128, .f32⟩
  | _ => ⟨S2048x1536, .f32⟩

abbrev hbmTy0_2 (i : Nat) : BufTy := match i % 128 with
  | 0 => ⟨S1x4x64x128, .f32⟩
  | 1 => ⟨S1x4x64x128, .f32⟩
  | 2 => ⟨S1x1x4x64x128, .f32⟩
  | 3 => ⟨S1x4x64x128, .f32⟩
  | 4 => ⟨S1x4x64x128, .f32⟩
  | 5 => ⟨S1x4x64x128, .f32⟩
  | 6 => ⟨S1x4x64x128, .f32⟩
  | 7 => ⟨S1x1x4x64x128, .f32⟩
  | 8 => ⟨S1x4x64x128, .f32⟩
  | 9 => ⟨S1x4x64x128, .f32⟩
  | 10 => ⟨S1x4x64x128, .f32⟩
  | 11 => ⟨S1x4x64x128, .f32⟩
  | 12 => ⟨S1x1x4x64x128, .f32⟩
  | 13 => ⟨S1x4x64x128, .f32⟩
  | 14 => ⟨S1x4x64x128, .f32⟩
  | 15 => ⟨S1x4x64x128, .f32⟩
  | 16 => ⟨S1x4x64x128, .f32⟩
  | 17 => ⟨S1x1x4x64x128, .f32⟩
  | 18 => ⟨S1x4x64x128, .f32⟩
  | 19 => ⟨S1x4x64x128, .f32⟩
  | 20 => ⟨S1x4x64x128, .f32⟩
  | 21 => ⟨S1x4x64x128, .f32⟩
  | 22 => ⟨S1x1x4x64x128, .f32⟩
  | 23 => ⟨S1x4x64x128, .f32⟩
  | 24 => ⟨S1x4x64x128, .f32⟩
  | 25 => ⟨S1x4x64x128, .f32⟩
  | 26 => ⟨S1x4x64x128, .f32⟩
  | 27 => ⟨S1x1x4x64x128, .f32⟩
  | 28 => ⟨S1x4x64x128, .f32⟩
  | 29 => ⟨S1x4x64x128, .f32⟩
  | 30 => ⟨S1x4x64x128, .f32⟩
  | 31 => ⟨S1x4x64x128, .f32⟩
  | 32 => ⟨S1x1x4x64x128, .f32⟩
  | 33 => ⟨S1x4x64x128, .f32⟩
  | 34 => ⟨S1x4x64x128, .f32⟩
  | 35 => ⟨S1x4x64x128, .f32⟩
  | 36 => ⟨S1x4x64x128, .f32⟩
  | 37 => ⟨S1x1x4x64x128, .f32⟩
  | 38 => ⟨S1x4x64x128, .f32⟩
  | 39 => ⟨S1x4x64x128, .f32⟩
  | 40 => ⟨S1x4x64x128, .f32⟩
  | 41 => ⟨S1x4x64x128, .f32⟩
  | 42 => ⟨S1x1x4x64x128, .f32⟩
  | 43 => ⟨S1x4x64x128, .f32⟩
  | 44 => ⟨S1x4x64x128, .f32⟩
  | 45 => ⟨S1x4x64x128, .f32⟩
  | 46 => ⟨S1x4x64x128, .f32⟩
  | 47 => ⟨S1x1x4x64x128, .f32⟩
  | 48 => ⟨S1x4x64x128, .f32⟩
  | 49 => ⟨S1x4x64x128, .f32⟩
  | 50 => ⟨S1x4x64x128, .f32⟩
  | 51 => ⟨S1x4x64x128, .f32⟩
  | 52 => ⟨S1x1x4x64x128, .f32⟩
  | 53 => ⟨S1x4x64x128, .f32⟩
  | 54 => ⟨S1x4x64x128, .f32⟩
  | 55 => ⟨S1x4x64x128, .f32⟩
  | 56 => ⟨S1x4x64x128, .f32⟩
  | 57 => ⟨S1x1x4x64x128, .f32⟩
  | 58 => ⟨S1x4x64x128, .f32⟩
  | 59 => ⟨S1x4x64x128, .f32⟩
  | 60 => ⟨S1x4x64x128, .f32⟩
  | 61 => ⟨S1x4x64x128, .f32⟩
  | 62 => ⟨S1x1x4x64x128, .f32⟩
  | 63 => ⟨S1x4x64x128, .f32⟩
  | 64 => ⟨S1x4x64x128, .f32⟩
  | 65 => ⟨S1x4x64x128, .f32⟩
  | 66 => ⟨S1x4x64x128, .f32⟩
  | 67 => ⟨S1x1x4x64x128, .f32⟩
  | 68 => ⟨S1x4x64x128, .f32⟩
  | 69 => ⟨S1x4x64x128, .f32⟩
  | 70 => ⟨S1x4x64x128, .f32⟩
  | 71 => ⟨S1x4x64x128, .f32⟩
  | 72 => ⟨S1x1x4x64x128, .f32⟩
  | 73 => ⟨S1x4x64x128, .f32⟩
  | 74 => ⟨S1x4x64x128, .f32⟩
  | 75 => ⟨S1x4x64x128, .f32⟩
  | 76 => ⟨S1x4x64x128, .f32⟩
  | 77 => ⟨S1x1x4x64x128, .f32⟩
  | 78 => ⟨S1x4x64x128, .f32⟩
  | 79 => ⟨S1x4x64x128, .f32⟩
  | 80 => ⟨S1x4x64x128, .f32⟩
  | 81 => ⟨S1x4x64x128, .f32⟩
  | 82 => ⟨S1x1x4x64x128, .f32⟩
  | 83 => ⟨S1x4x64x128, .f32⟩
  | 84 => ⟨S1x4x64x128, .f32⟩
  | 85 => ⟨S1x4x64x128, .f32⟩
  | 86 => ⟨S1x4x64x128, .f32⟩
  | 87 => ⟨S1x1x4x64x128, .f32⟩
  | 88 => ⟨S1x1x4x64x128, .f32⟩
  | 89 => ⟨S1x1x4x64x128, .f32⟩
  | 90 => ⟨S1x1x4x64x128, .f32⟩
  | 91 => ⟨S1x1x4x64x128, .f32⟩
  | 92 => ⟨S1x1x4x64x128, .f32⟩
  | 93 => ⟨S1x1x4x64x128, .f32⟩
  | 94 => ⟨S1x1x4x64x128, .f32⟩
  | 95 => ⟨S1x1x4x64x128, .f32⟩
  | 96 => ⟨S1x1x4x64x128, .f32⟩
  | 97 => ⟨S1x1x4x64x128, .f32⟩
  | 98 => ⟨S1x1x4x64x128, .f32⟩
  | 99 => ⟨S1x1x4x64x128, .f32⟩
  | 100 => ⟨S1x1x4x64x128, .f32⟩
  | 101 => ⟨S1x1x4x64x128, .f32⟩
  | 102 => ⟨S1x1x4x64x128, .f32⟩
  | 103 => ⟨S1x1x4x64x128, .f32⟩
  | 104 => ⟨S1x1x4x64x128, .f32⟩
  | 105 => ⟨S1x1x4x64x128, .f32⟩
  | 106 => ⟨S1x1x4x64x128, .f32⟩
  | 107 => ⟨S1x1x4x64x128, .f32⟩
  | 108 => ⟨S1x1x4x64x128, .f32⟩
  | 109 => ⟨S1x1x4x64x128, .f32⟩
  | 110 => ⟨S1x1x4x64x128, .f32⟩
  | 111 => ⟨S1x1x4x64x128, .f32⟩
  | 112 => ⟨S1x1x4x64x128, .f32⟩
  | 113 => ⟨S1x1x4x64x128, .f32⟩
  | 114 => ⟨S1x1x4x64x128, .f32⟩
  | 115 => ⟨S1x1x4x64x128, .f32⟩
  | 116 => ⟨S1x1x4x64x128, .f32⟩
  | 117 => ⟨S1x1x4x64x128, .f32⟩
  | 118 => ⟨S1x1x4x64x128, .f32⟩
  | 119 => ⟨S16x1x4x64x128, .f32⟩
  | 120 => ⟨S16x1x4x64x128, .f32⟩
  | 121 => ⟨S32x1x4x64x128, .f32⟩
  | 122 => ⟨S32x1x4x64x128, .f32⟩
  | 123 => ⟨S32x4x64x128, .f32⟩
  | 124 => ⟨S1x32x1x4x1x64x1x128, .f32⟩
  | 125 => ⟨S1x32x1x4x4x64x1x128, .f32⟩
  | 126 => ⟨S32x4x256x128, .f32⟩
  | 127 => ⟨S4x1x256, .f32⟩
  | _ => ⟨S2048x1536, .f32⟩

abbrev hbmTy0_3 (i : Nat) : BufTy := match i % 128 with
  | 0 => ⟨S4x256, .f32⟩
  | 1 => ⟨S4x256x1, .f32⟩
  | 2 => ⟨S1x4x256x1, .f32⟩
  | 3 => ⟨S32x4x256x128, .f32⟩
  | 4 => ⟨S32x4x256x128, .f32⟩
  | 5 => ⟨S2048x1024, .f32⟩
  | _ => ⟨S2048x1536, .f32⟩

abbrev hbmTy (i : Nat) : BufTy := match i / 128 with
  | 0 => hbmTy0_0 i
  | 1 => hbmTy0_1 i
  | 2 => hbmTy0_2 i
  | 3 => hbmTy0_3 i
  | _ => ⟨S2048x1536, .f32⟩

abbrev bufTy : (tb : Table) → Fin (tcTables nBuf tb) → BufTy
  | .hbm, ⟨i, _⟩ => hbmTy i
  | .local _ .vmem, ⟨0, _⟩ => ⟨S512x1536, .f32⟩
  | .local _ .vmem, ⟨1, _⟩ => ⟨S512x1536, .f32⟩
  | .local _ .vmem, ⟨2, _⟩ => ⟨S8x4x256x128, .f32⟩
  | .local _ .vmem, ⟨3, _⟩ => ⟨S8x4x256x128, .f32⟩
  | .local _ .vmem, ⟨4, _⟩ => ⟨S512x512, .f32⟩
  | .local _ .vmem, ⟨5, _⟩ => ⟨S512x512, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S4x64x64, .f32⟩
  | .local _ .vmem, ⟨11, _⟩ => ⟨S4x64x256, .f32⟩
  | .local _ .vmem, ⟨12, _⟩ => ⟨S4x64x256, .f32⟩
  | .local _ .vmem, ⟨13, _⟩ => ⟨S4x64x256, .f32⟩
  | .local _ .vmem, ⟨14, _⟩ => ⟨S512x1024, .f32⟩
  | .local _ .vmem, ⟨15, _⟩ => ⟨S512x1024, .f32⟩
  | .local _ .vmem, ⟨16, _⟩ => ⟨S4x256x128, .f32⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_cst_1 : Ref sig .tc := ⟨.hbm, 29, rfl⟩
abbrev main_v25 : Ref sig .tc := ⟨.hbm, 30, rfl⟩
abbrev main_v26 : Ref sig .tc := ⟨.hbm, 31, rfl⟩
abbrev main_cst_2 : Ref sig .tc := ⟨.hbm, 32, rfl⟩
abbrev main_v27 : Ref sig .tc := ⟨.hbm, 33, rfl⟩
abbrev main_v28 : Ref sig .tc := ⟨.hbm, 34, rfl⟩
abbrev main_cst_3 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_cst_4 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_cst_5 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_c : Ref sig .tc := ⟨.hbm, 71, rfl⟩
abbrev main_call0_v0 : Ref sig .tc := ⟨.hbm, 72, rfl⟩
abbrev main_call0_v1 : Ref sig .tc := ⟨.hbm, 73, rfl⟩
abbrev main_call0_v2 : Ref sig .tc := ⟨.hbm, 74, rfl⟩
abbrev main_call0_v3 : Ref sig .tc := ⟨.hbm, 75, rfl⟩
abbrev main_call0_v4 : Ref sig .tc := ⟨.hbm, 76, rfl⟩
abbrev main_call0_v5 : Ref sig .tc := ⟨.hbm, 77, rfl⟩
abbrev main_call0_v6 : Ref sig .tc := ⟨.hbm, 78, rfl⟩
abbrev main_call0_v7 : Ref sig .tc := ⟨.hbm, 79, rfl⟩
abbrev main_call0_v8 : Ref sig .tc := ⟨.hbm, 80, rfl⟩
abbrev main_call0_c : Ref sig .tc := ⟨.hbm, 81, rfl⟩
abbrev main_call0_v9 : Ref sig .tc := ⟨.hbm, 82, rfl⟩
abbrev main_call0_v10 : Ref sig .tc := ⟨.hbm, 83, rfl⟩
abbrev main_call0_v11 : Ref sig .tc := ⟨.hbm, 84, rfl⟩
abbrev main_call0_c_0 : Ref sig .tc := ⟨.hbm, 85, rfl⟩
abbrev main_call0_v12 : Ref sig .tc := ⟨.hbm, 86, rfl⟩
abbrev main_call0_v13 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_cst_6 : Ref sig .tc := ⟨.hbm, 109, rfl⟩
abbrev main_v83 : Ref sig .tc := ⟨.hbm, 110, rfl⟩
abbrev main_v84 : Ref sig .tc := ⟨.hbm, 111, rfl⟩
abbrev main_cst_7 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_cst_8 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_cst_9 : Ref sig .tc := ⟨.hbm, 145, rfl⟩
abbrev main_v116 : Ref sig .tc := ⟨.hbm, 146, rfl⟩
abbrev main_v117 : Ref sig .tc := ⟨.hbm, 147, rfl⟩
abbrev main_cst_10 : Ref sig .tc := ⟨.hbm, 148, rfl⟩
abbrev main_v118 : Ref sig .tc := ⟨.hbm, 149, rfl⟩
abbrev main_v119 : Ref sig .tc := ⟨.hbm, 150, rfl⟩
abbrev main_cst_11 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_cst_12 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_cst_13 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_cst_14 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_cst_15 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_v153 : Ref sig .tc := ⟨.hbm, 189, rfl⟩
abbrev main_v154 : Ref sig .tc := ⟨.hbm, 190, rfl⟩
abbrev main_v155 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩
abbrev main_v162 : Ref sig .tc := ⟨.hbm, 198, rfl⟩
abbrev main_v163 : Ref sig .tc := ⟨.hbm, 199, rfl⟩
abbrev main_v164 : Ref sig .tc := ⟨.hbm, 200, rfl⟩
abbrev main_v165 : Ref sig .tc := ⟨.hbm, 201, rfl⟩
abbrev main_v166 : Ref sig .tc := ⟨.hbm, 202, rfl⟩
abbrev main_v167 : Ref sig .tc := ⟨.hbm, 203, rfl⟩
abbrev main_v168 : Ref sig .tc := ⟨.hbm, 204, rfl⟩
abbrev main_v169 : Ref sig .tc := ⟨.hbm, 205, rfl⟩
abbrev main_v170 : Ref sig .tc := ⟨.hbm, 206, rfl⟩
abbrev main_v171 : Ref sig .tc := ⟨.hbm, 207, rfl⟩
abbrev main_v172 : Ref sig .tc := ⟨.hbm, 208, rfl⟩
abbrev main_v173 : Ref sig .tc := ⟨.hbm, 209, rfl⟩
abbrev main_v174 : Ref sig .tc := ⟨.hbm, 210, rfl⟩
abbrev main_v175 : Ref sig .tc := ⟨.hbm, 211, rfl⟩
abbrev main_v176 : Ref sig .tc := ⟨.hbm, 212, rfl⟩
abbrev main_v177 : Ref sig .tc := ⟨.hbm, 213, rfl⟩
abbrev main_v178 : Ref sig .tc := ⟨.hbm, 214, rfl⟩
abbrev main_v179 : Ref sig .tc := ⟨.hbm, 215, rfl⟩
abbrev main_v180 : Ref sig .tc := ⟨.hbm, 216, rfl⟩
abbrev main_v181 : Ref sig .tc := ⟨.hbm, 217, rfl⟩
abbrev main_v182 : Ref sig .tc := ⟨.hbm, 218, rfl⟩
abbrev main_v183 : Ref sig .tc := ⟨.hbm, 219, rfl⟩
abbrev main_v184 : Ref sig .tc := ⟨.hbm, 220, rfl⟩
abbrev main_v185 : Ref sig .tc := ⟨.hbm, 221, rfl⟩
abbrev main_v186 : Ref sig .tc := ⟨.hbm, 222, rfl⟩
abbrev main_v187 : Ref sig .tc := ⟨.hbm, 223, rfl⟩
abbrev main_v188 : Ref sig .tc := ⟨.hbm, 224, rfl⟩
abbrev main_v189 : Ref sig .tc := ⟨.hbm, 225, rfl⟩
abbrev main_v190 : Ref sig .tc := ⟨.hbm, 226, rfl⟩
abbrev main_v191 : Ref sig .tc := ⟨.hbm, 227, rfl⟩
abbrev main_v192 : Ref sig .tc := ⟨.hbm, 228, rfl⟩
abbrev main_v193 : Ref sig .tc := ⟨.hbm, 229, rfl⟩
abbrev main_v194 : Ref sig .tc := ⟨.hbm, 230, rfl⟩
abbrev main_v195 : Ref sig .tc := ⟨.hbm, 231, rfl⟩
abbrev main_v196 : Ref sig .tc := ⟨.hbm, 232, rfl⟩
abbrev main_v197 : Ref sig .tc := ⟨.hbm, 233, rfl⟩
abbrev main_v198 : Ref sig .tc := ⟨.hbm, 234, rfl⟩
abbrev main_v199 : Ref sig .tc := ⟨.hbm, 235, rfl⟩
abbrev main_v200 : Ref sig .tc := ⟨.hbm, 236, rfl⟩
abbrev main_v201 : Ref sig .tc := ⟨.hbm, 237, rfl⟩
abbrev main_v202 : Ref sig .tc := ⟨.hbm, 238, rfl⟩
abbrev main_v203 : Ref sig .tc := ⟨.hbm, 239, rfl⟩
abbrev main_v204 : Ref sig .tc := ⟨.hbm, 240, rfl⟩
abbrev main_v205 : Ref sig .tc := ⟨.hbm, 241, rfl⟩
abbrev main_v206 : Ref sig .tc := ⟨.hbm, 242, rfl⟩
abbrev main_v207 : Ref sig .tc := ⟨.hbm, 243, rfl⟩
abbrev main_v208 : Ref sig .tc := ⟨.hbm, 244, rfl⟩
abbrev main_v209 : Ref sig .tc := ⟨.hbm, 245, rfl⟩
abbrev main_v210 : Ref sig .tc := ⟨.hbm, 246, rfl⟩
abbrev main_v211 : Ref sig .tc := ⟨.hbm, 247, rfl⟩
abbrev main_v212 : Ref sig .tc := ⟨.hbm, 248, rfl⟩
abbrev main_v213 : Ref sig .tc := ⟨.hbm, 249, rfl⟩
abbrev main_v214 : Ref sig .tc := ⟨.hbm, 250, rfl⟩
abbrev main_v215 : Ref sig .tc := ⟨.hbm, 251, rfl⟩
abbrev main_v216 : Ref sig .tc := ⟨.hbm, 252, rfl⟩
abbrev main_v217 : Ref sig .tc := ⟨.hbm, 253, rfl⟩
abbrev main_v218 : Ref sig .tc := ⟨.hbm, 254, rfl⟩
abbrev main_v219 : Ref sig .tc := ⟨.hbm, 255, rfl⟩
abbrev main_v220 : Ref sig .tc := ⟨.hbm, 256, rfl⟩
abbrev main_v221 : Ref sig .tc := ⟨.hbm, 257, rfl⟩
abbrev main_v222 : Ref sig .tc := ⟨.hbm, 258, rfl⟩
abbrev main_v223 : Ref sig .tc := ⟨.hbm, 259, rfl⟩
abbrev main_v224 : Ref sig .tc := ⟨.hbm, 260, rfl⟩
abbrev main_v225 : Ref sig .tc := ⟨.hbm, 261, rfl⟩
abbrev main_v226 : Ref sig .tc := ⟨.hbm, 262, rfl⟩
abbrev main_v227 : Ref sig .tc := ⟨.hbm, 263, rfl⟩
abbrev main_v228 : Ref sig .tc := ⟨.hbm, 264, rfl⟩
abbrev main_v229 : Ref sig .tc := ⟨.hbm, 265, rfl⟩
abbrev main_v230 : Ref sig .tc := ⟨.hbm, 266, rfl⟩
abbrev main_v231 : Ref sig .tc := ⟨.hbm, 267, rfl⟩
abbrev main_v232 : Ref sig .tc := ⟨.hbm, 268, rfl⟩
abbrev main_v233 : Ref sig .tc := ⟨.hbm, 269, rfl⟩
abbrev main_v234 : Ref sig .tc := ⟨.hbm, 270, rfl⟩
abbrev main_v235 : Ref sig .tc := ⟨.hbm, 271, rfl⟩
abbrev main_v236 : Ref sig .tc := ⟨.hbm, 272, rfl⟩
abbrev main_v237 : Ref sig .tc := ⟨.hbm, 273, rfl⟩
abbrev main_v238 : Ref sig .tc := ⟨.hbm, 274, rfl⟩
abbrev main_v239 : Ref sig .tc := ⟨.hbm, 275, rfl⟩
abbrev main_v240 : Ref sig .tc := ⟨.hbm, 276, rfl⟩
abbrev main_v241 : Ref sig .tc := ⟨.hbm, 277, rfl⟩
abbrev main_v242 : Ref sig .tc := ⟨.hbm, 278, rfl⟩
abbrev main_v243 : Ref sig .tc := ⟨.hbm, 279, rfl⟩
abbrev main_v244 : Ref sig .tc := ⟨.hbm, 280, rfl⟩
abbrev main_v245 : Ref sig .tc := ⟨.hbm, 281, rfl⟩
abbrev main_v246 : Ref sig .tc := ⟨.hbm, 282, rfl⟩
abbrev main_v247 : Ref sig .tc := ⟨.hbm, 283, rfl⟩
abbrev main_v248 : Ref sig .tc := ⟨.hbm, 284, rfl⟩
abbrev main_v249 : Ref sig .tc := ⟨.hbm, 285, rfl⟩
abbrev main_v250 : Ref sig .tc := ⟨.hbm, 286, rfl⟩
abbrev main_v251 : Ref sig .tc := ⟨.hbm, 287, rfl⟩
abbrev main_v252 : Ref sig .tc := ⟨.hbm, 288, rfl⟩
abbrev main_v253 : Ref sig .tc := ⟨.hbm, 289, rfl⟩
abbrev main_v254 : Ref sig .tc := ⟨.hbm, 290, rfl⟩
abbrev main_v255 : Ref sig .tc := ⟨.hbm, 291, rfl⟩
abbrev main_v256 : Ref sig .tc := ⟨.hbm, 292, rfl⟩
abbrev main_v257 : Ref sig .tc := ⟨.hbm, 293, rfl⟩
abbrev main_v258 : Ref sig .tc := ⟨.hbm, 294, rfl⟩
abbrev main_v259 : Ref sig .tc := ⟨.hbm, 295, rfl⟩
abbrev main_v260 : Ref sig .tc := ⟨.hbm, 296, rfl⟩
abbrev main_v261 : Ref sig .tc := ⟨.hbm, 297, rfl⟩
abbrev main_v262 : Ref sig .tc := ⟨.hbm, 298, rfl⟩
abbrev main_v263 : Ref sig .tc := ⟨.hbm, 299, rfl⟩
abbrev main_v264 : Ref sig .tc := ⟨.hbm, 300, rfl⟩
abbrev main_v265 : Ref sig .tc := ⟨.hbm, 301, rfl⟩
abbrev main_v266 : Ref sig .tc := ⟨.hbm, 302, rfl⟩
abbrev main_v267 : Ref sig .tc := ⟨.hbm, 303, rfl⟩
abbrev main_v268 : Ref sig .tc := ⟨.hbm, 304, rfl⟩
abbrev main_v269 : Ref sig .tc := ⟨.hbm, 305, rfl⟩
abbrev main_v270 : Ref sig .tc := ⟨.hbm, 306, rfl⟩
abbrev main_v271 : Ref sig .tc := ⟨.hbm, 307, rfl⟩
abbrev main_v272 : Ref sig .tc := ⟨.hbm, 308, rfl⟩
abbrev main_v273 : Ref sig .tc := ⟨.hbm, 309, rfl⟩
abbrev main_v274 : Ref sig .tc := ⟨.hbm, 310, rfl⟩
abbrev main_v275 : Ref sig .tc := ⟨.hbm, 311, rfl⟩
abbrev main_v276 : Ref sig .tc := ⟨.hbm, 312, rfl⟩
abbrev main_v277 : Ref sig .tc := ⟨.hbm, 313, rfl⟩
abbrev main_v278 : Ref sig .tc := ⟨.hbm, 314, rfl⟩
abbrev main_v279 : Ref sig .tc := ⟨.hbm, 315, rfl⟩
abbrev main_v280 : Ref sig .tc := ⟨.hbm, 316, rfl⟩
abbrev main_v281 : Ref sig .tc := ⟨.hbm, 317, rfl⟩
abbrev main_v282 : Ref sig .tc := ⟨.hbm, 318, rfl⟩
abbrev main_v283 : Ref sig .tc := ⟨.hbm, 319, rfl⟩
abbrev main_v284 : Ref sig .tc := ⟨.hbm, 320, rfl⟩
abbrev main_v285 : Ref sig .tc := ⟨.hbm, 321, rfl⟩
abbrev main_v286 : Ref sig .tc := ⟨.hbm, 322, rfl⟩
abbrev main_v287 : Ref sig .tc := ⟨.hbm, 323, rfl⟩
abbrev main_v288 : Ref sig .tc := ⟨.hbm, 324, rfl⟩
abbrev main_v289 : Ref sig .tc := ⟨.hbm, 325, rfl⟩
abbrev main_v290 : Ref sig .tc := ⟨.hbm, 326, rfl⟩
abbrev main_v291 : Ref sig .tc := ⟨.hbm, 327, rfl⟩
abbrev main_v292 : Ref sig .tc := ⟨.hbm, 328, rfl⟩
abbrev main_v293 : Ref sig .tc := ⟨.hbm, 329, rfl⟩
abbrev main_v294 : Ref sig .tc := ⟨.hbm, 330, rfl⟩
abbrev main_v295 : Ref sig .tc := ⟨.hbm, 331, rfl⟩
abbrev main_v296 : Ref sig .tc := ⟨.hbm, 332, rfl⟩
abbrev main_v297 : Ref sig .tc := ⟨.hbm, 333, rfl⟩
abbrev main_v298 : Ref sig .tc := ⟨.hbm, 334, rfl⟩
abbrev main_v299 : Ref sig .tc := ⟨.hbm, 335, rfl⟩
abbrev main_v300 : Ref sig .tc := ⟨.hbm, 336, rfl⟩
abbrev main_v301 : Ref sig .tc := ⟨.hbm, 337, rfl⟩
abbrev main_v302 : Ref sig .tc := ⟨.hbm, 338, rfl⟩
abbrev main_v303 : Ref sig .tc := ⟨.hbm, 339, rfl⟩
abbrev main_v304 : Ref sig .tc := ⟨.hbm, 340, rfl⟩
abbrev main_v305 : Ref sig .tc := ⟨.hbm, 341, rfl⟩
abbrev main_v306 : Ref sig .tc := ⟨.hbm, 342, rfl⟩
abbrev main_v307 : Ref sig .tc := ⟨.hbm, 343, rfl⟩
abbrev main_v308 : Ref sig .tc := ⟨.hbm, 344, rfl⟩
abbrev main_v309 : Ref sig .tc := ⟨.hbm, 345, rfl⟩
abbrev main_v310 : Ref sig .tc := ⟨.hbm, 346, rfl⟩
abbrev main_v311 : Ref sig .tc := ⟨.hbm, 347, rfl⟩
abbrev main_v312 : Ref sig .tc := ⟨.hbm, 348, rfl⟩
abbrev main_v313 : Ref sig .tc := ⟨.hbm, 349, rfl⟩
abbrev main_v314 : Ref sig .tc := ⟨.hbm, 350, rfl⟩
abbrev main_v315 : Ref sig .tc := ⟨.hbm, 351, rfl⟩
abbrev main_v316 : Ref sig .tc := ⟨.hbm, 352, rfl⟩
abbrev main_v317 : Ref sig .tc := ⟨.hbm, 353, rfl⟩
abbrev main_v318 : Ref sig .tc := ⟨.hbm, 354, rfl⟩
abbrev main_v319 : Ref sig .tc := ⟨.hbm, 355, rfl⟩
abbrev main_v320 : Ref sig .tc := ⟨.hbm, 356, rfl⟩
abbrev main_v321 : Ref sig .tc := ⟨.hbm, 357, rfl⟩
abbrev main_v322 : Ref sig .tc := ⟨.hbm, 358, rfl⟩
abbrev main_v323 : Ref sig .tc := ⟨.hbm, 359, rfl⟩
abbrev main_v324 : Ref sig .tc := ⟨.hbm, 360, rfl⟩
abbrev main_v325 : Ref sig .tc := ⟨.hbm, 361, rfl⟩
abbrev main_v326 : Ref sig .tc := ⟨.hbm, 362, rfl⟩
abbrev main_v327 : Ref sig .tc := ⟨.hbm, 363, rfl⟩
abbrev main_v328 : Ref sig .tc := ⟨.hbm, 364, rfl⟩
abbrev main_v329 : Ref sig .tc := ⟨.hbm, 365, rfl⟩
abbrev main_v330 : Ref sig .tc := ⟨.hbm, 366, rfl⟩
abbrev main_v331 : Ref sig .tc := ⟨.hbm, 367, rfl⟩
abbrev main_v332 : Ref sig .tc := ⟨.hbm, 368, rfl⟩
abbrev main_v333 : Ref sig .tc := ⟨.hbm, 369, rfl⟩
abbrev main_v334 : Ref sig .tc := ⟨.hbm, 370, rfl⟩
abbrev main_v335 : Ref sig .tc := ⟨.hbm, 371, rfl⟩
abbrev main_v336 : Ref sig .tc := ⟨.hbm, 372, rfl⟩
abbrev main_v337 : Ref sig .tc := ⟨.hbm, 373, rfl⟩
abbrev main_v338 : Ref sig .tc := ⟨.hbm, 374, rfl⟩
abbrev main_v339 : Ref sig .tc := ⟨.hbm, 375, rfl⟩
abbrev main_v340 : Ref sig .tc := ⟨.hbm, 376, rfl⟩
abbrev main_v341 : Ref sig .tc := ⟨.hbm, 377, rfl⟩
abbrev main_v342 : Ref sig .tc := ⟨.hbm, 378, rfl⟩
abbrev main_v343 : Ref sig .tc := ⟨.hbm, 379, rfl⟩
abbrev main_v344 : Ref sig .tc := ⟨.hbm, 380, rfl⟩
abbrev main_v345 : Ref sig .tc := ⟨.hbm, 381, rfl⟩
abbrev main_v346 : Ref sig .tc := ⟨.hbm, 382, rfl⟩
abbrev main_v347 : Ref sig .tc := ⟨.hbm, 383, rfl⟩
abbrev main_v348 : Ref sig .tc := ⟨.hbm, 384, rfl⟩
abbrev main_v349 : Ref sig .tc := ⟨.hbm, 385, rfl⟩
abbrev main_v350 : Ref sig .tc := ⟨.hbm, 386, rfl⟩
abbrev main_v351 : Ref sig .tc := ⟨.hbm, 387, rfl⟩
abbrev main_v352 : Ref sig .tc := ⟨.hbm, 388, rfl⟩
abbrev main_v353 : Ref sig .tc := ⟨.hbm, 389, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  ![v0.toNat, c0_i32.toNat]

def cc0_transform_1 (i : grid0.Coords) : Fin 4 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_2 (i : grid0.Coords) : Fin 2 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  ![v0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  ![v0.toNat, c0_i32.toNat]

abbrev stage0_0 : Fin 2 → Memref sig .tc .vmem S512x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x4x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x64x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x64x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x64x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Kernel2Ideal.lean ====
variable {F : FTy → Type} [FloatOps F] [Named F]
def κ : String → Option EReal := fun
  | "gamma0" => some ((279993793990258235750468749959300213014699042596341116563305503247751586492770004816505534904321 / 2135987035920910082395021706169552114602704522356652769947041607822219725780640550022962086936576 : ℝ) : EReal)
  | "gamma1" => some ((14381201289858923833733732277241427911251598557516928831287151963615866190845260542210496569296551598609485715599361 / 39402006196394479212279040100143613805079739270465446667948293404245721771497210611414266254884915640806627990306816 : ℝ) : EReal)
  | "gamma2" => some ((439985273984774139364885786774155225074372621425249766976946157772109425125407741241214744259687760072793219732307971501512893104906241 / 726838724295606890549323807888004534353641360687318060281490199180639288113397923326191050713763565560762521606266177933534601628614656 : ℝ) : EReal)
  | "gamma3" => some ((10436900611138725869172867285320967420499386398293333045633692797639857278619179096472846825397665828940838712011497657616843071082257665693759918212890625 / 13407807929942597099574024998205846127479365820592393377723561443721764030073546976801874298166903427690031858186486050853753882811946569946433649006084096 : ℝ) : EReal)
  | _ => none
-- ==== Reference2Ideal.lean ====
abbrev S2048x1536 : Shape := ⟨2, ![2048, 1536]⟩
abbrev S2048x512 : Shape := ⟨2, ![2048, 512]⟩
abbrev S2048x256 : Shape := ⟨2, ![2048, 256]⟩
abbrev S2048 : Shape := ⟨1, ![2048]⟩
abbrev S1x2048x4x64 : Shape := ⟨4, ![1, 2048, 4, 64]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S1x2048x1x32 : Shape := ⟨4, ![1, 2048, 1, 32]⟩
abbrev S1x2048x4x32 : Shape := ⟨4, ![1, 2048, 4, 32]⟩
abbrev S1x2048x4x128 : Shape := ⟨4, ![1, 2048, 4, 128]⟩
abbrev S4 : Shape := ⟨1, ![4]⟩
abbrev S64 : Shape := ⟨1, ![64]⟩
abbrev S4x1x1 : Shape := ⟨3, ![4, 1, 1]⟩
abbrev S64x1 : Shape := ⟨2, ![64, 1]⟩
abbrev S1x64 : Shape := ⟨2, ![1, 64]⟩
abbrev S64x64 : Shape := ⟨2, ![64, 64]⟩
abbrev S1x64x64 : Shape := ⟨3, ![1, 64, 64]⟩
abbrev S4x64x64 : Shape := ⟨3, ![4, 64, 64]⟩
abbrev S4x1 : Shape := ⟨2, ![4, 1]⟩
abbrev S4x64 : Shape := ⟨2, ![4, 64]⟩
abbrev S64x4 : Shape := ⟨2, ![64, 4]⟩
abbrev S1x4x1x1 : Shape := ⟨4, ![1, 4, 1, 1]⟩
abbrev S1x32x64x4x64 : Shape := ⟨5, ![1, 32, 64, 4, 64]⟩
abbrev S1x32x64x4x128 : Shape := ⟨5, ![1, 32, 64, 4, 128]⟩
abbrev S1x32x4x64x64 : Shape := ⟨5, ![1, 32, 4, 64, 64]⟩
abbrev S1x1x4x64x64 : Shape := ⟨5, ![1, 1, 4, 64, 64]⟩
abbrev S1x32x4x128x64 : Shape := ⟨5, ![1, 32, 4, 128, 64]⟩
abbrev S1x1x64x4x1 : Shape := ⟨5, ![1, 1, 64, 4, 1]⟩
abbrev S32x1x4x64x128 : Shape := ⟨5, ![32, 1, 4, 64, 128]⟩
abbrev S1x4x64x128 : Shape := ⟨4, ![1, 4, 64, 128]⟩
abbrev S0x1x4x64x128 : Shape := ⟨5, ![0, 1, 4, 64, 128]⟩
abbrev S1x1x4x64x128 : Shape := ⟨5, ![1, 1, 4, 64, 128]⟩
abbrev S16x1x4x64x128 : Shape := ⟨5, ![16, 1, 4, 64, 128]⟩
abbrev S32x1x4x128x64 : Shape := ⟨5, ![32, 1, 4, 128, 64]⟩
abbrev S32x1x4x64x64 : Shape := ⟨5, ![32, 1, 4, 64, 64]⟩
abbrev S2048x1024 : Shape := ⟨2, ![2048, 1024]⟩

abbrev nBuf : Space → Nat
  | .hbm => 626
  | .vmem => 0
  | .smem => 0
  | _ => 0

abbrev hbmTy0_0 (i : Nat) : BufTy := match i % 128 with
  | 0 => ⟨S2048x1536, .f32⟩
  | 1 => ⟨S2048x512, .f32⟩
  | 2 => ⟨S2048x256, .f32⟩
  | 3 => ⟨S2048x256, .f32⟩
  | 4 => ⟨S2048x512, .f32⟩
  | 5 => ⟨S2048, .i32⟩
  | 6 => ⟨S1x2048x4x64, .f32⟩
  | 7 => ⟨S32, .f32⟩
  | 8 => ⟨S32, .f32⟩
  | 9 => ⟨S_, .f32⟩
  | 10 => ⟨S32, .f32⟩
  | 11 => ⟨S32, .f32⟩
  | 12 => ⟨S_, .f32⟩
  | 13 => ⟨S32, .f32⟩
  | 14 => ⟨S32, .f32⟩
  | 15 => ⟨S32, .f32⟩
  | 16 => ⟨S2048, .f32⟩
  | 17 => ⟨S2048x1, .f32⟩
  | 18 => ⟨S1x32, .f32⟩
  | 19 => ⟨S2048x32, .f32⟩
  | 20 => ⟨S2048x32, .f32⟩
  | 21 => ⟨S2048x32, .f32⟩
  | 22 => ⟨S2048x32, .f32⟩
  | 23 => ⟨S1x2048x1x32, .f32⟩
  | 24 => ⟨S2048x32, .f32⟩
  | 25 => ⟨S1x2048x1x32, .f32⟩
  | 26 => ⟨S1x2048x4x32, .f32⟩
  | 27 => ⟨S1x2048x4x32, .f32⟩
  | 28 => ⟨S1x2048x4x32, .f32⟩
  | 29 => ⟨S1x2048x4x32, .f32⟩
  | 30 => ⟨S1x2048x4x32, .f32⟩
  | 31 => ⟨S1x2048x4x32, .f32⟩
  | 32 => ⟨S1x2048x4x32, .f32⟩
  | 33 => ⟨S1x2048x4x32, .f32⟩
  | 34 => ⟨S1x2048x4x32, .f32⟩
  | 35 => ⟨S1x2048x4x32, .f32⟩
  | 36 => ⟨S1x2048x4x32, .f32⟩
  | 37 => ⟨S1x2048x4x32, .f32⟩
  | 38 => ⟨S1x2048x4x64, .f32⟩
  | 39 => ⟨S1x2048x4x64, .f32⟩
  | 40 => ⟨S32, .f32⟩
  | 41 => ⟨S32, .f32⟩
  | 42 => ⟨S_, .f32⟩
  | 43 => ⟨S32, .f32⟩
  | 44 => ⟨S32, .f32⟩
  | 45 => ⟨S_, .f32⟩
  | 46 => ⟨S32, .f32⟩
  | 47 => ⟨S32, .f32⟩
  | 48 => ⟨S32, .f32⟩
  | 49 => ⟨S2048, .f32⟩
  | 50 => ⟨S2048x1, .f32⟩
  | 51 => ⟨S1x32, .f32⟩
  | 52 => ⟨S2048x32, .f32⟩
  | 53 => ⟨S2048x32, .f32⟩
  | 54 => ⟨S2048x32, .f32⟩
  | 55 => ⟨S2048x32, .f32⟩
  | 56 => ⟨S1x2048x1x32, .f32⟩
  | 57 => ⟨S2048x32, .f32⟩
  | 58 => ⟨S1x2048x1x32, .f32⟩
  | 59 => ⟨S1x2048x4x32, .f32⟩
  | 60 => ⟨S1x2048x4x32, .f32⟩
  | 61 => ⟨S1x2048x4x32, .f32⟩
  | 62 => ⟨S1x2048x4x32, .f32⟩
  | 63 => ⟨S1x2048x4x32, .f32⟩
  | 64 => ⟨S1x2048x4x32, .f32⟩
  | 65 => ⟨S1x2048x4x32, .f32⟩
  | 66 => ⟨S1x2048x4x32, .f32⟩
  | 67 => ⟨S1x2048x4x32, .f32⟩
  | 68 => ⟨S1x2048x4x32, .f32⟩
  | 69 => ⟨S1x2048x4x32, .f32⟩
  | 70 => ⟨S1x2048x4x32, .f32⟩
  | 71 => ⟨S1x2048x4x64, .f32⟩
  | 72 => ⟨S_, .f32⟩
  | 73 => ⟨S1x2048x4x64, .f32⟩
  | 74 => ⟨S1x2048x4x64, .f32⟩
  | 75 => ⟨S1x2048x4x128, .f32⟩
  | 76 => ⟨S4, .f32⟩
  | 77 => ⟨S_, .f32⟩
  | 78 => ⟨S4, .f32⟩
  | 79 => ⟨S4, .f32⟩
  | 80 => ⟨S_, .f32⟩
  | 81 => ⟨S4, .f32⟩
  | 82 => ⟨S4, .f32⟩
  | 83 => ⟨S_, .f32⟩
  | 84 => ⟨S4, .f32⟩
  | 85 => ⟨S4, .f32⟩
  | 86 => ⟨S4, .f32⟩
  | 87 => ⟨S64, .f32⟩
  | 88 => ⟨S4x1x1, .f32⟩
  | 89 => ⟨S64x1, .f32⟩
  | 90 => ⟨S1x64, .f32⟩
  | 91 => ⟨S64x64, .f32⟩
  | 92 => ⟨S64x64, .f32⟩
  | 93 => ⟨S64x64, .f32⟩
  | 94 => ⟨S64x64, .f32⟩
  | 95 => ⟨S1x64x64, .f32⟩
  | 96 => ⟨S4x64x64, .f32⟩
  | 97 => ⟨S4x64x64, .f32⟩
  | 98 => ⟨S4x64x64, .f32⟩
  | 99 => ⟨S4x64x64, .f32⟩
  | 100 => ⟨S4x1, .f32⟩
  | 101 => ⟨S1x64, .f32⟩
  | 102 => ⟨S_, .f32⟩
  | 103 => ⟨S1x64, .f32⟩
  | 104 => ⟨S1x64, .f32⟩
  | 105 => ⟨S4x64, .f32⟩
  | 106 => ⟨S4x64, .f32⟩
  | 107 => ⟨S4x64, .f32⟩
  | 108 => ⟨S4x64, .f32⟩
  | 109 => ⟨S64x4, .f32⟩
  | 110 => ⟨S4x1, .f32⟩
  | 111 => ⟨S1x64, .f32⟩
  | 112 => ⟨S_, .f32⟩
  | 113 => ⟨S1x64, .f32⟩
  | 114 => ⟨S1x64, .f32⟩
  | 115 => ⟨S4x64, .f32⟩
  | 116 => ⟨S4x64, .f32⟩
  | 117 => ⟨S4x64, .f32⟩
  | 118 => ⟨S4x64, .f32⟩
  | 119 => ⟨S64x4, .f32⟩
  | 120 => ⟨S_, .f32⟩
  | 121 => ⟨S4, .f32⟩
  | 122 => ⟨S4, .f32⟩
  | 123 => ⟨S4, .f32⟩
  | 124 => ⟨S1x4x1x1, .f32⟩
  | 125 => ⟨S1x32x64x4x64, .f32⟩
  | 126 => ⟨S1x32x64x4x64, .f32⟩
  | 127 => ⟨S1x32x64x4x128, .f32⟩
  | _ => ⟨S2048x1536, .f32⟩

abbrev hbmTy0_1 (i : Nat) : BufTy := match i % 128 with
  | 0 => ⟨S1x32x4x64x64, .f32⟩
  | 1 => ⟨S1x1x4x64x64, .f32⟩
  | 2 => ⟨S1x32x4x64x64, .f32⟩
  | 3 => ⟨S1x32x4x64x64, .f32⟩
  | 4 => ⟨S1x32x4x128x64, .f32⟩
  | 5 => ⟨S1x32x64x4x128, .f32⟩
  | 6 => ⟨S1x1x64x4x1, .f32⟩
  | 7 => ⟨S1x32x64x4x64, .f32⟩
  | 8 => ⟨S1x32x64x4x64, .f32⟩
  | 9 => ⟨S32x1x4x64x128, .f32⟩
  | 10 => ⟨S_, .f32⟩
  | 11 => ⟨S1x4x64x128, .f32⟩
  | 12 => ⟨S0x1x4x64x128, .f32⟩
  | 13 => ⟨S32x1x4x64x128, .f32⟩
  | 14 => ⟨S_, .f32⟩
  | 15 => ⟨S0x1x4x64x128, .f32⟩
  | 16 => ⟨S1x1x4x64x128, .f32⟩
  | 17 => ⟨S1x4x64x128, .f32⟩
  | 18 => ⟨S1x4x64x128, .f32⟩
  | 19 => ⟨S1x4x64x128, .f32⟩
  | 20 => ⟨S1x4x64x128, .f32⟩
  | 21 => ⟨S1x1x4x64x128, .f32⟩
  | 22 => ⟨S1x4x64x128, .f32⟩
  | 23 => ⟨S1x4x64x128, .f32⟩
  | 24 => ⟨S1x4x64x128, .f32⟩
  | 25 => ⟨S1x4x64x128, .f32⟩
  | 26 => ⟨S1x1x4x64x128, .f32⟩
  | 27 => ⟨S1x4x64x128, .f32⟩
  | 28 => ⟨S1x4x64x128, .f32⟩
  | 29 => ⟨S1x4x64x128, .f32⟩
  | 30 => ⟨S1x4x64x128, .f32⟩
  | 31 => ⟨S1x1x4x64x128, .f32⟩
  | 32 => ⟨S1x4x64x128, .f32⟩
  | 33 => ⟨S1x4x64x128, .f32⟩
  | 34 => ⟨S1x4x64x128, .f32⟩
  | 35 => ⟨S1x4x64x128, .f32⟩
  | 36 => ⟨S1x1x4x64x128, .f32⟩
  | 37 => ⟨S1x4x64x128, .f32⟩
  | 38 => ⟨S1x4x64x128, .f32⟩
  | 39 => ⟨S1x4x64x128, .f32⟩
  | 40 => ⟨S1x4x64x128, .f32⟩
  | 41 => ⟨S1x1x4x64x128, .f32⟩
  | 42 => ⟨S1x4x64x128, .f32⟩
  | 43 => ⟨S1x4x64x128, .f32⟩
  | 44 => ⟨S1x4x64x128, .f32⟩
  | 45 => ⟨S1x4x64x128, .f32⟩
  | 46 => ⟨S1x1x4x64x128, .f32⟩
  | 47 => ⟨S1x4x64x128, .f32⟩
  | 48 => ⟨S1x4x64x128, .f32⟩
  | 49 => ⟨S1x4x64x128, .f32⟩
  | 50 => ⟨S1x4x64x128, .f32⟩
  | 51 => ⟨S1x1x4x64x128, .f32⟩
  | 52 => ⟨S1x4x64x128, .f32⟩
  | 53 => ⟨S1x4x64x128, .f32⟩
  | 54 => ⟨S1x4x64x128, .f32⟩
  | 55 => ⟨S1x4x64x128, .f32⟩
  | 56 => ⟨S1x1x4x64x128, .f32⟩
  | 57 => ⟨S1x4x64x128, .f32⟩
  | 58 => ⟨S1x4x64x128, .f32⟩
  | 59 => ⟨S1x4x64x128, .f32⟩
  | 60 => ⟨S1x4x64x128, .f32⟩
  | 61 => ⟨S1x1x4x64x128, .f32⟩
  | 62 => ⟨S1x4x64x128, .f32⟩
  | 63 => ⟨S1x4x64x128, .f32⟩
  | 64 => ⟨S1x4x64x128, .f32⟩
  | 65 => ⟨S1x4x64x128, .f32⟩
  | 66 => ⟨S1x1x4x64x128, .f32⟩
  | 67 => ⟨S1x4x64x128, .f32⟩
  | 68 => ⟨S1x4x64x128, .f32⟩
  | 69 => ⟨S1x4x64x128, .f32⟩
  | 70 => ⟨S1x4x64x128, .f32⟩
  | 71 => ⟨S1x1x4x64x128, .f32⟩
  | 72 => ⟨S1x4x64x128, .f32⟩
  | 73 => ⟨S1x4x64x128, .f32⟩
  | 74 => ⟨S1x4x64x128, .f32⟩
  | 75 => ⟨S1x4x64x128, .f32⟩
  | 76 => ⟨S1x1x4x64x128, .f32⟩
  | 77 => ⟨S1x4x64x128, .f32⟩
  | 78 => ⟨S1x4x64x128, .f32⟩
  | 79 => ⟨S1x4x64x128, .f32⟩
  | 80 => ⟨S1x4x64x128, .f32⟩
  | 81 => ⟨S1x1x4x64x128, .f32⟩
  | 82 => ⟨S1x4x64x128, .f32⟩
  | 83 => ⟨S1x4x64x128, .f32⟩
  | 84 => ⟨S1x4x64x128, .f32⟩
  | 85 => ⟨S1x4x64x128, .f32⟩
  | 86 => ⟨S1x1x4x64x128, .f32⟩
  | 87 => ⟨S1x4x64x128, .f32⟩
  | 88 => ⟨S1x4x64x128, .f32⟩
  | 89 => ⟨S1x4x64x128, .f32⟩
  | 90 => ⟨S1x4x64x128, .f32⟩
  | 91 => ⟨S1x1x4x64x128, .f32⟩
  | 92 => ⟨S1x4x64x128, .f32⟩
  | 93 => ⟨S1x4x64x128, .f32⟩
  | 94 => ⟨S1x4x64x128, .f32⟩
  | 95 => ⟨S1x4x64x128, .f32⟩
  | 96 => ⟨S1x1x4x64x128, .f32⟩
  | 97 => ⟨S1x4x64x128, .f32⟩
  | 98 => ⟨S1x4x64x128, .f32⟩
  | 99 => ⟨S1x4x64x128, .f32⟩
  | 100 => ⟨S1x4x64x128, .f32⟩
  | 101 => ⟨S1x1x4x64x128, .f32⟩
  | 102 => ⟨S1x4x64x128, .f32⟩
  | 103 => ⟨S1x4x64x128, .f32⟩
  | 104 => ⟨S1x4x64x128, .f32⟩
  | 105 => ⟨S1x4x64x128, .f32⟩
  | 106 => ⟨S1x1x4x64x128, .f32⟩
  | 107 => ⟨S1x4x64x128, .f32⟩
  | 108 => ⟨S1x4x64x128, .f32⟩
  | 109 => ⟨S1x4x64x128, .f32⟩
  | 110 => ⟨S1x4x64x128, .f32⟩
  | 111 => ⟨S1x1x4x64x128, .f32⟩
  | 112 => ⟨S1x4x64x128, .f32⟩
  | 113 => ⟨S1x4x64x128, .f32⟩
  | 114 => ⟨S1x4x64x128, .f32⟩
  | 115 => ⟨S1x4x64x128, .f32⟩
  | 116 => ⟨S1x1x4x64x128, .f32⟩
  | 117 => ⟨S1x4x64x128, .f32⟩
  | 118 => ⟨S1x4x64x128, .f32⟩
  | 119 => ⟨S1x4x64x128, .f32⟩
  | 120 => ⟨S1x4x64x128, .f32⟩
  | 121 => ⟨S1x1x4x64x128, .f32⟩
  | 122 => ⟨S1x4x64x128, .f32⟩
  | 123 => ⟨S1x4x64x128, .f32⟩
  | 124 => ⟨S1x4x64x128, .f32⟩
  | 125 => ⟨S1x4x64x128, .f32⟩
  | 126 => ⟨S1x1x4x64x128, .f32⟩
  | 127 => ⟨S1x4x64x128, .f32⟩
  | _ => ⟨S2048x1536, .f32⟩

abbrev hbmTy0_2 (i : Nat) : BufTy := match i % 128 with
  | 0 => ⟨S1x4x64x128, .f32⟩
  | 1 => ⟨S1x4x64x128, .f32⟩
  | 2 => ⟨S1x4x64x128, .f32⟩
  | 3 => ⟨S1x1x4x64x128, .f32⟩
  | 4 => ⟨S1x4x64x128, .f32⟩
  | 5 => ⟨S1x4x64x128, .f32⟩
  | 6 => ⟨S1x4x64x128, .f32⟩
  | 7 => ⟨S1x4x64x128, .f32⟩
  | 8 => ⟨S1x1x4x64x128, .f32⟩
  | 9 => ⟨S1x4x64x128, .f32⟩
  | 10 => ⟨S1x4x64x128, .f32⟩
  | 11 => ⟨S1x4x64x128, .f32⟩
  | 12 => ⟨S1x4x64x128, .f32⟩
  | 13 => ⟨S1x1x4x64x128, .f32⟩
  | 14 => ⟨S1x4x64x128, .f32⟩
  | 15 => ⟨S1x4x64x128, .f32⟩
  | 16 => ⟨S1x4x64x128, .f32⟩
  | 17 => ⟨S1x4x64x128, .f32⟩
  | 18 => ⟨S1x1x4x64x128, .f32⟩
  | 19 => ⟨S1x4x64x128, .f32⟩
  | 20 => ⟨S1x4x64x128, .f32⟩
  | 21 => ⟨S1x4x64x128, .f32⟩
  | 22 => ⟨S1x4x64x128, .f32⟩
  | 23 => ⟨S1x1x4x64x128, .f32⟩
  | 24 => ⟨S1x4x64x128, .f32⟩
  | 25 => ⟨S1x4x64x128, .f32⟩
  | 26 => ⟨S1x4x64x128, .f32⟩
  | 27 => ⟨S1x4x64x128, .f32⟩
  | 28 => ⟨S1x1x4x64x128, .f32⟩
  | 29 => ⟨S1x4x64x128, .f32⟩
  | 30 => ⟨S1x4x64x128, .f32⟩
  | 31 => ⟨S1x4x64x128, .f32⟩
  | 32 => ⟨S1x4x64x128, .f32⟩
  | 33 => ⟨S1x1x4x64x128, .f32⟩
  | 34 => ⟨S1x4x64x128, .f32⟩
  | 35 => ⟨S1x4x64x128, .f32⟩
  | 36 => ⟨S1x4x64x128, .f32⟩
  | 37 => ⟨S1x4x64x128, .f32⟩
  | 38 => ⟨S1x1x4x64x128, .f32⟩
  | 39 => ⟨S1x4x64x128, .f32⟩
  | 40 => ⟨S1x4x64x128, .f32⟩
  | 41 => ⟨S1x4x64x128, .f32⟩
  | 42 => ⟨S1x4x64x128, .f32⟩
  | 43 => ⟨S1x1x4x64x128, .f32⟩
  | 44 => ⟨S1x4x64x128, .f32⟩
  | 45 => ⟨S1x4x64x128, .f32⟩
  | 46 => ⟨S1x4x64x128, .f32⟩
  | 47 => ⟨S1x4x64x128, .f32⟩
  | 48 => ⟨S1x1x4x64x128, .f32⟩
  | 49 => ⟨S1x1x4x64x128, .f32⟩
  | 50 => ⟨S1x1x4x64x128, .f32⟩
  | 51 => ⟨S1x1x4x64x128, .f32⟩
  | 52 => ⟨S1x1x4x64x128, .f32⟩
  | 53 => ⟨S1x1x4x64x128, .f32⟩
  | 54 => ⟨S1x1x4x64x128, .f32⟩
  | 55 => ⟨S1x1x4x64x128, .f32⟩
  | 56 => ⟨S1x1x4x64x128, .f32⟩
  | 57 => ⟨S1x1x4x64x128, .f32⟩
  | 58 => ⟨S1x1x4x64x128, .f32⟩
  | 59 => ⟨S1x1x4x64x128, .f32⟩
  | 60 => ⟨S1x1x4x64x128, .f32⟩
  | 61 => ⟨S1x1x4x64x128, .f32⟩
  | 62 => ⟨S1x1x4x64x128, .f32⟩
  | 63 => ⟨S1x1x4x64x128, .f32⟩
  | 64 => ⟨S1x1x4x64x128, .f32⟩
  | 65 => ⟨S1x1x4x64x128, .f32⟩
  | 66 => ⟨S1x1x4x64x128, .f32⟩
  | 67 => ⟨S1x1x4x64x128, .f32⟩
  | 68 => ⟨S1x1x4x64x128, .f32⟩
  | 69 => ⟨S1x1x4x64x128, .f32⟩
  | 70 => ⟨S1x1x4x64x128, .f32⟩
  | 71 => ⟨S1x1x4x64x128, .f32⟩
  | 72 => ⟨S1x1x4x64x128, .f32⟩
  | 73 => ⟨S1x1x4x64x128, .f32⟩
  | 74 => ⟨S1x1x4x64x128, .f32⟩
  | 75 => ⟨S1x1x4x64x128, .f32⟩
  | 76 => ⟨S1x1x4x64x128, .f32⟩
  | 77 => ⟨S1x1x4x64x128, .f32⟩
  | 78 => ⟨S1x1x4x64x128, .f32⟩
  | 79 => ⟨S1x1x4x64x128, .f32⟩
  | 80 => ⟨S16x1x4x64x128, .f32⟩
  | 81 => ⟨S16x1x4x64x128, .f32⟩
  | 82 => ⟨S32x1x4x64x128, .f32⟩
  | 83 => ⟨S32x1x4x64x128, .f32⟩
  | 84 => ⟨S1x1x64x4x1, .f32⟩
  | 85 => ⟨S1x32x64x4x64, .f32⟩
  | 86 => ⟨S1x32x64x4x64, .f32⟩
  | 87 => ⟨S1x32x4x128x64, .f32⟩
  | 88 => ⟨S1x32x64x4x128, .f32⟩
  | 89 => ⟨S1x32x64x4x128, .f32⟩
  | 90 => ⟨S1x2048x4x128, .f32⟩
  | 91 => ⟨S2048x512, .f32⟩
  | 92 => ⟨S_, .f32⟩
  | 93 => ⟨S1x4x64x128, .f32⟩
  | 94 => ⟨S1x2048x4x128, .f32⟩
  | 95 => ⟨S1x32x64x4x128, .f32⟩
  | 96 => ⟨S1x32x4x128x64, .f32⟩
  | 97 => ⟨S1x32x4x64x64, .f32⟩
  | 98 => ⟨S1x32x64x4x64, .f32⟩
  | 99 => ⟨S1x32x4x128x64, .f32⟩
  | 100 => ⟨S32x1x4x64x128, .f32⟩
  | 101 => ⟨S1x32x64x4x64, .f32⟩
  | 102 => ⟨S1x32x64x4x64, .f32⟩
  | 103 => ⟨S_, .f32⟩
  | 104 => ⟨S1x4x64x128, .f32⟩
  | 105 => ⟨S32x1x4x64x128, .f32⟩
  | 106 => ⟨S0x1x4x64x128, .f32⟩
  | 107 => ⟨S_, .f32⟩
  | 108 => ⟨S0x1x4x64x128, .f32⟩
  | 109 => ⟨S1x1x4x64x128, .f32⟩
  | 110 => ⟨S1x4x64x128, .f32⟩
  | 111 => ⟨S1x4x64x128, .f32⟩
  | 112 => ⟨S1x4x64x128, .f32⟩
  | 113 => ⟨S1x4x64x128, .f32⟩
  | 114 => ⟨S1x1x4x64x128, .f32⟩
  | 115 => ⟨S1x4x64x128, .f32⟩
  | 116 => ⟨S1x4x64x128, .f32⟩
  | 117 => ⟨S1x4x64x128, .f32⟩
  | 118 => ⟨S1x4x64x128, .f32⟩
  | 119 => ⟨S1x1x4x64x128, .f32⟩
  | 120 => ⟨S1x4x64x128, .f32⟩
  | 121 => ⟨S1x4x64x128, .f32⟩
  | 122 => ⟨S1x4x64x128, .f32⟩
  | 123 => ⟨S1x4x64x128, .f32⟩
  | 124 => ⟨S1x1x4x64x128, .f32⟩
  | 125 => ⟨S1x4x64x128, .f32⟩
  | 126 => ⟨S1x4x64x128, .f32⟩
  | 127 => ⟨S1x4x64x128, .f32⟩
  | _ => ⟨S2048x1536, .f32⟩

abbrev hbmTy0_3 (i : Nat) : BufTy := match i % 128 with
  | 0 => ⟨S1x4x64x128, .f32⟩
  | 1 => ⟨S1x1x4x64x128, .f32⟩
  | 2 => ⟨S1x4x64x128, .f32⟩
  | 3 => ⟨S1x4x64x128, .f32⟩
  | 4 => ⟨S1x4x64x128, .f32⟩
  | 5 => ⟨S1x4x64x128, .f32⟩
  | 6 => ⟨S1x1x4x64x128, .f32⟩
  | 7 => ⟨S1x4x64x128, .f32⟩
  | 8 => ⟨S1x4x64x128, .f32⟩
  | 9 => ⟨S1x4x64x128, .f32⟩
  | 10 => ⟨S1x4x64x128, .f32⟩
  | 11 => ⟨S1x1x4x64x128, .f32⟩
  | 12 => ⟨S1x4x64x128, .f32⟩
  | 13 => ⟨S1x4x64x128, .f32⟩
  | 14 => ⟨S1x4x64x128, .f32⟩
  | 15 => ⟨S1x4x64x128, .f32⟩
  | 16 => ⟨S1x1x4x64x128, .f32⟩
  | 17 => ⟨S1x4x64x128, .f32⟩
  | 18 => ⟨S1x4x64x128, .f32⟩
  | 19 => ⟨S1x4x64x128, .f32⟩
  | 20 => ⟨S1x4x64x128, .f32⟩
  | 21 => ⟨S1x1x4x64x128, .f32⟩
  | 22 => ⟨S1x4x64x128, .f32⟩
  | 23 => ⟨S1x4x64x128, .f32⟩
  | 24 => ⟨S1x4x64x128, .f32⟩
  | 25 => ⟨S1x4x64x128, .f32⟩
  | 26 => ⟨S1x1x4x64x128, .f32⟩
  | 27 => ⟨S1x4x64x128, .f32⟩
  | 28 => ⟨S1x4x64x128, .f32⟩
  | 29 => ⟨S1x4x64x128, .f32⟩
  | 30 => ⟨S1x4x64x128, .f32⟩
  | 31 => ⟨S1x1x4x64x128, .f32⟩
  | 32 => ⟨S1x4x64x128, .f32⟩
  | 33 => ⟨S1x4x64x128, .f32⟩
  | 34 => ⟨S1x4x64x128, .f32⟩
  | 35 => ⟨S1x4x64x128, .f32⟩
  | 36 => ⟨S1x1x4x64x128, .f32⟩
  | 37 => ⟨S1x4x64x128, .f32⟩
  | 38 => ⟨S1x4x64x128, .f32⟩
  | 39 => ⟨S1x4x64x128, .f32⟩
  | 40 => ⟨S1x4x64x128, .f32⟩
  | 41 => ⟨S1x1x4x64x128, .f32⟩
  | 42 => ⟨S1x4x64x128, .f32⟩
  | 43 => ⟨S1x4x64x128, .f32⟩
  | 44 => ⟨S1x4x64x128, .f32⟩
  | 45 => ⟨S1x4x64x128, .f32⟩
  | 46 => ⟨S1x1x4x64x128, .f32⟩
  | 47 => ⟨S1x4x64x128, .f32⟩
  | 48 => ⟨S1x4x64x128, .f32⟩
  | 49 => ⟨S1x4x64x128, .f32⟩
  | 50 => ⟨S1x4x64x128, .f32⟩
  | 51 => ⟨S1x1x4x64x128, .f32⟩
  | 52 => ⟨S1x4x64x128, .f32⟩
  | 53 => ⟨S1x4x64x128, .f32⟩
  | 54 => ⟨S1x4x64x128, .f32⟩
  | 55 => ⟨S1x4x64x128, .f32⟩
  | 56 => ⟨S1x1x4x64x128, .f32⟩
  | 57 => ⟨S1x4x64x128, .f32⟩
  | 58 => ⟨S1x4x64x128, .f32⟩
  | 59 => ⟨S1x4x64x128, .f32⟩
  | 60 => ⟨S1x4x64x128, .f32⟩
  | 61 => ⟨S1x1x4x64x128, .f32⟩
  | 62 => ⟨S1x4x64x128, .f32⟩
  | 63 => ⟨S1x4x64x128, .f32⟩
  | 64 => ⟨S1x4x64x128, .f32⟩
  | 65 => ⟨S1x4x64x128, .f32⟩
  | 66 => ⟨S1x1x4x64x128, .f32⟩
  | 67 => ⟨S1x4x64x128, .f32⟩
  | 68 => ⟨S1x4x64x128, .f32⟩
  | 69 => ⟨S1x4x64x128, .f32⟩
  | 70 => ⟨S1x4x64x128, .f32⟩
  | 71 => ⟨S1x1x4x64x128, .f32⟩
  | 72 => ⟨S1x4x64x128, .f32⟩
  | 73 => ⟨S1x4x64x128, .f32⟩
  | 74 => ⟨S1x4x64x128, .f32⟩
  | 75 => ⟨S1x4x64x128, .f32⟩
  | 76 => ⟨S1x1x4x64x128, .f32⟩
  | 77 => ⟨S1x4x64x128, .f32⟩
  | 78 => ⟨S1x4x64x128, .f32⟩
  | 79 => ⟨S1x4x64x128, .f32⟩
  | 80 => ⟨S1x4x64x128, .f32⟩
  | 81 => ⟨S1x1x4x64x128, .f32⟩
  | 82 => ⟨S1x4x64x128, .f32⟩
  | 83 => ⟨S1x4x64x128, .f32⟩
  | 84 => ⟨S1x4x64x128, .f32⟩
  | 85 => ⟨S1x4x64x128, .f32⟩
  | 86 => ⟨S1x1x4x64x128, .f32⟩
  | 87 => ⟨S1x4x64x128, .f32⟩
  | 88 => ⟨S1x4x64x128, .f32⟩
  | 89 => ⟨S1x4x64x128, .f32⟩
  | 90 => ⟨S1x4x64x128, .f32⟩
  | 91 => ⟨S1x1x4x64x128, .f32⟩
  | 92 => ⟨S1x4x64x128, .f32⟩
  | 93 => ⟨S1x4x64x128, .f32⟩
  | 94 => ⟨S1x4x64x128, .f32⟩
  | 95 => ⟨S1x4x64x128, .f32⟩
  | 96 => ⟨S1x1x4x64x128, .f32⟩
  | 97 => ⟨S1x4x64x128, .f32⟩
  | 98 => ⟨S1x4x64x128, .f32⟩
  | 99 => ⟨S1x4x64x128, .f32⟩
  | 100 => ⟨S1x4x64x128, .f32⟩
  | 101 => ⟨S1x1x4x64x128, .f32⟩
  | 102 => ⟨S1x4x64x128, .f32⟩
  | 103 => ⟨S1x4x64x128, .f32⟩
  | 104 => ⟨S1x4x64x128, .f32⟩
  | 105 => ⟨S1x4x64x128, .f32⟩
  | 106 => ⟨S1x1x4x64x128, .f32⟩
  | 107 => ⟨S1x4x64x128, .f32⟩
  | 108 => ⟨S1x4x64x128, .f32⟩
  | 109 => ⟨S1x4x64x128, .f32⟩
  | 110 => ⟨S1x4x64x128, .f32⟩
  | 111 => ⟨S1x1x4x64x128, .f32⟩
  | 112 => ⟨S1x4x64x128, .f32⟩
  | 113 => ⟨S1x4x64x128, .f32⟩
  | 114 => ⟨S1x4x64x128, .f32⟩
  | 115 => ⟨S1x4x64x128, .f32⟩
  | 116 => ⟨S1x1x4x64x128, .f32⟩
  | 117 => ⟨S1x4x64x128, .f32⟩
  | 118 => ⟨S1x4x64x128, .f32⟩
  | 119 => ⟨S1x4x64x128, .f32⟩
  | 120 => ⟨S1x4x64x128, .f32⟩
  | 121 => ⟨S1x1x4x64x128, .f32⟩
  | 122 => ⟨S1x4x64x128, .f32⟩
  | 123 => ⟨S1x4x64x128, .f32⟩
  | 124 => ⟨S1x4x64x128, .f32⟩
  | 125 => ⟨S1x4x64x128, .f32⟩
  | 126 => ⟨S1x1x4x64x128, .f32⟩
  | 127 => ⟨S1x4x64x128, .f32⟩
  | _ => ⟨S2048x1536, .f32⟩

abbrev hbmTy0_4 (i : Nat) : BufTy := match i % 128 with
  | 0 => ⟨S1x4x64x128, .f32⟩
  | 1 => ⟨S1x4x64x128, .f32⟩
  | 2 => ⟨S1x4x64x128, .f32⟩
  | 3 => ⟨S1x1x4x64x128, .f32⟩
  | 4 => ⟨S1x4x64x128, .f32⟩
  | 5 => ⟨S1x4x64x128, .f32⟩
  | 6 => ⟨S1x4x64x128, .f32⟩
  | 7 => ⟨S1x4x64x128, .f32⟩
  | 8 => ⟨S1x1x4x64x128, .f32⟩
  | 9 => ⟨S1x4x64x128, .f32⟩
  | 10 => ⟨S1x4x64x128, .f32⟩
  | 11 => ⟨S1x4x64x128, .f32⟩
  | 12 => ⟨S1x4x64x128, .f32⟩
  | 13 => ⟨S1x1x4x64x128, .f32⟩
  | 14 => ⟨S1x1x4x64x128, .f32⟩
  | 15 => ⟨S1x1x4x64x128, .f32⟩
  | 16 => ⟨S1x1x4x64x128, .f32⟩
  | 17 => ⟨S1x1x4x64x128, .f32⟩
  | 18 => ⟨S1x1x4x64x128, .f32⟩
  | 19 => ⟨S1x1x4x64x128, .f32⟩
  | 20 => ⟨S1x1x4x64x128, .f32⟩
  | 21 => ⟨S1x1x4x64x128, .f32⟩
  | 22 => ⟨S1x1x4x64x128, .f32⟩
  | 23 => ⟨S1x1x4x64x128, .f32⟩
  | 24 => ⟨S1x1x4x64x128, .f32⟩
  | 25 => ⟨S1x1x4x64x128, .f32⟩
  | 26 => ⟨S1x1x4x64x128, .f32⟩
  | 27 => ⟨S1x1x4x64x128, .f32⟩
  | 28 => ⟨S1x1x4x64x128, .f32⟩
  | 29 => ⟨S1x1x4x64x128, .f32⟩
  | 30 => ⟨S1x1x4x64x128, .f32⟩
  | 31 => ⟨S1x1x4x64x128, .f32⟩
  | 32 => ⟨S1x1x4x64x128, .f32⟩
  | 33 => ⟨S1x1x4x64x128, .f32⟩
  | 34 => ⟨S1x1x4x64x128, .f32⟩
  | 35 => ⟨S1x1x4x64x128, .f32⟩
  | 36 => ⟨S1x1x4x64x128, .f32⟩
  | 37 => ⟨S1x1x4x64x128, .f32⟩
  | 38 => ⟨S1x1x4x64x128, .f32⟩
  | 39 => ⟨S1x1x4x64x128, .f32⟩
  | 40 => ⟨S1x1x4x64x128, .f32⟩
  | 41 => ⟨S1x1x4x64x128, .f32⟩
  | 42 => ⟨S1x1x4x64x128, .f32⟩
  | 43 => ⟨S1x1x4x64x128, .f32⟩
  | 44 => ⟨S1x1x4x64x128, .f32⟩
  | 45 => ⟨S16x1x4x64x128, .f32⟩
  | 46 => ⟨S16x1x4x64x128, .f32⟩
  | 47 => ⟨S32x1x4x64x128, .f32⟩
  | 48 => ⟨S32x1x4x64x128, .f32⟩
  | 49 => ⟨S32x1x4x128x64, .f32⟩
  | 50 => ⟨S1x32x64x4x128, .f32⟩
  | 51 => ⟨S32x1x4x64x64, .f32⟩
  | 52 => ⟨S1x32x64x4x64, .f32⟩
  | 53 => ⟨S1x32x64x4x64, .f32⟩
  | 54 => ⟨S1x32x64x4x64, .f32⟩
  | 55 => ⟨S1x32x4x128x64, .f32⟩
  | 56 => ⟨S1x32x4x64x64, .f32⟩
  | 57 => ⟨S1x32x4x128x64, .f32⟩
  | 58 => ⟨S1x32x64x4x128, .f32⟩
  | 59 => ⟨S1x32x64x4x128, .f32⟩
  | 60 => ⟨S1x32x4x64x64, .f32⟩
  | 61 => ⟨S1x32x4x64x64, .f32⟩
  | 62 => ⟨S1x32x4x64x64, .f32⟩
  | 63 => ⟨S1x32x64x4x64, .f32⟩
  | 64 => ⟨S1x32x64x4x64, .f32⟩
  | 65 => ⟨S1x32x4x64x64, .f32⟩
  | 66 => ⟨S1x32x64x4x64, .f32⟩
  | 67 => ⟨S1x32x64x4x64, .f32⟩
  | 68 => ⟨S1x2048x4x128, .f32⟩
  | 69 => ⟨S1x2048x4x64, .f32⟩
  | 70 => ⟨S1x2048x4x64, .f32⟩
  | 71 => ⟨S2048x512, .f32⟩
  | 72 => ⟨S_, .f32⟩
  | 73 => ⟨S1x2048x4x64, .f32⟩
  | 74 => ⟨S1x2048x4x64, .f32⟩
  | 75 => ⟨S1x2048x4x32, .f32⟩
  | 76 => ⟨S1x2048x4x32, .f32⟩
  | 77 => ⟨S1x2048x4x32, .f32⟩
  | 78 => ⟨S1x2048x4x32, .f32⟩
  | 79 => ⟨S1x2048x4x32, .f32⟩
  | 80 => ⟨S1x2048x4x32, .f32⟩
  | 81 => ⟨S1x2048x4x32, .f32⟩
  | 82 => ⟨S1x2048x4x32, .f32⟩
  | 83 => ⟨S1x2048x4x32, .f32⟩
  | 84 => ⟨S1x2048x4x32, .f32⟩
  | 85 => ⟨S1x2048x4x32, .f32⟩
  | 86 => ⟨S1x2048x4x32, .f32⟩
  | 87 => ⟨S1x2048x4x32, .f32⟩
  | 88 => ⟨S_, .f32⟩
  | 89 => ⟨S1x2048x4x64, .f32⟩
  | 90 => ⟨S_, .f32⟩
  | 91 => ⟨S1x2048x4x64, .f32⟩
  | 92 => ⟨S1x2048x4x64, .f32⟩
  | 93 => ⟨S2048x256, .f32⟩
  | 94 => ⟨S1x2048x4x32, .f32⟩
  | 95 => ⟨S1x2048x4x32, .f32⟩
  | 96 => ⟨S1x2048x4x32, .f32⟩
  | 97 => ⟨S1x2048x4x32, .f32⟩
  | 98 => ⟨S1x2048x4x32, .f32⟩
  | 99 => ⟨S1x2048x4x32, .f32⟩
  | 100 => ⟨S1x2048x4x32, .f32⟩
  | 101 => ⟨S1x2048x4x32, .f32⟩
  | 102 => ⟨S1x2048x4x32, .f32⟩
  | 103 => ⟨S1x2048x4x32, .f32⟩
  | 104 => ⟨S1x2048x4x32, .f32⟩
  | 105 => ⟨S1x2048x4x32, .f32⟩
  | 106 => ⟨S1x2048x4x32, .f32⟩
  | 107 => ⟨S_, .f32⟩
  | 108 => ⟨S1x2048x4x64, .f32⟩
  | 109 => ⟨S_, .f32⟩
  | 110 => ⟨S1x2048x4x64, .f32⟩
  | 111 => ⟨S1x2048x4x64, .f32⟩
  | 112 => ⟨S2048x256, .f32⟩
  | 113 => ⟨S2048x1024, .f32⟩
  | _ => ⟨S2048x1536, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S2048x1536, .f32⟩

abbrev bufTy : (tb : Table) → Fin (tcTables nBuf tb) → BufTy
  | .hbm, ⟨i, _⟩ => hbmTy i
  | _, _ => ⟨S2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_cst_1 : Ref sig .tc := ⟨.hbm, 42, rfl⟩
abbrev main_v38 : Ref sig .tc := ⟨.hbm, 43, rfl⟩
abbrev main_v39 : Ref sig .tc := ⟨.hbm, 44, rfl⟩
abbrev main_cst_2 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_cst_3 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_cst_4 : Ref sig .tc := ⟨.hbm, 77, rfl⟩
abbrev main_v70 : Ref sig .tc := ⟨.hbm, 78, rfl⟩
abbrev main_v71 : Ref sig .tc := ⟨.hbm, 79, rfl⟩
abbrev main_cst_5 : Ref sig .tc := ⟨.hbm, 80, rfl⟩
abbrev main_v72 : Ref sig .tc := ⟨.hbm, 81, rfl⟩
abbrev main_v73 : Ref sig .tc := ⟨.hbm, 82, rfl⟩
abbrev main_cst_6 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_cst_7 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_cst_8 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_cst_9 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_v118 : Ref sig .tc := ⟨.hbm, 131, rfl⟩
abbrev main_v119 : Ref sig .tc := ⟨.hbm, 132, rfl⟩
abbrev main_v120 : Ref sig .tc := ⟨.hbm, 133, rfl⟩
abbrev main_v121 : Ref sig .tc := ⟨.hbm, 134, rfl⟩
abbrev main_v122 : Ref sig .tc := ⟨.hbm, 135, rfl⟩
abbrev main_v123 : Ref sig .tc := ⟨.hbm, 136, rfl⟩
abbrev main_v124 : Ref sig .tc := ⟨.hbm, 137, rfl⟩
abbrev main_cst_10 : Ref sig .tc := ⟨.hbm, 138, rfl⟩
abbrev main_v125 : Ref sig .tc := ⟨.hbm, 139, rfl⟩
abbrev main_v126 : Ref sig .tc := ⟨.hbm, 140, rfl⟩
abbrev main_v127 : Ref sig .tc := ⟨.hbm, 141, rfl⟩
abbrev main_cst_11 : Ref sig .tc := ⟨.hbm, 142, rfl⟩
abbrev main_v128 : Ref sig .tc := ⟨.hbm, 143, rfl⟩
abbrev main_v129 : Ref sig .tc := ⟨.hbm, 144, rfl⟩
abbrev main_v130 : Ref sig .tc := ⟨.hbm, 145, rfl⟩
abbrev main_v131 : Ref sig .tc := ⟨.hbm, 146, rfl⟩
abbrev main_v132 : Ref sig .tc := ⟨.hbm, 147, rfl⟩
abbrev main_v133 : Ref sig .tc := ⟨.hbm, 148, rfl⟩
abbrev main_v134 : Ref sig .tc := ⟨.hbm, 149, rfl⟩
abbrev main_v135 : Ref sig .tc := ⟨.hbm, 150, rfl⟩
abbrev main_v136 : Ref sig .tc := ⟨.hbm, 151, rfl⟩
abbrev main_v137 : Ref sig .tc := ⟨.hbm, 152, rfl⟩
abbrev main_v138 : Ref sig .tc := ⟨.hbm, 153, rfl⟩
abbrev main_v139 : Ref sig .tc := ⟨.hbm, 154, rfl⟩
abbrev main_v140 : Ref sig .tc := ⟨.hbm, 155, rfl⟩
abbrev main_v141 : Ref sig .tc := ⟨.hbm, 156, rfl⟩
abbrev main_v142 : Ref sig .tc := ⟨.hbm, 157, rfl⟩
abbrev main_v143 : Ref sig .tc := ⟨.hbm, 158, rfl⟩
abbrev main_v144 : Ref sig .tc := ⟨.hbm, 159, rfl⟩
abbrev main_v145 : Ref sig .tc := ⟨.hbm, 160, rfl⟩
abbrev main_v146 : Ref sig .tc := ⟨.hbm, 161, rfl⟩
abbrev main_v147 : Ref sig .tc := ⟨.hbm, 162, rfl⟩
abbrev main_v148 : Ref sig .tc := ⟨.hbm, 163, rfl⟩
abbrev main_v149 : Ref sig .tc := ⟨.hbm, 164, rfl⟩
abbrev main_v150 : Ref sig .tc := ⟨.hbm, 165, rfl⟩
abbrev main_v151 : Ref sig .tc := ⟨.hbm, 166, rfl⟩
abbrev main_v152 : Ref sig .tc := ⟨.hbm, 167, rfl⟩
abbrev main_v153 : Ref sig .tc := ⟨.hbm, 168, rfl⟩
abbrev main_v154 : Ref sig .tc := ⟨.hbm, 169, rfl⟩
abbrev main_v155 : Ref sig .tc := ⟨.hbm, 170, rfl⟩
abbrev main_v156 : Ref sig .tc := ⟨.hbm, 171, rfl⟩
abbrev main_v157 : Ref sig .tc := ⟨.hbm, 172, rfl⟩
abbrev main_v158 : Ref sig .tc := ⟨.hbm, 173, rfl⟩
abbrev main_v159 : Ref sig .tc := ⟨.hbm, 174, rfl⟩
abbrev main_v160 : Ref sig .tc := ⟨.hbm, 175, rfl⟩
abbrev main_v161 : Ref sig .tc := ⟨.hbm, 176, rfl⟩
abbrev main_v162 : Ref sig .tc := ⟨.hbm, 177, rfl⟩
abbrev main_v163 : Ref sig .tc := ⟨.hbm, 178, rfl⟩
abbrev main_v164 : Ref sig .tc := ⟨.hbm, 179, rfl⟩
abbrev main_v165 : Ref sig .tc := ⟨.hbm, 180, rfl⟩
abbrev main_v166 : Ref sig .tc := ⟨.hbm, 181, rfl⟩
abbrev main_v167 : Ref sig .tc := ⟨.hbm, 182, rfl⟩
abbrev main_v168 : Ref sig .tc := ⟨.hbm, 183, rfl⟩
abbrev main_v169 : Ref sig .tc := ⟨.hbm, 184, rfl⟩
abbrev main_v170 : Ref sig .tc := ⟨.hbm, 185, rfl⟩
abbrev main_v171 : Ref sig .tc := ⟨.hbm, 186, rfl⟩
abbrev main_v172 : Ref sig .tc := ⟨.hbm, 187, rfl⟩
abbrev main_v173 : Ref sig .tc := ⟨.hbm, 188, rfl⟩
abbrev main_v174 : Ref sig .tc := ⟨.hbm, 189, rfl⟩
abbrev main_v175 : Ref sig .tc := ⟨.hbm, 190, rfl⟩
abbrev main_v176 : Ref sig .tc := ⟨.hbm, 191, rfl⟩
abbrev main_v177 : Ref sig .tc := ⟨.hbm, 192, rfl⟩
abbrev main_v178 : Ref sig .tc := ⟨.hbm, 193, rfl⟩
abbrev main_v179 : Ref sig .tc := ⟨.hbm, 194, rfl⟩
abbrev main_v180 : Ref sig .tc := ⟨.hbm, 195, rfl⟩
abbrev main_v181 : Ref sig .tc := ⟨.hbm, 196, rfl⟩
abbrev main_v182 : Ref sig .tc := ⟨.hbm, 197, rfl⟩
abbrev main_v183 : Ref sig .tc := ⟨.hbm, 198, rfl⟩
abbrev main_v184 : Ref sig .tc := ⟨.hbm, 199, rfl⟩
abbrev main_v185 : Ref sig .tc := ⟨.hbm, 200, rfl⟩
abbrev main_v186 : Ref sig .tc := ⟨.hbm, 201, rfl⟩
abbrev main_v187 : Ref sig .tc := ⟨.hbm, 202, rfl⟩
abbrev main_v188 : Ref sig .tc := ⟨.hbm, 203, rfl⟩
abbrev main_v189 : Ref sig .tc := ⟨.hbm, 204, rfl⟩
abbrev main_v190 : Ref sig .tc := ⟨.hbm, 205, rfl⟩
abbrev main_v191 : Ref sig .tc := ⟨.hbm, 206, rfl⟩
abbrev main_v192 : Ref sig .tc := ⟨.hbm, 207, rfl⟩
abbrev main_v193 : Ref sig .tc := ⟨.hbm, 208, rfl⟩
abbrev main_v194 : Ref sig .tc := ⟨.hbm, 209, rfl⟩
abbrev main_v195 : Ref sig .tc := ⟨.hbm, 210, rfl⟩
abbrev main_v196 : Ref sig .tc := ⟨.hbm, 211, rfl⟩
abbrev main_v197 : Ref sig .tc := ⟨.hbm, 212, rfl⟩
abbrev main_v198 : Ref sig .tc := ⟨.hbm, 213, rfl⟩
abbrev main_v199 : Ref sig .tc := ⟨.hbm, 214, rfl⟩
abbrev main_v200 : Ref sig .tc := ⟨.hbm, 215, rfl⟩
abbrev main_v201 : Ref sig .tc := ⟨.hbm, 216, rfl⟩
abbrev main_v202 : Ref sig .tc := ⟨.hbm, 217, rfl⟩
abbrev main_v203 : Ref sig .tc := ⟨.hbm, 218, rfl⟩
abbrev main_v204 : Ref sig .tc := ⟨.hbm, 219, rfl⟩
abbrev main_v205 : Ref sig .tc := ⟨.hbm, 220, rfl⟩
abbrev main_v206 : Ref sig .tc := ⟨.hbm, 221, rfl⟩
abbrev main_v207 : Ref sig .tc := ⟨.hbm, 222, rfl⟩
abbrev main_v208 : Ref sig .tc := ⟨.hbm, 223, rfl⟩
abbrev main_v209 : Ref sig .tc := ⟨.hbm, 224, rfl⟩
abbrev main_v210 : Ref sig .tc := ⟨.hbm, 225, rfl⟩
abbrev main_v211 : Ref sig .tc := ⟨.hbm, 226, rfl⟩
abbrev main_v212 : Ref sig .tc := ⟨.hbm, 227, rfl⟩
abbrev main_v213 : Ref sig .tc := ⟨.hbm, 228, rfl⟩
abbrev main_v214 : Ref sig .tc := ⟨.hbm, 229, rfl⟩
abbrev main_v215 : Ref sig .tc := ⟨.hbm, 230, rfl⟩
abbrev main_v216 : Ref sig .tc := ⟨.hbm, 231, rfl⟩
abbrev main_v217 : Ref sig .tc := ⟨.hbm, 232, rfl⟩
abbrev main_v218 : Ref sig .tc := ⟨.hbm, 233, rfl⟩
abbrev main_v219 : Ref sig .tc := ⟨.hbm, 234, rfl⟩
abbrev main_v220 : Ref sig .tc := ⟨.hbm, 235, rfl⟩
abbrev main_v221 : Ref sig .tc := ⟨.hbm, 236, rfl⟩
abbrev main_v222 : Ref sig .tc := ⟨.hbm, 237, rfl⟩
abbrev main_v223 : Ref sig .tc := ⟨.hbm, 238, rfl⟩
abbrev main_v224 : Ref sig .tc := ⟨.hbm, 239, rfl⟩
abbrev main_v225 : Ref sig .tc := ⟨.hbm, 240, rfl⟩
abbrev main_v226 : Ref sig .tc := ⟨.hbm, 241, rfl⟩
abbrev main_v227 : Ref sig .tc := ⟨.hbm, 242, rfl⟩
abbrev main_v228 : Ref sig .tc := ⟨.hbm, 243, rfl⟩
abbrev main_v229 : Ref sig .tc := ⟨.hbm, 244, rfl⟩
abbrev main_v230 : Ref sig .tc := ⟨.hbm, 245, rfl⟩
abbrev main_v231 : Ref sig .tc := ⟨.hbm, 246, rfl⟩
abbrev main_v232 : Ref sig .tc := ⟨.hbm, 247, rfl⟩
abbrev main_v233 : Ref sig .tc := ⟨.hbm, 248, rfl⟩
abbrev main_v234 : Ref sig .tc := ⟨.hbm, 249, rfl⟩
abbrev main_v235 : Ref sig .tc := ⟨.hbm, 250, rfl⟩
abbrev main_v236 : Ref sig .tc := ⟨.hbm, 251, rfl⟩
abbrev main_v237 : Ref sig .tc := ⟨.hbm, 252, rfl⟩
abbrev main_v238 : Ref sig .tc := ⟨.hbm, 253, rfl⟩
abbrev main_v239 : Ref sig .tc := ⟨.hbm, 254, rfl⟩
abbrev main_v240 : Ref sig .tc := ⟨.hbm, 255, rfl⟩
abbrev main_v241 : Ref sig .tc := ⟨.hbm, 256, rfl⟩
abbrev main_v242 : Ref sig .tc := ⟨.hbm, 257, rfl⟩
abbrev main_v243 : Ref sig .tc := ⟨.hbm, 258, rfl⟩
abbrev main_v244 : Ref sig .tc := ⟨.hbm, 259, rfl⟩
abbrev main_v245 : Ref sig .tc := ⟨.hbm, 260, rfl⟩
abbrev main_v246 : Ref sig .tc := ⟨.hbm, 261, rfl⟩
abbrev main_v247 : Ref sig .tc := ⟨.hbm, 262, rfl⟩
abbrev main_v248 : Ref sig .tc := ⟨.hbm, 263, rfl⟩
abbrev main_v249 : Ref sig .tc := ⟨.hbm, 264, rfl⟩
abbrev main_v250 : Ref sig .tc := ⟨.hbm, 265, rfl⟩
abbrev main_v251 : Ref sig .tc := ⟨.hbm, 266, rfl⟩
abbrev main_v252 : Ref sig .tc := ⟨.hbm, 267, rfl⟩
abbrev main_v253 : Ref sig .tc := ⟨.hbm, 268, rfl⟩
abbrev main_v254 : Ref sig .tc := ⟨.hbm, 269, rfl⟩
abbrev main_v255 : Ref sig .tc := ⟨.hbm, 270, rfl⟩
abbrev main_v256 : Ref sig .tc := ⟨.hbm, 271, rfl⟩
abbrev main_v257 : Ref sig .tc := ⟨.hbm, 272, rfl⟩
abbrev main_v258 : Ref sig .tc := ⟨.hbm, 273, rfl⟩
abbrev main_v259 : Ref sig .tc := ⟨.hbm, 274, rfl⟩
abbrev main_v260 : Ref sig .tc := ⟨.hbm, 275, rfl⟩
abbrev main_v261 : Ref sig .tc := ⟨.hbm, 276, rfl⟩
abbrev main_v262 : Ref sig .tc := ⟨.hbm, 277, rfl⟩
abbrev main_v263 : Ref sig .tc := ⟨.hbm, 278, rfl⟩
abbrev main_v264 : Ref sig .tc := ⟨.hbm, 279, rfl⟩
abbrev main_v265 : Ref sig .tc := ⟨.hbm, 280, rfl⟩
abbrev main_v266 : Ref sig .tc := ⟨.hbm, 281, rfl⟩
abbrev main_v267 : Ref sig .tc := ⟨.hbm, 282, rfl⟩
abbrev main_v268 : Ref sig .tc := ⟨.hbm, 283, rfl⟩
abbrev main_v269 : Ref sig .tc := ⟨.hbm, 284, rfl⟩
abbrev main_v270 : Ref sig .tc := ⟨.hbm, 285, rfl⟩
abbrev main_v271 : Ref sig .tc := ⟨.hbm, 286, rfl⟩
abbrev main_v272 : Ref sig .tc := ⟨.hbm, 287, rfl⟩
abbrev main_v273 : Ref sig .tc := ⟨.hbm, 288, rfl⟩
abbrev main_v274 : Ref sig .tc := ⟨.hbm, 289, rfl⟩
abbrev main_v275 : Ref sig .tc := ⟨.hbm, 290, rfl⟩
abbrev main_v276 : Ref sig .tc := ⟨.hbm, 291, rfl⟩
abbrev main_v277 : Ref sig .tc := ⟨.hbm, 292, rfl⟩
abbrev main_v278 : Ref sig .tc := ⟨.hbm, 293, rfl⟩
abbrev main_v279 : Ref sig .tc := ⟨.hbm, 294, rfl⟩
abbrev main_v280 : Ref sig .tc := ⟨.hbm, 295, rfl⟩
abbrev main_v281 : Ref sig .tc := ⟨.hbm, 296, rfl⟩
abbrev main_v282 : Ref sig .tc := ⟨.hbm, 297, rfl⟩
abbrev main_v283 : Ref sig .tc := ⟨.hbm, 298, rfl⟩
abbrev main_v284 : Ref sig .tc := ⟨.hbm, 299, rfl⟩
abbrev main_v285 : Ref sig .tc := ⟨.hbm, 300, rfl⟩
abbrev main_v286 : Ref sig .tc := ⟨.hbm, 301, rfl⟩
abbrev main_v287 : Ref sig .tc := ⟨.hbm, 302, rfl⟩
abbrev main_v288 : Ref sig .tc := ⟨.hbm, 303, rfl⟩
abbrev main_v289 : Ref sig .tc := ⟨.hbm, 304, rfl⟩
abbrev main_v290 : Ref sig .tc := ⟨.hbm, 305, rfl⟩
abbrev main_v291 : Ref sig .tc := ⟨.hbm, 306, rfl⟩
abbrev main_v292 : Ref sig .tc := ⟨.hbm, 307, rfl⟩
abbrev main_v293 : Ref sig .tc := ⟨.hbm, 308, rfl⟩
abbrev main_v294 : Ref sig .tc := ⟨.hbm, 309, rfl⟩
abbrev main_v295 : Ref sig .tc := ⟨.hbm, 310, rfl⟩
abbrev main_v296 : Ref sig .tc := ⟨.hbm, 311, rfl⟩
abbrev main_v297 : Ref sig .tc := ⟨.hbm, 312, rfl⟩
abbrev main_v298 : Ref sig .tc := ⟨.hbm, 313, rfl⟩
abbrev main_v299 : Ref sig .tc := ⟨.hbm, 314, rfl⟩
abbrev main_v300 : Ref sig .tc := ⟨.hbm, 315, rfl⟩
abbrev main_v301 : Ref sig .tc := ⟨.hbm, 316, rfl⟩
abbrev main_v302 : Ref sig .tc := ⟨.hbm, 317, rfl⟩
abbrev main_v303 : Ref sig .tc := ⟨.hbm, 318, rfl⟩
abbrev main_v304 : Ref sig .tc := ⟨.hbm, 319, rfl⟩
abbrev main_v305 : Ref sig .tc := ⟨.hbm, 320, rfl⟩
abbrev main_v306 : Ref sig .tc := ⟨.hbm, 321, rfl⟩
abbrev main_v307 : Ref sig .tc := ⟨.hbm, 322, rfl⟩
abbrev main_v308 : Ref sig .tc := ⟨.hbm, 323, rfl⟩
abbrev main_v309 : Ref sig .tc := ⟨.hbm, 324, rfl⟩
abbrev main_v310 : Ref sig .tc := ⟨.hbm, 325, rfl⟩
abbrev main_v311 : Ref sig .tc := ⟨.hbm, 326, rfl⟩
abbrev main_v312 : Ref sig .tc := ⟨.hbm, 327, rfl⟩
abbrev main_v313 : Ref sig .tc := ⟨.hbm, 328, rfl⟩
abbrev main_v314 : Ref sig .tc := ⟨.hbm, 329, rfl⟩
abbrev main_v315 : Ref sig .tc := ⟨.hbm, 330, rfl⟩
abbrev main_v316 : Ref sig .tc := ⟨.hbm, 331, rfl⟩
abbrev main_v317 : Ref sig .tc := ⟨.hbm, 332, rfl⟩
abbrev main_v318 : Ref sig .tc := ⟨.hbm, 333, rfl⟩
abbrev main_v319 : Ref sig .tc := ⟨.hbm, 334, rfl⟩
abbrev main_v320 : Ref sig .tc := ⟨.hbm, 335, rfl⟩
abbrev main_v321 : Ref sig .tc := ⟨.hbm, 336, rfl⟩
abbrev main_v322 : Ref sig .tc := ⟨.hbm, 337, rfl⟩
abbrev main_v323 : Ref sig .tc := ⟨.hbm, 338, rfl⟩
abbrev main_v324 : Ref sig .tc := ⟨.hbm, 339, rfl⟩
abbrev main_v325 : Ref sig .tc := ⟨.hbm, 340, rfl⟩
abbrev main_v326 : Ref sig .tc := ⟨.hbm, 341, rfl⟩
abbrev main_v327 : Ref sig .tc := ⟨.hbm, 342, rfl⟩
abbrev main_v328 : Ref sig .tc := ⟨.hbm, 343, rfl⟩
abbrev main_v329 : Ref sig .tc := ⟨.hbm, 344, rfl⟩
abbrev main_v330 : Ref sig .tc := ⟨.hbm, 345, rfl⟩
abbrev main_v331 : Ref sig .tc := ⟨.hbm, 346, rfl⟩
abbrev main_v332 : Ref sig .tc := ⟨.hbm, 347, rfl⟩
abbrev main_cst_12 : Ref sig .tc := ⟨.hbm, 348, rfl⟩
abbrev main_v333 : Ref sig .tc := ⟨.hbm, 349, rfl⟩
abbrev main_v334 : Ref sig .tc := ⟨.hbm, 350, rfl⟩
abbrev main_v335 : Ref sig .tc := ⟨.hbm, 351, rfl⟩
abbrev main_v336 : Ref sig .tc := ⟨.hbm, 352, rfl⟩
abbrev main_v337 : Ref sig .tc := ⟨.hbm, 353, rfl⟩
abbrev main_v338 : Ref sig .tc := ⟨.hbm, 354, rfl⟩
abbrev main_v339 : Ref sig .tc := ⟨.hbm, 355, rfl⟩
abbrev main_v340 : Ref sig .tc := ⟨.hbm, 356, rfl⟩
abbrev main_v341 : Ref sig .tc := ⟨.hbm, 357, rfl⟩
abbrev main_v342 : Ref sig .tc := ⟨.hbm, 358, rfl⟩
abbrev main_cst_13 : Ref sig .tc := ⟨.hbm, 359, rfl⟩
abbrev main_v343 : Ref sig .tc := ⟨.hbm, 360, rfl⟩
abbrev main_v344 : Ref sig .tc := ⟨.hbm, 361, rfl⟩
abbrev main_v345 : Ref sig .tc := ⟨.hbm, 362, rfl⟩
abbrev main_cst_14 : Ref sig .tc := ⟨.hbm, 363, rfl⟩
abbrev main_v346 : Ref sig .tc := ⟨.hbm, 364, rfl⟩
abbrev main_v347 : Ref sig .tc := ⟨.hbm, 365, rfl⟩
abbrev main_v348 : Ref sig .tc := ⟨.hbm, 366, rfl⟩
abbrev main_v349 : Ref sig .tc := ⟨.hbm, 367, rfl⟩
abbrev main_v350 : Ref sig .tc := ⟨.hbm, 368, rfl⟩
abbrev main_v351 : Ref sig .tc := ⟨.hbm, 369, rfl⟩
abbrev main_v352 : Ref sig .tc := ⟨.hbm, 370, rfl⟩
abbrev main_v353 : Ref sig .tc := ⟨.hbm, 371, rfl⟩
abbrev main_v354 : Ref sig .tc := ⟨.hbm, 372, rfl⟩
abbrev main_v355 : Ref sig .tc := ⟨.hbm, 373, rfl⟩
abbrev main_v356 : Ref sig .tc := ⟨.hbm, 374, rfl⟩
abbrev main_v357 : Ref sig .tc := ⟨.hbm, 375, rfl⟩
abbrev main_v358 : Ref sig .tc := ⟨.hbm, 376, rfl⟩
abbrev main_v359 : Ref sig .tc := ⟨.hbm, 377, rfl⟩
abbrev main_v360 : Ref sig .tc := ⟨.hbm, 378, rfl⟩
abbrev main_v361 : Ref sig .tc := ⟨.hbm, 379, rfl⟩
abbrev main_v362 : Ref sig .tc := ⟨.hbm, 380, rfl⟩
abbrev main_v363 : Ref sig .tc := ⟨.hbm, 381, rfl⟩
abbrev main_v364 : Ref sig .tc := ⟨.hbm, 382, rfl⟩
abbrev main_v365 : Ref sig .tc := ⟨.hbm, 383, rfl⟩
abbrev main_v366 : Ref sig .tc := ⟨.hbm, 384, rfl⟩
abbrev main_v367 : Ref sig .tc := ⟨.hbm, 385, rfl⟩
abbrev main_v368 : Ref sig .tc := ⟨.hbm, 386, rfl⟩
abbrev main_v369 : Ref sig .tc := ⟨.hbm, 387, rfl⟩
abbrev main_v370 : Ref sig .tc := ⟨.hbm, 388, rfl⟩
abbrev main_v371 : Ref sig .tc := ⟨.hbm, 389, rfl⟩
abbrev main_v372 : Ref sig .tc := ⟨.hbm, 390, rfl⟩
abbrev main_v373 : Ref sig .tc := ⟨.hbm, 391, rfl⟩
abbrev main_v374 : Ref sig .tc := ⟨.hbm, 392, rfl⟩
abbrev main_v375 : Ref sig .tc := ⟨.hbm, 393, rfl⟩
abbrev main_v376 : Ref sig .tc := ⟨.hbm, 394, rfl⟩
abbrev main_v377 : Ref sig .tc := ⟨.hbm, 395, rfl⟩
abbrev main_v378 : Ref sig .tc := ⟨.hbm, 396, rfl⟩
abbrev main_v379 : Ref sig .tc := ⟨.hbm, 397, rfl⟩
abbrev main_v380 : Ref sig .tc := ⟨.hbm, 398, rfl⟩
abbrev main_v381 : Ref sig .tc := ⟨.hbm, 399, rfl⟩
abbrev main_v382 : Ref sig .tc := ⟨.hbm, 400, rfl⟩
abbrev main_v383 : Ref sig .tc := ⟨.hbm, 401, rfl⟩
abbrev main_v384 : Ref sig .tc := ⟨.hbm, 402, rfl⟩
abbrev main_v385 : Ref sig .tc := ⟨.hbm, 403, rfl⟩
abbrev main_v386 : Ref sig .tc := ⟨.hbm, 404, rfl⟩
abbrev main_v387 : Ref sig .tc := ⟨.hbm, 405, rfl⟩
abbrev main_v388 : Ref sig .tc := ⟨.hbm, 406, rfl⟩
abbrev main_v389 : Ref sig .tc := ⟨.hbm, 407, rfl⟩
abbrev main_v390 : Ref sig .tc := ⟨.hbm, 408, rfl⟩
abbrev main_v391 : Ref sig .tc := ⟨.hbm, 409, rfl⟩
abbrev main_v392 : Ref sig .tc := ⟨.hbm, 410, rfl⟩
abbrev main_v393 : Ref sig .tc := ⟨.hbm, 411, rfl⟩
abbrev main_v394 : Ref sig .tc := ⟨.hbm, 412, rfl⟩
abbrev main_v395 : Ref sig .tc := ⟨.hbm, 413, rfl⟩
abbrev main_v396 : Ref sig .tc := ⟨.hbm, 414, rfl⟩
abbrev main_v397 : Ref sig .tc := ⟨.hbm, 415, rfl⟩
abbrev main_v398 : Ref sig .tc := ⟨.hbm, 416, rfl⟩
abbrev main_v399 : Ref sig .tc := ⟨.hbm, 417, rfl⟩
abbrev main_v400 : Ref sig .tc := ⟨.hbm, 418, rfl⟩
abbrev main_v401 : Ref sig .tc := ⟨.hbm, 419, rfl⟩
abbrev main_v402 : Ref sig .tc := ⟨.hbm, 420, rfl⟩
abbrev main_v403 : Ref sig .tc := ⟨.hbm, 421, rfl⟩
abbrev main_v404 : Ref sig .tc := ⟨.hbm, 422, rfl⟩
abbrev main_v405 : Ref sig .tc := ⟨.hbm, 423, rfl⟩
abbrev main_v406 : Ref sig .tc := ⟨.hbm, 424, rfl⟩
abbrev main_v407 : Ref sig .tc := ⟨.hbm, 425, rfl⟩
abbrev main_v408 : Ref sig .tc := ⟨.hbm, 426, rfl⟩
abbrev main_v409 : Ref sig .tc := ⟨.hbm, 427, rfl⟩
abbrev main_v410 : Ref sig .tc := ⟨.hbm, 428, rfl⟩
abbrev main_v411 : Ref sig .tc := ⟨.hbm, 429, rfl⟩
abbrev main_v412 : Ref sig .tc := ⟨.hbm, 430, rfl⟩
abbrev main_v413 : Ref sig .tc := ⟨.hbm, 431, rfl⟩
abbrev main_v414 : Ref sig .tc := ⟨.hbm, 432, rfl⟩
abbrev main_v415 : Ref sig .tc := ⟨.hbm, 433, rfl⟩
abbrev main_v416 : Ref sig .tc := ⟨.hbm, 434, rfl⟩
abbrev main_v417 : Ref sig .tc := ⟨.hbm, 435, rfl⟩
abbrev main_v418 : Ref sig .tc := ⟨.hbm, 436, rfl⟩
abbrev main_v419 : Ref sig .tc := ⟨.hbm, 437, rfl⟩
abbrev main_v420 : Ref sig .tc := ⟨.hbm, 438, rfl⟩
abbrev main_v421 : Ref sig .tc := ⟨.hbm, 439, rfl⟩
abbrev main_v422 : Ref sig .tc := ⟨.hbm, 440, rfl⟩
abbrev main_v423 : Ref sig .tc := ⟨.hbm, 441, rfl⟩
abbrev main_v424 : Ref sig .tc := ⟨.hbm, 442, rfl⟩
abbrev main_v425 : Ref sig .tc := ⟨.hbm, 443, rfl⟩
abbrev main_v426 : Ref sig .tc := ⟨.hbm, 444, rfl⟩
abbrev main_v427 : Ref sig .tc := ⟨.hbm, 445, rfl⟩
abbrev main_v428 : Ref sig .tc := ⟨.hbm, 446, rfl⟩
abbrev main_v429 : Ref sig .tc := ⟨.hbm, 447, rfl⟩
abbrev main_v430 : Ref sig .tc := ⟨.hbm, 448, rfl⟩
abbrev main_v431 : Ref sig .tc := ⟨.hbm, 449, rfl⟩
abbrev main_v432 : Ref sig .tc := ⟨.hbm, 450, rfl⟩
abbrev main_v433 : Ref sig .tc := ⟨.hbm, 451, rfl⟩
abbrev main_v434 : Ref sig .tc := ⟨.hbm, 452, rfl⟩
abbrev main_v435 : Ref sig .tc := ⟨.hbm, 453, rfl⟩
abbrev main_v436 : Ref sig .tc := ⟨.hbm, 454, rfl⟩
abbrev main_v437 : Ref sig .tc := ⟨.hbm, 455, rfl⟩
abbrev main_v438 : Ref sig .tc := ⟨.hbm, 456, rfl⟩
abbrev main_v439 : Ref sig .tc := ⟨.hbm, 457, rfl⟩
abbrev main_v440 : Ref sig .tc := ⟨.hbm, 458, rfl⟩
abbrev main_v441 : Ref sig .tc := ⟨.hbm, 459, rfl⟩
abbrev main_v442 : Ref sig .tc := ⟨.hbm, 460, rfl⟩
abbrev main_v443 : Ref sig .tc := ⟨.hbm, 461, rfl⟩
abbrev main_v444 : Ref sig .tc := ⟨.hbm, 462, rfl⟩
abbrev main_v445 : Ref sig .tc := ⟨.hbm, 463, rfl⟩
abbrev main_v446 : Ref sig .tc := ⟨.hbm, 464, rfl⟩
abbrev main_v447 : Ref sig .tc := ⟨.hbm, 465, rfl⟩
abbrev main_v448 : Ref sig .tc := ⟨.hbm, 466, rfl⟩
abbrev main_v449 : Ref sig .tc := ⟨.hbm, 467, rfl⟩
abbrev main_v450 : Ref sig .tc := ⟨.hbm, 468, rfl⟩
abbrev main_v451 : Ref sig .tc := ⟨.hbm, 469, rfl⟩
abbrev main_v452 : Ref sig .tc := ⟨.hbm, 470, rfl⟩
abbrev main_v453 : Ref sig .tc := ⟨.hbm, 471, rfl⟩
abbrev main_v454 : Ref sig .tc := ⟨.hbm, 472, rfl⟩
abbrev main_v455 : Ref sig .tc := ⟨.hbm, 473, rfl⟩
abbrev main_v456 : Ref sig .tc := ⟨.hbm, 474, rfl⟩
abbrev main_v457 : Ref sig .tc := ⟨.hbm, 475, rfl⟩
abbrev main_v458 : Ref sig .tc := ⟨.hbm, 476, rfl⟩
abbrev main_v459 : Ref sig .tc := ⟨.hbm, 477, rfl⟩
abbrev main_v460 : Ref sig .tc := ⟨.hbm, 478, rfl⟩
abbrev main_v461 : Ref sig .tc := ⟨.hbm, 479, rfl⟩
abbrev main_v462 : Ref sig .tc := ⟨.hbm, 480, rfl⟩
abbrev main_v463 : Ref sig .tc := ⟨.hbm, 481, rfl⟩
abbrev main_v464 : Ref sig .tc := ⟨.hbm, 482, rfl⟩
abbrev main_v465 : Ref sig .tc := ⟨.hbm, 483, rfl⟩
abbrev main_v466 : Ref sig .tc := ⟨.hbm, 484, rfl⟩
abbrev main_v467 : Ref sig .tc := ⟨.hbm, 485, rfl⟩
abbrev main_v468 : Ref sig .tc := ⟨.hbm, 486, rfl⟩
abbrev main_v469 : Ref sig .tc := ⟨.hbm, 487, rfl⟩
abbrev main_v470 : Ref sig .tc := ⟨.hbm, 488, rfl⟩
abbrev main_v471 : Ref sig .tc := ⟨.hbm, 489, rfl⟩
abbrev main_v472 : Ref sig .tc := ⟨.hbm, 490, rfl⟩
abbrev main_v473 : Ref sig .tc := ⟨.hbm, 491, rfl⟩
abbrev main_v474 : Ref sig .tc := ⟨.hbm, 492, rfl⟩
abbrev main_v475 : Ref sig .tc := ⟨.hbm, 493, rfl⟩
abbrev main_v476 : Ref sig .tc := ⟨.hbm, 494, rfl⟩
abbrev main_v477 : Ref sig .tc := ⟨.hbm, 495, rfl⟩
abbrev main_v478 : Ref sig .tc := ⟨.hbm, 496, rfl⟩
abbrev main_v479 : Ref sig .tc := ⟨.hbm, 497, rfl⟩
abbrev main_v480 : Ref sig .tc := ⟨.hbm, 498, rfl⟩
abbrev main_v481 : Ref sig .tc := ⟨.hbm, 499, rfl⟩
abbrev main_v482 : Ref sig .tc := ⟨.hbm, 500, rfl⟩
abbrev main_v483 : Ref sig .tc := ⟨.hbm, 501, rfl⟩
abbrev main_v484 : Ref sig .tc := ⟨.hbm, 502, rfl⟩
abbrev main_v485 : Ref sig .tc := ⟨.hbm, 503, rfl⟩
abbrev main_v486 : Ref sig .tc := ⟨.hbm, 504, rfl⟩
abbrev main_v487 : Ref sig .tc := ⟨.hbm, 505, rfl⟩
abbrev main_v488 : Ref sig .tc := ⟨.hbm, 506, rfl⟩
abbrev main_v489 : Ref sig .tc := ⟨.hbm, 507, rfl⟩
abbrev main_v490 : Ref sig .tc := ⟨.hbm, 508, rfl⟩
abbrev main_v491 : Ref sig .tc := ⟨.hbm, 509, rfl⟩
abbrev main_v492 : Ref sig .tc := ⟨.hbm, 510, rfl⟩
abbrev main_v493 : Ref sig .tc := ⟨.hbm, 511, rfl⟩
abbrev main_v494 : Ref sig .tc := ⟨.hbm, 512, rfl⟩
abbrev main_v495 : Ref sig .tc := ⟨.hbm, 513, rfl⟩
abbrev main_v496 : Ref sig .tc := ⟨.hbm, 514, rfl⟩
abbrev main_v497 : Ref sig .tc := ⟨.hbm, 515, rfl⟩
abbrev main_v498 : Ref sig .tc := ⟨.hbm, 516, rfl⟩
abbrev main_v499 : Ref sig .tc := ⟨.hbm, 517, rfl⟩
abbrev main_v500 : Ref sig .tc := ⟨.hbm, 518, rfl⟩
abbrev main_v501 : Ref sig .tc := ⟨.hbm, 519, rfl⟩
abbrev main_v502 : Ref sig .tc := ⟨.hbm, 520, rfl⟩
abbrev main_v503 : Ref sig .tc := ⟨.hbm, 521, rfl⟩
abbrev main_v504 : Ref sig .tc := ⟨.hbm, 522, rfl⟩
abbrev main_v505 : Ref sig .tc := ⟨.hbm, 523, rfl⟩
abbrev main_v506 : Ref sig .tc := ⟨.hbm, 524, rfl⟩
abbrev main_v507 : Ref sig .tc := ⟨.hbm, 525, rfl⟩
abbrev main_v508 : Ref sig .tc := ⟨.hbm, 526, rfl⟩
abbrev main_v509 : Ref sig .tc := ⟨.hbm, 527, rfl⟩
abbrev main_v510 : Ref sig .tc := ⟨.hbm, 528, rfl⟩
abbrev main_v511 : Ref sig .tc := ⟨.hbm, 529, rfl⟩
abbrev main_v512 : Ref sig .tc := ⟨.hbm, 530, rfl⟩
abbrev main_v513 : Ref sig .tc := ⟨.hbm, 531, rfl⟩
abbrev main_v514 : Ref sig .tc := ⟨.hbm, 532, rfl⟩
abbrev main_v515 : Ref sig .tc := ⟨.hbm, 533, rfl⟩
abbrev main_v516 : Ref sig .tc := ⟨.hbm, 534, rfl⟩
abbrev main_v517 : Ref sig .tc := ⟨.hbm, 535, rfl⟩
abbrev main_v518 : Ref sig .tc := ⟨.hbm, 536, rfl⟩
abbrev main_v519 : Ref sig .tc := ⟨.hbm, 537, rfl⟩
abbrev main_v520 : Ref sig .tc := ⟨.hbm, 538, rfl⟩
abbrev main_v521 : Ref sig .tc := ⟨.hbm, 539, rfl⟩
abbrev main_v522 : Ref sig .tc := ⟨.hbm, 540, rfl⟩
abbrev main_v523 : Ref sig .tc := ⟨.hbm, 541, rfl⟩
abbrev main_v524 : Ref sig .tc := ⟨.hbm, 542, rfl⟩
abbrev main_v525 : Ref sig .tc := ⟨.hbm, 543, rfl⟩
abbrev main_v526 : Ref sig .tc := ⟨.hbm, 544, rfl⟩
abbrev main_v527 : Ref sig .tc := ⟨.hbm, 545, rfl⟩
abbrev main_v528 : Ref sig .tc := ⟨.hbm, 546, rfl⟩
abbrev main_v529 : Ref sig .tc := ⟨.hbm, 547, rfl⟩
abbrev main_v530 : Ref sig .tc := ⟨.hbm, 548, rfl⟩
abbrev main_v531 : Ref sig .tc := ⟨.hbm, 549, rfl⟩
abbrev main_v532 : Ref sig .tc := ⟨.hbm, 550, rfl⟩
abbrev main_v533 : Ref sig .tc := ⟨.hbm, 551, rfl⟩
abbrev main_v534 : Ref sig .tc := ⟨.hbm, 552, rfl⟩
abbrev main_v535 : Ref sig .tc := ⟨.hbm, 553, rfl⟩
abbrev main_v536 : Ref sig .tc := ⟨.hbm, 554, rfl⟩
abbrev main_v537 : Ref sig .tc := ⟨.hbm, 555, rfl⟩
abbrev main_v538 : Ref sig .tc := ⟨.hbm, 556, rfl⟩
abbrev main_v539 : Ref sig .tc := ⟨.hbm, 557, rfl⟩
abbrev main_v540 : Ref sig .tc := ⟨.hbm, 558, rfl⟩
abbrev main_v541 : Ref sig .tc := ⟨.hbm, 559, rfl⟩
abbrev main_v542 : Ref sig .tc := ⟨.hbm, 560, rfl⟩
abbrev main_v543 : Ref sig .tc := ⟨.hbm, 561, rfl⟩
abbrev main_v544 : Ref sig .tc := ⟨.hbm, 562, rfl⟩
abbrev main_v545 : Ref sig .tc := ⟨.hbm, 563, rfl⟩
abbrev main_v546 : Ref sig .tc := ⟨.hbm, 564, rfl⟩
abbrev main_v547 : Ref sig .tc := ⟨.hbm, 565, rfl⟩
abbrev main_v548 : Ref sig .tc := ⟨.hbm, 566, rfl⟩
abbrev main_v549 : Ref sig .tc := ⟨.hbm, 567, rfl⟩
abbrev main_v550 : Ref sig .tc := ⟨.hbm, 568, rfl⟩
abbrev main_v551 : Ref sig .tc := ⟨.hbm, 569, rfl⟩
abbrev main_v552 : Ref sig .tc := ⟨.hbm, 570, rfl⟩
abbrev main_v553 : Ref sig .tc := ⟨.hbm, 571, rfl⟩
abbrev main_v554 : Ref sig .tc := ⟨.hbm, 572, rfl⟩
abbrev main_v555 : Ref sig .tc := ⟨.hbm, 573, rfl⟩
abbrev main_v556 : Ref sig .tc := ⟨.hbm, 574, rfl⟩
abbrev main_v557 : Ref sig .tc := ⟨.hbm, 575, rfl⟩
abbrev main_v558 : Ref sig .tc := ⟨.hbm, 576, rfl⟩
abbrev main_v559 : Ref sig .tc := ⟨.hbm, 577, rfl⟩
abbrev main_v560 : Ref sig .tc := ⟨.hbm, 578, rfl⟩
abbrev main_v561 : Ref sig .tc := ⟨.hbm, 579, rfl⟩
abbrev main_v562 : Ref sig .tc := ⟨.hbm, 580, rfl⟩
abbrev main_v563 : Ref sig .tc := ⟨.hbm, 581, rfl⟩
abbrev main_v564 : Ref sig .tc := ⟨.hbm, 582, rfl⟩
abbrev main_v565 : Ref sig .tc := ⟨.hbm, 583, rfl⟩
abbrev main_cst_15 : Ref sig .tc := ⟨.hbm, 584, rfl⟩
abbrev main_v566 : Ref sig .tc := ⟨.hbm, 585, rfl⟩
abbrev main_v567 : Ref sig .tc := ⟨.hbm, 586, rfl⟩
abbrev main_v568 : Ref sig .tc := ⟨.hbm, 587, rfl⟩
abbrev main_v569 : Ref sig .tc := ⟨.hbm, 588, rfl⟩
abbrev main_v570 : Ref sig .tc := ⟨.hbm, 589, rfl⟩
abbrev main_v571 : Ref sig .tc := ⟨.hbm, 590, rfl⟩
abbrev main_v572 : Ref sig .tc := ⟨.hbm, 591, rfl⟩
abbrev main_v573 : Ref sig .tc := ⟨.hbm, 592, rfl⟩
abbrev main_v574 : Ref sig .tc := ⟨.hbm, 593, rfl⟩
abbrev main_v575 : Ref sig .tc := ⟨.hbm, 594, rfl⟩
abbrev main_v576 : Ref sig .tc := ⟨.hbm, 595, rfl⟩
abbrev main_v577 : Ref sig .tc := ⟨.hbm, 596, rfl⟩
abbrev main_v578 : Ref sig .tc := ⟨.hbm, 597, rfl⟩
abbrev main_v579 : Ref sig .tc := ⟨.hbm, 598, rfl⟩
abbrev main_v580 : Ref sig .tc := ⟨.hbm, 599, rfl⟩
abbrev main_cst_16 : Ref sig .tc := ⟨.hbm, 600, rfl⟩
abbrev main_v581 : Ref sig .tc := ⟨.hbm, 601, rfl⟩
abbrev main_cst_17 : Ref sig .tc := ⟨.hbm, 602, rfl⟩
abbrev main_v582 : Ref sig .tc := ⟨.hbm, 603, rfl⟩
abbrev main_v583 : Ref sig .tc := ⟨.hbm, 604, rfl⟩
abbrev main_v584 : Ref sig .tc := ⟨.hbm, 605, rfl⟩
abbrev main_v585 : Ref sig .tc := ⟨.hbm, 606, rfl⟩
abbrev main_v586 : Ref sig .tc := ⟨.hbm, 607, rfl⟩
abbrev main_v587 : Ref sig .tc := ⟨.hbm, 608, rfl⟩
abbrev main_v588 : Ref sig .tc := ⟨.hbm, 609, rfl⟩
abbrev main_v589 : Ref sig .tc := ⟨.hbm, 610, rfl⟩
abbrev main_v590 : Ref sig .tc := ⟨.hbm, 611, rfl⟩
abbrev main_v591 : Ref sig .tc := ⟨.hbm, 612, rfl⟩
abbrev main_v592 : Ref sig .tc := ⟨.hbm, 613, rfl⟩
abbrev main_v593 : Ref sig .tc := ⟨.hbm, 614, rfl⟩
abbrev main_v594 : Ref sig .tc := ⟨.hbm, 615, rfl⟩
abbrev main_v595 : Ref sig .tc := ⟨.hbm, 616, rfl⟩
abbrev main_v596 : Ref sig .tc := ⟨.hbm, 617, rfl⟩
abbrev main_v597 : Ref sig .tc := ⟨.hbm, 618, rfl⟩
abbrev main_cst_18 : Ref sig .tc := ⟨.hbm, 619, rfl⟩
abbrev main_v598 : Ref sig .tc := ⟨.hbm, 620, rfl⟩
abbrev main_cst_19 : Ref sig .tc := ⟨.hbm, 621, rfl⟩
abbrev main_v599 : Ref sig .tc := ⟨.hbm, 622, rfl⟩
abbrev main_v600 : Ref sig .tc := ⟨.hbm, 623, rfl⟩
abbrev main_v601 : Ref sig .tc := ⟨.hbm, 624, rfl⟩
abbrev main_v602 : Ref sig .tc := ⟨.hbm, 625, rfl⟩

abbrev nD : Nat := 1
abbrev τ : Topo := Topo.v7x

variable {F : FTy → Type} [FloatOps F]
-- ==== Kernel3.lean ====
abbrev S2048x1536 : Shape := ⟨2, ![2048, 1536]⟩
abbrev S32 : Shape := ⟨1, ![32]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S1x2048x1x64 : Shape := ⟨4, ![1, 2048, 1, 64]⟩
abbrev S1x2048x4x64 : Shape := ⟨4, ![1, 2048, 4, 64]⟩
abbrev S2048x256 : Shape := ⟨2, ![2048, 256]⟩
abbrev S4 : Shape := ⟨1, ![4]⟩
abbrev S64 : Shape := ⟨1, ![64]⟩
abbrev S4x1x1 : Shape := ⟨3, ![4, 1, 1]⟩
abbrev S64x1 : Shape := ⟨2, ![64, 1]⟩
abbrev S1x64 : Shape := ⟨2, ![1, 64]⟩
abbrev S64x64 : Shape := ⟨2, ![64, 64]⟩
abbrev S1x64x64 : Shape := ⟨3, ![1, 64, 64]⟩
abbrev S4x64x64 : Shape := ⟨3, ![4, 64, 64]⟩
abbrev S4x1 : Shape := ⟨2, ![4, 1]⟩
abbrev S4x64 : Shape := ⟨2, ![4, 64]⟩
abbrev S256 : Shape := ⟨1, ![256]⟩
abbrev S1x256 : Shape := ⟨2, ![1, 256]⟩
abbrev S4x256 : Shape := ⟨2, ![4, 256]⟩
abbrev S4x1x256 : Shape := ⟨3, ![4, 1, 256]⟩
abbrev S4x64x256 : Shape := ⟨3, ![4, 64, 256]⟩
abbrev S4x64x1 : Shape := ⟨3, ![4, 64, 1]⟩
abbrev S2048x512 : Shape := ⟨2, ![2048, 512]⟩
abbrev S32x4x256x128 : Shape := ⟨4, ![32, 4, 256, 128]⟩
abbrev S512x1536 : Shape := ⟨2, ![512, 1536]⟩
abbrev S512x256 : Shape := ⟨2, ![512, 256]⟩
abbrev S512x512 : Shape := ⟨2, ![512, 512]⟩
abbrev S8x4x256x128 : Shape := ⟨4, ![8, 4, 256, 128]⟩
abbrev S4x256x128 : Shape := ⟨3, ![4, 256, 128]⟩
abbrev S1x256x128 : Shape := ⟨3, ![1, 256, 128]⟩
abbrev S256x128 : Shape := ⟨2, ![256, 128]⟩
abbrev S1x1x256x128 : Shape := ⟨4, ![1, 1, 256, 128]⟩
abbrev S64x128 : Shape := ⟨2, ![64, 128]⟩
abbrev S64x256 : Shape := ⟨2, ![64, 256]⟩
abbrev S1x64x256 : Shape := ⟨3, ![1, 64, 256]⟩

abbrev nBuf : Space → Nat
  | .hbm => 105
  | .vmem => 15
  | .smem => 0
  | _ => 0

abbrev bufTy : (tb : Table) → Fin (tcTables nBuf tb) → BufTy
  | .hbm, ⟨0, _⟩ => ⟨S2048x1536, .f32⟩
  | .hbm, ⟨1, _⟩ => ⟨S32, .f32⟩
  | .hbm, ⟨2, _⟩ => ⟨S32, .f32⟩
  | .hbm, ⟨3, _⟩ => ⟨S_, .f32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S32, .f32⟩
  | .hbm, ⟨10, _⟩ => ⟨S2048, .f32⟩
  | .hbm, ⟨11, _⟩ => ⟨S2048x1, .f32⟩
  | .hbm, ⟨12, _⟩ => ⟨S1x32, .f32⟩
  | .hbm, ⟨13, _⟩ => ⟨S2048x32, .f32⟩
  | .hbm, ⟨14, _⟩ => ⟨S2048x32, .f32⟩
  | .hbm, ⟨15, _⟩ => ⟨S2048x32, .f32⟩
  | .hbm, ⟨16, _⟩ => ⟨S2048x32, .f32⟩
  | .hbm, ⟨17, _⟩ => ⟨S2048x32, .f32⟩
  | .hbm, ⟨18, _⟩ => ⟨S2048x64, .f32⟩
  | .hbm, ⟨19, _⟩ => ⟨S1x2048x1x64, .f32⟩
  | .hbm, ⟨20, _⟩ => ⟨S1x2048x4x64, .f32⟩
  | .hbm, ⟨21, _⟩ => ⟨S2048x256, .f32⟩
  | .hbm, ⟨22, _⟩ => ⟨S2048x32, .f32⟩
  | .hbm, ⟨23, _⟩ => ⟨S2048x64, .f32⟩
  | .hbm, ⟨24, _⟩ => ⟨S1x2048x1x64, .f32⟩
  | .hbm, ⟨25, _⟩ => ⟨S1x2048x4x64, .f32⟩
  | .hbm, ⟨26, _⟩ => ⟨S2048x256, .f32⟩
  | .hbm, ⟨27, _⟩ => ⟨S4, .f32⟩
  | .hbm, ⟨28, _⟩ => ⟨S_, .f32⟩
  | .hbm, ⟨29, _⟩ => ⟨S4, .f32⟩
  | .hbm, ⟨30, _⟩ => ⟨S4, .f32⟩
  | .hbm, ⟨31, _⟩ => ⟨S_, .f32⟩
  | .hbm, ⟨32, _⟩ => ⟨S4, .f32⟩
  | .hbm, ⟨33, _⟩ => ⟨S4, .f32⟩
  | .hbm, ⟨34, _⟩ => ⟨S_, .f32⟩
  | .hbm, ⟨35, _⟩ => ⟨S4, .f32⟩
  | .hbm, ⟨36, _⟩ => ⟨S4, .f32⟩
  | .hbm, ⟨37, _⟩ => ⟨S4, .f32⟩
  | .hbm, ⟨38, _⟩ => ⟨S64, .f32⟩
  | .hbm, ⟨39, _⟩ => ⟨S4x1x1, .f32⟩
  | .hbm, ⟨40, _⟩ => ⟨S64x1, .f32⟩
  | .hbm, ⟨41, _⟩ => ⟨S1x64, .f32⟩
  | .hbm, ⟨42, _⟩ => ⟨S64x64, .f32⟩
  | .hbm, ⟨43, _⟩ => ⟨S64x64, .f32⟩
  | .hbm, ⟨44, _⟩ => ⟨S64x64, .f32⟩
  | .hbm, ⟨45, _⟩ => ⟨S64x64, .f32⟩
  | .hbm, ⟨46, _⟩ => ⟨S1x64x64, .f32⟩
  | .hbm, ⟨47, _⟩ => ⟨S4x64x64, .f32⟩
  | .hbm, ⟨48, _⟩ => ⟨S4x64x64, .f32⟩
  | .hbm, ⟨49, _⟩ => ⟨S4x64x64, .f32⟩
  | .hbm, ⟨50, _⟩ => ⟨S4x64x64, .f32⟩
  | .hbm, ⟨51, _⟩ => ⟨S4x1, .f32⟩
  | .hbm, ⟨52, _⟩ => ⟨S1x64, .f32⟩
  | .hbm, ⟨53, _⟩ => ⟨S_, .f32⟩
  | .hbm, ⟨54, _⟩ => ⟨S1x64, .f32⟩
  | .hbm, ⟨55, _⟩ => ⟨S1x64, .f32⟩
  | .hbm, ⟨56, _⟩ => ⟨S4x64, .f32⟩
  | .hbm, ⟨57, _⟩ => ⟨S4x64, .f32⟩
  | .hbm, ⟨58, _⟩ => ⟨S4x64, .f32⟩
  | .hbm, ⟨59, _⟩ => ⟨S4x64, .f32⟩
  | .hbm, ⟨60, _⟩ => ⟨S4x1, .f32⟩
  | .hbm, ⟨61, _⟩ => ⟨S1x64, .f32⟩
  | .hbm, ⟨62, _⟩ => ⟨S_, .f32⟩
  | .hbm, ⟨63, _⟩ => ⟨S1x64, .f32⟩
  | .hbm, ⟨64, _⟩ => ⟨S1x64, .f32⟩
  | .hbm, ⟨65, _⟩ => ⟨S4x64, .f32⟩
  | .hbm, ⟨66, _⟩ => ⟨S4x64, .f32⟩
  | .hbm, ⟨67, _⟩ => ⟨S4x64, .f32⟩
  | .hbm, ⟨68, _⟩ => ⟨S4x64, .f32⟩
  | .hbm, ⟨69, _⟩ => ⟨S256, .i32⟩
  | .hbm, ⟨70, _⟩ => ⟨S_, .i32⟩
  | .hbm, ⟨71, _⟩ => ⟨S_, .i32⟩
  | .hbm, ⟨72, _⟩ => ⟨S256, .i32⟩
  | .hbm, ⟨73, _⟩ => ⟨S256, .i32⟩
  | .hbm, ⟨74, _⟩ => ⟨S256, .i32⟩
  | .hbm, ⟨75, _⟩ => ⟨S_, .i32⟩
  | .hbm, ⟨76, _⟩ => ⟨S256, .i32⟩
  | .hbm, ⟨77, _⟩ => ⟨S256, .i1⟩
  | .hbm, ⟨78, _⟩ => ⟨S256, .i32⟩
  | .hbm, ⟨79, _⟩ => ⟨S256, .i32⟩
  | .hbm, ⟨80, _⟩ => ⟨S_, .i32⟩
  | .hbm, ⟨81, _⟩ => ⟨S256, .i32⟩
  | .hbm, ⟨82, _⟩ => ⟨S256, .i1⟩
  | .hbm, ⟨83, _⟩ => ⟨S256, .i1⟩
  | .hbm, ⟨84, _⟩ => ⟨S_, .i32⟩
  | .hbm, ⟨85, _⟩ => ⟨S256, .i32⟩
  | .hbm, ⟨86, _⟩ => ⟨S256, .i32⟩
  | .hbm, ⟨87, _⟩ => ⟨S256, .i32⟩
  | .hbm, ⟨88, _⟩ => ⟨S1x256, .i32⟩
  | .hbm, ⟨89, _⟩ => ⟨S4, .i32⟩
  | .hbm, ⟨90, _⟩ => ⟨S4x1, .i32⟩
  | .hbm, ⟨91, _⟩ => ⟨S4x256, .i32⟩
  | .hbm, ⟨92, _⟩ => ⟨S4x256, .i32⟩
  | .hbm, ⟨93, _⟩ => ⟨S4x256, .i1⟩
  | .hbm, ⟨94, _⟩ => ⟨S4x256, .f32⟩
  | .hbm, ⟨95, _⟩ => ⟨S4x1x256, .f32⟩
  | .hbm, ⟨96, _⟩ => ⟨S4x64x256, .f32⟩
  | .hbm, ⟨97, _⟩ => ⟨S4x64x1, .f32⟩
  | .hbm, ⟨98, _⟩ => ⟨S4x64x256, .f32⟩
  | .hbm, ⟨99, _⟩ => ⟨S4x64x256, .f32⟩
  | .hbm, ⟨100, _⟩ => ⟨S4x64x1, .f32⟩
  | .hbm, ⟨101, _⟩ => ⟨S4x64x256, .f32⟩
  | .hbm, ⟨102, _⟩ => ⟨S4x64x256, .f32⟩
  | .hbm, ⟨103, _⟩ => ⟨S2048x512, .f32⟩
  | .hbm, ⟨104, _⟩ => ⟨S32x4x256x128, .f32⟩
  | .local _ .vmem, ⟨0, _⟩ => ⟨S512x1536, .f32⟩
  | .local _ .vmem, ⟨1, _⟩ => ⟨S512x1536, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S4x64x64, .f32⟩
  | .local _ .vmem, ⟨7, _⟩ => ⟨S4x64x256, .f32⟩
  | .local _ .vmem, ⟨8, _⟩ => ⟨S4x64x256, .f32⟩
  | .local _ .vmem, ⟨9, _⟩ => ⟨S4x64x256, .f32⟩
  | .local _ .vmem, ⟨10, _⟩ => ⟨S512x512, .f32⟩
  | .local _ .vmem, ⟨11, _⟩ => ⟨S512x512, .f32⟩
  | .local _ .vmem, ⟨12, _⟩ => ⟨S8x4x256x128, .f32⟩
  | .local _ .vmem, ⟨13, _⟩ => ⟨S8x4x256x128, .f32⟩
  | .local _ .vmem, ⟨14, _⟩ => ⟨S4x256x128, .f32⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_cst_1 : Ref sig .tc := ⟨.hbm, 28, rfl⟩
abbrev main_v25 : Ref sig .tc := ⟨.hbm, 29, rfl⟩
abbrev main_v26 : Ref sig .tc := ⟨.hbm, 30, rfl⟩
abbrev main_cst_2 : Ref sig .tc := ⟨.hbm, 31, rfl⟩
abbrev main_v27 : Ref sig .tc := ⟨.hbm, 32, rfl⟩
abbrev main_v28 : Ref sig .tc := ⟨.hbm, 33, rfl⟩
abbrev main_cst_3 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_cst_4 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_cst_5 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_c : Ref sig .tc := ⟨.hbm, 70, rfl⟩
abbrev main_call0_v0 : Ref sig .tc := ⟨.hbm, 71, rfl⟩
abbrev main_call0_v1 : Ref sig .tc := ⟨.hbm, 72, rfl⟩
abbrev main_call0_v2 : Ref sig .tc := ⟨.hbm, 73, rfl⟩
abbrev main_call0_v3 : Ref sig .tc := ⟨.hbm, 74, rfl⟩
abbrev main_call0_v4 : Ref sig .tc := ⟨.hbm, 75, rfl⟩
abbrev main_call0_v5 : Ref sig .tc := ⟨.hbm, 76, rfl⟩
abbrev main_call0_v6 : Ref sig .tc := ⟨.hbm, 77, rfl⟩
abbrev main_call0_v7 : Ref sig .tc := ⟨.hbm, 78, rfl⟩
abbrev main_call0_v8 : Ref sig .tc := ⟨.hbm, 79, rfl⟩
abbrev main_call0_c : Ref sig .tc := ⟨.hbm, 80, rfl⟩
abbrev main_call0_v9 : Ref sig .tc := ⟨.hbm, 81, rfl⟩
abbrev main_call0_v10 : Ref sig .tc := ⟨.hbm, 82, rfl⟩
abbrev main_call0_v11 : Ref sig .tc := ⟨.hbm, 83, rfl⟩
abbrev main_call0_c_0 : Ref sig .tc := ⟨.hbm, 84, rfl⟩
abbrev main_call0_v12 : Ref sig .tc := ⟨.hbm, 85, rfl⟩
abbrev main_call0_v13 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78_0 : Ref sig .tc := ⟨.hbm, 103, rfl⟩
abbrev main_v78_1 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S512x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x64x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x64x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x64x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x4x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel3Ideal.lean ====
variable {F : FTy → Type} [FloatOps F] [Named F]
def κ : String → Option EReal := fun
  | "gamma0" => some ((279993793990258235750468749959300213014699042596341116563305503247751586492770004816505534904321 / 2135987035920910082395021706169552114602704522356652769947041607822219725780640550022962086936576 : ℝ) : EReal)
  | "gamma1" => some ((14381201289858923833733732277241427911251598557516928831287151963615866190845260542210496569296551598609485715599361 / 39402006196394479212279040100143613805079739270465446667948293404245721771497210611414266254884915640806627990306816 : ℝ) : EReal)
  | "gamma2" => some ((439985273984774139364885786774155225074372621425249766976946157772109425125407741241214744259687760072793219732307971501512893104906241 / 726838724295606890549323807888004534353641360687318060281490199180639288113397923326191050713763565560762521606266177933534601628614656 : ℝ) : EReal)
  | "gamma3" => some ((10436900611138725869172867285320967420499386398293333045633692797639857278619179096472846825397665828940838712011497657616843071082257665693759918212890625 / 13407807929942597099574024998205846127479365820592393377723561443721764030073546976801874298166903427690031858186486050853753882811946569946433649006084096 : ℝ) : EReal)
  | _ => none
-- ==== Reference3Ideal.lean ====
abbrev S2048x1536 : Shape := ⟨2, ![2048, 1536]⟩
abbrev S2048x256 : Shape := ⟨2, ![2048, 256]⟩
abbrev S2048x512 : Shape := ⟨2, ![2048, 512]⟩
abbrev S2048 : Shape := ⟨1, ![2048]⟩
abbrev S1x2048x4x64 : Shape := ⟨4, ![1, 2048, 4, 64]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S1x2048x1x32 : Shape := ⟨4, ![1, 2048, 1, 32]⟩
abbrev S1x2048x4x32 : Shape := ⟨4, ![1, 2048, 4, 32]⟩
abbrev S1x2048x4x128 : Shape := ⟨4, ![1, 2048, 4, 128]⟩
abbrev S4 : Shape := ⟨1, ![4]⟩
abbrev S64 : Shape := ⟨1, ![64]⟩
abbrev S4x1x1 : Shape := ⟨3, ![4, 1, 1]⟩
abbrev S64x1 : Shape := ⟨2, ![64, 1]⟩
abbrev S1x64 : Shape := ⟨2, ![1, 64]⟩
abbrev S64x64 : Shape := ⟨2, ![64, 64]⟩
abbrev S1x64x64 : Shape := ⟨3, ![1, 64, 64]⟩
abbrev S4x64x64 : Shape := ⟨3, ![4, 64, 64]⟩
abbrev S4x1 : Shape := ⟨2, ![4, 1]⟩
abbrev S4x64 : Shape := ⟨2, ![4, 64]⟩
abbrev S64x4 : Shape := ⟨2, ![64, 4]⟩
abbrev S1x4x1x1 : Shape := ⟨4, ![1, 4, 1, 1]⟩
abbrev S1x32x64x4x64 : Shape := ⟨5, ![1, 32, 64, 4, 64]⟩
abbrev S1x32x64x4x128 : Shape := ⟨5, ![1, 32, 64, 4, 128]⟩
abbrev S1x32x4x64x64 : Shape := ⟨5, ![1, 32, 4, 64, 64]⟩
abbrev S1x1x4x64x64 : Shape := ⟨5, ![1, 1, 4, 64, 64]⟩
abbrev S1x32x4x128x64 : Shape := ⟨5, ![1, 32, 4, 128, 64]⟩
abbrev S1x1x64x4x1 : Shape := ⟨5, ![1, 1, 64, 4, 1]⟩
abbrev S32x1x4x64x128 : Shape := ⟨5, ![32, 1, 4, 64, 128]⟩
abbrev S1x4x64x128 : Shape := ⟨4, ![1, 4, 64, 128]⟩
abbrev S0x1x4x64x128 : Shape := ⟨5, ![0, 1, 4, 64, 128]⟩
abbrev S1x1x4x64x128 : Shape := ⟨5, ![1, 1, 4, 64, 128]⟩
abbrev S16x1x4x64x128 : Shape := ⟨5, ![16, 1, 4, 64, 128]⟩
abbrev S32x1x1x64x128 : Shape := ⟨5, ![32, 1, 1, 64, 128]⟩
abbrev S32x64x128 : Shape := ⟨3, ![32, 64, 128]⟩
abbrev S32x256x128 : Shape := ⟨3, ![32, 256, 128]⟩
abbrev S32x1x256x128 : Shape := ⟨4, ![32, 1, 256, 128]⟩
abbrev S32x4x256x128 : Shape := ⟨4, ![32, 4, 256, 128]⟩

abbrev nBuf : Space → Nat
  | .hbm => 372
  | .vmem => 0
  | .smem => 0
  | _ => 0

abbrev hbmTy0_0 (i : Nat) : BufTy := match i % 128 with
  | 0 => ⟨S2048x1536, .f32⟩
  | 1 => ⟨S2048x256, .f32⟩
  | 2 => ⟨S2048x256, .f32⟩
  | 3 => ⟨S2048x512, .f32⟩
  | 4 => ⟨S2048, .i32⟩
  | 5 => ⟨S1x2048x4x64, .f32⟩
  | 6 => ⟨S32, .f32⟩
  | 7 => ⟨S32, .f32⟩
  | 8 => ⟨S_, .f32⟩
  | 9 => ⟨S32, .f32⟩
  | 10 => ⟨S32, .f32⟩
  | 11 => ⟨S_, .f32⟩
  | 12 => ⟨S32, .f32⟩
  | 13 => ⟨S32, .f32⟩
  | 14 => ⟨S32, .f32⟩
  | 15 => ⟨S2048, .f32⟩
  | 16 => ⟨S2048x1, .f32⟩
  | 17 => ⟨S1x32, .f32⟩
  | 18 => ⟨S2048x32, .f32⟩
  | 19 => ⟨S2048x32, .f32⟩
  | 20 => ⟨S2048x32, .f32⟩
  | 21 => ⟨S2048x32, .f32⟩
  | 22 => ⟨S1x2048x1x32, .f32⟩
  | 23 => ⟨S2048x32, .f32⟩
  | 24 => ⟨S1x2048x1x32, .f32⟩
  | 25 => ⟨S1x2048x4x32, .f32⟩
  | 26 => ⟨S1x2048x4x32, .f32⟩
  | 27 => ⟨S1x2048x4x32, .f32⟩
  | 28 => ⟨S1x2048x4x32, .f32⟩
  | 29 => ⟨S1x2048x4x32, .f32⟩
  | 30 => ⟨S1x2048x4x32, .f32⟩
  | 31 => ⟨S1x2048x4x32, .f32⟩
  | 32 => ⟨S1x2048x4x32, .f32⟩
  | 33 => ⟨S1x2048x4x32, .f32⟩
  | 34 => ⟨S1x2048x4x32, .f32⟩
  | 35 => ⟨S1x2048x4x32, .f32⟩
  | 36 => ⟨S1x2048x4x32, .f32⟩
  | 37 => ⟨S1x2048x4x64, .f32⟩
  | 38 => ⟨S1x2048x4x64, .f32⟩
  | 39 => ⟨S32, .f32⟩
  | 40 => ⟨S32, .f32⟩
  | 41 => ⟨S_, .f32⟩
  | 42 => ⟨S32, .f32⟩
  | 43 => ⟨S32, .f32⟩
  | 44 => ⟨S_, .f32⟩
  | 45 => ⟨S32, .f32⟩
  | 46 => ⟨S32, .f32⟩
  | 47 => ⟨S32, .f32⟩
  | 48 => ⟨S2048, .f32⟩
  | 49 => ⟨S2048x1, .f32⟩
  | 50 => ⟨S1x32, .f32⟩
  | 51 => ⟨S2048x32, .f32⟩
  | 52 => ⟨S2048x32, .f32⟩
  | 53 => ⟨S2048x32, .f32⟩
  | 54 => ⟨S2048x32, .f32⟩
  | 55 => ⟨S1x2048x1x32, .f32⟩
  | 56 => ⟨S2048x32, .f32⟩
  | 57 => ⟨S1x2048x1x32, .f32⟩
  | 58 => ⟨S1x2048x4x32, .f32⟩
  | 59 => ⟨S1x2048x4x32, .f32⟩
  | 60 => ⟨S1x2048x4x32, .f32⟩
  | 61 => ⟨S1x2048x4x32, .f32⟩
  | 62 => ⟨S1x2048x4x32, .f32⟩
  | 63 => ⟨S1x2048x4x32, .f32⟩
  | 64 => ⟨S1x2048x4x32, .f32⟩
  | 65 => ⟨S1x2048x4x32, .f32⟩
  | 66 => ⟨S1x2048x4x32, .f32⟩
  | 67 => ⟨S1x2048x4x32, .f32⟩
  | 68 => ⟨S1x2048x4x32, .f32⟩
  | 69 => ⟨S1x2048x4x32, .f32⟩
  | 70 => ⟨S1x2048x4x64, .f32⟩
  | 71 => ⟨S_, .f32⟩
  | 72 => ⟨S1x2048x4x64, .f32⟩
  | 73 => ⟨S1x2048x4x64, .f32⟩
  | 74 => ⟨S1x2048x4x128, .f32⟩
  | 75 => ⟨S4, .f32⟩
  | 76 => ⟨S_, .f32⟩
  | 77 => ⟨S4, .f32⟩
  | 78 => ⟨S4, .f32⟩
  | 79 => ⟨S_, .f32⟩
  | 80 => ⟨S4, .f32⟩
  | 81 => ⟨S4, .f32⟩
  | 82 => ⟨S_, .f32⟩
  | 83 => ⟨S4, .f32⟩
  | 84 => ⟨S4, .f32⟩
  | 85 => ⟨S4, .f32⟩
  | 86 => ⟨S64, .f32⟩
  | 87 => ⟨S4x1x1, .f32⟩
  | 88 => ⟨S64x1, .f32⟩
  | 89 => ⟨S1x64, .f32⟩
  | 90 => ⟨S64x64, .f32⟩
  | 91 => ⟨S64x64, .f32⟩
  | 92 => ⟨S64x64, .f32⟩
  | 93 => ⟨S64x64, .f32⟩
  | 94 => ⟨S1x64x64, .f32⟩
  | 95 => ⟨S4x64x64, .f32⟩
  | 96 => ⟨S4x64x64, .f32⟩
  | 97 => ⟨S4x64x64, .f32⟩
  | 98 => ⟨S4x64x64, .f32⟩
  | 99 => ⟨S4x1, .f32⟩
  | 100 => ⟨S1x64, .f32⟩
  | 101 => ⟨S_, .f32⟩
  | 102 => ⟨S1x64, .f32⟩
  | 103 => ⟨S1x64, .f32⟩
  | 104 => ⟨S4x64, .f32⟩
  | 105 => ⟨S4x64, .f32⟩
  | 106 => ⟨S4x64, .f32⟩
  | 107 => ⟨S4x64, .f32⟩
  | 108 => ⟨S64x4, .f32⟩
  | 109 => ⟨S4x1, .f32⟩
  | 110 => ⟨S1x64, .f32⟩
  | 111 => ⟨S_, .f32⟩
  | 112 => ⟨S1x64, .f32⟩
  | 113 => ⟨S1x64, .f32⟩
  | 114 => ⟨S4x64, .f32⟩
  | 115 => ⟨S4x64, .f32⟩
  | 116 => ⟨S4x64, .f32⟩
  | 117 => ⟨S4x64, .f32⟩
  | 118 => ⟨S64x4, .f32⟩
  | 119 => ⟨S_, .f32⟩
  | 120 => ⟨S4, .f32⟩
  | 121 => ⟨S4, .f32⟩
  | 122 => ⟨S4, .f32⟩
  | 123 => ⟨S1x4x1x1, .f32⟩
  | 124 => ⟨S1x32x64x4x64, .f32⟩
  | 125 => ⟨S1x32x64x4x64, .f32⟩
  | 126 => ⟨S1x32x64x4x128, .f32⟩
  | 127 => ⟨S1x32x4x64x64, .f32⟩
  | _ => ⟨S2048x1536, .f32⟩

abbrev hbmTy0_1 (i : Nat) : BufTy := match i % 128 with
  | 0 => ⟨S1x1x4x64x64, .f32⟩
  | 1 => ⟨S1x32x4x64x64, .f32⟩
  | 2 => ⟨S1x32x4x64x64, .f32⟩
  | 3 => ⟨S1x32x4x128x64, .f32⟩
  | 4 => ⟨S1x32x64x4x128, .f32⟩
  | 5 => ⟨S1x1x64x4x1, .f32⟩
  | 6 => ⟨S1x32x64x4x64, .f32⟩
  | 7 => ⟨S1x32x64x4x64, .f32⟩
  | 8 => ⟨S32x1x4x64x128, .f32⟩
  | 9 => ⟨S_, .f32⟩
  | 10 => ⟨S1x4x64x128, .f32⟩
  | 11 => ⟨S0x1x4x64x128, .f32⟩
  | 12 => ⟨S32x1x4x64x128, .f32⟩
  | 13 => ⟨S_, .f32⟩
  | 14 => ⟨S0x1x4x64x128, .f32⟩
  | 15 => ⟨S1x1x4x64x128, .f32⟩
  | 16 => ⟨S1x4x64x128, .f32⟩
  | 17 => ⟨S1x4x64x128, .f32⟩
  | 18 => ⟨S1x4x64x128, .f32⟩
  | 19 => ⟨S1x4x64x128, .f32⟩
  | 20 => ⟨S1x1x4x64x128, .f32⟩
  | 21 => ⟨S1x4x64x128, .f32⟩
  | 22 => ⟨S1x4x64x128, .f32⟩
  | 23 => ⟨S1x4x64x128, .f32⟩
  | 24 => ⟨S1x4x64x128, .f32⟩
  | 25 => ⟨S1x1x4x64x128, .f32⟩
  | 26 => ⟨S1x4x64x128, .f32⟩
  | 27 => ⟨S1x4x64x128, .f32⟩
  | 28 => ⟨S1x4x64x128, .f32⟩
  | 29 => ⟨S1x4x64x128, .f32⟩
  | 30 => ⟨S1x1x4x64x128, .f32⟩
  | 31 => ⟨S1x4x64x128, .f32⟩
  | 32 => ⟨S1x4x64x128, .f32⟩
  | 33 => ⟨S1x4x64x128, .f32⟩
  | 34 => ⟨S1x4x64x128, .f32⟩
  | 35 => ⟨S1x1x4x64x128, .f32⟩
  | 36 => ⟨S1x4x64x128, .f32⟩
  | 37 => ⟨S1x4x64x128, .f32⟩
  | 38 => ⟨S1x4x64x128, .f32⟩
  | 39 => ⟨S1x4x64x128, .f32⟩
  | 40 => ⟨S1x1x4x64x128, .f32⟩
  | 41 => ⟨S1x4x64x128, .f32⟩
  | 42 => ⟨S1x4x64x128, .f32⟩
  | 43 => ⟨S1x4x64x128, .f32⟩
  | 44 => ⟨S1x4x64x128, .f32⟩
  | 45 => ⟨S1x1x4x64x128, .f32⟩
  | 46 => ⟨S1x4x64x128, .f32⟩
  | 47 => ⟨S1x4x64x128, .f32⟩
  | 48 => ⟨S1x4x64x128, .f32⟩
  | 49 => ⟨S1x4x64x128, .f32⟩
  | 50 => ⟨S1x1x4x64x128, .f32⟩
  | 51 => ⟨S1x4x64x128, .f32⟩
  | 52 => ⟨S1x4x64x128, .f32⟩
  | 53 => ⟨S1x4x64x128, .f32⟩
  | 54 => ⟨S1x4x64x128, .f32⟩
  | 55 => ⟨S1x1x4x64x128, .f32⟩
  | 56 => ⟨S1x4x64x128, .f32⟩
  | 57 => ⟨S1x4x64x128, .f32⟩
  | 58 => ⟨S1x4x64x128, .f32⟩
  | 59 => ⟨S1x4x64x128, .f32⟩
  | 60 => ⟨S1x1x4x64x128, .f32⟩
  | 61 => ⟨S1x4x64x128, .f32⟩
  | 62 => ⟨S1x4x64x128, .f32⟩
  | 63 => ⟨S1x4x64x128, .f32⟩
  | 64 => ⟨S1x4x64x128, .f32⟩
  | 65 => ⟨S1x1x4x64x128, .f32⟩
  | 66 => ⟨S1x4x64x128, .f32⟩
  | 67 => ⟨S1x4x64x128, .f32⟩
  | 68 => ⟨S1x4x64x128, .f32⟩
  | 69 => ⟨S1x4x64x128, .f32⟩
  | 70 => ⟨S1x1x4x64x128, .f32⟩
  | 71 => ⟨S1x4x64x128, .f32⟩
  | 72 => ⟨S1x4x64x128, .f32⟩
  | 73 => ⟨S1x4x64x128, .f32⟩
  | 74 => ⟨S1x4x64x128, .f32⟩
  | 75 => ⟨S1x1x4x64x128, .f32⟩
  | 76 => ⟨S1x4x64x128, .f32⟩
  | 77 => ⟨S1x4x64x128, .f32⟩
  | 78 => ⟨S1x4x64x128, .f32⟩
  | 79 => ⟨S1x4x64x128, .f32⟩
  | 80 => ⟨S1x1x4x64x128, .f32⟩
  | 81 => ⟨S1x4x64x128, .f32⟩
  | 82 => ⟨S1x4x64x128, .f32⟩
  | 83 => ⟨S1x4x64x128, .f32⟩
  | 84 => ⟨S1x4x64x128, .f32⟩
  | 85 => ⟨S1x1x4x64x128, .f32⟩
  | 86 => ⟨S1x4x64x128, .f32⟩
  | 87 => ⟨S1x4x64x128, .f32⟩
  | 88 => ⟨S1x4x64x128, .f32⟩
  | 89 => ⟨S1x4x64x128, .f32⟩
  | 90 => ⟨S1x1x4x64x128, .f32⟩
  | 91 => ⟨S1x4x64x128, .f32⟩
  | 92 => ⟨S1x4x64x128, .f32⟩
  | 93 => ⟨S1x4x64x128, .f32⟩
  | 94 => ⟨S1x4x64x128, .f32⟩
  | 95 => ⟨S1x1x4x64x128, .f32⟩
  | 96 => ⟨S1x4x64x128, .f32⟩
  | 97 => ⟨S1x4x64x128, .f32⟩
  | 98 => ⟨S1x4x64x128, .f32⟩
  | 99 => ⟨S1x4x64x128, .f32⟩
  | 100 => ⟨S1x1x4x64x128, .f32⟩
  | 101 => ⟨S1x4x64x128, .f32⟩
  | 102 => ⟨S1x4x64x128, .f32⟩
  | 103 => ⟨S1x4x64x128, .f32⟩
  | 104 => ⟨S1x4x64x128, .f32⟩
  | 105 => ⟨S1x1x4x64x128, .f32⟩
  | 106 => ⟨S1x4x64x128, .f32⟩
  | 107 => ⟨S1x4x64x128, .f32⟩
  | 108 => ⟨S1x4x64x128, .f32⟩
  | 109 => ⟨S1x4x64x128, .f32⟩
  | 110 => ⟨S1x1x4x64x128, .f32⟩
  | 111 => ⟨S1x4x64x128, .f32⟩
  | 112 => ⟨S1x4x64x128, .f32⟩
  | 113 => ⟨S1x4x64x128, .f32⟩
  | 114 => ⟨S1x4x64x128, .f32⟩
  | 115 => ⟨S1x1x4x64x128, .f32⟩
  | 116 => ⟨S1x4x64x128, .f32⟩
  | 117 => ⟨S1x4x64x128, .f32⟩
  | 118 => ⟨S1x4x64x128, .f32⟩
  | 119 => ⟨S1x4x64x128, .f32⟩
  | 120 => ⟨S1x1x4x64x128, .f32⟩
  | 121 => ⟨S1x4x64x128, .f32⟩
  | 122 => ⟨S1x4x64x128, .f32⟩
  | 123 => ⟨S1x4x64x128, .f32⟩
  | 124 => ⟨S1x4x64x128, .f32⟩
  | 125 => ⟨S1x1x4x64x128, .f32⟩
  | 126 => ⟨S1x4x64x128, .f32⟩
  | 127 => ⟨S1x4x64x128, .f32⟩
  | _ => ⟨S2048x1536, .f32⟩

abbrev hbmTy0_2 (i : Nat) : BufTy := match i % 128 with
  | 0 => ⟨S1x4x64x128, .f32⟩
  | 1 => ⟨S1x4x64x128, .f32⟩
  | 2 => ⟨S1x1x4x64x128, .f32⟩
  | 3 => ⟨S1x4x64x128, .f32⟩
  | 4 => ⟨S1x4x64x128, .f32⟩
  | 5 => ⟨S1x4x64x128, .f32⟩
  | 6 => ⟨S1x4x64x128, .f32⟩
  | 7 => ⟨S1x1x4x64x128, .f32⟩
  | 8 => ⟨S1x4x64x128, .f32⟩
  | 9 => ⟨S1x4x64x128, .f32⟩
  | 10 => ⟨S1x4x64x128, .f32⟩
  | 11 => ⟨S1x4x64x128, .f32⟩
  | 12 => ⟨S1x1x4x64x128, .f32⟩
  | 13 => ⟨S1x4x64x128, .f32⟩
  | 14 => ⟨S1x4x64x128, .f32⟩
  | 15 => ⟨S1x4x64x128, .f32⟩
  | 16 => ⟨S1x4x64x128, .f32⟩
  | 17 => ⟨S1x1x4x64x128, .f32⟩
  | 18 => ⟨S1x4x64x128, .f32⟩
  | 19 => ⟨S1x4x64x128, .f32⟩
  | 20 => ⟨S1x4x64x128, .f32⟩
  | 21 => ⟨S1x4x64x128, .f32⟩
  | 22 => ⟨S1x1x4x64x128, .f32⟩
  | 23 => ⟨S1x4x64x128, .f32⟩
  | 24 => ⟨S1x4x64x128, .f32⟩
  | 25 => ⟨S1x4x64x128, .f32⟩
  | 26 => ⟨S1x4x64x128, .f32⟩
  | 27 => ⟨S1x1x4x64x128, .f32⟩
  | 28 => ⟨S1x4x64x128, .f32⟩
  | 29 => ⟨S1x4x64x128, .f32⟩
  | 30 => ⟨S1x4x64x128, .f32⟩
  | 31 => ⟨S1x4x64x128, .f32⟩
  | 32 => ⟨S1x1x4x64x128, .f32⟩
  | 33 => ⟨S1x4x64x128, .f32⟩
  | 34 => ⟨S1x4x64x128, .f32⟩
  | 35 => ⟨S1x4x64x128, .f32⟩
  | 36 => ⟨S1x4x64x128, .f32⟩
  | 37 => ⟨S1x1x4x64x128, .f32⟩
  | 38 => ⟨S1x4x64x128, .f32⟩
  | 39 => ⟨S1x4x64x128, .f32⟩
  | 40 => ⟨S1x4x64x128, .f32⟩
  | 41 => ⟨S1x4x64x128, .f32⟩
  | 42 => ⟨S1x1x4x64x128, .f32⟩
  | 43 => ⟨S1x4x64x128, .f32⟩
  | 44 => ⟨S1x4x64x128, .f32⟩
  | 45 => ⟨S1x4x64x128, .f32⟩
  | 46 => ⟨S1x4x64x128, .f32⟩
  | 47 => ⟨S1x1x4x64x128, .f32⟩
  | 48 => ⟨S1x1x4x64x128, .f32⟩
  | 49 => ⟨S1x1x4x64x128, .f32⟩
  | 50 => ⟨S1x1x4x64x128, .f32⟩
  | 51 => ⟨S1x1x4x64x128, .f32⟩
  | 52 => ⟨S1x1x4x64x128, .f32⟩
  | 53 => ⟨S1x1x4x64x128, .f32⟩
  | 54 => ⟨S1x1x4x64x128, .f32⟩
  | 55 => ⟨S1x1x4x64x128, .f32⟩
  | 56 => ⟨S1x1x4x64x128, .f32⟩
  | 57 => ⟨S1x1x4x64x128, .f32⟩
  | 58 => ⟨S1x1x4x64x128, .f32⟩
  | 59 => ⟨S1x1x4x64x128, .f32⟩
  | 60 => ⟨S1x1x4x64x128, .f32⟩
  | 61 => ⟨S1x1x4x64x128, .f32⟩
  | 62 => ⟨S1x1x4x64x128, .f32⟩
  | 63 => ⟨S1x1x4x64x128, .f32⟩
  | 64 => ⟨S1x1x4x64x128, .f32⟩
  | 65 => ⟨S1x1x4x64x128, .f32⟩
  | 66 => ⟨S1x1x4x64x128, .f32⟩
  | 67 => ⟨S1x1x4x64x128, .f32⟩
  | 68 => ⟨S1x1x4x64x128, .f32⟩
  | 69 => ⟨S1x1x4x64x128, .f32⟩
  | 70 => ⟨S1x1x4x64x128, .f32⟩
  | 71 => ⟨S1x1x4x64x128, .f32⟩
  | 72 => ⟨S1x1x4x64x128, .f32⟩
  | 73 => ⟨S1x1x4x64x128, .f32⟩
  | 74 => ⟨S1x1x4x64x128, .f32⟩
  | 75 => ⟨S1x1x4x64x128, .f32⟩
  | 76 => ⟨S1x1x4x64x128, .f32⟩
  | 77 => ⟨S1x1x4x64x128, .f32⟩
  | 78 => ⟨S1x1x4x64x128, .f32⟩
  | 79 => ⟨S16x1x4x64x128, .f32⟩
  | 80 => ⟨S16x1x4x64x128, .f32⟩
  | 81 => ⟨S32x1x4x64x128, .f32⟩
  | 82 => ⟨S32x1x4x64x128, .f32⟩
  | 83 => ⟨S1x1x64x4x1, .f32⟩
  | 84 => ⟨S1x32x64x4x64, .f32⟩
  | 85 => ⟨S1x32x64x4x64, .f32⟩
  | 86 => ⟨S1x32x4x128x64, .f32⟩
  | 87 => ⟨S1x32x64x4x128, .f32⟩
  | 88 => ⟨S1x32x64x4x128, .f32⟩
  | 89 => ⟨S1x2048x4x128, .f32⟩
  | 90 => ⟨S2048x512, .f32⟩
  | 91 => ⟨S32x1x1x64x128, .f32⟩
  | 92 => ⟨S32x64x128, .f32⟩
  | 93 => ⟨S_, .i32⟩
  | 94 => ⟨S_, .f32⟩
  | 95 => ⟨S32x256x128, .f32⟩
  | 96 => ⟨S32x1x1x64x128, .f32⟩
  | 97 => ⟨S32x64x128, .f32⟩
  | 98 => ⟨S_, .i32⟩
  | 99 => ⟨S_, .f32⟩
  | 100 => ⟨S32x256x128, .f32⟩
  | 101 => ⟨S32x1x1x64x128, .f32⟩
  | 102 => ⟨S32x64x128, .f32⟩
  | 103 => ⟨S_, .i32⟩
  | 104 => ⟨S_, .f32⟩
  | 105 => ⟨S32x256x128, .f32⟩
  | 106 => ⟨S32x1x1x64x128, .f32⟩
  | 107 => ⟨S32x64x128, .f32⟩
  | 108 => ⟨S_, .i32⟩
  | 109 => ⟨S_, .f32⟩
  | 110 => ⟨S32x256x128, .f32⟩
  | 111 => ⟨S32x1x256x128, .f32⟩
  | 112 => ⟨S32x1x256x128, .f32⟩
  | 113 => ⟨S32x1x256x128, .f32⟩
  | 114 => ⟨S32x1x256x128, .f32⟩
  | 115 => ⟨S32x4x256x128, .f32⟩
  | _ => ⟨S2048x1536, .f32⟩

abbrev hbmTy (i : Nat) : BufTy := match i / 128 with
  | 0 => hbmTy0_0 i
  | 1 => hbmTy0_1 i
  | 2 => hbmTy0_2 i
  | _ => ⟨S2048x1536, .f32⟩

abbrev bufTy : (tb : Table) → Fin (tcTables nBuf tb) → BufTy
  | .hbm, ⟨i, _⟩ => hbmTy i
  | _, _ => ⟨S2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_cst : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_cst_1 : Ref sig .tc := ⟨.hbm, 41, rfl⟩
abbrev main_v38 : Ref sig .tc := ⟨.hbm, 42, rfl⟩
abbrev main_v39 : Ref sig .tc := ⟨.hbm, 43, rfl⟩
abbrev main_cst_2 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_cst_3 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_cst_4 : Ref sig .tc := ⟨.hbm, 76, rfl⟩
abbrev main_v70 : Ref sig .tc := ⟨.hbm, 77, rfl⟩
abbrev main_v71 : Ref sig .tc := ⟨.hbm, 78, rfl⟩
abbrev main_cst_5 : Ref sig .tc := ⟨.hbm, 79, rfl⟩
abbrev main_v72 : Ref sig .tc := ⟨.hbm, 80, rfl⟩
abbrev main_v73 : Ref sig .tc := ⟨.hbm, 81, rfl⟩
abbrev main_cst_6 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_cst_7 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_cst_8 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_cst_9 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_v123 : Ref sig .tc := ⟨.hbm, 135, rfl⟩
abbrev main_v124 : Ref sig .tc := ⟨.hbm, 136, rfl⟩
abbrev main_cst_10 : Ref sig .tc := ⟨.hbm, 137, rfl⟩
abbrev main_v125 : Ref sig .tc := ⟨.hbm, 138, rfl⟩
abbrev main_v126 : Ref sig .tc := ⟨.hbm, 139, rfl⟩
abbrev main_v127 : Ref sig .tc := ⟨.hbm, 140, rfl⟩
abbrev main_cst_11 : Ref sig .tc := ⟨.hbm, 141, rfl⟩
abbrev main_v128 : Ref sig .tc := ⟨.hbm, 142, rfl⟩
abbrev main_v129 : Ref sig .tc := ⟨.hbm, 143, rfl⟩
abbrev main_v130 : Ref sig .tc := ⟨.hbm, 144, rfl⟩
abbrev main_v131 : Ref sig .tc := ⟨.hbm, 145, rfl⟩
abbrev main_v132 : Ref sig .tc := ⟨.hbm, 146, rfl⟩
abbrev main_v133 : Ref sig .tc := ⟨.hbm, 147, rfl⟩
abbrev main_v134 : Ref sig .tc := ⟨.hbm, 148, rfl⟩
abbrev main_v135 : Ref sig .tc := ⟨.hbm, 149, rfl⟩
abbrev main_v136 : Ref sig .tc := ⟨.hbm, 150, rfl⟩
abbrev main_v137 : Ref sig .tc := ⟨.hbm, 151, rfl⟩
abbrev main_v138 : Ref sig .tc := ⟨.hbm, 152, rfl⟩
abbrev main_v139 : Ref sig .tc := ⟨.hbm, 153, rfl⟩
abbrev main_v140 : Ref sig .tc := ⟨.hbm, 154, rfl⟩
abbrev main_v141 : Ref sig .tc := ⟨.hbm, 155, rfl⟩
abbrev main_v142 : Ref sig .tc := ⟨.hbm, 156, rfl⟩
abbrev main_v143 : Ref sig .tc := ⟨.hbm, 157, rfl⟩
abbrev main_v144 : Ref sig .tc := ⟨.hbm, 158, rfl⟩
abbrev main_v145 : Ref sig .tc := ⟨.hbm, 159, rfl⟩
abbrev main_v146 : Ref sig .tc := ⟨.hbm, 160, rfl⟩
abbrev main_v147 : Ref sig .tc := ⟨.hbm, 161, rfl⟩
abbrev main_v148 : Ref sig .tc := ⟨.hbm, 162, rfl⟩
abbrev main_v149 : Ref sig .tc := ⟨.hbm, 163, rfl⟩
abbrev main_v150 : Ref sig .tc := ⟨.hbm, 164, rfl⟩
abbrev main_v151 : Ref sig .tc := ⟨.hbm, 165, rfl⟩
abbrev main_v152 : Ref sig .tc := ⟨.hbm, 166, rfl⟩
abbrev main_v153 : Ref sig .tc := ⟨.hbm, 167, rfl⟩
abbrev main_v154 : Ref sig .tc := ⟨.hbm, 168, rfl⟩
abbrev main_v155 : Ref sig .tc := ⟨.hbm, 169, rfl⟩
abbrev main_v156 : Ref sig .tc := ⟨.hbm, 170, rfl⟩
abbrev main_v157 : Ref sig .tc := ⟨.hbm, 171, rfl⟩
abbrev main_v158 : Ref sig .tc := ⟨.hbm, 172, rfl⟩
abbrev main_v159 : Ref sig .tc := ⟨.hbm, 173, rfl⟩
abbrev main_v160 : Ref sig .tc := ⟨.hbm, 174, rfl⟩
abbrev main_v161 : Ref sig .tc := ⟨.hbm, 175, rfl⟩
abbrev main_v162 : Ref sig .tc := ⟨.hbm, 176, rfl⟩
abbrev main_v163 : Ref sig .tc := ⟨.hbm, 177, rfl⟩
abbrev main_v164 : Ref sig .tc := ⟨.hbm, 178, rfl⟩
abbrev main_v165 : Ref sig .tc := ⟨.hbm, 179, rfl⟩
abbrev main_v166 : Ref sig .tc := ⟨.hbm, 180, rfl⟩
abbrev main_v167 : Ref sig .tc := ⟨.hbm, 181, rfl⟩
abbrev main_v168 : Ref sig .tc := ⟨.hbm, 182, rfl⟩
abbrev main_v169 : Ref sig .tc := ⟨.hbm, 183, rfl⟩
abbrev main_v170 : Ref sig .tc := ⟨.hbm, 184, rfl⟩
abbrev main_v171 : Ref sig .tc := ⟨.hbm, 185, rfl⟩
abbrev main_v172 : Ref sig .tc := ⟨.hbm, 186, rfl⟩
abbrev main_v173 : Ref sig .tc := ⟨.hbm, 187, rfl⟩
abbrev main_v174 : Ref sig .tc := ⟨.hbm, 188, rfl⟩
abbrev main_v175 : Ref sig .tc := ⟨.hbm, 189, rfl⟩
abbrev main_v176 : Ref sig .tc := ⟨.hbm, 190, rfl⟩
abbrev main_v177 : Ref sig .tc := ⟨.hbm, 191, rfl⟩
abbrev main_v178 : Ref sig .tc := ⟨.hbm, 192, rfl⟩
abbrev main_v179 : Ref sig .tc := ⟨.hbm, 193, rfl⟩
abbrev main_v180 : Ref sig .tc := ⟨.hbm, 194, rfl⟩
abbrev main_v181 : Ref sig .tc := ⟨.hbm, 195, rfl⟩
abbrev main_v182 : Ref sig .tc := ⟨.hbm, 196, rfl⟩
abbrev main_v183 : Ref sig .tc := ⟨.hbm, 197, rfl⟩
abbrev main_v184 : Ref sig .tc := ⟨.hbm, 198, rfl⟩
abbrev main_v185 : Ref sig .tc := ⟨.hbm, 199, rfl⟩
abbrev main_v186 : Ref sig .tc := ⟨.hbm, 200, rfl⟩
abbrev main_v187 : Ref sig .tc := ⟨.hbm, 201, rfl⟩
abbrev main_v188 : Ref sig .tc := ⟨.hbm, 202, rfl⟩
abbrev main_v189 : Ref sig .tc := ⟨.hbm, 203, rfl⟩
abbrev main_v190 : Ref sig .tc := ⟨.hbm, 204, rfl⟩
abbrev main_v191 : Ref sig .tc := ⟨.hbm, 205, rfl⟩
abbrev main_v192 : Ref sig .tc := ⟨.hbm, 206, rfl⟩
abbrev main_v193 : Ref sig .tc := ⟨.hbm, 207, rfl⟩
abbrev main_v194 : Ref sig .tc := ⟨.hbm, 208, rfl⟩
abbrev main_v195 : Ref sig .tc := ⟨.hbm, 209, rfl⟩
abbrev main_v196 : Ref sig .tc := ⟨.hbm, 210, rfl⟩
abbrev main_v197 : Ref sig .tc := ⟨.hbm, 211, rfl⟩
abbrev main_v198 : Ref sig .tc := ⟨.hbm, 212, rfl⟩
abbrev main_v199 : Ref sig .tc := ⟨.hbm, 213, rfl⟩
abbrev main_v200 : Ref sig .tc := ⟨.hbm, 214, rfl⟩
abbrev main_v201 : Ref sig .tc := ⟨.hbm, 215, rfl⟩
abbrev main_v202 : Ref sig .tc := ⟨.hbm, 216, rfl⟩
abbrev main_v203 : Ref sig .tc := ⟨.hbm, 217, rfl⟩
abbrev main_v204 : Ref sig .tc := ⟨.hbm, 218, rfl⟩
abbrev main_v205 : Ref sig .tc := ⟨.hbm, 219, rfl⟩
abbrev main_v206 : Ref sig .tc := ⟨.hbm, 220, rfl⟩
abbrev main_v207 : Ref sig .tc := ⟨.hbm, 221, rfl⟩
abbrev main_v208 : Ref sig .tc := ⟨.hbm, 222, rfl⟩
abbrev main_v209 : Ref sig .tc := ⟨.hbm, 223, rfl⟩
abbrev main_v210 : Ref sig .tc := ⟨.hbm, 224, rfl⟩
abbrev main_v211 : Ref sig .tc := ⟨.hbm, 225, rfl⟩
abbrev main_v212 : Ref sig .tc := ⟨.hbm, 226, rfl⟩
abbrev main_v213 : Ref sig .tc := ⟨.hbm, 227, rfl⟩
abbrev main_v214 : Ref sig .tc := ⟨.hbm, 228, rfl⟩
abbrev main_v215 : Ref sig .tc := ⟨.hbm, 229, rfl⟩
abbrev main_v216 : Ref sig .tc := ⟨.hbm, 230, rfl⟩
abbrev main_v217 : Ref sig .tc := ⟨.hbm, 231, rfl⟩
abbrev main_v218 : Ref sig .tc := ⟨.hbm, 232, rfl⟩
abbrev main_v219 : Ref sig .tc := ⟨.hbm, 233, rfl⟩
abbrev main_v220 : Ref sig .tc := ⟨.hbm, 234, rfl⟩
abbrev main_v221 : Ref sig .tc := ⟨.hbm, 235, rfl⟩
abbrev main_v222 : Ref sig .tc := ⟨.hbm, 236, rfl⟩
abbrev main_v223 : Ref sig .tc := ⟨.hbm, 237, rfl⟩
abbrev main_v224 : Ref sig .tc := ⟨.hbm, 238, rfl⟩
abbrev main_v225 : Ref sig .tc := ⟨.hbm, 239, rfl⟩
abbrev main_v226 : Ref sig .tc := ⟨.hbm, 240, rfl⟩
abbrev main_v227 : Ref sig .tc := ⟨.hbm, 241, rfl⟩
abbrev main_v228 : Ref sig .tc := ⟨.hbm, 242, rfl⟩
abbrev main_v229 : Ref sig .tc := ⟨.hbm, 243, rfl⟩
abbrev main_v230 : Ref sig .tc := ⟨.hbm, 244, rfl⟩
abbrev main_v231 : Ref sig .tc := ⟨.hbm, 245, rfl⟩
abbrev main_v232 : Ref sig .tc := ⟨.hbm, 246, rfl⟩
abbrev main_v233 : Ref sig .tc := ⟨.hbm, 247, rfl⟩
abbrev main_v234 : Ref sig .tc := ⟨.hbm, 248, rfl⟩
abbrev main_v235 : Ref sig .tc := ⟨.hbm, 249, rfl⟩
abbrev main_v236 : Ref sig .tc := ⟨.hbm, 250, rfl⟩
abbrev main_v237 : Ref sig .tc := ⟨.hbm, 251, rfl⟩
abbrev main_v238 : Ref sig .tc := ⟨.hbm, 252, rfl⟩
abbrev main_v239 : Ref sig .tc := ⟨.hbm, 253, rfl⟩
abbrev main_v240 : Ref sig .tc := ⟨.hbm, 254, rfl⟩
abbrev main_v241 : Ref sig .tc := ⟨.hbm, 255, rfl⟩
abbrev main_v242 : Ref sig .tc := ⟨.hbm, 256, rfl⟩
abbrev main_v243 : Ref sig .tc := ⟨.hbm, 257, rfl⟩
abbrev main_v244 : Ref sig .tc := ⟨.hbm, 258, rfl⟩
abbrev main_v245 : Ref sig .tc := ⟨.hbm, 259, rfl⟩
abbrev main_v246 : Ref sig .tc := ⟨.hbm, 260, rfl⟩
abbrev main_v247 : Ref sig .tc := ⟨.hbm, 261, rfl⟩
abbrev main_v248 : Ref sig .tc := ⟨.hbm, 262, rfl⟩
abbrev main_v249 : Ref sig .tc := ⟨.hbm, 263, rfl⟩
abbrev main_v250 : Ref sig .tc := ⟨.hbm, 264, rfl⟩
abbrev main_v251 : Ref sig .tc := ⟨.hbm, 265, rfl⟩
abbrev main_v252 : Ref sig .tc := ⟨.hbm, 266, rfl⟩
abbrev main_v253 : Ref sig .tc := ⟨.hbm, 267, rfl⟩
abbrev main_v254 : Ref sig .tc := ⟨.hbm, 268, rfl⟩
abbrev main_v255 : Ref sig .tc := ⟨.hbm, 269, rfl⟩
abbrev main_v256 : Ref sig .tc := ⟨.hbm, 270, rfl⟩
abbrev main_v257 : Ref sig .tc := ⟨.hbm, 271, rfl⟩
abbrev main_v258 : Ref sig .tc := ⟨.hbm, 272, rfl⟩
abbrev main_v259 : Ref sig .tc := ⟨.hbm, 273, rfl⟩
abbrev main_v260 : Ref sig .tc := ⟨.hbm, 274, rfl⟩
abbrev main_v261 : Ref sig .tc := ⟨.hbm, 275, rfl⟩
abbrev main_v262 : Ref sig .tc := ⟨.hbm, 276, rfl⟩
abbrev main_v263 : Ref sig .tc := ⟨.hbm, 277, rfl⟩
abbrev main_v264 : Ref sig .tc := ⟨.hbm, 278, rfl⟩
abbrev main_v265 : Ref sig .tc := ⟨.hbm, 279, rfl⟩
abbrev main_v266 : Ref sig .tc := ⟨.hbm, 280, rfl⟩
abbrev main_v267 : Ref sig .tc := ⟨.hbm, 281, rfl⟩
abbrev main_v268 : Ref sig .tc := ⟨.hbm, 282, rfl⟩
abbrev main_v269 : Ref sig .tc := ⟨.hbm, 283, rfl⟩
abbrev main_v270 : Ref sig .tc := ⟨.hbm, 284, rfl⟩
abbrev main_v271 : Ref sig .tc := ⟨.hbm, 285, rfl⟩
abbrev main_v272 : Ref sig .tc := ⟨.hbm, 286, rfl⟩
abbrev main_v273 : Ref sig .tc := ⟨.hbm, 287, rfl⟩
abbrev main_v274 : Ref sig .tc := ⟨.hbm, 288, rfl⟩
abbrev main_v275 : Ref sig .tc := ⟨.hbm, 289, rfl⟩
abbrev main_v276 : Ref sig .tc := ⟨.hbm, 290, rfl⟩
abbrev main_v277 : Ref sig .tc := ⟨.hbm, 291, rfl⟩
abbrev main_v278 : Ref sig .tc := ⟨.hbm, 292, rfl⟩
abbrev main_v279 : Ref sig .tc := ⟨.hbm, 293, rfl⟩
abbrev main_v280 : Ref sig .tc := ⟨.hbm, 294, rfl⟩
abbrev main_v281 : Ref sig .tc := ⟨.hbm, 295, rfl⟩
abbrev main_v282 : Ref sig .tc := ⟨.hbm, 296, rfl⟩
abbrev main_v283 : Ref sig .tc := ⟨.hbm, 297, rfl⟩
abbrev main_v284 : Ref sig .tc := ⟨.hbm, 298, rfl⟩
abbrev main_v285 : Ref sig .tc := ⟨.hbm, 299, rfl⟩
abbrev main_v286 : Ref sig .tc := ⟨.hbm, 300, rfl⟩
abbrev main_v287 : Ref sig .tc := ⟨.hbm, 301, rfl⟩
abbrev main_v288 : Ref sig .tc := ⟨.hbm, 302, rfl⟩
abbrev main_v289 : Ref sig .tc := ⟨.hbm, 303, rfl⟩
abbrev main_v290 : Ref sig .tc := ⟨.hbm, 304, rfl⟩
abbrev main_v291 : Ref sig .tc := ⟨.hbm, 305, rfl⟩
abbrev main_v292 : Ref sig .tc := ⟨.hbm, 306, rfl⟩
abbrev main_v293 : Ref sig .tc := ⟨.hbm, 307, rfl⟩
abbrev main_v294 : Ref sig .tc := ⟨.hbm, 308, rfl⟩
abbrev main_v295 : Ref sig .tc := ⟨.hbm, 309, rfl⟩
abbrev main_v296 : Ref sig .tc := ⟨.hbm, 310, rfl⟩
abbrev main_v297 : Ref sig .tc := ⟨.hbm, 311, rfl⟩
abbrev main_v298 : Ref sig .tc := ⟨.hbm, 312, rfl⟩
abbrev main_v299 : Ref sig .tc := ⟨.hbm, 313, rfl⟩
abbrev main_v300 : Ref sig .tc := ⟨.hbm, 314, rfl⟩
abbrev main_v301 : Ref sig .tc := ⟨.hbm, 315, rfl⟩
abbrev main_v302 : Ref sig .tc := ⟨.hbm, 316, rfl⟩
abbrev main_v303 : Ref sig .tc := ⟨.hbm, 317, rfl⟩
abbrev main_v304 : Ref sig .tc := ⟨.hbm, 318, rfl⟩
abbrev main_v305 : Ref sig .tc := ⟨.hbm, 319, rfl⟩
abbrev main_v306 : Ref sig .tc := ⟨.hbm, 320, rfl⟩
abbrev main_v307 : Ref sig .tc := ⟨.hbm, 321, rfl⟩
abbrev main_v308 : Ref sig .tc := ⟨.hbm, 322, rfl⟩
abbrev main_v309 : Ref sig .tc := ⟨.hbm, 323, rfl⟩
abbrev main_v310 : Ref sig .tc := ⟨.hbm, 324, rfl⟩
abbrev main_v311 : Ref sig .tc := ⟨.hbm, 325, rfl⟩
abbrev main_v312 : Ref sig .tc := ⟨.hbm, 326, rfl⟩
abbrev main_v313 : Ref sig .tc := ⟨.hbm, 327, rfl⟩
abbrev main_v314 : Ref sig .tc := ⟨.hbm, 328, rfl⟩
abbrev main_v315 : Ref sig .tc := ⟨.hbm, 329, rfl⟩
abbrev main_v316 : Ref sig .tc := ⟨.hbm, 330, rfl⟩
abbrev main_v317 : Ref sig .tc := ⟨.hbm, 331, rfl⟩
abbrev main_v318 : Ref sig .tc := ⟨.hbm, 332, rfl⟩
abbrev main_v319 : Ref sig .tc := ⟨.hbm, 333, rfl⟩
abbrev main_v320 : Ref sig .tc := ⟨.hbm, 334, rfl⟩
abbrev main_v321 : Ref sig .tc := ⟨.hbm, 335, rfl⟩
abbrev main_v322 : Ref sig .tc := ⟨.hbm, 336, rfl⟩
abbrev main_v323 : Ref sig .tc := ⟨.hbm, 337, rfl⟩
abbrev main_v324 : Ref sig .tc := ⟨.hbm, 338, rfl⟩
abbrev main_v325 : Ref sig .tc := ⟨.hbm, 339, rfl⟩
abbrev main_v326 : Ref sig .tc := ⟨.hbm, 340, rfl⟩
abbrev main_v327 : Ref sig .tc := ⟨.hbm, 341, rfl⟩
abbrev main_v328 : Ref sig .tc := ⟨.hbm, 342, rfl⟩
abbrev main_v329 : Ref sig .tc := ⟨.hbm, 343, rfl⟩
abbrev main_v330 : Ref sig .tc := ⟨.hbm, 344, rfl⟩
abbrev main_v331 : Ref sig .tc := ⟨.hbm, 345, rfl⟩
abbrev main_v332 : Ref sig .tc := ⟨.hbm, 346, rfl⟩
abbrev main_v333 : Ref sig .tc := ⟨.hbm, 347, rfl⟩
abbrev main_v334 : Ref sig .tc := ⟨.hbm, 348, rfl⟩
abbrev main_c : Ref sig .tc := ⟨.hbm, 349, rfl⟩
abbrev main_call0_v0 : Ref sig .tc := ⟨.hbm, 350, rfl⟩
abbrev main_v335 : Ref sig .tc := ⟨.hbm, 351, rfl⟩
abbrev main_v336 : Ref sig .tc := ⟨.hbm, 352, rfl⟩
abbrev main_v337 : Ref sig .tc := ⟨.hbm, 353, rfl⟩
abbrev main_c_12 : Ref sig .tc := ⟨.hbm, 354, rfl⟩
abbrev main_call1_v0 : Ref sig .tc := ⟨.hbm, 355, rfl⟩
abbrev main_v338 : Ref sig .tc := ⟨.hbm, 356, rfl⟩
abbrev main_v339 : Ref sig .tc := ⟨.hbm, 357, rfl⟩
abbrev main_v340 : Ref sig .tc := ⟨.hbm, 358, rfl⟩
abbrev main_c_13 : Ref sig .tc := ⟨.hbm, 359, rfl⟩
abbrev main_call2_v0 : Ref sig .tc := ⟨.hbm, 360, rfl⟩
abbrev main_v341 : Ref sig .tc := ⟨.hbm, 361, rfl⟩
abbrev main_v342 : Ref sig .tc := ⟨.hbm, 362, rfl⟩
abbrev main_v343 : Ref sig .tc := ⟨.hbm, 363, rfl⟩
abbrev main_c_14 : Ref sig .tc := ⟨.hbm, 364, rfl⟩
abbrev main_call3_v0 : Ref sig .tc := ⟨.hbm, 365, rfl⟩
abbrev main_v344 : Ref sig .tc := ⟨.hbm, 366, rfl⟩
abbrev main_v345 : Ref sig .tc := ⟨.hbm, 367, rfl⟩
abbrev main_v346 : Ref sig .tc := ⟨.hbm, 368, rfl⟩
abbrev main_v347 : Ref sig .tc := ⟨.hbm, 369, rfl⟩
abbrev main_v348 : Ref sig .tc := ⟨.hbm, 370, rfl⟩
abbrev main_v349 : Ref sig .tc := ⟨.hbm, 371, rfl⟩

abbrev nD : Nat := 1
abbrev τ : Topo := Topo.v7x

variable {F : FTy → Type} [FloatOps F]
-- ==== Kernel4.lean ====
abbrev S1x2048x1024 : Shape := ⟨3, ![1, 2048, 1024]⟩
abbrev S1x1024 : Shape := ⟨2, ![1, 1024]⟩
abbrev S1x1024x3712 : Shape := ⟨3, ![1, 1024, 3712]⟩
abbrev S1x2176 : Shape := ⟨2, ![1, 2176]⟩
abbrev S1x64x512 : Shape := ⟨3, ![1, 64, 512]⟩
abbrev S1x512 : Shape := ⟨2, ![1, 512]⟩
abbrev S64x512 : Shape := ⟨2, ![64, 512]⟩
abbrev S512x64 : Shape := ⟨2, ![512, 64]⟩
abbrev S_ : Shape := ⟨0, ![]⟩
abbrev S512x128 : Shape := ⟨2, ![512, 128]⟩
abbrev S1024x3712 : Shape := ⟨2, ![1024, 3712]⟩
abbrev S3712x1024 : Shape := ⟨2, ![3712, 1024]⟩
abbrev S2x2 : Shape := ⟨2, ![2, 2]⟩
abbrev S1x2x1x2x1 : Shape := ⟨5, ![1, 2, 1, 2, 1]⟩
abbrev S2x2x64x2x64 : Shape := ⟨5, ![2, 2, 64, 2, 64]⟩
abbrev S256x128 : Shape := ⟨2, ![256, 128]⟩
abbrev S2048x1536 : Shape := ⟨2, ![2048, 1536]⟩
abbrev S2048x2176 : Shape := ⟨2, ![2048, 2176]⟩
abbrev S2048x512 : Shape := ⟨2, ![2048, 512]⟩
abbrev S1x256x1024 : Shape := ⟨3, ![1, 256, 1024]⟩
abbrev S256x1536 : Shape := ⟨2, ![256, 1536]⟩
abbrev S256x2176 : Shape := ⟨2, ![256, 2176]⟩
abbrev S256x512 : Shape := ⟨2, ![256, 512]⟩
abbrev S8x2176 : Shape := ⟨2, ![8, 2176]⟩
abbrev S256x1024 : Shape := ⟨2, ![256, 1024]⟩
abbrev S256 : Shape := ⟨1, ![256]⟩
abbrev S256x1 : Shape := ⟨2, ![256, 1]⟩
abbrev S1536x1024 : Shape := ⟨2, ![1536, 1024]⟩
abbrev S2176x1024 : Shape := ⟨2, ![2176, 1024]⟩
abbrev S1024x128 : Shape := ⟨2, ![1024, 128]⟩
abbrev S1024x256 : Shape := ⟨2, ![1024, 256]⟩

abbrev nBuf : Space → Nat
  | .hbm => 42
  | .vmem => 31
  | .smem => 0
  | _ => 0

abbrev bufTy : (tb : Table) → Fin (tcTables nBuf tb) → BufTy
  | .hbm, ⟨0, _⟩ => ⟨S1x2048x1024, .f32⟩
  | .hbm, ⟨1, _⟩ => ⟨S1x1024, .f32⟩
  | .hbm, ⟨2, _⟩ => ⟨S1x1024x3712, .f32⟩
  | .hbm, ⟨3, _⟩ => ⟨S1x2176, .f32⟩
  | .hbm, ⟨4, _⟩ => ⟨S1x64x512, .f32⟩
  | .hbm, ⟨5, _⟩ => ⟨S1x512, .f32⟩
  | .hbm, ⟨6, _⟩ => ⟨S1x64x512, .f32⟩
  | .hbm, ⟨7, _⟩ => ⟨S1x512, .f32⟩
  | .hbm, ⟨8, _⟩ => ⟨S1x512, .f32⟩
  | .hbm, ⟨9, _⟩ => ⟨S1x512, .f32⟩
  | .hbm, ⟨10, _⟩ => ⟨S64x512, .f32⟩
  | .hbm, ⟨11, _⟩ => ⟨S512x64, .f32⟩
  | .hbm, ⟨12, _⟩ => ⟨S_, .f32⟩
  | .hbm, ⟨13, _⟩ => ⟨S512x64, .f32⟩
  | .hbm, ⟨14, _⟩ => ⟨S512x128, .f32⟩
  | .hbm, ⟨15, _⟩ => ⟨S64x512, .f32⟩
  | .hbm, ⟨16, _⟩ => ⟨S512x64, .f32⟩
  | .hbm, ⟨17, _⟩ => ⟨S_, .f32⟩
  | .hbm, ⟨18, _⟩ => ⟨S512x64, .f32⟩
  | .hbm, ⟨19, _⟩ => ⟨S512x128, .f32⟩
  | .hbm, ⟨20, _⟩ => ⟨S1024x3712, .f32⟩
  | .hbm, ⟨21, _⟩ => ⟨S3712x1024, .f32⟩
  | .hbm, ⟨22, _⟩ => ⟨S3712x1024, .bf16⟩
  | .hbm, ⟨23, _⟩ => ⟨S2x2, .i32⟩
  | .hbm, ⟨24, _⟩ => ⟨S2x2, .i32⟩
  | .hbm, ⟨25, _⟩ => ⟨S_, .i32⟩
  | .hbm, ⟨26, _⟩ => ⟨S2x2, .i32⟩
  | .hbm, ⟨27, _⟩ => ⟨S2x2, .i32⟩
  | .hbm, ⟨28, _⟩ => ⟨S2x2, .i1⟩
  | .hbm, ⟨29, _⟩ => ⟨S2x2, .f32⟩
  | .hbm, ⟨30, _⟩ => ⟨S1x2x1x2x1, .f32⟩
  | .hbm, ⟨31, _⟩ => ⟨S2x2x64x2x64, .f32⟩
  | .hbm, ⟨32, _⟩ => ⟨S256x128, .f32⟩
  | .hbm, ⟨33, _⟩ => ⟨S2048x1536, .f32⟩
  | .hbm, ⟨34, _⟩ => ⟨S2048x2176, .f32⟩
  | .hbm, ⟨35, _⟩ => ⟨S2048x512, .f32⟩
  | .hbm, ⟨36, _⟩ => ⟨S2048x512, .f32⟩
  | .hbm, ⟨37, _⟩ => ⟨S2048x512, .f32⟩
  | .hbm, ⟨38, _⟩ => ⟨S2048x512, .f32⟩
  | .hbm, ⟨39, _⟩ => ⟨S2048x512, .f32⟩
  | .hbm, ⟨40, _⟩ => ⟨S2048x512, .f32⟩
  | .hbm, ⟨41, _⟩ => ⟨S2048x512, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S3712x1024, .bf16⟩
  | .local _ .vmem, ⟨4, _⟩ => ⟨S1x2176, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S512x128, .f32⟩
  | .local _ .vmem, ⟨10, _⟩ => ⟨S512x128, .f32⟩
  | .local _ .vmem, ⟨11, _⟩ => ⟨S256x128, .f32⟩
  | .local _ .vmem, ⟨12, _⟩ => ⟨S256x1536, .f32⟩
  | .local _ .vmem, ⟨13, _⟩ => ⟨S256x1536, .f32⟩
  | .local _ .vmem, ⟨14, _⟩ => ⟨S256x2176, .f32⟩
  | .local _ .vmem, ⟨15, _⟩ => ⟨S256x2176, .f32⟩
  | .local _ .vmem, ⟨16, _⟩ => ⟨S256x512, .f32⟩
  | .local _ .vmem, ⟨17, _⟩ => ⟨S256x512, .f32⟩
  | .local _ .vmem, ⟨18, _⟩ => ⟨S256x512, .f32⟩
  | .local _ .vmem, ⟨19, _⟩ => ⟨S256x512, .f32⟩
  | .local _ .vmem, ⟨20, _⟩ => ⟨S256x512, .f32⟩
  | .local _ .vmem, ⟨21, _⟩ => ⟨S256x512, .f32⟩
  | .local _ .vmem, ⟨22, _⟩ => ⟨S256x512, .f32⟩
  | .local _ .vmem, ⟨23, _⟩ => ⟨S256x512, .f32⟩
  | .local _ .vmem, ⟨24, _⟩ => ⟨S256x512, .f32⟩
  | .local _ .vmem, ⟨25, _⟩ => ⟨S256x512, .f32⟩
  | .local _ .vmem, ⟨26, _⟩ => ⟨S256x512, .f32⟩
  | .local _ .vmem, ⟨27, _⟩ => ⟨S256x512, .f32⟩
  | .local _ .vmem, ⟨28, _⟩ => ⟨S256x512, .f32⟩
  | .local _ .vmem, ⟨29, _⟩ => ⟨S256x512, .f32⟩
  | .local _ .vmem, ⟨30, _⟩ => ⟨S8x2176, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20_0 : Ref sig .tc := ⟨.hbm, 33, rfl⟩
abbrev main_v20_1 : Ref sig .tc := ⟨.hbm, 34, rfl⟩
abbrev main_v20_2 : Ref sig .tc := ⟨.hbm, 35, rfl⟩
abbrev main_v20_3 : Ref sig .tc := ⟨.hbm, 36, rfl⟩
abbrev main_v20_4 : Ref sig .tc := ⟨.hbm, 37, rfl⟩
abbrev main_v20_5 : Ref sig .tc := ⟨.hbm, 38, rfl⟩
abbrev main_v20_6 : Ref sig .tc := ⟨.hbm, 39, rfl⟩
abbrev main_v20_7 : Ref sig .tc := ⟨.hbm, 40, rfl⟩
abbrev main_v20_8 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_stg19_1 : Ref sig .tc := ⟨.vmem, 29, rfl⟩
abbrev cc0_scratch0 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27
abbrev cc0_sem19_0 : DmaSem sig := 28
abbrev cc0_sem19_1 : DmaSem sig := 29

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3712x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2176 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1536 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2176 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== Reference4Ideal.lean ====
abbrev S1x2048x1024 : Shape := ⟨3, ![1, 2048, 1024]⟩
abbrev S1x1024 : Shape := ⟨2, ![1, 1024]⟩
abbrev S1x1024x3712 : Shape := ⟨3, ![1, 1024, 3712]⟩
abbrev S1x2176 : Shape := ⟨2, ![1, 2176]⟩
abbrev S1x64x512 : Shape := ⟨3, ![1, 64, 512]⟩
abbrev S1x512 : Shape := ⟨2, ![1, 512]⟩
abbrev S1024 : Shape := ⟨1, ![1024]⟩
abbrev S_ : Shape := ⟨0, ![]⟩
abbrev S1x2048 : Shape := ⟨2, ![1, 2048]⟩
abbrev S1x2048x1 : Shape := ⟨3, ![1, 2048, 1]⟩
abbrev S1x1x1024 : Shape := ⟨3, ![1, 1, 1024]⟩
abbrev S1024x3712 : Shape := ⟨2, ![1024, 3712]⟩
abbrev S1x2048x3712 : Shape := ⟨3, ![1, 2048, 3712]⟩
abbrev S1x2048x2176 : Shape := ⟨3, ![1, 2048, 2176]⟩
abbrev S1x2049x2176 : Shape := ⟨3, ![1, 2049, 2176]⟩
abbrev S2176 : Shape := ⟨1, ![2176]⟩
abbrev S1x1x2176 : Shape := ⟨3, ![1, 1, 2176]⟩
abbrev S1x2048x512 : Shape := ⟨3, ![1, 2048, 512]⟩
abbrev S1x2048x64 : Shape := ⟨3, ![1, 2048, 64]⟩
abbrev S512 : Shape := ⟨1, ![512]⟩
abbrev S64x512 : Shape := ⟨2, ![64, 512]⟩
abbrev S1x1x512 : Shape := ⟨3, ![1, 1, 512]⟩
abbrev S1x2048x8x64 : Shape := ⟨4, ![1, 2048, 8, 64]⟩
abbrev S1x2048x8 : Shape := ⟨3, ![1, 2048, 8]⟩
abbrev S1x2048x8x1 : Shape := ⟨4, ![1, 2048, 8, 1]⟩
abbrev S1x2048x1536 : Shape := ⟨3, ![1, 2048, 1536]⟩
abbrev S2048x1536 : Shape := ⟨2, ![2048, 1536]⟩
abbrev S2048x2176 : Shape := ⟨2, ![2048, 2176]⟩
abbrev S2048x512 : Shape := ⟨2, ![2048, 512]⟩

abbrev nBuf : Space → Nat
  | .hbm => 125
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x1024, .f32⟩
  | .hbm, ⟨2, _⟩ => ⟨S1x1024x3712, .f32⟩
  | .hbm, ⟨3, _⟩ => ⟨S1x2176, .f32⟩
  | .hbm, ⟨4, _⟩ => ⟨S1x64x512, .f32⟩
  | .hbm, ⟨5, _⟩ => ⟨S1x512, .f32⟩
  | .hbm, ⟨6, _⟩ => ⟨S1x64x512, .f32⟩
  | .hbm, ⟨7, _⟩ => ⟨S1x512, .f32⟩
  | .hbm, ⟨8, _⟩ => ⟨S1x512, .f32⟩
  | .hbm, ⟨9, _⟩ => ⟨S1x512, .f32⟩
  | .hbm, ⟨10, _⟩ => ⟨S1024, .f32⟩
  | .hbm, ⟨11, _⟩ => ⟨S1x2048x1024, .f32⟩
  | .hbm, ⟨12, _⟩ => ⟨S_, .f32⟩
  | .hbm, ⟨13, _⟩ => ⟨S1x2048, .f32⟩
  | .hbm, ⟨14, _⟩ => ⟨S1x2048x1, .f32⟩
  | .hbm, ⟨15, _⟩ => ⟨S_, .f32⟩
  | .hbm, ⟨16, _⟩ => ⟨S1x2048x1, .f32⟩
  | .hbm, ⟨17, _⟩ => ⟨S1x2048x1, .f32⟩
  | .hbm, ⟨18, _⟩ => ⟨S_, .f32⟩
  | .hbm, ⟨19, _⟩ => ⟨S1x2048x1, .f32⟩
  | .hbm, ⟨20, _⟩ => ⟨S1x2048x1, .f32⟩
  | .hbm, ⟨21, _⟩ => ⟨S1x2048x1, .f32⟩
  | .hbm, ⟨22, _⟩ => ⟨S1x2048x1024, .f32⟩
  | .hbm, ⟨23, _⟩ => ⟨S1x2048x1024, .f32⟩
  | .hbm, ⟨24, _⟩ => ⟨S1x1x1024, .f32⟩
  | .hbm, ⟨25, _⟩ => ⟨S1x2048x1024, .f32⟩
  | .hbm, ⟨26, _⟩ => ⟨S1x2048x1024, .f32⟩
  | .hbm, ⟨27, _⟩ => ⟨S1024x3712, .f32⟩
  | .hbm, ⟨28, _⟩ => ⟨S1x2048x3712, .f32⟩
  | .hbm, ⟨29, _⟩ => ⟨S1x2048x2176, .f32⟩
  | .hbm, ⟨30, _⟩ => ⟨S_, .i32⟩
  | .hbm, ⟨31, _⟩ => ⟨S_, .f32⟩
  | .hbm, ⟨32, _⟩ => ⟨S1x2049x2176, .f32⟩
  | .hbm, ⟨33, _⟩ => ⟨S1x2048x2176, .f32⟩
  | .hbm, ⟨34, _⟩ => ⟨S2176, .f32⟩
  | .hbm, ⟨35, _⟩ => ⟨S1x2048x2176, .f32⟩
  | .hbm, ⟨36, _⟩ => ⟨S1x1x2176, .f32⟩
  | .hbm, ⟨37, _⟩ => ⟨S1x2048x2176, .f32⟩
  | .hbm, ⟨38, _⟩ => ⟨S1x2048x2176, .f32⟩
  | .hbm, ⟨39, _⟩ => ⟨S1x2048x2176, .f32⟩
  | .hbm, ⟨40, _⟩ => ⟨S1x2048x512, .f32⟩
  | .hbm, ⟨41, _⟩ => ⟨S1x2048x512, .f32⟩
  | .hbm, ⟨42, _⟩ => ⟨S1x2048x512, .f32⟩
  | .hbm, ⟨43, _⟩ => ⟨S1x2048x512, .f32⟩
  | .hbm, ⟨44, _⟩ => ⟨S1x2048x64, .f32⟩
  | .hbm, ⟨45, _⟩ => ⟨S1x2048x64, .f32⟩
  | .hbm, ⟨46, _⟩ => ⟨S512, .f32⟩
  | .hbm, ⟨47, _⟩ => ⟨S1x2048x64, .f32⟩
  | .hbm, ⟨48, _⟩ => ⟨S64x512, .f32⟩
  | .hbm, ⟨49, _⟩ => ⟨S1x2048x512, .f32⟩
  | .hbm, ⟨50, _⟩ => ⟨S1x1x512, .f32⟩
  | .hbm, ⟨51, _⟩ => ⟨S1x2048x512, .f32⟩
  | .hbm, ⟨52, _⟩ => ⟨S1x2048x512, .f32⟩
  | .hbm, ⟨53, _⟩ => ⟨S1x2048x512, .f32⟩
  | .hbm, ⟨54, _⟩ => ⟨S_, .f32⟩
  | .hbm, ⟨55, _⟩ => ⟨S1x2048x512, .f32⟩
  | .hbm, ⟨56, _⟩ => ⟨S1x2048x512, .f32⟩
  | .hbm, ⟨57, _⟩ => ⟨S1x2048x512, .f32⟩
  | .hbm, ⟨58, _⟩ => ⟨S1x2048x512, .f32⟩
  | .hbm, ⟨59, _⟩ => ⟨S1x2048x512, .i1⟩
  | .hbm, ⟨60, _⟩ => ⟨S1x2048x512, .f32⟩
  | .hbm, ⟨61, _⟩ => ⟨S1x2048x512, .f32⟩
  | .hbm, ⟨62, _⟩ => ⟨S1x2048x512, .f32⟩
  | .hbm, ⟨63, _⟩ => ⟨S1x2048x512, .f32⟩
  | .hbm, ⟨64, _⟩ => ⟨S1x2048x512, .f32⟩
  | .hbm, ⟨65, _⟩ => ⟨S1x2048x512, .f32⟩
  | .hbm, ⟨66, _⟩ => ⟨S1x2048x512, .f32⟩
  | .hbm, ⟨67, _⟩ => ⟨S1x2048x512, .f32⟩
  | .hbm, ⟨68, _⟩ => ⟨S1x2048x512, .f32⟩
  | .hbm, ⟨69, _⟩ => ⟨S_, .f32⟩
  | .hbm, ⟨70, _⟩ => ⟨S1x2048x512, .f32⟩
  | .hbm, ⟨71, _⟩ => ⟨S1x2048x512, .f32⟩
  | .hbm, ⟨72, _⟩ => ⟨S1x2048x512, .f32⟩
  | .hbm, ⟨73, _⟩ => ⟨S1x2048x512, .f32⟩
  | .hbm, ⟨74, _⟩ => ⟨S1x2048x512, .f32⟩
  | .hbm, ⟨75, _⟩ => ⟨S512, .f32⟩
  | .hbm, ⟨76, _⟩ => ⟨S64x512, .f32⟩
  | .hbm, ⟨77, _⟩ => ⟨S1x2048x512, .f32⟩
  | .hbm, ⟨78, _⟩ => ⟨S1x1x512, .f32⟩
  | .hbm, ⟨79, _⟩ => ⟨S1x2048x512, .f32⟩
  | .hbm, ⟨80, _⟩ => ⟨S1x2048x512, .f32⟩
  | .hbm, ⟨81, _⟩ => ⟨S1x2048x512, .f32⟩
  | .hbm, ⟨82, _⟩ => ⟨S1x2048x512, .f32⟩
  | .hbm, ⟨83, _⟩ => ⟨S_, .f32⟩
  | .hbm, ⟨84, _⟩ => ⟨S1x2048x512, .f32⟩
  | .hbm, ⟨85, _⟩ => ⟨S1x2048x512, .f32⟩
  | .hbm, ⟨86, _⟩ => ⟨S_, .f32⟩
  | .hbm, ⟨87, _⟩ => ⟨S1x2048x512, .f32⟩
  | .hbm, ⟨88, _⟩ => ⟨S1x2048x512, .f32⟩
  | .hbm, ⟨89, _⟩ => ⟨S512, .f32⟩
  | .hbm, ⟨90, _⟩ => ⟨S1x1x512, .f32⟩
  | .hbm, ⟨91, _⟩ => ⟨S1x2048x512, .f32⟩
  | .hbm, ⟨92, _⟩ => ⟨S1x2048x512, .f32⟩
  | .hbm, ⟨93, _⟩ => ⟨S1x2048x8x64, .f32⟩
  | .hbm, ⟨94, _⟩ => ⟨S1x2048x8x64, .f32⟩
  | .hbm, ⟨95, _⟩ => ⟨S_, .f32⟩
  | .hbm, ⟨96, _⟩ => ⟨S1x2048x8, .f32⟩
  | .hbm, ⟨97, _⟩ => ⟨S1x2048x8x1, .f32⟩
  | .hbm, ⟨98, _⟩ => ⟨S1x2048x8x1, .f32⟩
  | .hbm, ⟨99, _⟩ => ⟨S_, .f32⟩
  | .hbm, ⟨100, _⟩ => ⟨S1x2048x8x1, .f32⟩
  | .hbm, ⟨101, _⟩ => ⟨S1x2048x8x1, .f32⟩
  | .hbm, ⟨102, _⟩ => ⟨S1x2048x8x64, .f32⟩
  | .hbm, ⟨103, _⟩ => ⟨S1x2048x8x64, .f32⟩
  | .hbm, ⟨104, _⟩ => ⟨S_, .f32⟩
  | .hbm, ⟨105, _⟩ => ⟨S1x2048x512, .f32⟩
  | .hbm, ⟨106, _⟩ => ⟨S1x2048x512, .f32⟩
  | .hbm, ⟨107, _⟩ => ⟨S512, .f32⟩
  | .hbm, ⟨108, _⟩ => ⟨S1x1x512, .f32⟩
  | .hbm, ⟨109, _⟩ => ⟨S1x2048x512, .f32⟩
  | .hbm, ⟨110, _⟩ => ⟨S1x2048x512, .f32⟩
  | .hbm, ⟨111, _⟩ => ⟨S_, .f32⟩
  | .hbm, ⟨112, _⟩ => ⟨S1x2048x512, .f32⟩
  | .hbm, ⟨113, _⟩ => ⟨S1x2048x512, .f32⟩
  | .hbm, ⟨114, _⟩ => ⟨S1x2048x512, .f32⟩
  | .hbm, ⟨115, _⟩ => ⟨S1x2048x1536, .f32⟩
  | .hbm, ⟨116, _⟩ => ⟨S2048x1536, .f32⟩
  | .hbm, ⟨117, _⟩ => ⟨S2048x2176, .f32⟩
  | .hbm, ⟨118, _⟩ => ⟨S2048x512, .f32⟩
  | .hbm, ⟨119, _⟩ => ⟨S2048x512, .f32⟩
  | .hbm, ⟨120, _⟩ => ⟨S2048x512, .f32⟩
  | .hbm, ⟨121, _⟩ => ⟨S2048x512, .f32⟩
  | .hbm, ⟨122, _⟩ => ⟨S2048x512, .f32⟩
  | .hbm, ⟨123, _⟩ => ⟨S2048x512, .f32⟩
  | .hbm, ⟨124, _⟩ => ⟨S2048x512, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c : Ref sig .tc := ⟨.hbm, 30, rfl⟩
abbrev main_call0_v0 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_call1_cst : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_call1_v3 : Ref sig .tc := ⟨.hbm, 58, rfl⟩
abbrev main_call1_v4 : Ref sig .tc := ⟨.hbm, 59, rfl⟩
abbrev main_call1_v5 : Ref sig .tc := ⟨.hbm, 60, rfl⟩
abbrev main_call1_v6 : Ref sig .tc := ⟨.hbm, 61, rfl⟩
abbrev main_call1_v7 : Ref sig .tc := ⟨.hbm, 62, rfl⟩
abbrev main_call1_v8 : Ref sig .tc := ⟨.hbm, 63, rfl⟩
abbrev main_call1_v9 : Ref sig .tc := ⟨.hbm, 64, rfl⟩
abbrev main_call1_v10 : Ref sig .tc := ⟨.hbm, 65, rfl⟩
abbrev main_call1_v11 : Ref sig .tc := ⟨.hbm, 66, rfl⟩
abbrev main_v39 : Ref sig .tc := ⟨.hbm, 67, rfl⟩
abbrev main_v40 : Ref sig .tc := ⟨.hbm, 68, rfl⟩
abbrev main_cst_2 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_3 : Ref sig .tc := ⟨.hbm, 83, rfl⟩
abbrev main_v54 : Ref sig .tc := ⟨.hbm, 84, rfl⟩
abbrev main_v55 : Ref sig .tc := ⟨.hbm, 85, rfl⟩
abbrev main_cst_4 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_cst_5 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_cst_6 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_cst_7 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_cst_8 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩

abbrev nD : Nat := 1
abbrev τ : Topo := Topo.v7x

variable {F : FTy → Type} [FloatOps F]
-- ==== Kernel5.lean ====
abbrev S4x464x1024 : Shape := ⟨3, ![4, 464, 1024]⟩
abbrev S1x1024x464 : Shape := ⟨3, ![1, 1024, 464]⟩
abbrev S1024x464 : Shape := ⟨2, ![1024, 464]⟩
abbrev S464x1024 : Shape := ⟨2, ![464, 1024]⟩
abbrev S4x232x1024 : Shape := ⟨3, ![4, 232, 1024]⟩
abbrev S232x1024 : Shape := ⟨2, ![232, 1024]⟩
abbrev S1x232x1024 : Shape := ⟨3, ![1, 232, 1024]⟩

abbrev nBuf : Space → Nat
  | .hbm => 14
  | .vmem => 16
  | .smem => 0
  | _ => 0

abbrev bufTy : (tb : Table) → Fin (tcTables nBuf tb) → BufTy
  | .hbm, ⟨0, _⟩ => ⟨S4x464x1024, .bf16⟩
  | .hbm, ⟨1, _⟩ => ⟨S1x1024x464, .f32⟩
  | .hbm, ⟨2, _⟩ => ⟨S1x1024x464, .f32⟩
  | .hbm, ⟨3, _⟩ => ⟨S1x1024x464, .f32⟩
  | .hbm, ⟨4, _⟩ => ⟨S1024x464, .f32⟩
  | .hbm, ⟨5, _⟩ => ⟨S464x1024, .f32⟩
  | .hbm, ⟨6, _⟩ => ⟨S1024x464, .f32⟩
  | .hbm, ⟨7, _⟩ => ⟨S464x1024, .f32⟩
  | .hbm, ⟨8, _⟩ => ⟨S1024x464, .f32⟩
  | .hbm, ⟨9, _⟩ => ⟨S464x1024, .f32⟩
  | .hbm, ⟨10, _⟩ => ⟨S464x1024, .f32⟩
  | .hbm, ⟨11, _⟩ => ⟨S464x1024, .f32⟩
  | .hbm, ⟨12, _⟩ => ⟨S464x1024, .f32⟩
  | .hbm, ⟨13, _⟩ => ⟨S464x1024, .f32⟩
  | .local _ .vmem, ⟨0, _⟩ => ⟨S4x232x1024, .bf16⟩
  | .local _ .vmem, ⟨1, _⟩ => ⟨S4x232x1024, .bf16⟩
  | .local _ .vmem, ⟨2, _⟩ => ⟨S232x1024, .f32⟩
  | .local _ .vmem, ⟨3, _⟩ => ⟨S232x1024, .f32⟩
  | .local _ .vmem, ⟨4, _⟩ => ⟨S232x1024, .f32⟩
  | .local _ .vmem, ⟨5, _⟩ => ⟨S232x1024, .f32⟩
  | .local _ .vmem, ⟨6, _⟩ => ⟨S232x1024, .f32⟩
  | .local _ .vmem, ⟨7, _⟩ => ⟨S232x1024, .f32⟩
  | .local _ .vmem, ⟨8, _⟩ => ⟨S232x1024, .f32⟩
  | .local _ .vmem, ⟨9, _⟩ => ⟨S232x1024, .f32⟩
  | .local _ .vmem, ⟨10, _⟩ => ⟨S232x1024, .f32⟩
  | .local _ .vmem, ⟨11, _⟩ => ⟨S232x1024, .f32⟩
  | .local _ .vmem, ⟨12, _⟩ => ⟨S232x1024, .f32⟩
  | .local _ .vmem, ⟨13, _⟩ => ⟨S232x1024, .f32⟩
  | .local _ .vmem, ⟨14, _⟩ => ⟨S232x1024, .f32⟩
  | .local _ .vmem, ⟨15, _⟩ => ⟨S232x1024, .f32⟩
  | _, _ => ⟨S4x464x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev main_v6_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x232x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S232x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S232x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S232x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S232x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S232x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S232x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S232x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference5Ideal.lean ====
abbrev S4x464x1024 : Shape := ⟨3, ![4, 464, 1024]⟩
abbrev S1x1024x464 : Shape := ⟨3, ![1, 1024, 464]⟩
abbrev S_ : Shape := ⟨0, ![]⟩
abbrev S464x1024 : Shape := ⟨2, ![464, 1024]⟩
abbrev S1024x464 : Shape := ⟨2, ![1024, 464]⟩

abbrev nBuf : Space → Nat
  | .hbm => 50
  | .vmem => 0
  | .smem => 0
  | _ => 0

abbrev bufTy : (tb : Table) → Fin (tcTables nBuf tb) → BufTy
  | .hbm, ⟨0, _⟩ => ⟨S4x464x1024, .bf16⟩
  | .hbm, ⟨1, _⟩ => ⟨S1x1024x464, .f32⟩
  | .hbm, ⟨2, _⟩ => ⟨S1x1024x464, .f32⟩
  | .hbm, ⟨3, _⟩ => ⟨S1x1024x464, .f32⟩
  | .hbm, ⟨4, _⟩ => ⟨S4x464x1024, .f32⟩
  | .hbm, ⟨5, _⟩ => ⟨S_, .f32⟩
  | .hbm, ⟨6, _⟩ => ⟨S464x1024, .f32⟩
  | .hbm, ⟨7, _⟩ => ⟨S1024x464, .f32⟩
  | .hbm, ⟨8, _⟩ => ⟨S1x1024x464, .f32⟩
  | .hbm, ⟨9, _⟩ => ⟨S_, .f32⟩
  | .hbm, ⟨10, _⟩ => ⟨S1x1024x464, .f32⟩
  | .hbm, ⟨11, _⟩ => ⟨S1x1024x464, .f32⟩
  | .hbm, ⟨12, _⟩ => ⟨S_, .f32⟩
  | .hbm, ⟨13, _⟩ => ⟨S1x1024x464, .f32⟩
  | .hbm, ⟨14, _⟩ => ⟨S1x1024x464, .f32⟩
  | .hbm, ⟨15, _⟩ => ⟨S1x1024x464, .f32⟩
  | .hbm, ⟨16, _⟩ => ⟨S_, .f32⟩
  | .hbm, ⟨17, _⟩ => ⟨S1x1024x464, .f32⟩
  | .hbm, ⟨18, _⟩ => ⟨S1x1024x464, .f32⟩
  | .hbm, ⟨19, _⟩ => ⟨S1x1024x464, .f32⟩
  | .hbm, ⟨20, _⟩ => ⟨S_, .f32⟩
  | .hbm, ⟨21, _⟩ => ⟨S1x1024x464, .f32⟩
  | .hbm, ⟨22, _⟩ => ⟨S1x1024x464, .f32⟩
  | .hbm, ⟨23, _⟩ => ⟨S1x1024x464, .f32⟩
  | .hbm, ⟨24, _⟩ => ⟨S_, .f32⟩
  | .hbm, ⟨25, _⟩ => ⟨S1x1024x464, .f32⟩
  | .hbm, ⟨26, _⟩ => ⟨S1x1024x464, .f32⟩
  | .hbm, ⟨27, _⟩ => ⟨S_, .f32⟩
  | .hbm, ⟨28, _⟩ => ⟨S1x1024x464, .f32⟩
  | .hbm, ⟨29, _⟩ => ⟨S1x1024x464, .f32⟩
  | .hbm, ⟨30, _⟩ => ⟨S1x1024x464, .f32⟩
  | .hbm, ⟨31, _⟩ => ⟨S_, .f32⟩
  | .hbm, ⟨32, _⟩ => ⟨S1x1024x464, .f32⟩
  | .hbm, ⟨33, _⟩ => ⟨S1x1024x464, .f32⟩
  | .hbm, ⟨34, _⟩ => ⟨S1x1024x464, .f32⟩
  | .hbm, ⟨35, _⟩ => ⟨S_, .f32⟩
  | .hbm, ⟨36, _⟩ => ⟨S1x1024x464, .f32⟩
  | .hbm, ⟨37, _⟩ => ⟨S1x1024x464, .f32⟩
  | .hbm, ⟨38, _⟩ => ⟨S1x1024x464, .f32⟩
  | .hbm, ⟨39, _⟩ => ⟨S_, .f32⟩
  | .hbm, ⟨40, _⟩ => ⟨S1x1024x464, .f32⟩
  | .hbm, ⟨41, _⟩ => ⟨S1x1024x464, .f32⟩
  | .hbm, ⟨42, _⟩ => ⟨S1024x464, .f32⟩
  | .hbm, ⟨43, _⟩ => ⟨S464x1024, .f32⟩
  | .hbm, ⟨44, _⟩ => ⟨S1024x464, .f32⟩
  | .hbm, ⟨45, _⟩ => ⟨S464x1024, .f32⟩
  | .hbm, ⟨46, _⟩ => ⟨S1024x464, .f32⟩
  | .hbm, ⟨47, _⟩ => ⟨S464x1024, .f32⟩
  | .hbm, ⟨48, _⟩ => ⟨S1024x464, .f32⟩
  | .hbm, ⟨49, _⟩ => ⟨S464x1024, .f32⟩
  | _, _ => ⟨S4x464x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩

abbrev nD : Nat := 1
abbrev τ : Topo := Topo.v7x

variable {F : FTy → Type} [FloatOps F]
-- ==== Kernel6.lean ====
abbrev S4x464x1024 : Shape := ⟨3, ![4, 464, 1024]⟩
abbrev S4x232x1024 : Shape := ⟨3, ![4, 232, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4x464x1024, .bf16⟩
  | .hbm, ⟨1, _⟩ => ⟨S4x464x1024, .bf16⟩
  | .hbm, ⟨2, _⟩ => ⟨S4x464x1024, .bf16⟩
  | .local _ .vmem, ⟨0, _⟩ => ⟨S4x232x1024, .bf16⟩
  | .local _ .vmem, ⟨1, _⟩ => ⟨S4x232x1024, .bf16⟩
  | .local _ .vmem, ⟨2, _⟩ => ⟨S4x232x1024, .bf16⟩
  | .local _ .vmem, ⟨3, _⟩ => ⟨S4x232x1024, .bf16⟩
  | .local _ .vmem, ⟨4, _⟩ => ⟨S4x232x1024, .bf16⟩
  | .local _ .vmem, ⟨5, _⟩ => ⟨S4x232x1024, .bf16⟩
  | _, _ => ⟨S4x464x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x232x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x232x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x232x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference6Ideal.lean ====
abbrev S4x464x1024 : Shape := ⟨3, ![4, 464, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4x464x1024, .bf16⟩
  | .hbm, ⟨1, _⟩ => ⟨S4x464x1024, .bf16⟩
  | .hbm, ⟨2, _⟩ => ⟨S4x464x1024, .bf16⟩
  | _, _ => ⟨S4x464x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel7.lean ====
abbrev S1x2048x8x64 : Shape := ⟨4, ![1, 2048, 8, 64]⟩
abbrev S2048x512 : Shape := ⟨2, ![2048, 512]⟩
abbrev S2048x64x512 : Shape := ⟨3, ![2048, 64, 512]⟩
abbrev S64x512 : Shape := ⟨2, ![64, 512]⟩
abbrev S64x64x512 : Shape := ⟨3, ![64, 64, 512]⟩
abbrev S384x128 : Shape := ⟨2, ![384, 128]⟩
abbrev S64x128 : Shape := ⟨2, ![64, 128]⟩
abbrev S256x128 : Shape := ⟨2, ![256, 128]⟩
abbrev S256x384 : Shape := ⟨2, ![256, 384]⟩
abbrev S512x64 : Shape := ⟨2, ![512, 64]⟩
abbrev S1x512 : Shape := ⟨2, ![1, 512]⟩
abbrev S128x128 : Shape := ⟨2, ![128, 128]⟩
abbrev S64x1 : Shape := ⟨2, ![64, 1]⟩
abbrev S1x64x512 : Shape := ⟨3, ![1, 64, 512]⟩
abbrev S128x64 : Shape := ⟨2, ![128, 64]⟩
abbrev S64x64 : Shape := ⟨2, ![64, 64]⟩

abbrev nBuf : Space → Nat
  | .hbm => 15
  | .vmem => 21
  | .smem => 0
  | _ => 0

abbrev bufTy : (tb : Table) → Fin (tcTables nBuf tb) → BufTy
  | .hbm, ⟨0, _⟩ => ⟨S1x2048x8x64, .f32⟩
  | .hbm, ⟨1, _⟩ => ⟨S1x2048x8x64, .f32⟩
  | .hbm, ⟨2, _⟩ => ⟨S1x2048x8x64, .f32⟩
  | .hbm, ⟨3, _⟩ => ⟨S1x2048x8x64, .f32⟩
  | .hbm, ⟨4, _⟩ => ⟨S1x2048x8x64, .f32⟩
  | .hbm, ⟨5, _⟩ => ⟨S1x2048x8x64, .f32⟩
  | .hbm, ⟨6, _⟩ => ⟨S2048x512, .f32⟩
  | .hbm, ⟨7, _⟩ => ⟨S2048x512, .f32⟩
  | .hbm, ⟨8, _⟩ => ⟨S2048x512, .f32⟩
  | .hbm, ⟨9, _⟩ => ⟨S2048x512, .f32⟩
  | .hbm, ⟨10, _⟩ => ⟨S2048x512, .f32⟩
  | .hbm, ⟨11, _⟩ => ⟨S2048x512, .f32⟩
  | .hbm, ⟨12, _⟩ => ⟨S2048x512, .f32⟩
  | .hbm, ⟨13, _⟩ => ⟨S2048x64x512, .f32⟩
  | .hbm, ⟨14, _⟩ => ⟨S2048x512, .f32⟩
  | .local _ .vmem, ⟨0, _⟩ => ⟨S64x512, .f32⟩
  | .local _ .vmem, ⟨1, _⟩ => ⟨S64x512, .f32⟩
  | .local _ .vmem, ⟨2, _⟩ => ⟨S64x512, .f32⟩
  | .local _ .vmem, ⟨3, _⟩ => ⟨S64x512, .f32⟩
  | .local _ .vmem, ⟨4, _⟩ => ⟨S64x512, .f32⟩
  | .local _ .vmem, ⟨5, _⟩ => ⟨S64x512, .f32⟩
  | .local _ .vmem, ⟨6, _⟩ => ⟨S64x512, .f32⟩
  | .local _ .vmem, ⟨7, _⟩ => ⟨S64x512, .f32⟩
  | .local _ .vmem, ⟨8, _⟩ => ⟨S64x512, .f32⟩
  | .local _ .vmem, ⟨9, _⟩ => ⟨S64x512, .f32⟩
  | .local _ .vmem, ⟨10, _⟩ => ⟨S64x512, .f32⟩
  | .local _ .vmem, ⟨11, _⟩ => ⟨S64x512, .f32⟩
  | .local _ .vmem, ⟨12, _⟩ => ⟨S64x512, .f32⟩
  | .local _ .vmem, ⟨13, _⟩ => ⟨S64x512, .f32⟩
  | .local _ .vmem, ⟨14, _⟩ => ⟨S64x64x512, .f32⟩
  | .local _ .vmem, ⟨15, _⟩ => ⟨S64x64x512, .f32⟩
  | .local _ .vmem, ⟨16, _⟩ => ⟨S64x512, .f32⟩
  | .local _ .vmem, ⟨17, _⟩ => ⟨S64x512, .f32⟩
  | .local _ .vmem, ⟨18, _⟩ => ⟨S64x512, .f32⟩
  | .local _ .vmem, ⟨19, _⟩ => ⟨S64x512, .f32⟩
  | .local _ .vmem, ⟨20, _⟩ => ⟨S64x512, .f32⟩
  | _, _ => ⟨S1x2048x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x64x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference7Ideal.lean ====
abbrev S1x2048x8x64 : Shape := ⟨4, ![1, 2048, 8, 64]⟩
abbrev S2048x1x8x64 : Shape := ⟨4, ![2048, 1, 8, 64]⟩
abbrev S_ : Shape := ⟨0, ![]⟩
abbrev S1x8x64x64 : Shape := ⟨4, ![1, 8, 64, 64]⟩
abbrev S2048x1x8x64x64 : Shape := ⟨5, ![2048, 1, 8, 64, 64]⟩
abbrev S1x1x8x64 : Shape := ⟨4, ![1, 1, 8, 64]⟩
abbrev S1x8x64 : Shape := ⟨3, ![1, 8, 64]⟩
abbrev S1x8x1x64 : Shape := ⟨4, ![1, 8, 1, 64]⟩
abbrev S1x8x64x1 : Shape := ⟨4, ![1, 8, 64, 1]⟩
abbrev S1x1x8x64x64 : Shape := ⟨5, ![1, 1, 8, 64, 64]⟩
abbrev S2048x512 : Shape := ⟨2, ![2048, 512]⟩
abbrev S2048x8x64x64 : Shape := ⟨4, ![2048, 8, 64, 64]⟩
abbrev S2048x64x8x64 : Shape := ⟨4, ![2048, 64, 8, 64]⟩
abbrev S2048x64x512 : Shape := ⟨3, ![2048, 64, 512]⟩

abbrev nBuf : Space → Nat
  | .hbm => 106
  | .vmem => 0
  | .smem => 0
  | _ => 0

abbrev bufTy : (tb : Table) → Fin (tcTables nBuf tb) → BufTy
  | .hbm, ⟨0, _⟩ => ⟨S1x2048x8x64, .f32⟩
  | .hbm, ⟨1, _⟩ => ⟨S1x2048x8x64, .f32⟩
  | .hbm, ⟨2, _⟩ => ⟨S1x2048x8x64, .f32⟩
  | .hbm, ⟨3, _⟩ => ⟨S1x2048x8x64, .f32⟩
  | .hbm, ⟨4, _⟩ => ⟨S1x2048x8x64, .f32⟩
  | .hbm, ⟨5, _⟩ => ⟨S1x2048x8x64, .f32⟩
  | .hbm, ⟨6, _⟩ => ⟨S2048x1x8x64, .f32⟩
  | .hbm, ⟨7, _⟩ => ⟨S2048x1x8x64, .f32⟩
  | .hbm, ⟨8, _⟩ => ⟨S2048x1x8x64, .f32⟩
  | .hbm, ⟨9, _⟩ => ⟨S2048x1x8x64, .f32⟩
  | .hbm, ⟨10, _⟩ => ⟨S2048x1x8x64, .f32⟩
  | .hbm, ⟨11, _⟩ => ⟨S2048x1x8x64, .f32⟩
  | .hbm, ⟨12, _⟩ => ⟨S_, .f32⟩
  | .hbm, ⟨13, _⟩ => ⟨S1x8x64x64, .f32⟩
  | .hbm, ⟨14, _⟩ => ⟨S_, .f32⟩
  | .hbm, ⟨15, _⟩ => ⟨S2048x1x8x64, .f32⟩
  | .hbm, ⟨16, _⟩ => ⟨S_, .f32⟩
  | .hbm, ⟨17, _⟩ => ⟨S2048x1x8x64x64, .f32⟩
  | .hbm, ⟨18, _⟩ => ⟨S_, .f32⟩
  | .hbm, ⟨19, _⟩ => ⟨S2048x1x8x64, .f32⟩
  | .hbm, ⟨20, _⟩ => ⟨S_, .i32⟩
  | .hbm, ⟨21, _⟩ => ⟨S2048x1x8x64, .f32⟩
  | .hbm, ⟨22, _⟩ => ⟨S2048x1x8x64, .f32⟩
  | .hbm, ⟨23, _⟩ => ⟨S2048x1x8x64, .f32⟩
  | .hbm, ⟨24, _⟩ => ⟨S2048x1x8x64, .f32⟩
  | .hbm, ⟨25, _⟩ => ⟨S2048x1x8x64, .f32⟩
  | .hbm, ⟨26, _⟩ => ⟨S2048x1x8x64, .f32⟩
  | .hbm, ⟨27, _⟩ => ⟨S_, .i32⟩
  | .hbm, ⟨28, _⟩ => ⟨S1x8x64x64, .f32⟩
  | .hbm, ⟨29, _⟩ => ⟨S2048x1x8x64, .f32⟩
  | .hbm, ⟨30, _⟩ => ⟨S2048x1x8x64x64, .f32⟩
  | .hbm, ⟨31, _⟩ => ⟨S2048x1x8x64, .f32⟩
  | .hbm, ⟨32, _⟩ => ⟨S_, .i32⟩
  | .hbm, ⟨33, _⟩ => ⟨S_, .i1⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S1x1x8x64, .f32⟩
  | .hbm, ⟨38, _⟩ => ⟨S1x8x64, .f32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S1x1x8x64, .f32⟩
  | .hbm, ⟨43, _⟩ => ⟨S1x8x64, .f32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S1x1x8x64, .f32⟩
  | .hbm, ⟨48, _⟩ => ⟨S1x8x64, .f32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S1x1x8x64, .f32⟩
  | .hbm, ⟨53, _⟩ => ⟨S1x8x64, .f32⟩
  | .hbm, ⟨54, _⟩ => ⟨S_, .i32⟩
  | .hbm, ⟨55, _⟩ => ⟨S_, .i32⟩
  | .hbm, ⟨56, _⟩ => ⟨S_, .i32⟩
  | .hbm, ⟨57, _⟩ => ⟨S1x1x8x64, .f32⟩
  | .hbm, ⟨58, _⟩ => ⟨S1x8x64, .f32⟩
  | .hbm, ⟨59, _⟩ => ⟨S_, .i32⟩
  | .hbm, ⟨60, _⟩ => ⟨S_, .i32⟩
  | .hbm, ⟨61, _⟩ => ⟨S_, .i32⟩
  | .hbm, ⟨62, _⟩ => ⟨S1x1x8x64, .f32⟩
  | .hbm, ⟨63, _⟩ => ⟨S1x8x64, .f32⟩
  | .hbm, ⟨64, _⟩ => ⟨S1x8x64, .f32⟩
  | .hbm, ⟨65, _⟩ => ⟨S1x8x64, .f32⟩
  | .hbm, ⟨66, _⟩ => ⟨S1x8x1x64, .f32⟩
  | .hbm, ⟨67, _⟩ => ⟨S1x8x64x64, .f32⟩
  | .hbm, ⟨68, _⟩ => ⟨S1x8x64x64, .f32⟩
  | .hbm, ⟨69, _⟩ => ⟨S1x8x64x1, .f32⟩
  | .hbm, ⟨70, _⟩ => ⟨S1x8x64, .f32⟩
  | .hbm, ⟨71, _⟩ => ⟨S1x8x1x64, .f32⟩
  | .hbm, ⟨72, _⟩ => ⟨S1x8x64x64, .f32⟩
  | .hbm, ⟨73, _⟩ => ⟨S1x8x64x64, .f32⟩
  | .hbm, ⟨74, _⟩ => ⟨S1x8x64x64, .f32⟩
  | .hbm, ⟨75, _⟩ => ⟨S1x8x64x64, .f32⟩
  | .hbm, ⟨76, _⟩ => ⟨S1x8x64x1, .f32⟩
  | .hbm, ⟨77, _⟩ => ⟨S1x8x1x64, .f32⟩
  | .hbm, ⟨78, _⟩ => ⟨S1x8x64x64, .f32⟩
  | .hbm, ⟨79, _⟩ => ⟨S1x8x64x64, .f32⟩
  | .hbm, ⟨80, _⟩ => ⟨S1x8x64x64, .f32⟩
  | .hbm, ⟨81, _⟩ => ⟨S1x8x64x64, .f32⟩
  | .hbm, ⟨82, _⟩ => ⟨S1x8x64, .f32⟩
  | .hbm, ⟨83, _⟩ => ⟨S1x1x8x64, .f32⟩
  | .hbm, ⟨84, _⟩ => ⟨S_, .i32⟩
  | .hbm, ⟨85, _⟩ => ⟨S_, .i32⟩
  | .hbm, ⟨86, _⟩ => ⟨S_, .i32⟩
  | .hbm, ⟨87, _⟩ => ⟨S2048x1x8x64, .f32⟩
  | .hbm, ⟨88, _⟩ => ⟨S1x1x8x64x64, .f32⟩
  | .hbm, ⟨89, _⟩ => ⟨S_, .i32⟩
  | .hbm, ⟨90, _⟩ => ⟨S_, .i32⟩
  | .hbm, ⟨91, _⟩ => ⟨S_, .i32⟩
  | .hbm, ⟨92, _⟩ => ⟨S_, .i32⟩
  | .hbm, ⟨93, _⟩ => ⟨S2048x1x8x64x64, .f32⟩
  | .hbm, ⟨94, _⟩ => ⟨S1x1x8x64, .f32⟩
  | .hbm, ⟨95, _⟩ => ⟨S_, .i32⟩
  | .hbm, ⟨96, _⟩ => ⟨S_, .i32⟩
  | .hbm, ⟨97, _⟩ => ⟨S_, .i32⟩
  | .hbm, ⟨98, _⟩ => ⟨S2048x1x8x64, .f32⟩
  | .hbm, ⟨99, _⟩ => ⟨S_, .i32⟩
  | .hbm, ⟨100, _⟩ => ⟨S_, .i32⟩
  | .hbm, ⟨101, _⟩ => ⟨S2048x512, .f32⟩
  | .hbm, ⟨102, _⟩ => ⟨S2048x8x64x64, .f32⟩
  | .hbm, ⟨103, _⟩ => ⟨S2048x64x8x64, .f32⟩
  | .hbm, ⟨104, _⟩ => ⟨S2048x64x512, .f32⟩
  | .hbm, ⟨105, _⟩ => ⟨S2048x512, .f32⟩
  | _, _ => ⟨S1x2048x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_c : Ref sig .tc := ⟨.hbm, 20, rfl⟩
abbrev main_v10_0 : Ref sig .tc := ⟨.hbm, 21, rfl⟩
abbrev main_v10_1 : Ref sig .tc := ⟨.hbm, 22, rfl⟩
abbrev main_v10_2 : Ref sig .tc := ⟨.hbm, 23, rfl⟩
abbrev main_v10_3 : Ref sig .tc := ⟨.hbm, 24, rfl⟩
abbrev main_v10_4 : Ref sig .tc := ⟨.hbm, 25, rfl⟩
abbrev main_v10_5 : Ref sig .tc := ⟨.hbm, 26, rfl⟩
abbrev main_v10_6 : Ref sig .tc := ⟨.hbm, 27, rfl⟩
abbrev main_v10_7 : Ref sig .tc := ⟨.hbm, 28, rfl⟩
abbrev main_v10_8 : Ref sig .tc := ⟨.hbm, 29, rfl⟩
abbrev main_v10_9 : Ref sig .tc := ⟨.hbm, 30, rfl⟩
abbrev main_v10_10 : Ref sig .tc := ⟨.hbm, 31, rfl⟩
abbrev main_while0c_c_13 : Ref sig .tc := ⟨.hbm, 32, rfl⟩
abbrev main_while0c_v16 : Ref sig .tc := ⟨.hbm, 33, rfl⟩
abbrev main_while0b_call0_c : Ref sig .tc := ⟨.hbm, 34, rfl⟩
abbrev main_while0b_call0_c_0 : Ref sig .tc := ⟨.hbm, 35, rfl⟩
abbrev main_while0b_call0_c_1 : Ref sig .tc := ⟨.hbm, 36, rfl⟩
abbrev main_while0b_call0_v0 : Ref sig .tc := ⟨.hbm, 37, rfl⟩
abbrev main_while0b_v16 : Ref sig .tc := ⟨.hbm, 38, rfl⟩
abbrev main_while0b_call1_c : Ref sig .tc := ⟨.hbm, 39, rfl⟩
abbrev main_while0b_call1_c_0 : Ref sig .tc := ⟨.hbm, 40, rfl⟩
abbrev main_while0b_call1_c_1 : Ref sig .tc := ⟨.hbm, 41, rfl⟩
abbrev main_while0b_call1_v0 : Ref sig .tc := ⟨.hbm, 42, rfl⟩
abbrev main_while0b_v17 : Ref sig .tc := ⟨.hbm, 43, rfl⟩
abbrev main_while0b_call2_c : Ref sig .tc := ⟨.hbm, 44, rfl⟩
abbrev main_while0b_call2_c_0 : Ref sig .tc := ⟨.hbm, 45, rfl⟩
abbrev main_while0b_call2_c_1 : Ref sig .tc := ⟨.hbm, 46, rfl⟩
abbrev main_while0b_call2_v0 : Ref sig .tc := ⟨.hbm, 47, rfl⟩
abbrev main_while0b_v18 : Ref sig .tc := ⟨.hbm, 48, rfl⟩
abbrev main_while0b_call3_c : Ref sig .tc := ⟨.hbm, 49, rfl⟩
abbrev main_while0b_call3_c_0 : Ref sig .tc := ⟨.hbm, 50, rfl⟩
abbrev main_while0b_call3_c_1 : Ref sig .tc := ⟨.hbm, 51, rfl⟩
abbrev main_while0b_call3_v0 : Ref sig .tc := ⟨.hbm, 52, rfl⟩
abbrev main_while0b_v19 : Ref sig .tc := ⟨.hbm, 53, rfl⟩
abbrev main_while0b_call4_c : Ref sig .tc := ⟨.hbm, 54, rfl⟩
abbrev main_while0b_call4_c_0 : Ref sig .tc := ⟨.hbm, 55, rfl⟩
abbrev main_while0b_call4_c_1 : Ref sig .tc := ⟨.hbm, 56, rfl⟩
abbrev main_while0b_call4_v0 : Ref sig .tc := ⟨.hbm, 57, rfl⟩
abbrev main_while0b_v20 : Ref sig .tc := ⟨.hbm, 58, rfl⟩
abbrev main_while0b_call5_c : Ref sig .tc := ⟨.hbm, 59, rfl⟩
abbrev main_while0b_call5_c_0 : Ref sig .tc := ⟨.hbm, 60, rfl⟩
abbrev main_while0b_call5_c_1 : Ref sig .tc := ⟨.hbm, 61, rfl⟩
abbrev main_while0b_call5_v0 : Ref sig .tc := ⟨.hbm, 62, rfl⟩
abbrev main_while0b_v21 : Ref sig .tc := ⟨.hbm, 63, rfl⟩
abbrev main_while0b_v22 : Ref sig .tc := ⟨.hbm, 64, rfl⟩
abbrev main_while0b_v23 : Ref sig .tc := ⟨.hbm, 65, rfl⟩
abbrev main_while0b_v24 : Ref sig .tc := ⟨.hbm, 66, rfl⟩
abbrev main_while0b_v25 : Ref sig .tc := ⟨.hbm, 67, rfl⟩
abbrev main_while0b_v26 : Ref sig .tc := ⟨.hbm, 68, rfl⟩
abbrev main_while0b_v27 : Ref sig .tc := ⟨.hbm, 69, rfl⟩
abbrev main_while0b_v28 : Ref sig .tc := ⟨.hbm, 70, rfl⟩
abbrev main_while0b_v29 : Ref sig .tc := ⟨.hbm, 71, rfl⟩
abbrev main_while0b_v30 : Ref sig .tc := ⟨.hbm, 72, rfl⟩
abbrev main_while0b_v31 : Ref sig .tc := ⟨.hbm, 73, rfl⟩
abbrev main_while0b_v32 : Ref sig .tc := ⟨.hbm, 74, rfl⟩
abbrev main_while0b_v33 : Ref sig .tc := ⟨.hbm, 75, rfl⟩
abbrev main_while0b_v34 : Ref sig .tc := ⟨.hbm, 76, rfl⟩
abbrev main_while0b_v35 : Ref sig .tc := ⟨.hbm, 77, rfl⟩
abbrev main_while0b_v36 : Ref sig .tc := ⟨.hbm, 78, rfl⟩
abbrev main_while0b_v37 : Ref sig .tc := ⟨.hbm, 79, rfl⟩
abbrev main_while0b_v38 : Ref sig .tc := ⟨.hbm, 80, rfl⟩
abbrev main_while0b_v39 : Ref sig .tc := ⟨.hbm, 81, rfl⟩
abbrev main_while0b_v40 : Ref sig .tc := ⟨.hbm, 82, rfl⟩
abbrev main_while0b_call6_v0 : Ref sig .tc := ⟨.hbm, 83, rfl⟩
abbrev main_while0b_call6_c : Ref sig .tc := ⟨.hbm, 84, rfl⟩
abbrev main_while0b_call6_c_0 : Ref sig .tc := ⟨.hbm, 85, rfl⟩
abbrev main_while0b_call6_c_1 : Ref sig .tc := ⟨.hbm, 86, rfl⟩
abbrev main_while0b_v41 : Ref sig .tc := ⟨.hbm, 87, rfl⟩
abbrev main_while0b_call7_v0 : Ref sig .tc := ⟨.hbm, 88, rfl⟩
abbrev main_while0b_call7_c : Ref sig .tc := ⟨.hbm, 89, rfl⟩
abbrev main_while0b_call7_c_0 : Ref sig .tc := ⟨.hbm, 90, rfl⟩
abbrev main_while0b_call7_c_1 : Ref sig .tc := ⟨.hbm, 91, rfl⟩
abbrev main_while0b_call7_c_2 : Ref sig .tc := ⟨.hbm, 92, rfl⟩
abbrev main_while0b_v42 : Ref sig .tc := ⟨.hbm, 93, rfl⟩
abbrev main_while0b_call8_v0 : Ref sig .tc := ⟨.hbm, 94, rfl⟩
abbrev main_while0b_call8_c : Ref sig .tc := ⟨.hbm, 95, rfl⟩
abbrev main_while0b_call8_c_0 : Ref sig .tc := ⟨.hbm, 96, rfl⟩
abbrev main_while0b_call8_c_1 : Ref sig .tc := ⟨.hbm, 97, rfl⟩
abbrev main_while0b_v43 : Ref sig .tc := ⟨.hbm, 98, rfl⟩
abbrev main_while0b_c_13 : Ref sig .tc := ⟨.hbm, 99, rfl⟩
abbrev main_while0b_v44 : Ref sig .tc := ⟨.hbm, 100, rfl⟩
abbrev main_v11 : Ref sig .tc := ⟨.hbm, 101, rfl⟩
abbrev main_v12 : Ref sig .tc := ⟨.hbm, 102, rfl⟩
abbrev main_v13 : Ref sig .tc := ⟨.hbm, 103, rfl⟩
abbrev main_v14 : Ref sig .tc := ⟨.hbm, 104, rfl⟩
abbrev main_v15 : Ref sig .tc := ⟨.hbm, 105, rfl⟩

abbrev nD : Nat := 1
abbrev τ : Topo := Topo.v7x

variable {F : FTy → Type} [FloatOps F]

abbrev main_while0_count : Scf.Loop 32 := ⟨0#32, 2048#32, 1#32⟩
-- ==== Proof.Spec.lean ====
module

public import proofs.«01_k».proof.Proof.Gen.ReferenceIdeal
public import Idealize.ShloMosaic.Lib.Pointwise

@[expose] public section

noncomputable section

/-! The four results of the reference, as functions of its five arguments: the gradient of the projection of the
    normalised input, in the order its host operations compute it. -/

namespace Cert.ReferenceIdeal.Spec

open Cert.ReferenceIdeal Cert.ReferenceIdeal.Gen Idealize.ShloMosaic

/-- The mean of the squares of a row, plus the norm's epsilon. -/
def meanSq (x : FVec Ideal S1x2048x1024 .f32) : FVec Ideal S1x2048x1 .f32 :=
  addf (Host.divf (broadcastInDim S1x2048x1 ![0, 1] bcast_S1x2048_S1x2048x1_0_1 (Host.reduceAdd (mulf x x) (constant S_ .f32 0x00000000#32) reducesTo_S1x2048x1024_S1x2048_d2 h_S_)) (broadcastInDim S1x2048x1 ![] bcast_S_S1x2048x1 (constant S_ .f32 0x44800000#32))) (broadcastInDim S1x2048x1 ![] bcast_S_S1x2048x1 (constant S_ .f32 0x358637BD#32))

/-- The gradient with respect to the normalised rows: the cotangent times the weight. -/
def du (w : FVec Ideal S1x1024x3712 .f32) (dp : FVec Ideal S1x2048x3712 .f32) : FVec Ideal S1x2048x1024 .f32 :=
  Host.dotGeneral dot_S1x2048x3712_S1024x3712_S1x2048x1024_2_1_01_0_n_n none dp (shapeCast _ w shapeCasts_S1x1024x3712_S1024x3712)

/-- The gain, repeated on every row. -/
def gRow (g : FVec Ideal S1x1024 .f32) : FVec Ideal S1x2048x1024 .f32 :=
  broadcastInDim S1x2048x1024 ![0, 1, 2] bcast_S1x1x1024_S1x2048x1024_0_1_2 (broadcastInDim S1x1x1024 ![2] bcast_S1024_S1x1x1024_2 (shapeCast _ g shapeCasts_S1x1024_S1024))

/-- What the norm's own gradient multiplies a row by. -/
def rowScale (x : FVec Ideal S1x2048x1024 .f32) (g : FVec Ideal S1x1024 .f32) (w : FVec Ideal S1x1024x3712 .f32) (dp : FVec Ideal S1x2048x3712 .f32) : FVec Ideal S1x2048x1024 .f32 :=
  broadcastInDim S1x2048x1024 ![0, 1] bcast_S1x2048_S1x2048x1024_0_1 (broadcastInDim S1x2048 ![1] bcast_S2048_S1x2048_1 (Host.reduceAdd (Host.divf (mulf (shapeCast _ (Host.reduceAdd (mulf x (mulf (du w dp) (gRow g))) (constant S_ .f32 0x00000000#32) reducesTo_S1x2048x1024_S1x2048_d2 h_S_) shapeCasts_S1x2048_S1x2048x1) (mulf (broadcastInDim S1x2048x1 ![] bcast_S_S1x2048x1 (constant S_ .f32 0xBF000000#32)) (Host.divf (Host.rsqrt (meanSq x)) (meanSq x)))) (broadcastInDim S1x2048x1 ![] bcast_S_S1x2048x1 (constant S_ .f32 0x44800000#32))) (constant S_ .f32 0x00000000#32) reducesTo_S1x2048x1_S2048_d0_2 h_S_))

/-- The gradient of the input. -/
def dX (x : FVec Ideal S1x2048x1024 .f32) (g : FVec Ideal S1x1024 .f32) (w : FVec Ideal S1x1024x3712 .f32) (dp : FVec Ideal S1x2048x3712 .f32) (dh : FVec Ideal S1x2048x1024 .f32) : FVec Ideal S1x2048x1024 .f32 :=
  addf (addf (addf dh (mulf (mulf (du w dp) (gRow g)) (broadcastInDim S1x2048x1024 ![0, 1, 2] bcast_S1x2048x1_S1x2048x1024_0_1_2 (Host.rsqrt (meanSq x))))) (mulf x (rowScale x g w dp))) (mulf (rowScale x g w dp) x)

/-- The gradient of the gain. -/
def dG (x : FVec Ideal S1x2048x1024 .f32) (w : FVec Ideal S1x1024x3712 .f32) (dp : FVec Ideal S1x2048x3712 .f32) : FVec Ideal S1x1024 .f32 :=
  broadcastInDim S1x1024 ![1] bcast_S1024_S1x1024_1 (Host.reduceAdd (shapeCast _ (Host.reduceAdd (mulf (mulf x (broadcastInDim S1x2048x1024 ![0, 1, 2] bcast_S1x2048x1_S1x2048x1024_0_1_2 (Host.rsqrt (meanSq x)))) (du w dp)) (constant S_ .f32 0x00000000#32) reducesTo_S1x2048x1024_S1x1024_d1 h_S_) shapeCasts_S1x1024_S1x1x1024) (constant S_ .f32 0x00000000#32) reducesTo_S1x1x1024_S1024_d0_1 h_S_)

/-- The gradient of the weight, transposed. -/
def dW (x : FVec Ideal S1x2048x1024 .f32) (g : FVec Ideal S1x1024 .f32) (dp : FVec Ideal S1x2048x3712 .f32) : FVec Ideal S3712x1024 .f32 :=
  Host.dotGeneral dot_S1x2048x3712_S1x2048x1024_S3712x1024_01_01_2_2_n_n none dp (mulf (mulf x (broadcastInDim S1x2048x1024 ![0, 1, 2] bcast_S1x2048x1_S1x2048x1024_0_1_2 (Host.rsqrt (meanSq x)))) (gRow g))

/-- The rows of that gradient in half precision, by device and half. -/
def shards (x : FVec Ideal S1x2048x1024 .f32) (g : FVec Ideal S1x1024 .f32) (dp : FVec Ideal S1x2048x3712 .f32) : FVec Ideal S3712x1024 .bf16 :=
  truncf .bf16 (transpose S3712x1024 [1, 0] (shapeCast _ (broadcastInDim S1x1024x3712 ![1, 2] bcast_S1024x3712_S1x1024x3712_1_2 (transpose S1024x3712 [1, 0] (dW x g dp) transposes_S3712x1024_S1024x3712_1_0)) shapeCasts_S1x1024x3712_S1024x3712) transposes_S1024x3712_S3712x1024_1_0) bitsLt_bf16_f32

/-- The first half of every device's rows. -/
def dW0 (x : FVec Ideal S1x2048x1024 .f32) (g : FVec Ideal S1x1024 .f32) (dp : FVec Ideal S1x2048x3712 .f32) : FVec Ideal S4x464x1024 .bf16 :=
  shapeCast _ (extractStridedSlice S4x1x464x1024 ![0, 0, 0, 0] (shapeCast _ (shards x g dp) shapeCasts_S3712x1024_S4x2x464x1024) slices_S4x2x464x1024_S4x1x464x1024_0_0_0_0) shapeCasts_S4x1x464x1024_S4x464x1024

/-- The second half of every device's rows. -/
def dW1 (x : FVec Ideal S1x2048x1024 .f32) (g : FVec Ideal S1x1024 .f32) (dp : FVec Ideal S1x2048x3712 .f32) : FVec Ideal S4x464x1024 .bf16 :=
  shapeCast _ (extractStridedSlice S4x1x464x1024 ![0, 1, 0, 0] (shapeCast _ (shards x g dp) shapeCasts_S3712x1024_S4x2x464x1024) slices_S4x2x464x1024_S4x1x464x1024_0_1_0_0) shapeCasts_S4x1x464x1024_S4x464x1024

/-- A sum along axes of extent one is its one term. -/
theorem sum_one {s t : Shape} {axes : List (Fin s.rank)} (h : s.ReducesTo axes t) (x : s.Idx → EReal) (e : EReal) (j : t.Idx)
    (i₀ : s.Idx) (hi : ∀ i, h.drop i = j ↔ i = i₀) : Ideal.hostReduceAdd h x e j = e + x i₀ := by
  unfold Ideal.hostReduceAdd
  simp only [hi, Finset.filter_eq', Finset.mem_univ, if_true, Finset.sum_singleton]

theorem sum_outer (h : (⟨3, ![1, 2048, 1]⟩ : Shape).ReducesTo [0, 2] ⟨1, ![2048]⟩) (x : (⟨3, ![1, 2048, 1]⟩ : Shape).Idx → EReal)
    (e : EReal) (j : (⟨1, ![2048]⟩ : Shape).Idx) : Ideal.hostReduceAdd h x e j = e + x (ix3 0 (j 0) 0) := by
  refine sum_one h x e j _ fun i => ⟨fun hj => ?_, fun hi => ?_⟩
  · subst hj
    funext a
    match a with
    | ⟨0, _⟩ => exact Subsingleton.elim (α := Fin 1) _ _
    | ⟨1, _⟩ => rfl
    | ⟨2, _⟩ => exact Subsingleton.elim (α := Fin 1) _ _
  · subst hi
    funext a
    match a with
    | ⟨0, _⟩ => rfl

theorem sum_first (h : (⟨3, ![1, 1, 1024]⟩ : Shape).ReducesTo [0, 1] ⟨1, ![1024]⟩) (x : (⟨3, ![1, 1, 1024]⟩ : Shape).Idx → EReal)
    (e : EReal) (j : (⟨1, ![1024]⟩ : Shape).Idx) : Ideal.hostReduceAdd h x e j = e + x (ix3 0 0 (j 0)) := by
  refine sum_one h x e j _ fun i => ⟨fun hj => ?_, fun hi => ?_⟩
  · subst hj
    funext a
    match a with
    | ⟨0, _⟩ => exact Subsingleton.elim (α := Fin 1) _ _
    | ⟨1, _⟩ => exact Subsingleton.elim (α := Fin 1) _ _
    | ⟨2, _⟩ => rfl
  · subst hi
    funext a
    match a with
    | ⟨0, _⟩ => rfl

end Cert.ReferenceIdeal.Spec

end
-- ==== Proof.Input.lean ====
module

public import proofs.«01_k».proof.Proof.Gen.KernelIdeal.Value
public import proofs.«01_k».proof.Proof.Spec
public import Idealize.ShloMosaic.Lib.Pipeline.ValueKit
public import Idealize.ShloMosaic.Lib.Pointwise

@[expose] public section

set_option maxRecDepth 16384

noncomputable section

/-! The gradient of the input: each block of 256 rows is the reference's, row by row. -/

namespace Cert.KernelIdeal.Hand

open Cert.KernelIdeal Cert.KernelIdeal.Gen Idealize.ShloMosaic Idealize.ShloMosaic.TcCoe
open Idealize.ShloMosaic.Tactic Idealize.SL.Sem
open Idealize.ShloMosaic.Pipeline (Dat)

variable (m : (ℓ : Loc nD τ sig) → Buf (Elt Ideal) ℓ)

/-- Where each window's block lies at a point. -/
theorem idx : ∀ t : Fin cfg0.N, win0_0.index t = ![0, t.val, 0] ∧ win0_1.index t = ![0, 0] ∧ win0_2.index t = ![t.val, 0]
    ∧ win0_3.index t = ![t.val, 0] ∧ win0_4.index t = ![t.val, 0] ∧ win0_5.index t = ![t.val, 0] ∧ win0_6.index t = ![0, 0]
    ∧ win0_7.index t = ![0, t.val, 0] :=
  (by decide +kernel : ∀ t : Fin grid0.N, _)

/-- The gradient with respect to the normalised rows of a point's block: the three products. -/
def duBlk (c : Dev nD) (t : Fin cfg0.N) : FVec Ideal S256x1024 .f32 :=
  k0_pay41 (k0_pay36 (iblk m c 2 t) (View.ld (iblk m c 6 t) (Rect.unit ![0, 0] ![1024, 1024] inb_S3712x1024_S1024x1024_0_0)))
    (iblk m c 3 t) (View.ld (iblk m c 6 t) (Rect.unit ![1024, 0] ![512, 1024] inb_S3712x1024_S512x1024_1024_0))
    (iblk m c 4 t) (View.ld (iblk m c 6 t) (Rect.unit ![1536, 0] ![2176, 1024] inb_S3712x1024_S2176x1024_1536_0))

abbrev X (c : Dev nD) : FVec Ideal S1x2048x1024 .f32 := m ((c : Thread nD τ).loc main_arg0)
abbrev G (c : Dev nD) : FVec Ideal S1x1024 .f32 := m ((c : Thread nD τ).loc main_arg1)
abbrev W (c : Dev nD) : FVec Ideal S1x1024x3712 .f32 := m ((c : Thread nD τ).loc main_arg2)
abbrev P (c : Dev nD) : FVec Ideal S1x2048x3712 .f32 := m ((c : Thread nD τ).loc main_arg3)
abbrev H (c : Dev nD) : FVec Ideal S1x2048x1024 .f32 := m ((c : Thread nD τ).loc main_arg4)

/-- The row of the array that is row `r` of point `t`'s block. -/
def row (t : Fin cfg0.N) (r : Fin 256) : Fin 2048 := ⟨t.val * 256 + r.val, by
  have hN : t.val < 8 := lt_of_lt_of_eq t.isLt N_0
  omega⟩

theorem read0 (c : Dev nD) (t : Fin cfg0.N) (r : Fin 256) (d : Fin 1024) :
    iblk m c 0 t (ix3 0 r d) = X m c (ix3 0 (row t r) d) := by
  unfold row
  blk_point [iblk, V, idx t]

theorem read5 (c : Dev nD) (t : Fin cfg0.N) (r : Fin 256) (d : Fin 1024) :
    iblk m c 5 t (ix2 r d) = H m c (ix3 0 (row t r) d) := by
  unfold row
  blk_point [iblk, V, idx t]

theorem duBlk_apply (c : Dev nD) (t : Fin cfg0.N) (i : Fin 256) (j : Fin 1024) :
    duBlk m c t (ix2 i j) = Cert.ReferenceIdeal.Spec.du (W m c) (P m c) (ix3 0 (row t i) j) := by
  unfold duBlk row
  pointwise [k0_pay41, k0_pay36, k0_pay35, k0_pay38, k0_pay40, Cert.ReferenceIdeal.Spec.du]
  conv_rhs => rw [Fin.sum_univ_two_halves 1536 2176 rfl, Fin.sum_univ_two_halves 1024 512 rfl]
  blk_point [iblk, V, idx t]

/-- The gain, as the point reads it. -/
abbrev gBlk (c : Dev nD) (t : Fin cfg0.N) : FVec Ideal S1x1024 .f32 := iblk m c 1 t

theorem gBlk_apply (c : Dev nD) (t : Fin cfg0.N) (d : Fin 1024) : gBlk m c t (ix2 0 d) = G m c (ix2 0 d) := by
  blk_point [iblk, V, idx t]

theorem out7 (c : Dev nD) (t : Fin cfg0.N) : (outsAt0 m c t.val t.isLt).1
    = k0_pay1 (k0_pay29 (iblk m c 0 t)) (k0_pay32 (iblk m c 0 t))
      (mulf (duBlk m c t) (broadcastTo S256x1024 (gBlk m c t) broadcasts_S1x1024_S256x1024))
      (shapeCast S256x1 (multiReduction .add [1] S256 (mulf (k0_pay29 (iblk m c 0 t)) (mulf (duBlk m c t)
        (broadcastTo S256x1024 (gBlk m c t) broadcasts_S1x1024_S256x1024))) 0x00000000#32 reduces_S256x1024_S256 (.inl rfl) rfl)
        shapeCasts_S256_S256x1)
      (k0_pay46 (k0_pay31 (iblk m c 0 t))) (iblk m c 5 t) := by
  have hN : t.val < 8 := lt_of_lt_of_eq t.isLt N_0
  by_cases h0 : t.val % 8 = 0
  · rw [outsAt0_A m c t h0 (by omega)]; frame_out; rfl
  · by_cases h1 : t.val % 8 = 7
    · rw [outsAt0_C m c t h0 h1]; frame_out; rfl
    · rw [outsAt0_B m c t h0 h1]; frame_out; rfl

theorem emb7 (t : Fin cfg0.N) (r : Fin 256) (d : Fin 1024) : (win0_7.blk t).view.emb (ix3 0 r d) = ix3 0 (row t r) d := by
  unfold row
  blk_ext [idx t]

theorem final7 (c : Dev nD) : (dats m 0 c).arrAt 7 (cfgs 0).N
    = Cert.ReferenceIdeal.Spec.dX (X m c) (G m c) (W m c) (P m c) (H m c) := by
  refine (dats m 0 c).arrAt_eq_of_covers 7 _ (by decide +kernel) fun t hf y => ?_
  blk_simp
  rw [after0_7, out7]
  idx_vars y
  obtain rfl : y0 = 0 := Subsingleton.elim (α := Fin 1) _ _
  rw [emb7 t y1 y2]
  pointwise [k0_pay1, k0_pay29, k0_pay30, k0_pay31, k0_pay32, k0_pay46, Cert.ReferenceIdeal.Spec.dX,
    Cert.ReferenceIdeal.Spec.rowScale, Cert.ReferenceIdeal.Spec.meanSq, Cert.ReferenceIdeal.Spec.gRow, Cert.ReferenceIdeal.Spec.sum_outer]
  simp only [Fin.sum_univ_one, read0, duBlk_apply, gBlk_apply, read5, add_assoc]
  rw [add_comm (H m c _)]
  simp only [add_assoc]

end Cert.KernelIdeal.Hand
end
-- ==== Proof.Weight.lean ====
module

public import proofs.«01_k».proof.Proof.Input
public import Idealize.ShloMosaic.Lib.Pipeline.ReadBack

@[expose] public section

set_option maxRecDepth 16384

noncomputable section

/-! The gradient of the weight: the carried scratch is the sum over the points of the products of their blocks, and the last
    point rounds its rows into the two halves. -/

namespace Cert.KernelIdeal.Hand

open Cert.KernelIdeal Cert.KernelIdeal.Gen Idealize.ShloMosaic Idealize.ShloMosaic.TcCoe
open Idealize.ShloMosaic.Tactic Idealize.SL.Sem
open Idealize.ShloMosaic.Pipeline (Dat)

variable (m : (ℓ : Loc nD τ sig) → Buf (Elt Ideal) ℓ)

/-- The normalised, scaled row of a point's block. -/
def uBlk (c : Dev nD) (t : Fin cfg0.N) : FVec Ideal S256x1024 .bf16 := k0_pay34 (iblk m c 0 t) (iblk m c 1 t)

/-- What a point adds to the gradient of the weight. -/
def part (c : Dev nD) (t : Fin cfg0.N) : FVec Ideal S3712x1024 .f32 := fun i =>
  ∑ r : Fin 256, P m c (ix3 0 (row t r) (i 0)) * uBlk m c t (ix2 r (i 1))

/-- The three stores of a point, over any earlier ones. -/
theorem canon_step (c : Dev nD) (t : Fin cfg0.N) (Z : FVec Ideal S3712x1024 .f32) (L : List (View.Piece (Elt Ideal) S3712x1024 .f32)) :
    View.canon (⟨Rect.unit ![1536, 0] ![2176, 1024] inb_S3712x1024_S2176x1024_1536_0,
          k0_pay42 (k0_pay34 (iblk m c 0 t) (iblk m c 1 t)) (iblk m c 4 t)
            (View.ld (Val := Elt Ideal) (e' := .f32) Z (Rect.unit (s := S3712x1024) ![1536, 0] ![2176, 1024] inb_S3712x1024_S2176x1024_1536_0))⟩ ::
        ⟨Rect.unit ![1024, 0] ![512, 1024] inb_S3712x1024_S512x1024_1024_0,
          k0_pay39 (k0_pay34 (iblk m c 0 t) (iblk m c 1 t)) (iblk m c 3 t)
            (View.ld (Val := Elt Ideal) (e' := .f32) Z (Rect.unit (s := S3712x1024) ![1024, 0] ![512, 1024] inb_S3712x1024_S512x1024_1024_0))⟩ ::
        ⟨Rect.unit ![0, 0] ![1024, 1024] inb_S3712x1024_S1024x1024_0_0,
          k0_pay37 (iblk m c 0 t) (iblk m c 1 t) (iblk m c 2 t)
            (View.ld (Val := Elt Ideal) (e' := .f32) Z (Rect.unit (s := S3712x1024) ![0, 0] ![1024, 1024] inb_S3712x1024_S1024x1024_0_0))⟩ :: L) = fun i => Z i + part m c t i := by
  funext y
  refine View.canon_append_of_piecesOf (fun i => Z i + part m c t i) L [_, _, _] ⟨fun x => ?_, fun x => ?_, fun x => ?_, trivial⟩ y ?_
  · idx_vars x
    rw [show (Rect.unit ![1536, 0] ![2176, 1024] inb_S3712x1024_S2176x1024_1536_0).emb (ix2 x0 x1)
      = (ix2 ⟨1536 + x0.val, by omega⟩ x1 : S3712x1024.Idx) from by blk_ext]
    unfold part uBlk row
    pointwise [k0_pay42, k0_pay40]
    blk_point [iblk, V, idx t]
  · idx_vars x
    rw [show (Rect.unit ![1024, 0] ![512, 1024] inb_S3712x1024_S512x1024_1024_0).emb (ix2 x0 x1)
      = (ix2 ⟨1024 + x0.val, by omega⟩ x1 : S3712x1024.Idx) from by blk_ext]
    unfold part uBlk row
    pointwise [k0_pay39, k0_pay38]
    blk_point [iblk, V, idx t]
  · idx_vars x
    rw [show (Rect.unit ![0, 0] ![1024, 1024] inb_S3712x1024_S1024x1024_0_0).emb (ix2 x0 x1)
      = (ix2 ⟨x0.val, by omega⟩ x1 : S3712x1024.Idx) from by blk_ext]
    unfold part uBlk row
    pointwise [k0_pay37, k0_pay35]
    blk_point [iblk, V, idx t]
  · have h1 : (y 1).val < 1024 := (y 1).isLt
    have h0 : (y 0).val < 3712 := (y 0).isLt
    by_cases ha : (y 0).val < 1024
    · refine ⟨_, List.mem_cons_of_mem _ (List.mem_cons_of_mem _ List.mem_cons_self), ?_⟩
      refine (Rect.mem_set_unit (inb := inb_S3712x1024_S1024x1024_0_0)).mpr fun a => ?_
      fin_cases a <;> simp <;> omega
    · by_cases hb : (y 0).val < 1536
      · refine ⟨_, List.mem_cons_of_mem _ List.mem_cons_self, ?_⟩
        refine (Rect.mem_set_unit (inb := inb_S3712x1024_S512x1024_1024_0)).mpr fun a => ?_
        fin_cases a <;> simp <;> omega
      · refine ⟨_, List.mem_cons_self, ?_⟩
        refine (Rect.mem_set_unit (inb := inb_S3712x1024_S2176x1024_1536_0)).mpr fun a => ?_
        fin_cases a <;> simp <;> omega

theorem scr_A (c : Dev nD) (t : Fin cfg0.N) (h0 : t.val % 8 = 0) : (outsAt0 m c t.val t.isLt).2.2.2.2
    = fun i => (0 : EReal) + part m c t i := by
  rw [outsAt0_A m c t h0 (by omega)]
  frame_open
  simp (disch := decide) only [↓ View.readCov_skip, ↓ View.readCov_cons_toLoadRect, ↓ View.readCov_fill]
  frame_out
  refine (canon_step m c t k0_pay28 _).trans (funext fun i => congrArg (· + _) ?_)
  pointwise [k0_pay28]

theorem scr_B (c : Dev nD) (t : Fin cfg0.N) (h0 : ¬t.val % 8 = 0) : (outsAt0 m c t.val t.isLt).2.2.2.2
    = fun i => (outsAt0 m c (t.val - 1) (by omega)).2.2.2.2 i + part m c t i := by
  by_cases h1 : t.val % 8 = 7
  · rw [outsAt0_C m c t h0 h1]
    frame_out
    simp only [read_unread_whole]
    exact canon_step m c t _ []
  · rw [outsAt0_B m c t h0 h1]
    frame_out
    simp only [read_unread_whole]
    exact canon_step m c t _ []

/-- After the last point the scratch holds the gradient of the weight. -/
theorem scr_last (c : Dev nD) (i : Fin 3712) (j : Fin 1024) : (outsAt0 m c (t0_7 : Fin cfg0.N).val (t0_7 : Fin cfg0.N).isLt).2.2.2.2 (ix2 i j)
    = Cert.ReferenceIdeal.Spec.dW (X m c) (G m c) (P m c) (ix2 i j) := by
  rw [Pipeline.eq_sum_fin_of_reset_step_apply_last (fun n h => (outsAt0 m c n h).2.2.2.2) 8 (fun _ => (0 : EReal)) (fun p j => part m c p j)
    (fun t h j => by rw [scr_A m c t h]) (fun t h j => by rw [scr_B m c t h]) (le_of_eq N_0) t0_7 rfl (ix2 i j), zero_add]
  pointwise [Cert.ReferenceIdeal.Spec.dW]
  rw [Fin.sum_univ_one]
  unfold part
  refine (Fin.sum_mul_add_congr fun t r hl => ?_)
  unfold uBlk
  pointwise [k0_pay34, k0_pay33, k0_pay29, k0_pay30, k0_pay31, k0_pay32, Cert.ReferenceIdeal.Spec.meanSq, Cert.ReferenceIdeal.Spec.gRow]
  simp only [read0, gBlk_apply]
  rfl

end Cert.KernelIdeal.Hand
end
-- ==== Proof.Halves.lean ====
module

public import proofs.«01_k».proof.Proof.Weight

@[expose] public section

set_option maxRecDepth 16384

noncomputable section

/-! The gradient of the weight, rounded: each device's rows of the scratch, in two halves. -/

namespace Cert.KernelIdeal.Hand

open Cert.KernelIdeal Cert.KernelIdeal.Gen Idealize.ShloMosaic Idealize.ShloMosaic.TcCoe
open Idealize.ShloMosaic.Tactic Idealize.SL.Sem
open Idealize.ShloMosaic.Pipeline (Dat)

variable (m : (ℓ : Loc nD τ sig) → Buf (Elt Ideal) ℓ)

/-- A slab of the scratch, rounded. -/
def slab (v : FVec Ideal S464x1024 .f32) : FVec Ideal S1x464x1024 .bf16 :=
  shapeCast S1x464x1024 (truncf .bf16 v bitsLt_bf16_f32) shapeCasts_S464x1024_S1x464x1024

/-- Four slabs, each device's half from row `off` of its rows, are those rows. -/
theorem tiles (Z : FVec Ideal S3712x1024 .f32) (off : ℕ) (ho : off + 464 ≤ 928)
    (h3 : ∀ a, ![2784 + off, 0] a + ![464, 1024] a ≤ S3712x1024.size a) (h2 : ∀ a, ![1856 + off, 0] a + ![464, 1024] a ≤ S3712x1024.size a)
    (h1 : ∀ a, ![928 + off, 0] a + ![464, 1024] a ≤ S3712x1024.size a) (h0 : ∀ a, ![0 + off, 0] a + ![464, 1024] a ≤ S3712x1024.size a)
    (d : Fin 4) (r : Fin 464) (j : Fin 1024) :
    View.canon (Val := Elt Ideal) (e := .bf16) [⟨Rect.unit ![3, 0, 0] ![1, 464, 1024] inb_S4x464x1024_S1x464x1024_3_0_0, slab fun j => Z ((Rect.unit (s := S3712x1024) ![2784 + off, 0] ![464, 1024] h3).idx j)⟩,
        ⟨Rect.unit ![2, 0, 0] ![1, 464, 1024] inb_S4x464x1024_S1x464x1024_2_0_0, slab fun j => Z ((Rect.unit (s := S3712x1024) ![1856 + off, 0] ![464, 1024] h2).idx j)⟩,
        ⟨Rect.unit ![1, 0, 0] ![1, 464, 1024] inb_S4x464x1024_S1x464x1024_1_0_0, slab fun j => Z ((Rect.unit (s := S3712x1024) ![928 + off, 0] ![464, 1024] h1).idx j)⟩,
        ⟨Rect.unit ![0, 0, 0] ![1, 464, 1024] inb_S4x464x1024_S1x464x1024_0_0_0, slab fun j => Z ((Rect.unit (s := S3712x1024) ![0 + off, 0] ![464, 1024] h0).idx j)⟩] (ix3 d r j)
      = Z (ix2 ⟨d.val * 928 + off + r.val, by omega⟩ j) := by
  refine View.canon_append_of_piecesOf (Val := Elt Ideal) (e := .bf16) (fun i : S4x464x1024.Idx => Z (ix2 ⟨(i 0).val * 928 + off + (i 1).val, by
      have a0 : (i 0).val < 4 := (i 0).isLt
      have a1 : (i 1).val < 464 := (i 1).isLt
      omega⟩ (i 2))) [] [_, _, _, _] ⟨fun x => ?_, fun x => ?_, fun x => ?_, fun x => ?_, trivial⟩ (ix3 d r j) ?_
  · idx_vars x
    obtain rfl : x0 = 0 := Subsingleton.elim (α := Fin 1) _ _
    rw [show (Rect.unit ![3, 0, 0] ![1, 464, 1024] inb_S4x464x1024_S1x464x1024_3_0_0).emb (ix3 0 x1 x2) = (ix3 3 x1 x2 : S4x464x1024.Idx) from by blk_ext]
    unfold slab
    pointwise []
  · idx_vars x
    obtain rfl : x0 = 0 := Subsingleton.elim (α := Fin 1) _ _
    rw [show (Rect.unit ![2, 0, 0] ![1, 464, 1024] inb_S4x464x1024_S1x464x1024_2_0_0).emb (ix3 0 x1 x2) = (ix3 2 x1 x2 : S4x464x1024.Idx) from by blk_ext]
    unfold slab
    pointwise []
  · idx_vars x
    obtain rfl : x0 = 0 := Subsingleton.elim (α := Fin 1) _ _
    rw [show (Rect.unit ![1, 0, 0] ![1, 464, 1024] inb_S4x464x1024_S1x464x1024_1_0_0).emb (ix3 0 x1 x2) = (ix3 1 x1 x2 : S4x464x1024.Idx) from by blk_ext]
    unfold slab
    pointwise []
  · idx_vars x
    obtain rfl : x0 = 0 := Subsingleton.elim (α := Fin 1) _ _
    rw [show (Rect.unit ![0, 0, 0] ![1, 464, 1024] inb_S4x464x1024_S1x464x1024_0_0_0).emb (ix3 0 x1 x2) = (ix3 0 x1 x2 : S4x464x1024.Idx) from by blk_ext]
    unfold slab
    pointwise []
  · fin_cases d
    · refine ⟨_, List.mem_cons_of_mem _ (List.mem_cons_of_mem _ (List.mem_cons_of_mem _ List.mem_cons_self)), (Rect.mem_set_unit (inb := inb_S4x464x1024_S1x464x1024_0_0_0)).mpr fun a => ?_⟩
      fin_cases a <;> simp
    · refine ⟨_, List.mem_cons_of_mem _ (List.mem_cons_of_mem _ List.mem_cons_self), (Rect.mem_set_unit (inb := inb_S4x464x1024_S1x464x1024_1_0_0)).mpr fun a => ?_⟩
      fin_cases a <;> simp
    · refine ⟨_, List.mem_cons_of_mem _ List.mem_cons_self, (Rect.mem_set_unit (inb := inb_S4x464x1024_S1x464x1024_2_0_0)).mpr fun a => ?_⟩
      fin_cases a <;> simp
    · refine ⟨_, List.mem_cons_self, (Rect.mem_set_unit (inb := inb_S4x464x1024_S1x464x1024_3_0_0)).mpr fun a => ?_⟩
      fin_cases a <;> simp

theorem half0 (c : Dev nD) (d : Fin 4) (r : Fin 464) (j : Fin 1024) : Cert.ReferenceIdeal.Spec.dW0 (X m c) (G m c) (P m c) (ix3 d r j)
    = Cert.ReferenceIdeal.Spec.dW (X m c) (G m c) (P m c) (ix2 ⟨d.val * 928 + 0 + r.val, by omega⟩ j) := by
  pointwise [Cert.ReferenceIdeal.Spec.dW0, Cert.ReferenceIdeal.Spec.shards]

theorem last0 (c : Dev nD) (d : Fin 4) (r : Fin 464) (j : Fin 1024) : (outsAt0 m c (t0_7 : Fin cfg0.N).val (t0_7 : Fin cfg0.N).isLt).2.2.1 (ix3 d r j)
    = Cert.ReferenceIdeal.Spec.dW (X m c) (G m c) (P m c) (ix2 ⟨d.val * 928 + 0 + r.val, by omega⟩ j) := by
  rw [← scr_last, scr_B m c t0_7 (by decide), outsAt0_C m c t0_7 (by decide) (by decide)]
  frame_out
  simp only [read_unread_whole, View.readCov_eq_canon', canon_step m c t0_7 _ []]
  exact tiles (fun i => (outsAt0 m c ((t0_7 : Fin cfg0.N).val - 1) _).2.2.2.2 i + part m c t0_7 i) 0 (by decide) _ _ _ _ d r j

theorem final9 (c : Dev nD) : (dats m 0 c).arrAt 9 (cfgs 0).N = Cert.ReferenceIdeal.Spec.dW0 (X m c) (G m c) (P m c) := by
  refine (dats m 0 c).arrAt_eq_of_after_last 9 t0_7 (by decide +kernel) _ fun j => ?_
  rw [after0_9]
  blk_simp
  idx_vars j
  exact (last0 m c j0 j1 j2).trans (half0 m c j0 j1 j2).symm

theorem half1 (c : Dev nD) (d : Fin 4) (r : Fin 464) (j : Fin 1024) : Cert.ReferenceIdeal.Spec.dW1 (X m c) (G m c) (P m c) (ix3 d r j)
    = Cert.ReferenceIdeal.Spec.dW (X m c) (G m c) (P m c) (ix2 ⟨d.val * 928 + 464 + r.val, by omega⟩ j) := by
  pointwise [Cert.ReferenceIdeal.Spec.dW1, Cert.ReferenceIdeal.Spec.shards]

theorem last1 (c : Dev nD) (d : Fin 4) (r : Fin 464) (j : Fin 1024) : (outsAt0 m c (t0_7 : Fin cfg0.N).val (t0_7 : Fin cfg0.N).isLt).2.2.2.1 (ix3 d r j)
    = Cert.ReferenceIdeal.Spec.dW (X m c) (G m c) (P m c) (ix2 ⟨d.val * 928 + 464 + r.val, by omega⟩ j) := by
  rw [← scr_last, scr_B m c t0_7 (by decide), outsAt0_C m c t0_7 (by decide) (by decide)]
  frame_out
  simp only [read_unread_whole, View.readCov_eq_canon', canon_step m c t0_7 _ []]
  exact tiles (fun i => (outsAt0 m c ((t0_7 : Fin cfg0.N).val - 1) _).2.2.2.2 i + part m c t0_7 i) 464 (by decide) _ _ _ _ d r j

theorem final10 (c : Dev nD) : (dats m 0 c).arrAt 10 (cfgs 0).N = Cert.ReferenceIdeal.Spec.dW1 (X m c) (G m c) (P m c) := by
  refine (dats m 0 c).arrAt_eq_of_after_last 10 t0_7 (by decide +kernel) _ fun j => ?_
  rw [after0_10]
  blk_simp
  idx_vars j
  exact (last1 m c j0 j1 j2).trans (half1 m c j0 j1 j2).symm

end Cert.KernelIdeal.Hand
end
-- ==== Proof.Gain.lean ====
module

public import proofs.«01_k».proof.Proof.Weight

@[expose] public section

set_option maxRecDepth 16384

noncomputable section

/-! The gradient of the gain: one row, summed over the points. -/

namespace Cert.KernelIdeal.Hand

open Cert.KernelIdeal Cert.KernelIdeal.Gen Idealize.ShloMosaic Idealize.ShloMosaic.TcCoe
open Idealize.ShloMosaic.Tactic Idealize.SL.Sem
open Idealize.ShloMosaic.Pipeline (Dat)

variable (m : (ℓ : Loc nD τ sig) → Buf (Elt Ideal) ℓ)

/-- What a point adds to the gradient of the gain. -/
def gain (c : Dev nD) (t : Fin cfg0.N) : FVec Ideal S1x1024 .f32 :=
  shapeCast S1x1024 (multiReduction .add [0] S1024 (mulf (k0_pay33 (iblk m c 0 t)) (duBlk m c t)) 0x00000000#32 reduces_S256x1024_S1024 (.inl rfl) rfl) shapeCasts_S1024_S1x1024

theorem gain_A (c : Dev nD) (t : Fin cfg0.N) (h0 : t.val % 8 = 0) : (outsAt0 m c t.val t.isLt).2.1
    = k0_pay2 (gain m c t) (k0_pay27 (F := Ideal)) := by
  rw [outsAt0_A m c t h0 (by omega)]
  frame_open
  simp (disch := decide) only [↓ View.readCov_skip, ↓ View.readCov_cons_toLoadRect, ↓ View.readCov_fill]
  frame_out
  rfl

theorem gain_B (c : Dev nD) (t : Fin cfg0.N) (h0 : ¬t.val % 8 = 0) : (outsAt0 m c t.val t.isLt).2.1
    = k0_pay2 (gain m c t) (outsAt0 m c (t.val - 1) (by omega)).2.1 := by
  by_cases h1 : t.val % 8 = 7
  · rw [outsAt0_C m c t h0 h1]; frame_out; rfl
  · rw [outsAt0_B m c t h0 h1]; frame_out; rfl

theorem gain_last (c : Dev nD) (j : Fin 1024) : (outsAt0 m c (t0_7 : Fin cfg0.N).val (t0_7 : Fin cfg0.N).isLt).2.1 (ix2 0 j)
    = Cert.ReferenceIdeal.Spec.dG (X m c) (W m c) (P m c) (ix2 0 j) := by
  rw [Pipeline.eq_sum_fin_of_reset_step_apply_last (fun n h => (outsAt0 m c n h).2.1) 8 (fun _ => (0 : EReal)) (fun p j => gain m c p j)
    (fun t h j => by rw [gain_A m c t h]; idx_vars j; pointwise [k0_pay2, k0_pay27])
    (fun t h j => by rw [gain_B m c t h]; idx_vars j; pointwise [k0_pay2]) (le_of_eq N_0) t0_7 rfl (ix2 0 j), zero_add]
  unfold gain
  pointwise [Cert.ReferenceIdeal.Spec.dG, Cert.ReferenceIdeal.Spec.sum_first, k0_pay33, k0_pay29, k0_pay30, k0_pay31, k0_pay32, Cert.ReferenceIdeal.Spec.meanSq]
  refine (Fin.sum_mul_add_congr fun t r hl => ?_)
  simp only [read0, duBlk_apply]
  rfl

theorem final8 (c : Dev nD) : (dats m 0 c).arrAt 8 (cfgs 0).N = Cert.ReferenceIdeal.Spec.dG (X m c) (W m c) (P m c) := by
  refine (dats m 0 c).arrAt_eq_of_after_last 8 t0_7 (by decide +kernel) _ fun j => ?_
  rw [after0_8]
  blk_simp
  idx_vars j
  obtain rfl : j0 = 0 := Subsingleton.elim (α := Fin 1) _ _
  exact gain_last m c j1

end Cert.KernelIdeal.Hand
end
-- ==== Proof.RetChunk.lean ====
module

public import proofs.«01_k».proof.Proof.Gen.Kernel2Ideal.Value
public import Idealize.ShloMosaic.Lib.Pipeline.ValueKit
public import Idealize.ShloMosaic.Lib.Pointwise
public import Idealize.ShloMosaic.Lib.Pipeline.ReadBack

@[expose] public section

set_option maxRecDepth 16384

noncomputable section

/-! One chunk of 64 tokens of the retention's backward pass, as the kernel computes it. -/

namespace Cert.Kernel2Ideal.Hand

open Cert.Kernel2Ideal Cert.Kernel2Ideal.Gen Idealize.ShloMosaic Idealize.ShloMosaic.TcCoe

variable {F : FTy → Type} [FloatOps F] [Named F]

/-- A chunk's operands: the projections of its tokens, the cosines and sines of their positions, the state before the
    chunk, the gradient of its result, and the four tables. -/
structure Chunk (F : FTy → Type) where
  pq : FVec F S64x256 .f32
  pk : FVec F S64x256 .f32
  v : Fin 4 → FVec F S64x128 .f32
  s : Fin 4 → FVec F S256x128 .f32
  o : Fin 4 → FVec F S64x128 .f32
  cos : FVec F S64x256 .f32
  sin : FVec F S64x256 .f32
  dec : FVec F S4x64x64 .f32
  hm : FVec F S4x64x256 .f32
  qd : FVec F S4x64x256 .f32
  kd : FVec F S4x64x256 .f32

theorem slice256 (h : Fin 4) : S4x64x256.Slices ![h.val, 0, 0] S1x64x256 := by fin_cases h <;> decide
theorem slice64 (h : Fin 4) : S4x64x64.Slices ![h.val, 0, 0] S1x64x64 := by fin_cases h <;> decide

/-- Head `h`'s tile of a table. -/
def tile (T : FVec F S4x64x256 .f32) (h : Fin 4) : FVec F S64x256 .f32 :=
  shapeCast S64x256 (extractStridedSlice S1x64x256 ![h.val, 0, 0] T (slice256 h)) shapeCasts_S1x64x256_S64x256

def tile64 (T : FVec F S4x64x64 .f32) (h : Fin 4) : FVec F S64x64 .f32 :=
  shapeCast S64x64 (extractStridedSlice S1x64x64 ![h.val, 0, 0] T (slice64 h)) shapeCasts_S1x64x64_S64x64

/-- The two halves of each head's 64 lanes exchanged. -/
def swap (x : FVec F S64x256 .f32) : FVec F S64x256 .f32 :=
  select (cmpi .slt (andi (iota .tc S64x256 32 [1] iota_S64x256_d1_w32) (broadcast S64x256 63#32)) (broadcast S64x256 32#32))
    (dynamicRotate 1 224#32 none x rotates_S64x256_d1) (dynamicRotate 1 32#32 none x rotates_S64x256_d1)

def turn (x cos sin : FVec F S64x256 .f32) : FVec F S64x256 .f32 := addf (mulf x cos) (mulf (swap x) sin)

def back (y cos sin : FVec F S64x256 .f32) : FVec F S64x256 .f32 := addf (swap (mulf y sin)) (mulf y cos)

def eighth : FVec F S64x256 .f32 := broadcast S64x256 (Scalar.ofBits .f32 0x3E000000#32)

/-- The decay of the state over a chunk. -/
def gamma : Fin 4 → F .f32 :=
  ![Named.named κ "gamma0" 0x3E063AE5#32, Named.named κ "gamma1" 0x3EBADF84#32, Named.named κ "gamma2" 0x3F1AF7A1#32,
    Named.named κ "gamma3" 0x3F474682#32]

abbrev r (s : Shape) (x : FVec F s .f32) : FVec F s .bf16 := truncf .bf16 x bitsLt_bf16_f32

namespace Chunk

variable (K : Chunk F) (D : Fin 4 → FVec F S256x128 .f32) (h : Fin 4)

def q : FVec F S64x256 .f32 := turn K.pq K.cos K.sin
def k : FVec F S64x256 .f32 := mulf (turn K.pk K.cos K.sin) eighth
def qh : FVec F S64x256 .f32 := mulf K.q (tile K.hm h)
def kh : FVec F S64x256 .f32 := mulf K.k (tile K.hm h)

/-- The decayed scores. -/
def sc : FVec F S64x64 .f32 :=
  mulf (matmul dot_S64x256_S64x256_S64x64_1_1_0_0_n_n none (r _ (K.qh h)) (r _ (K.kh h)) (constant S64x64 .f32 0x00000000#32)) (tile64 K.dec h)

def out : FVec F S64x128 .f32 := shapeCast S64x128 (K.o h) shapeCasts_S64x128_S64x128

/-- The gradient of the state before the chunk, from that of the state after it. -/
def next (h : Fin 4) : FVec F S256x128 .f32 :=
  addf (mulf (D h) (broadcast S256x128 (gamma h)))
    (matmul dot_S64x256_S64x128_S256x128_0_0_1_1_n_n none (r _ (mulf K.q (tile K.qd h))) (r _ (K.out h)) (constant S256x128 .f32 0x00000000#32))

def dA : FVec F S64x64 .f32 :=
  mulf (matmul dot_S64x128_S64x128_S64x64_1_1_0_0_n_n none (r _ (K.out h)) (r _ (K.v h)) (constant S64x64 .f32 0x00000000#32)) (tile64 K.dec h)

def dqS : FVec F S64x256 .f32 :=
  mulf (matmul dot_S64x128_S256x128_S64x256_1_1_0_0_n_n none (r _ (K.out h)) (r _ (K.s h)) (constant S64x256 .f32 0x00000000#32)) (tile K.qd h)

def dqA : FVec F S64x256 .f32 :=
  mulf (matmul dot_S64x64_S64x256_S64x256_1_0_0_1_n_n none (r _ (K.dA h)) (r _ (K.kh h)) (constant S64x256 .f32 0x00000000#32)) (tile K.hm h)

def dkS : FVec F S64x256 .f32 :=
  mulf (matmul dot_S64x128_S256x128_S64x256_1_1_0_0_n_n none (r _ (K.v h)) (r _ (D h)) (constant S64x256 .f32 0x00000000#32)) (tile K.kd h)

def dkA : FVec F S64x256 .f32 :=
  mulf (matmul dot_S64x64_S64x256_S64x256_0_0_1_1_n_n none (r _ (K.dA h)) (r _ (K.qh h)) (constant S64x256 .f32 0x00000000#32)) (tile K.hm h)

/-- The gradient of the values. -/
def dv : FVec F S64x128 .f32 :=
  addf (matmul dot_S64x256_S256x128_S64x128_1_0_0_1_n_n none (r _ (mulf K.k (tile K.kd h))) (r _ (D h)) (constant S64x128 .f32 0x00000000#32))
    (matmul dot_S64x64_S64x128_S64x128_0_0_1_1_n_n none (r _ (K.sc h)) (r _ (K.out h)) (constant S64x128 .f32 0x00000000#32))

def dq0 : FVec F S64x256 .f32 :=
  addf (addf (addf (addf (addf (addf (addf (K.dqS 3) (K.dqA 3)) (K.dqS 2)) (K.dqA 2)) (K.dqS 1)) (K.dqA 1)) (K.dqS 0)) (K.dqA 0)

def dk0 : FVec F S64x256 .f32 :=
  addf (addf (addf (addf (addf (addf (addf (K.dkS D 3) (K.dkA 3)) (K.dkS D 2)) (K.dkA 2)) (K.dkS D 1)) (K.dkA 1)) (K.dkS D 0)) (K.dkA 0)

/-- The gradients of the query and key projections. -/
def dq : FVec F S64x256 .f32 := back K.dq0 K.cos K.sin
def dk : FVec F S64x256 .f32 := back (mulf (K.dk0 D) eighth) K.cos K.sin

end Chunk

end Cert.Kernel2Ideal.Hand
end
-- ==== Proof.RetPieces.lean ====
module

public import proofs.«01_k».proof.Proof.RetChunk

@[expose] public section

set_option maxRecDepth 16384

noncomputable section

/-! What a grid point stores, as pieces: eight chunks, the last first, each over the state's gradient that the chunk after
    it leaves. -/

namespace Cert.Kernel2Ideal.Hand

open Cert.Kernel2Ideal Cert.Kernel2Ideal.Gen Idealize.ShloMosaic Idealize.ShloMosaic.TcCoe
open Idealize.ShloMosaic.Tactic Idealize.SL.Sem

variable {F : FTy → Type} [FloatOps F] [Named F]

/-- What a point's loads read of its blocks. -/
structure Loads (F : FTy → Type) where
  p : (r : Rect S512x1536) → r.shape.Idx → F .f32
  s : (r : Rect S8x4x256x128) → r.shape.Idx → F .f32
  o : (r : Rect S512x512) → r.shape.Idx → F .f32
  cos : (r : Rect S512x256) → r.shape.Idx → F .f32
  sin : (r : Rect S512x256) → r.shape.Idx → F .f32
  dec : (r : Rect S4x64x64) → r.shape.Idx → F .f32
  hm : (r : Rect S4x64x256) → r.shape.Idx → F .f32
  qd : (r : Rect S4x64x256) → r.shape.Idx → F .f32
  kd : (r : Rect S4x64x256) → r.shape.Idx → F .f32

theorem inb_p (n : Fin 8) : ∀ a, ![64 * n.val, 0] a + S64x256.size a ≤ S512x1536.size a := by
  fin_cases n <;> decide
theorem inb_p' (n : Fin 8) : ∀ a, ![64 * n.val, 256] a + S64x256.size a ≤ S512x1536.size a := by
  fin_cases n <;> decide
theorem inb_v (n : Fin 8) (h : Fin 4) : ∀ a, ![64 * n.val, 512 + 128 * h.val] a + S64x128.size a ≤ S512x1536.size a := by
  fin_cases n <;> fin_cases h <;> decide
theorem inb_s (n : Fin 8) (h : Fin 4) : ∀ a, ![n.val, h.val, 0, 0] a + S1x1x256x128.size a ≤ S8x4x256x128.size a := by
  fin_cases n <;> fin_cases h <;> decide
theorem inb_o (n : Fin 8) (h : Fin 4) : ∀ a, ![64 * n.val, 128 * h.val] a + S64x128.size a ≤ S512x512.size a := by
  fin_cases n <;> fin_cases h <;> decide
theorem inb_c (n : Fin 8) : ∀ a, ![64 * n.val, 0] a + S64x256.size a ≤ S512x256.size a := by
  fin_cases n <;> decide
theorem inb_4 : ∀ a, ![0, 0, 0] a + S4x64x64.size a ≤ S4x64x64.size a := by decide
theorem inb_4' : ∀ a, ![0, 0, 0] a + S4x64x256.size a ≤ S4x64x256.size a := by decide
theorem inb_d (h : Fin 4) : ∀ a, ![h.val, 0, 0] a + S1x256x128.size a ≤ S4x256x128.size a := by
  fin_cases h <;> decide
theorem inb_g (n : Fin 8) : ∀ a, ![64 * n.val, 0] a + S64x256.size a ≤ S512x1024.size a := by
  fin_cases n <;> decide
theorem inb_g' (n : Fin 8) : ∀ a, ![64 * n.val, 256] a + S64x256.size a ≤ S512x1024.size a := by
  fin_cases n <;> decide
theorem inb_gv (n : Fin 8) (h : Fin 4) : ∀ a, ![64 * n.val, 512 + 128 * h.val] a + S64x128.size a ≤ S512x1024.size a := by
  fin_cases n <;> fin_cases h <;> decide

/-- The operands of the point's chunk `n`. -/
def Loads.chunk (L : Loads F) (n : Fin 8) : Chunk F where
  pq := L.p (Rect.unit ![64 * n.val, 0] S64x256.size (inb_p n))
  pk := L.p (Rect.unit ![64 * n.val, 256] S64x256.size (inb_p' n))
  v h := L.p (Rect.unit ![64 * n.val, 512 + 128 * h.val] S64x128.size (inb_v n h))
  s h := shapeCast S256x128 (L.s (Rect.unit ![n.val, h.val, 0, 0] S1x1x256x128.size (inb_s n h))) shapeCasts_S1x1x256x128_S256x128
  o h := L.o (Rect.unit ![64 * n.val, 128 * h.val] S64x128.size (inb_o n h))
  cos := shapeCast S64x256 (L.cos (Rect.unit ![64 * n.val, 0] S64x256.size (inb_c n))) shapeCasts_S64x256_S64x256
  sin := shapeCast S64x256 (L.sin (Rect.unit ![64 * n.val, 0] S64x256.size (inb_c n))) shapeCasts_S64x256_S64x256
  dec := shapeCast S4x64x64 (L.dec (Rect.unit ![0, 0, 0] S4x64x64.size inb_4)) shapeCasts_S4x64x64_S4x64x64
  hm := shapeCast S4x64x256 (L.hm (Rect.unit ![0, 0, 0] S4x64x256.size inb_4')) shapeCasts_S4x64x256_S4x64x256
  qd := shapeCast S4x64x256 (L.qd (Rect.unit ![0, 0, 0] S4x64x256.size inb_4')) shapeCasts_S4x64x256_S4x64x256
  kd := shapeCast S4x64x256 (L.kd (Rect.unit ![0, 0, 0] S4x64x256.size inb_4')) shapeCasts_S4x64x256_S4x64x256

/-- The state's gradient after the point's last `j` chunks. -/
def Loads.grad (L : Loads F) (D : Fin 4 → FVec F S256x128 .f32) : ℕ → Fin 4 → FVec F S256x128 .f32
  | 0 => D
  | j + 1 => (L.chunk ⟨7 - j, by omega⟩).next (L.grad D j)

/-- What chunk `n` stores. -/
def Loads.chunkPieces (L : Loads F) (D : Fin 4 → FVec F S256x128 .f32) (n : Fin 8) : List (View.Piece (Elt F) S512x1024 .f32) :=
  let K := L.chunk n
  let E := L.grad D (7 - n.val)
  [⟨Rect.unit ![64 * n.val, 512 + 128 * (3 : Fin 4).val] S64x128.size (inb_gv n 3), K.dv E 3⟩,
   ⟨Rect.unit ![64 * n.val, 512 + 128 * (2 : Fin 4).val] S64x128.size (inb_gv n 2), K.dv E 2⟩,
   ⟨Rect.unit ![64 * n.val, 512 + 128 * (1 : Fin 4).val] S64x128.size (inb_gv n 1), K.dv E 1⟩,
   ⟨Rect.unit ![64 * n.val, 512 + 128 * (0 : Fin 4).val] S64x128.size (inb_gv n 0), K.dv E 0⟩,
   ⟨Rect.unit ![64 * n.val, 256] S64x256.size (inb_g' n), K.dk E⟩,
   ⟨Rect.unit ![64 * n.val, 0] S64x256.size (inb_g n), K.dq⟩]

def Loads.pieces (L : Loads F) (D : Fin 4 → FVec F S256x128 .f32) : List (View.Piece (Elt F) S512x1024 .f32) :=
  L.chunkPieces D 0 ++ (L.chunkPieces D 1 ++ (L.chunkPieces D 2 ++ (L.chunkPieces D 3 ++ (L.chunkPieces D 4
    ++ (L.chunkPieces D 5 ++ (L.chunkPieces D 6 ++ L.chunkPieces D 7))))))

/-- What the point leaves in the carried scratch. -/
def Loads.carried (L : Loads F) (D : Fin 4 → FVec F S256x128 .f32) (h : Fin 4) : View.Piece (Elt F) S4x256x128 .f32 :=
  ⟨Rect.unit ![h.val, 0, 0] S1x256x128.size (inb_d h), shapeCast S1x256x128 (L.grad D 8 h) shapeCasts_S256x128_S1x256x128⟩

variable (m : (ℓ : Loc nD τ sig) → Buf (Elt F) ℓ)

/-- A point's loads. -/
def reads (c : Dev nD) (t : Fin cfg0.N) : Loads F where
  p r := (ms0_0 t).view.readAt (Elt F) r.toLoadRect ((hs0_0 t).unread (iblk m c 0 t))
  s r := (ms0_1 t).view.readAt (Elt F) r.toLoadRect ((hs0_1 t).unread (iblk m c 1 t))
  o r := (ms0_2 t).view.readAt (Elt F) r.toLoadRect ((hs0_2 t).unread (iblk m c 2 t))
  cos r := (ms0_3 t).view.readAt (Elt F) r.toLoadRect ((hs0_3 t).unread (iblk m c 3 t))
  sin r := (ms0_4 t).view.readAt (Elt F) r.toLoadRect ((hs0_4 t).unread (iblk m c 4 t))
  dec r := (ms0_5 t).view.readAt (Elt F) r.toLoadRect ((hs0_5 t).unread (iblk m c 5 t))
  hm r := (ms0_6 t).view.readAt (Elt F) r.toLoadRect ((hs0_6 t).unread (iblk m c 6 t))
  qd r := (ms0_7 t).view.readAt (Elt F) r.toLoadRect ((hs0_7 t).unread (iblk m c 7 t))
  kd r := (ms0_8 t).view.readAt (Elt F) r.toLoadRect ((hs0_8 t).unread (iblk m c 8 t))

/-- The state's gradient a point that is not the first starts from. -/
def start (X : Vec F S4x256x128 .f32) (h : Fin 4) : FVec F S256x128 .f32 :=
  shapeCast S256x128 (shapeCast S256x128 (scM0_0.view.readAt (Elt F) (Rect.unit (s := S4x256x128) ![h.val, 0, 0] S1x256x128.size (inb_d h)).toLoadRect
    ((Memref.isWhole_whole _).unread X)) shapeCasts_S1x256x128_S256x128) shapeCasts_S256x128_S256x128

/-- The scratch as the first point fills it. -/
def fill : List (View.Piece (Elt F) S4x256x128 .f32) :=
  [⟨Rect.unit ![0, 0, 0] S4x256x128.size inb_S4x256x128_S4x256x128_0_0_0, k0_pay2⟩]

/-- The state's gradient the first point starts from. -/
def start0 (h : Fin 4) : FVec F S256x128 .f32 :=
  shapeCast S256x128 (shapeCast S256x128 (scM0_0.view.readCov (Val := Elt F) fill (Rect.unit (s := S4x256x128) ![h.val, 0, 0] S1x256x128.size (inb_d h)).toLoadRect)
    shapeCasts_S1x256x128_S256x128) shapeCasts_S256x128_S256x128

def Loads.scratch (L : Loads F) (D : Fin 4 → FVec F S256x128 .f32) : List (View.Piece (Elt F) S4x256x128 .f32) :=
  [L.carried D 3, L.carried D 2, L.carried D 1, L.carried D 0]

theorem out_B (c : Dev nD) (t : Fin cfg0.N) (h0 : ¬t.val % 4 = 0) (X : Vec F S4x256x128 .f32)
    (hX : (outsAt0 m c (t.val - 1) (Nat.lt_of_le_of_lt (Nat.sub_le _ _) t.isLt)).2 = X) :
    (outsAt0 m c t.val t.isLt).1 = View.canon ((reads m c t).pieces (start X)) := by
  rw [outsAt0_B m c t h0, hX]
  funext y
  refine (View.read_writes_junk_apply_eq_canon (Val := Elt F) VO0_9 y _).trans (congrFun (congrArg View.canon ?_) y)
  sl_kernel_rfl

set_option maxHeartbeats 4000000 in
theorem scr_B (c : Dev nD) (t : Fin cfg0.N) (h0 : ¬t.val % 4 = 0) (X : Vec F S4x256x128 .f32)
    (hX : (outsAt0 m c (t.val - 1) (Nat.lt_of_le_of_lt (Nat.sub_le _ _) t.isLt)).2 = X) :
    (outsAt0 m c t.val t.isLt).2 = View.canon ((reads m c t).scratch (start X)) := by
  rw [outsAt0_B m c t h0, hX]
  funext y
  refine (View.read_writes_junk_apply_eq_canon (Val := Elt F) VS0_0 y _).trans (congrFun (congrArg View.canon ?_) y)
  sl_kernel_rfl

theorem out_A (c : Dev nD) (t : Fin cfg0.N) (h0 : t.val % 4 = 0) :
    (outsAt0 m c t.val t.isLt).1 = View.canon ((reads m c t).pieces start0) := by
  rw [outsAt0_A m c t h0]
  funext y
  refine (View.read_writes_junk_apply_eq_canon (Val := Elt F) VO0_9 y _).trans (congrFun (congrArg View.canon ?_) y)
  sl_kernel_rfl

set_option maxHeartbeats 4000000 in
theorem scr_A (c : Dev nD) (t : Fin cfg0.N) (h0 : t.val % 4 = 0) :
    (outsAt0 m c t.val t.isLt).2 = View.canon ((reads m c t).scratch start0 ++ fill) := by
  rw [outsAt0_A m c t h0]
  funext y
  refine (View.read_writes_junk_apply_eq_canon (Val := Elt F) VS0_0 y _).trans (congrFun (congrArg View.canon ?_) y)
  sl_kernel_rfl

end Cert.Kernel2Ideal.Hand
end
-- ==== Proof.RetHost.lean ====
module

public import proofs.«01_k».proof.Proof.RetPieces
public import proofs.«01_k».proof.Proof.Gen.Reference2Ideal.Run
public import Idealize.ShloMosaic.Lib.Pipeline.ValueKit
public import Idealize.ShloMosaic.Lib.StableHlo.RunRead

@[expose] public section

set_option maxRecDepth 16384

noncomputable section

/-! What the kernel's host lines leave for its windows, over the reference's values. -/

namespace Cert.Kernel2Ideal.Hand

open Cert.Kernel2Ideal Cert.Kernel2Ideal.Gen Idealize.ShloMosaic Idealize.ShloMosaic.TcCoe
open Idealize.ShloMosaic.Tactic Idealize.SL.Sem Idealize.ShloMosaic.StableHlo
open Cert.Reference2Ideal.Value (res_main_v17 res_main_v19 res_main_v21 res_main_v76 res_main_v77 res_main_v111 res_main_v116 res_main_v121 res_main_v125
  res_main_v127 res_main_v324 res_main_v325 res_main_v50 res_main_v52 res_main_v53 res_main_v54)

variable {F : FTy → Type} [FloatOps F] [Named F]
variable (m : (ℓ : Loc nD τ sig) → Buf (Elt F) ℓ)
variable (W : Valuation Cert.Reference2Ideal.τ Cert.Reference2Ideal.sig (Elt F))

/-- The buffers once the chunks' contributions to the states are there. -/
def mid (c : Dev nD) : Valuation τ sig (Elt F) :=
  after (List.take 94 hostOps0_2) (after hostOps0_1 (after hostOps0 (fun b => m (c, b))))

theorem V_eq (c : Dev nD) (r : Ref sig .tc) : V m c r = after (List.drop 94 hostOps0_2) (mid m c) (no_index (Proc.devRef .tc r)) := by
  unfold V mid
  rw [← StableHlo.after_append, List.take_append_drop, ← StableHlo.after_append, ← StableHlo.after_append]
  rfl

theorem mid_zero (c : Dev nD) : mid m c (Proc.devRef .tc main_v143) = res_main_v125 W := by
  unfold mid
  after_reads_simp
  rfl

theorem mid_decay (c : Dev nD) : mid m c (Proc.devRef .tc main_v136) = res_main_v111 W := by
  unfold mid
  after_reads_simp
  rfl

theorem mid_empty (c : Dev nD) : mid m c (Proc.devRef .tc main_v146)
    = broadcastInDim S0x1x4x64x128 ![] bcast_S_S0x1x4x64x128 (constant (F := F) S_ .f32 0x00000000#32) := by
  unfold mid
  after_reads_simp

theorem mid_kv (c : Dev nD) (hX : W (Proc.devRef .tc Cert.Reference2Ideal.main_arg0) = m ((c : Thread nD τ).loc main_arg0)) :
    mid m c (Proc.devRef .tc main_v145) = res_main_v127 W := by
  have e : (m (c, Proc.devRef .tc main_arg0)) = W (Proc.devRef .tc Cert.Reference2Ideal.main_arg0) := hX.symm
  have e1 : upto (List.take 94 hostOps0_2) (after hostOps0_1 (after hostOps0 fun b => m (c, b))) 49 (Proc.devRef .tc main_v104)
      = subf (mulf (res_main_v53 W) (broadcastInDim S1x2048x4x32 ![0, 1, 2, 3] bcast_S1x2048x1x32_S1x2048x4x32_0_1_2_3 (res_main_v50 W)))
          (mulf (res_main_v54 W) (broadcastInDim S1x2048x4x32 ![0, 1, 2, 3] bcast_S1x2048x1x32_S1x2048x4x32_0_1_2_3 (res_main_v52 W))) := by
    after_reads_simp
    rw [e]
    rfl
  have e2 : upto (List.take 94 hostOps0_2) (after hostOps0_1 (after hostOps0 fun b => m (c, b))) 49 (Proc.devRef .tc main_v109)
      = addf (mulf (res_main_v53 W) (broadcastInDim S1x2048x4x32 ![0, 1, 2, 3] bcast_S1x2048x1x32_S1x2048x4x32_0_1_2_3 (res_main_v52 W)))
          (mulf (res_main_v54 W) (broadcastInDim S1x2048x4x32 ![0, 1, 2, 3] bcast_S1x2048x1x32_S1x2048x4x32_0_1_2_3 (res_main_v50 W))) := by
    after_reads_simp
    rw [e]
    rfl
  unfold mid
  after_reads_simp
  rw [e, e1, e2]
  rfl

theorem V_dec (c : Dev nD) : broadcastInDim Cert.Reference2Ideal.S1x1x4x64x64 ![2, 3, 4] Cert.Reference2Ideal.Gen.bcast_S4x64x64_S1x1x4x64x64_2_3_4 (V m c main_v44) = res_main_v116 W := by
  rw [V_eq]
  unfold mid
  after_reads_simp
  rfl

end Cert.Kernel2Ideal.Hand
-- ==== Proof.RetAlgebra.lean ====
module

public import proofs.«01_k».proof.Proof.RetChunk

@[expose] public section

set_option maxRecDepth 16384

noncomputable section

/-! A chunk's results at an index, once its operands are known: 256 lanes are four heads of 64, and the head masks leave
    each head its own. -/

namespace Cert.Kernel2Ideal.Hand

open Cert.Kernel2Ideal Cert.Kernel2Ideal.Gen Idealize.ShloMosaic

/-- Lane `d` of head `h`. -/
def lane (h : Fin 4) (d : Fin 64) : Fin 256 := ⟨64 * h.val + d.val, by omega⟩

theorem sum_lane {M : Type} [AddCommMonoid M] (f : Fin 256 → M) : ∑ l, f l = ∑ h : Fin 4, ∑ d : Fin 64, f (lane h d) := by
  rw [← Fintype.sum_prod_type' (f := fun h d => f (lane h d))]
  refine (Fintype.sum_equiv (finProdFinEquiv (m := 4) (n := 64)) _ _ fun x => congrArg f (Fin.ext ?_)).symm
  simp [lane, finProdFinEquiv]
  omega

/-- A sum whose terms vanish off head `h`. -/
theorem sum_head {M : Type} [AddCommMonoid M] (f : Fin 256 → M) (h : Fin 4) (hf : ∀ g d, g ≠ h → f (lane g d) = 0) :
    ∑ l, f l = ∑ d : Fin 64, f (lane h d) := by
  rw [sum_lane]
  exact Finset.sum_eq_single h (fun g _ hg => Finset.sum_eq_zero fun d _ => hf g d hg) (by simp)

/-- What is known of a chunk's operands. -/
structure Known (K : Chunk Ideal) where
  Q : Fin 64 → Fin 4 → Fin 64 → EReal
  Y : Fin 64 → Fin 4 → Fin 64 → EReal
  V : Fin 64 → Fin 4 → Fin 128 → EReal
  O : Fin 64 → Fin 4 → Fin 128 → EReal
  S : Fin 4 → Fin 64 → Fin 128 → EReal
  A : Fin 4 → Fin 64 → Fin 64 → EReal
  qd : Fin 64 → Fin 4 → EReal
  kd : Fin 64 → Fin 4 → EReal
  hq : ∀ i h d, K.q (ix2 i (lane h d)) = Q i h d
  hk : ∀ i h d, K.k (ix2 i (lane h d)) = Y i h d
  hv : ∀ i h e, K.v h (ix2 i e) = V i h e
  ho : ∀ i h e, K.o h (ix2 i e) = O i h e
  hs : ∀ h d e, K.s h (ix2 (lane h d) e) = S h d e
  hdec : ∀ h i j, K.dec (ix3 h i j) = A h i j
  hhm : ∀ h i g d, K.hm (ix3 h i (lane g d)) = if g = h then 1 else 0
  hqd : ∀ h i g d, K.qd (ix3 h i (lane g d)) = if g = h then qd i h else 0
  hkd : ∀ h i g d, K.kd (ix3 h i (lane g d)) = if g = h then kd i h else 0

theorem tile_apply (T : FVec Ideal S4x64x256 .f32) (h : Fin 4) (i : Fin 64) (l : Fin 256) : tile T h (ix2 i l) = T (ix3 h i l) := by
  fin_cases h <;> pointwise [tile]

theorem tile64_apply (T : FVec Ideal S4x64x64 .f32) (h : Fin 4) (i j : Fin 64) : tile64 T h (ix2 i j) = T (ix3 h i j) := by
  fin_cases h <;> pointwise [tile64]

namespace Known

variable {K : Chunk Ideal} (H : Known K)

include H

theorem out_apply (h : Fin 4) (i : Fin 64) (e : Fin 128) : K.out h (ix2 i e) = H.O i h e := by
  rw [← H.ho]; pointwise [Chunk.out]

theorem qh_apply (h : Fin 4) (i : Fin 64) (g : Fin 4) (d : Fin 64) : K.qh h (ix2 i (lane g d)) = if g = h then H.Q i h d else 0 := by
  pointwise [Chunk.qh]
  rw [H.hq, tile_apply, H.hhm]
  split
  · rename_i e; rw [e, mul_one]
  · rw [mul_zero]

theorem kh_apply (h : Fin 4) (i : Fin 64) (g : Fin 4) (d : Fin 64) : K.kh h (ix2 i (lane g d)) = if g = h then H.Y i h d else 0 := by
  pointwise [Chunk.kh]
  rw [H.hk, tile_apply, H.hhm]
  split
  · rename_i e; rw [e, mul_one]
  · rw [mul_zero]

theorem sc_apply (h : Fin 4) (i j : Fin 64) : K.sc h (ix2 i j) = (∑ d, H.Q i h d * H.Y j h d) * H.A h i j := by
  pointwise [Chunk.sc]
  rw [tile64_apply, H.hdec, sum_head _ h fun g d hg => by rw [H.qh_apply, if_neg hg, zero_mul]]
  simp only [H.qh_apply, H.kh_apply, if_true]

theorem dA_apply (h : Fin 4) (i j : Fin 64) : K.dA h (ix2 i j) = (∑ e, H.O i h e * H.V j h e) * H.A h i j := by
  pointwise [Chunk.dA]
  simp only [tile64_apply, H.hdec, H.out_apply, H.hv]

theorem dqS_apply (h : Fin 4) (i : Fin 64) (g : Fin 4) (d : Fin 64) :
    K.dqS h (ix2 i (lane g d)) = if g = h then (∑ e, H.O i h e * H.S h d e) * H.qd i h else 0 := by
  pointwise [Chunk.dqS]
  rw [tile_apply, H.hqd]
  split
  · rename_i e; subst e; simp only [H.out_apply, H.hs]
  · rw [mul_zero]

theorem dqA_apply (h : Fin 4) (i : Fin 64) (g : Fin 4) (d : Fin 64) :
    K.dqA h (ix2 i (lane g d)) = if g = h then ∑ j, K.dA h (ix2 i j) * H.Y j h d else 0 := by
  pointwise [Chunk.dqA]
  rw [tile_apply, H.hhm]
  split
  · rename_i e; subst e; simp only [H.kh_apply, if_true, mul_one]
  · rw [mul_zero]

theorem dq0_apply (h : Fin 4) (i d : Fin 64) :
    K.dq0 (ix2 i (lane h d)) = (∑ e, H.O i h e * H.S h d e) * H.qd i h + ∑ j, K.dA h (ix2 i j) * H.Y j h d := by
  pointwise [Chunk.dq0]
  simp only [H.dqS_apply, H.dqA_apply]
  fin_cases h <;> simp

variable (D : Fin 4 → FVec Ideal S256x128 .f32)

theorem next_apply (h : Fin 4) (d : Fin 64) (e : Fin 128) :
    K.next D h (ix2 (lane h d) e) = D h (ix2 (lane h d) e) * gamma h + ∑ i, H.Q i h d * H.qd i h * H.O i h e := by
  pointwise [Chunk.next]
  simp only [tile_apply, H.hq, H.hqd, if_true, H.out_apply]

theorem dkS_apply (h : Fin 4) (i : Fin 64) (g : Fin 4) (d : Fin 64) :
    K.dkS D h (ix2 i (lane g d)) = if g = h then (∑ e, H.V i h e * D h (ix2 (lane h d) e)) * H.kd i h else 0 := by
  pointwise [Chunk.dkS]
  rw [tile_apply, H.hkd]
  split
  · rename_i e; subst e; simp only [H.hv]
  · rw [mul_zero]

theorem dkA_apply (h : Fin 4) (i : Fin 64) (g : Fin 4) (d : Fin 64) :
    K.dkA h (ix2 i (lane g d)) = if g = h then ∑ j, K.dA h (ix2 j i) * H.Q j h d else 0 := by
  pointwise [Chunk.dkA]
  rw [tile_apply, H.hhm]
  split
  · rename_i e; subst e; simp only [H.qh_apply, if_true, mul_one]
  · rw [mul_zero]

theorem dk0_apply (h : Fin 4) (i d : Fin 64) :
    K.dk0 D (ix2 i (lane h d)) = (∑ e, H.V i h e * D h (ix2 (lane h d) e)) * H.kd i h + ∑ j, K.dA h (ix2 j i) * H.Q j h d := by
  pointwise [Chunk.dk0]
  simp only [H.dkS_apply, H.dkA_apply]
  fin_cases h <;> simp

theorem dv_apply (h : Fin 4) (i : Fin 64) (e : Fin 128) :
    K.dv D h (ix2 i e) = (∑ d, H.Y i h d * H.kd i h * D h (ix2 (lane h d) e)) + ∑ j, K.sc h (ix2 j i) * H.O j h e := by
  pointwise [Chunk.dv]
  rw [sum_head _ h fun g d hg => by rw [tile_apply, H.hkd, if_neg hg, mul_zero, zero_mul]]
  simp only [tile_apply, H.hk, H.hkd, if_true, H.out_apply]

end Known

end Cert.Kernel2Ideal.Hand
end
-- ==== Proof.RetRope.lean ====
module

public import proofs.«01_k».proof.Proof.RetAlgebra

@[expose] public section

set_option maxRecDepth 16384

noncomputable section

/-! The rotary turn and its transpose at an index. -/

namespace Cert.Kernel2Ideal.Hand

open Cert.Kernel2Ideal Cert.Kernel2Ideal.Gen Idealize.ShloMosaic

/-- The lane paired with `d` in its head. -/
def mate (d : Fin 64) : Fin 64 := ⟨(d.val + 32) % 64, Nat.mod_lt _ (by decide)⟩

theorem half_bit : ∀ l : Fin 256, IntOp.cmpi .slt (IntOp.andi (BitVec.ofNat 32 l.val) 63#32) 32#32 = if l.val % 64 < 32 then 1#1 else 0#1 := by
  decide +kernel

theorem swap_apply (x : FVec Ideal S64x256 .f32) (i : Fin 64) (h : Fin 4) (d : Fin 64) :
    swap x (ix2 i (lane h d)) = x (ix2 i (lane h (mate d))) := by
  pointwise [swap]
  rw [half_bit]
  have h0 := h.isLt
  have d0 := d.isLt
  by_cases hd : d.val < 32
  · rw [if_pos (by simp only [lane]; omega)]
    refine congrArg (fun l => x (ix2 i l)) (Fin.ext ?_)
    simp only [lane, mate]
    omega
  · rw [if_neg (by simp only [lane]; omega)]
    refine congrArg (fun l => x (ix2 i l)) (Fin.ext ?_)
    simp only [lane, mate]
    omega

theorem turn_apply (x cos sin : FVec Ideal S64x256 .f32) (i : Fin 64) (h : Fin 4) (d : Fin 64) :
    turn x cos sin (ix2 i (lane h d)) = x (ix2 i (lane h d)) * cos (ix2 i (lane h d)) + x (ix2 i (lane h (mate d))) * sin (ix2 i (lane h d)) := by
  pointwise [turn]
  rw [swap_apply]

theorem back_apply (y cos sin : FVec Ideal S64x256 .f32) (i : Fin 64) (h : Fin 4) (d : Fin 64) :
    back y cos sin (ix2 i (lane h d)) = y (ix2 i (lane h (mate d))) * sin (ix2 i (lane h (mate d))) + y (ix2 i (lane h d)) * cos (ix2 i (lane h d)) := by
  pointwise [back]
  rw [swap_apply]
  pointwise

theorem eighth_apply (j : S64x256.Idx) : eighth (F := Ideal) j = Ideal.ofBits .f32 0x3E000000#32 := by
  pointwise [eighth]

end Cert.Kernel2Ideal.Hand
end
-- ==== Proof.RetRef.lean ====
module

public import proofs.«01_k».proof.Proof.Gen.Reference2Ideal.Run
public import Idealize.ShloMosaic.Lib.Pointwise

@[expose] public section

set_option maxRecDepth 16384

noncomputable section

/-! The reference's values at an index. -/

namespace Cert.Reference2Ideal.Hand

open Cert.Reference2Ideal Cert.Reference2Ideal.Gen Cert.Reference2Ideal.Value Idealize.ShloMosaic Idealize.ShloMosaic.TcCoe
open Idealize.SL.Sem Idealize.ShloMosaic.StableHlo

variable (W : Valuation τ sig (Elt Ideal))

/-- Row `i` of chunk `N`. -/
def row (N : Fin 32) (i : Fin 64) : Fin 2048 := ⟨64 * N.val + i.val, by omega⟩

/-- The operands: queries and keys after the turn, values, the output's gradient. -/
abbrev qAt (N : Fin 32) (i : Fin 64) (h : Fin 4) (d : Fin 64) : EReal := res_main_v112 W (ix5 0 N i h d)
abbrev kAt (N : Fin 32) (i : Fin 64) (h : Fin 4) (d : Fin 64) : EReal := res_main_v113 W (ix5 0 N i h d)
abbrev vAt (N : Fin 32) (i : Fin 64) (h : Fin 4) (e : Fin 128) : EReal := res_main_v114 W (ix5 0 N i h e)
abbrev oAt (N : Fin 32) (i : Fin 64) (h : Fin 4) (e : Fin 128) : EReal := res_main_v335 W (ix5 0 N i h e)
/-- The tables: the turn's cosines and sines, the decays. -/
abbrev cosAt (T : Fin 2048) (e : Fin 32) : EReal := res_main_v19 W (ix4 0 T 0 e)
abbrev sinAt (T : Fin 2048) (e : Fin 32) : EReal := res_main_v21 W (ix4 0 T 0 e)
abbrev decAt (h : Fin 4) (i j : Fin 64) : EReal := res_main_v116 W (ix5 0 0 h i j)
abbrev qdAt (i : Fin 64) (h : Fin 4) : EReal := res_main_v325 W (ix5 0 0 i h 0)
abbrev kdAt (i : Fin 64) (h : Fin 4) : EReal := res_main_v121 W (ix5 0 0 i h 0)
abbrev gamAt (h : Fin 4) : EReal := res_main_v111 W (ix4 0 h 0 0)
/-- The state a chunk starts from, and the gradient of the state it leaves. -/
abbrev stAt (N : Fin 32) (h : Fin 4) (d : Fin 64) (e : Fin 128) : EReal := res_main_v324 W (ix5 N 0 h d e)
abbrev dstAt (N : Fin 32) (h : Fin 4) (d : Fin 64) (e : Fin 128) : EReal := res_main_v542 W (ix5 N 0 h d e)

/-- The scores, and their gradients. -/
abbrev scAt (N : Fin 32) (h : Fin 4) (i j : Fin 64) : EReal := res_main_v118 W (ix5 0 N h i j)
abbrev dscAt (N : Fin 32) (h : Fin 4) (i j : Fin 64) : EReal := res_main_v555 W (ix5 0 N h i j)

theorem scores (N : Fin 32) (h : Fin 4) (i j : Fin 64) :
    scAt W N h i j = (∑ d : Fin 64, qAt W N i h d * kAt W N j h d) * decAt W h i j := by
  unfold scAt
  pointwise [res_main_v118]

theorem dscores (N : Fin 32) (h : Fin 4) (i j : Fin 64) :
    dscAt W N h i j = (∑ e : Fin 128, oAt W N i h e * vAt W N j h e) * decAt W h i j := by
  unfold dscAt
  pointwise [res_main_v555, res_main_v549]

/-- What a chunk adds to the state's gradient. -/
theorem inner (N : Fin 32) (h : Fin 4) (d : Fin 64) (e : Fin 128) :
    res_main_v340 W (ix5 N 0 h d e) = ∑ i : Fin 64, oAt W N i h e * (qAt W N i h d * qdAt W i h) := by
  pointwise [res_main_v340, res_main_v336, res_main_v327]

theorem dq0 (N : Fin 32) (i : Fin 64) (h : Fin 4) (d : Fin 64) : res_main_v564 W (ix4 0 (row N i) h d)
    = (∑ e : Fin 128, oAt W N i h e * stAt W N h d e) * qdAt W i h + ∑ j : Fin 64, dscAt W N h i j * kAt W N j h d := by
  unfold row
  pointwise [res_main_v564, res_main_v336]

theorem dk0 (N : Fin 32) (i : Fin 64) (h : Fin 4) (d : Fin 64) : res_main_v567 W (ix4 0 (row N i) h d)
    = ((∑ e : Fin 128, dstAt W N h d e * vAt W N i h e) * kdAt W i h + ∑ j : Fin 64, dscAt W N h j i * qAt W N j h d)
      * Ideal.ofBits .f32 0x3E000000#32 := by
  unfold row
  pointwise [res_main_v567]

/-- The turn's transpose, from the two halves of the lanes. -/
def unturn (lo hi : FVec Ideal S1x2048x4x32 .f32) (co si : FVec Ideal S1x2048x1x32 .f32) : FVec Ideal S1x2048x4x64 .f32 :=
  addf (pad S1x2048x4x64 ![0, 0, 0, 32] ![0, 0, 0, 0] ![0, 0, 0, 0]
      (addf (mulf hi (broadcastInDim S1x2048x4x32 ![0, 1, 2, 3] bcast_S1x2048x1x32_S1x2048x4x32_0_1_2_3 co))
        (mulf (Host.negf lo) (broadcastInDim S1x2048x4x32 ![0, 1, 2, 3] bcast_S1x2048x1x32_S1x2048x4x32_0_1_2_3 si)))
      (constant S_ .f32 0x00000000#32) pads_S1x2048x4x32_S1x2048x4x64_000_000_000_3200 h_S_)
    (pad S1x2048x4x64 ![0, 0, 0, 0] ![0, 0, 0, 32] ![0, 0, 0, 0]
      (addf (mulf hi (broadcastInDim S1x2048x4x32 ![0, 1, 2, 3] bcast_S1x2048x1x32_S1x2048x4x32_0_1_2_3 si))
        (mulf lo (broadcastInDim S1x2048x4x32 ![0, 1, 2, 3] bcast_S1x2048x1x32_S1x2048x4x32_0_1_2_3 co)))
      (constant S_ .f32 0x00000000#32) pads_S1x2048x4x32_S1x2048x4x64_000_000_000_0320 h_S_)

/-- The gradient of the values. -/
def dvs : FVec Ideal S1x32x64x4x128 .f32 :=
  addf (transpose S1x32x64x4x128 [1, 0, 4, 2, 3] (Host.dotGeneral (φ₁ := .f32) (φ₂ := .f32) dot_S32x1x4x64x128_S1x32x64x4x64_S32x1x4x128x64_3_4_4_2_012_103 none
      (res_main_v542 W) (res_main_v123 W)) transposes_S32x1x4x128x64_S1x32x64x4x128_1_0_4_2_3)
    (transpose S1x32x64x4x128 [0, 1, 4, 2, 3] (Host.dotGeneral (φ₁ := .f32) (φ₂ := .f32) dot_S1x32x4x128x64_S1x32x4x64x64_S1x32x4x128x64_4_3_3_4_012_012 none
      (res_main_v549 W) (res_main_v118 W)) transposes_S1x32x4x128x64_S1x32x64x4x128_0_1_4_2_3)

/-- The result: the gradients of the queries, the keys and the values side by side. -/
def grads : FVec Ideal S2048x1024 .f32 :=
  concatenate S2048x1024 1
    [⟨S2048x256, shapeCast S2048x256 (unturn (res_main_v585 W) (res_main_v586 W) (res_main_v19 W) (res_main_v21 W)) shapeCasts_S1x2048x4x64_S2048x256⟩,
     ⟨S2048x256, shapeCast S2048x256 (unturn (res_main_v568 W) (res_main_v569 W) (res_main_v50 W) (res_main_v52 W)) shapeCasts_S1x2048x4x64_S2048x256⟩,
     ⟨S2048x512, shapeCast S2048x512 (shapeCast S1x2048x4x128 (dvs W) shapeCasts_S1x32x64x4x128_S1x2048x4x128) shapeCasts_S1x2048x4x128_S2048x512⟩]
    concatenates_S2048x256_S2048x256_S2048x512_S2048x1024_d1

theorem dvs_apply (N : Fin 32) (i : Fin 64) (h : Fin 4) (e : Fin 128) : dvs W (ix5 0 N i h e)
    = (∑ d : Fin 64, dstAt W N h d e * (kAt W N i h d * kdAt W i h)) + ∑ j : Fin 64, oAt W N j h e * scAt W N h j i := by
  pointwise [dvs, res_main_v123, res_main_v549]

theorem unturn_lo (lo hi : FVec Ideal S1x2048x4x32 .f32) (co si : FVec Ideal S1x2048x1x32 .f32) (T : Fin 2048) (h : Fin 4) (d : Fin 32) :
    unturn lo hi co si (ix4 0 T h ⟨d.val, by omega⟩) = hi (ix4 0 T h d) * si (ix4 0 T 0 d) + lo (ix4 0 T h d) * co (ix4 0 T 0 d) := by
  pointwise [unturn]
  simp

theorem unturn_hi (lo hi : FVec Ideal S1x2048x4x32 .f32) (co si : FVec Ideal S1x2048x1x32 .f32) (T : Fin 2048) (h : Fin 4) (d : Fin 32) :
    unturn lo hi co si (ix4 0 T h ⟨32 + d.val, by omega⟩) = hi (ix4 0 T h d) * co (ix4 0 T 0 d) + -lo (ix4 0 T h d) * si (ix4 0 T 0 d) := by
  pointwise [unturn]

theorem grads_q (T : Fin 2048) (h : Fin 4) (d : Fin 64) : grads W (ix2 T ⟨64 * h.val + d.val, by omega⟩)
    = unturn (res_main_v585 W) (res_main_v586 W) (res_main_v19 W) (res_main_v21 W) (ix4 0 T h d) := by
  pointwise [grads]
  rw [dif_pos (by omega)]

theorem grads_k (T : Fin 2048) (h : Fin 4) (d : Fin 64) : grads W (ix2 T ⟨256 + (64 * h.val + d.val), by omega⟩)
    = unturn (res_main_v568 W) (res_main_v569 W) (res_main_v50 W) (res_main_v52 W) (ix4 0 T h d) := by
  pointwise [grads]
  rw [dif_pos (by omega)]

theorem grads_v (N : Fin 32) (i : Fin 64) (h : Fin 4) (e : Fin 128) : grads W (ix2 (row N i) ⟨512 + (128 * h.val + e.val), by omega⟩)
    = dvs W (ix5 0 N i h e) := by
  unfold row
  pointwise [grads]
  rw [dif_neg (by omega), dif_neg (by omega)]
  refine congrArg₂ (fun a b => dvs W (ix5 0 N i a b)) (Fin.ext ?_) (Fin.ext ?_) <;> simp only <;> omega

end Cert.Reference2Ideal.Hand
-- ==== Proof.RetTables.lean ====
module

public import proofs.«01_k».proof.Proof.RetHost
public import proofs.«01_k».proof.Proof.RetRope
public import proofs.«01_k».proof.Proof.RetRef

@[expose] public section

set_option maxRecDepth 16384

noncomputable section

/-! The tables the kernel's windows read, at an index, over the reference's values. -/

namespace Cert.Kernel2Ideal.Hand

open Cert.Kernel2Ideal Cert.Kernel2Ideal.Gen Idealize.ShloMosaic Idealize.ShloMosaic.TcCoe
open Idealize.ShloMosaic.Tactic Idealize.SL.Sem Idealize.ShloMosaic.StableHlo
open Cert.Reference2Ideal.Value (res_main_v17 res_main_v19 res_main_v21 res_main_v116 res_main_v121 res_main_v325)
open Cert.Reference2Ideal.Hand (cosAt sinAt decAt qdAt kdAt)

variable (m : (ℓ : Loc nD τ sig) → Buf (Elt Ideal) ℓ)
variable (W : Valuation Cert.Reference2Ideal.τ Cert.Reference2Ideal.sig (Elt Ideal))

/-- The turn's table over all heads: two halves of 32 lanes a head. -/
def spread (a b : FVec Ideal S2048x32 .f32) : FVec Ideal S2048x256 .f32 :=
  shapeCast S2048x256 (broadcastInDim S1x2048x4x64 ![0, 1, 2, 3] bcast_S1x2048x1x64_S1x2048x4x64_0_1_2_3
    (shapeCast S1x2048x1x64 (concatenate S2048x64 1 [⟨S2048x32, a⟩, ⟨S2048x32, b⟩] concatenates_S2048x32_S2048x32_S2048x64_d1)
      shapeCasts_S2048x64_S1x2048x1x64)) shapeCasts_S1x2048x4x64_S2048x256

/-- The kernel's tables. -/
abbrev cosT (c : Dev nD) : FVec Ideal S2048x256 .f32 := V m c main_v18
abbrev sinT (c : Dev nD) : FVec Ideal S2048x256 .f32 := V m c main_v23
abbrev decT (c : Dev nD) : FVec Ideal S4x64x64 .f32 := V m c main_v44
abbrev hmT (c : Dev nD) : FVec Ideal S4x64x256 .f32 := V m c main_v71
abbrev qdT (c : Dev nD) : FVec Ideal S4x64x256 .f32 := V m c main_v74
abbrev kdT (c : Dev nD) : FVec Ideal S4x64x256 .f32 := V m c main_v77
abbrev stT (c : Dev nD) : FVec Ideal S32x4x256x128 .f32 := V m c main_v352

/-- The lane's pair in its half. -/
def fold (d : Fin 64) : Fin 32 := ⟨d.val % 32, Nat.mod_lt _ (by decide)⟩

theorem spread_apply (a b : FVec Ideal S2048x32 .f32) (T : Fin 2048) (h : Fin 4) (d : Fin 64) :
    spread a b (ix2 T (lane h d)) = if d.val < 32 then a (ix2 T (fold d)) else b (ix2 T (fold d)) := by
  have e : spread a b (ix2 T (lane h d)) = concatenate S2048x64 1 [⟨S2048x32, a⟩, ⟨S2048x32, b⟩] concatenates_S2048x32_S2048x32_S2048x64_d1 (ix2 T d) := by
    unfold lane
    pointwise [spread]
  rw [e]
  split
  · have : fold d = ⟨d.val, by omega⟩ := Fin.ext (Nat.mod_eq_of_lt (by assumption))
    rw [this]
    pointwise
    rw [dif_pos (by assumption)]
  · have : fold d = ⟨d.val - 32, by omega⟩ := Fin.ext (by simp only [fold]; omega)
    rw [this]
    pointwise
    rw [dif_neg (by assumption)]

theorem V_cos (c : Dev nD) : V m c main_v18 = spread (Host.cos (res_main_v17 W)) (Host.cos (res_main_v17 W)) := by
  have e : upto hostOps0 (fun b => m (c, b)) 17 (Proc.devRef .tc main_v13) = Host.cos (res_main_v17 W) := by
    after_reads_simp
    rfl
  rw [V_eq]
  unfold mid
  after_reads_simp
  rw [e]
  rfl

theorem V_sin (c : Dev nD) : V m c main_v23 = spread (Host.negf (Host.sin (res_main_v17 W))) (Host.sin (res_main_v17 W)) := by
  have e : upto hostOps0 (fun b => m (c, b)) 22 (Proc.devRef .tc main_v19) = Host.negf (Host.sin (res_main_v17 W)) := by
    after_reads_simp
    rfl
  have e' : upto hostOps0 (fun b => m (c, b)) 22 (Proc.devRef .tc main_v14) = Host.sin (res_main_v17 W) := by
    after_reads_simp
    rfl
  rw [V_eq]
  unfold mid
  after_reads_simp
  rw [e, e']
  rfl

theorem cos_apply (c : Dev nD) (T : Fin 2048) (h : Fin 4) (d : Fin 64) : cosT m c (ix2 T (lane h d)) = cosAt W T (fold d) := by
  unfold cosT cosAt
  rw [V_cos m W, spread_apply]
  simp only [ite_self]
  pointwise [res_main_v19]

theorem sin_apply (c : Dev nD) (T : Fin 2048) (h : Fin 4) (d : Fin 64) :
    sinT m c (ix2 T (lane h d)) = if d.val < 32 then -sinAt W T (fold d) else sinAt W T (fold d) := by
  unfold sinT sinAt
  rw [V_sin m W, spread_apply]
  pointwise [res_main_v21]

theorem dec_apply (c : Dev nD) (h : Fin 4) (i j : Fin 64) : decT m c (ix3 h i j) = decAt W h i j := by
  unfold decT decAt
  rw [← V_dec m W c]
  pointwise

/-- Each lane's head. -/
theorem heads (c : Dev nD) : ∀ l : Fin 256, (after hostOps0_1 (after hostOps0 fun b => m (c, b)) (Proc.devRef .tc main_v62) : IVec S256 32) (ix1 l)
    = BitVec.ofNat 32 (l.val / 64) := by
  after_reads_simp
  exact of_decide_eq_true (by sl_kernel_rfl)

theorem head_bit : ∀ (h g : Fin 4) (d : Fin 64),
    IntOp.cmpi .eq (BitVec.ofNat 32 ((lane g d).val / 64)) (BitVec.ofNat 32 h.val) = if g = h then 1#1 else 0#1 := by
  decide +kernel

/-- The head mask over the bits of the lanes' heads. -/
def maskOf (f : IVec S256 32) : FVec Ideal S4x64x256 .f32 :=
  broadcastInDim S4x64x256 ![0, 1, 2] bcast_S4x1x256_S4x64x256_0_1_2 (broadcastInDim S4x1x256 ![0, 2] bcast_S4x256_S4x1x256_0_2
    (uitofp .f32 (cmpi .eq (broadcastInDim S4x256 ![0, 1] bcast_S1x256_S4x256_0_1 (broadcastInDim S1x256 ![1] bcast_S256_S1x256_1 f))
      (broadcastInDim S4x256 ![0, 1] bcast_S4x1_S4x256_0_1 (broadcastInDim S4x1 ![0] bcast_S4_S4x1_0 (iotaInDim S4 32 0))))))

theorem mask_apply (f : IVec S256 32) (hf : ∀ l : Fin 256, f (ix1 l) = BitVec.ofNat 32 (l.val / 64)) (h g : Fin 4) (i : Fin 64) (d : Fin 64) :
    maskOf f (ix3 h i (lane g d)) = if g = h then 1 else 0 := by
  pointwise [maskOf]
  rw [hf, head_bit]
  split
  · show ((((1#1 : BitVec 1).toNat : ℝ)) : EReal) = 1
    norm_num
  · show ((((0#1 : BitVec 1).toNat : ℝ)) : EReal) = 0
    norm_num

theorem mid_hm (c : Dev nD) : mid m c (Proc.devRef .tc main_v71) = maskOf (after hostOps0_1 (after hostOps0 fun b => m (c, b)) (Proc.devRef .tc main_v62)) := by
  unfold mid maskOf
  after_reads_simp

theorem hmT_eq (c : Dev nD) : hmT m c = maskOf (after hostOps0_1 (after hostOps0 fun b => m (c, b)) (Proc.devRef .tc main_v62)) := by
  rw [← mid_hm, hmT, V_eq]
  after_reads_simp

theorem hm_apply (c : Dev nD) (h : Fin 4) (i : Fin 64) (g : Fin 4) (d : Fin 64) : hmT m c (ix3 h i (lane g d)) = if g = h then 1 else 0 := by
  rw [hmT_eq]
  exact mask_apply _ (heads m c) h g i d

/-- A decay of the mask's heads. -/
def scaled (M : FVec Ideal S4x64x256 .f32) (x : FVec Ideal S4x64 .f32) : FVec Ideal S4x64x256 .f32 :=
  mulf M (broadcastInDim S4x64x256 ![0, 1, 2] bcast_S4x64x1_S4x64x256_0_1_2 (broadcastInDim S4x64x1 ![0, 1] bcast_S4x64_S4x64x1_0_1 x))

theorem scaled_apply (M : FVec Ideal S4x64x256 .f32) (x : FVec Ideal S4x64 .f32) (h g : Fin 4) (i : Fin 64) (d : Fin 64)
    (hM : M (ix3 h i (lane g d)) = if g = h then 1 else 0) : scaled M x (ix3 h i (lane g d)) = if g = h then x (ix2 h i) else 0 := by
  pointwise [scaled]
  rw [hM]
  split <;> simp

theorem qd_apply (c : Dev nD) (h : Fin 4) (i : Fin 64) (g : Fin 4) (d : Fin 64) : qdT m c (ix3 h i (lane g d)) = if g = h then qdAt W i h else 0 := by
  have e : qdT m c = scaled (hmT m c) (mid m c (Proc.devRef .tc main_v52)) := by
    rw [qdT, hmT, V_eq, V_eq]
    unfold mid scaled
    after_reads_simp
  have e' : broadcastInDim S1x1x64x4x1 ![2, 3] bcast_S64x4_S1x1x64x4x1_2_3
      (transpose S64x4 [1, 0] (mid m c (Proc.devRef .tc main_v52)) transposes_S4x64_S64x4_1_0) = res_main_v325 W := by
    unfold mid
    after_reads_simp
    rfl
  rw [e, scaled_apply _ _ h g i d (hm_apply m c h i g d), qdAt, ← e']
  pointwise

theorem kd_apply (c : Dev nD) (h : Fin 4) (i : Fin 64) (g : Fin 4) (d : Fin 64) : kdT m c (ix3 h i (lane g d)) = if g = h then kdAt W i h else 0 := by
  have e : kdT m c = scaled (hmT m c) (mid m c (Proc.devRef .tc main_v60)) := by
    rw [kdT, hmT, V_eq, V_eq]
    unfold mid scaled
    after_reads_simp
  have e' : broadcastInDim S1x1x64x4x1 ![2, 3] bcast_S64x4_S1x1x64x4x1_2_3
      (transpose S64x4 [1, 0] (mid m c (Proc.devRef .tc main_v60)) transposes_S4x64_S64x4_1_0) = res_main_v121 W := by
    unfold mid
    after_reads_simp
    rfl
  rw [e, scaled_apply _ _ h g i d (hm_apply m c h i g d), kdAt, ← e']
  pointwise

/-- The states laid over all lanes under the head mask. -/
def laid (S : FVec Ideal S32x1x4x64x128 .f32) (M : FVec Ideal S4x64x256 .f32) : FVec Ideal S32x4x256x128 .f32 :=
  mulf (shapeCast S32x4x256x128 (broadcastInDim S1x32x1x4x4x64x1x128 ![0, 1, 2, 3, 4, 5, 6, 7]
      bcast_S1x32x1x4x1x64x1x128_S1x32x1x4x4x64x1x128_0_1_2_3_4_5_6_7
      (shapeCast S1x32x1x4x1x64x1x128 (shapeCast S32x4x64x128 S shapeCasts_S32x1x4x64x128_S32x4x64x128)
        shapeCasts_S32x4x64x128_S1x32x1x4x1x64x1x128)) shapeCasts_S1x32x1x4x4x64x1x128_S32x4x256x128)
    (broadcastInDim S32x4x256x128 ![0, 1, 2, 3] bcast_S1x4x256x1_S32x4x256x128_0_1_2_3
      (broadcastInDim S1x4x256x1 ![1, 2, 3] bcast_S4x256x1_S1x4x256x1_1_2_3
        (broadcastInDim S4x256x1 ![0, 1] bcast_S4x256_S4x256x1_0_1
          (shapeCast S4x256 (extractStridedSlice S4x1x256 ![0, 0, 0] M slices_S4x64x256_S4x1x256_0_0_0) shapeCasts_S4x1x256_S4x256))))

theorem laid_apply (S : FVec Ideal S32x1x4x64x128 .f32) (M : FVec Ideal S4x64x256 .f32) (N : Fin 32) (h g : Fin 4) (d : Fin 64) (e : Fin 128)
    (hM : M (ix3 h 0 (lane g d)) = if g = h then 1 else 0) : laid S M (ix4 N h (lane g d) e) = if g = h then S (ix5 N 0 h d e) else 0 := by
  unfold lane at hM ⊢
  pointwise [laid]
  rw [hM]
  split <;> simp

end Cert.Kernel2Ideal.Hand
-- ==== Proof.RetLoads.lean ====
module

public import proofs.«01_k».proof.Proof.RetPieces
public import proofs.«01_k».proof.Proof.RetTables
public import Idealize.ShloMosaic.Lib.WholeRead

@[expose] public section

set_option maxRecDepth 16384

noncomputable section

/-! What a point's loads read, at an index of the arrays. -/

namespace Cert.Kernel2Ideal.Hand

open Cert.Kernel2Ideal Cert.Kernel2Ideal.Gen Idealize.ShloMosaic Idealize.ShloMosaic.TcCoe
open Idealize.ShloMosaic.Tactic Idealize.SL.Sem
open Cert.Reference2Ideal.Hand (row)

variable (m : (ℓ : Loc nD τ sig) → Buf (Elt Ideal) ℓ)

/-- Where each window's block lies at a point: the last block first. -/
theorem idx : ∀ t : Fin cfg0.N, win0_0.index t = ![3 - t.val, 0] ∧ win0_1.index t = ![3 - t.val, 0, 0, 0] ∧ win0_2.index t = ![3 - t.val, 0]
    ∧ win0_3.index t = ![3 - t.val, 0] ∧ win0_4.index t = ![3 - t.val, 0] ∧ win0_5.index t = ![0, 0, 0] ∧ win0_6.index t = ![0, 0, 0]
    ∧ win0_7.index t = ![0, 0, 0] ∧ win0_8.index t = ![0, 0, 0] ∧ win0_9.index t = ![3 - t.val, 0] :=
  (by decide +kernel : ∀ t : Fin grid0.N, _)

abbrev X (c : Dev nD) : FVec Ideal S2048x1536 .f32 := m ((c : Thread nD τ).loc main_arg0)
abbrev G (c : Dev nD) : FVec Ideal S2048x512 .f32 := m ((c : Thread nD τ).loc main_arg1)

/-- The chunk that is chunk `n` of point `t`. -/
def nth (t : Fin cfg0.N) (n : Fin 8) : Fin 32 := ⟨8 * (3 - t.val) + n.val, by omega⟩

/-- The row of the arrays that is row `i` of a point's block. -/
def at_ (t : Fin cfg0.N) (i : Fin 512) : Fin 2048 := ⟨512 * (3 - t.val) + i.val, by omega⟩

theorem row_nth (t : Fin cfg0.N) (n : Fin 8) (i : Fin 64) : at_ t ⟨64 * n.val + i.val, by omega⟩ = row (nth t n) i :=
  Fin.ext (by simp only [at_, row, nth]; omega)

theorem blk0 (c : Dev nD) (t : Fin cfg0.N) (i : Fin 512) (j : Fin 1536) : iblk m c 0 t (ix2 i j) = X m c (ix2 (at_ t i) j) := by
  unfold at_
  blk_point [iblk, V, idx t]

theorem blk1 (c : Dev nD) (t : Fin cfg0.N) (n : Fin 8) (h : Fin 4) (l : Fin 256) (e : Fin 128) :
    iblk m c 1 t (ix4 n h l e) = stT m c (ix4 (nth t n) h l e) := by
  unfold nth
  blk_point [iblk, idx t]

theorem blk2 (c : Dev nD) (t : Fin cfg0.N) (i : Fin 512) (j : Fin 512) : iblk m c 2 t (ix2 i j) = G m c (ix2 (at_ t i) j) := by
  unfold at_
  blk_point [iblk, V, idx t]

theorem blk3 (c : Dev nD) (t : Fin cfg0.N) (i : Fin 512) (l : Fin 256) : iblk m c 3 t (ix2 i l) = cosT m c (ix2 (at_ t i) l) := by
  unfold at_
  blk_point [iblk, idx t]

theorem blk4 (c : Dev nD) (t : Fin cfg0.N) (i : Fin 512) (l : Fin 256) : iblk m c 4 t (ix2 i l) = sinT m c (ix2 (at_ t i) l) := by
  unfold at_
  blk_point [iblk, idx t]

theorem blk5 (c : Dev nD) (t : Fin cfg0.N) (h : Fin 4) (i j : Fin 64) : iblk m c 5 t (ix3 h i j) = decT m c (ix3 h i j) := by
  blk_point [iblk, idx t]

theorem blk6 (c : Dev nD) (t : Fin cfg0.N) (h : Fin 4) (i : Fin 64) (l : Fin 256) : iblk m c 6 t (ix3 h i l) = hmT m c (ix3 h i l) := by
  blk_point [iblk, idx t]

theorem blk7 (c : Dev nD) (t : Fin cfg0.N) (h : Fin 4) (i : Fin 64) (l : Fin 256) : iblk m c 7 t (ix3 h i l) = qdT m c (ix3 h i l) := by
  blk_point [iblk, idx t]

theorem blk8 (c : Dev nD) (t : Fin cfg0.N) (h : Fin 4) (i : Fin 64) (l : Fin 256) : iblk m c 8 t (ix3 h i l) = kdT m c (ix3 h i l) := by
  blk_point [iblk, idx t]

theorem whole_load {sig : RefSig} {κ : Kind} {sp : Space} {s : Shape} {e : EltTy} {M : Memref sig κ sp s e} (h : M.IsWhole) (Y : s.Idx → Elt Ideal e) (r : Rect s) (x : r.shape.Idx) :
    M.view.readAt (Elt Ideal) r.toLoadRect (h.unread Y) x = Y (r.emb x) := h.readAt_unread Y _ x

variable (c : Dev nD) (t : Fin cfg0.N) (n : Fin 8)

theorem load_pq (i : Fin 64) (l : Fin 256) : ((reads m c t).chunk n).pq (ix2 i l) = X m c (ix2 (row (nth t n) i) ⟨l.val, by omega⟩) := by
  rw [← row_nth, ← blk0]
  refine (whole_load (hs0_0 t) (iblk m c 0 t) _ _).trans (congrArg (iblk m c 0 t) ?_)
  blk_ext

theorem load_pk (i : Fin 64) (l : Fin 256) : ((reads m c t).chunk n).pk (ix2 i l) = X m c (ix2 (row (nth t n) i) ⟨256 + l.val, by omega⟩) := by
  rw [← row_nth, ← blk0]
  refine (whole_load (hs0_0 t) (iblk m c 0 t) _ _).trans (congrArg (iblk m c 0 t) ?_)
  blk_ext

theorem load_v (h : Fin 4) (i : Fin 64) (e : Fin 128) :
    ((reads m c t).chunk n).v h (ix2 i e) = X m c (ix2 (row (nth t n) i) ⟨512 + 128 * h.val + e.val, by omega⟩) := by
  rw [← row_nth, ← blk0]
  refine (whole_load (hs0_0 t) (iblk m c 0 t) _ _).trans (congrArg (iblk m c 0 t) ?_)
  blk_ext

theorem load_o (h : Fin 4) (i : Fin 64) (e : Fin 128) :
    ((reads m c t).chunk n).o h (ix2 i e) = G m c (ix2 (row (nth t n) i) ⟨128 * h.val + e.val, by omega⟩) := by
  rw [← row_nth, ← blk2]
  refine (whole_load (hs0_2 t) (iblk m c 2 t) _ _).trans (congrArg (iblk m c 2 t) ?_)
  blk_ext

theorem state_cast (x : FVec Ideal S1x1x256x128 .f32) (l : Fin 256) (e : Fin 128) :
    shapeCast S256x128 x shapeCasts_S1x1x256x128_S256x128 (ix2 l e) = x (ix4 0 0 l e) := by pointwise

theorem load_s (h : Fin 4) (l : Fin 256) (e : Fin 128) : ((reads m c t).chunk n).s h (ix2 l e) = stT m c (ix4 (nth t n) h l e) := by
  rw [← blk1]
  refine (state_cast ((reads m c t).s (Rect.unit ![n.val, h.val, 0, 0] S1x1x256x128.size (inb_s n h))) l e).trans ?_
  refine (whole_load (hs0_1 t) (iblk m c 1 t) _ _).trans (congrArg (iblk m c 1 t) ?_)
  blk_ext

theorem load_cos (i : Fin 64) (l : Fin 256) : ((reads m c t).chunk n).cos (ix2 i l) = cosT m c (ix2 (row (nth t n) i) l) := by
  rw [← row_nth, ← blk3]
  simp only [Loads.chunk]
  pointwise
  refine (whole_load (hs0_3 t) (iblk m c 3 t) _ _).trans (congrArg (iblk m c 3 t) ?_)
  blk_ext

theorem load_sin (i : Fin 64) (l : Fin 256) : ((reads m c t).chunk n).sin (ix2 i l) = sinT m c (ix2 (row (nth t n) i) l) := by
  rw [← row_nth, ← blk4]
  simp only [Loads.chunk]
  pointwise
  refine (whole_load (hs0_4 t) (iblk m c 4 t) _ _).trans (congrArg (iblk m c 4 t) ?_)
  blk_ext

theorem load_dec (h : Fin 4) (i j : Fin 64) : ((reads m c t).chunk n).dec (ix3 h i j) = decT m c (ix3 h i j) := by
  rw [← blk5 m c t]
  simp only [Loads.chunk]
  pointwise
  refine (whole_load (hs0_5 t) (iblk m c 5 t) _ _).trans (congrArg (iblk m c 5 t) ?_)
  blk_ext

theorem load_hm (h : Fin 4) (i : Fin 64) (l : Fin 256) : ((reads m c t).chunk n).hm (ix3 h i l) = hmT m c (ix3 h i l) := by
  rw [← blk6 m c t]
  simp only [Loads.chunk]
  pointwise
  refine (whole_load (hs0_6 t) (iblk m c 6 t) _ _).trans (congrArg (iblk m c 6 t) ?_)
  blk_ext

theorem load_qd (h : Fin 4) (i : Fin 64) (l : Fin 256) : ((reads m c t).chunk n).qd (ix3 h i l) = qdT m c (ix3 h i l) := by
  rw [← blk7 m c t]
  simp only [Loads.chunk]
  pointwise
  refine (whole_load (hs0_7 t) (iblk m c 7 t) _ _).trans (congrArg (iblk m c 7 t) ?_)
  blk_ext

theorem load_kd (h : Fin 4) (i : Fin 64) (l : Fin 256) : ((reads m c t).chunk n).kd (ix3 h i l) = kdT m c (ix3 h i l) := by
  rw [← blk8 m c t]
  simp only [Loads.chunk]
  pointwise
  refine (whole_load (hs0_8 t) (iblk m c 8 t) _ _).trans (congrArg (iblk m c 8 t) ?_)
  blk_ext

end Cert.Kernel2Ideal.Hand
-- ==== Proof.RetStates.lean ====
module

public import proofs.«01_k».proof.Proof.RetTables

@[expose] public section

set_option maxRecDepth 16384

noncomputable section

/-! The saved states the kernel's host lines stack, over the reference's. -/

namespace Cert.Kernel2Ideal.Hand

open Cert.Kernel2Ideal Cert.Kernel2Ideal.Gen Idealize.ShloMosaic Idealize.ShloMosaic.TcCoe
open Idealize.ShloMosaic.Tactic Idealize.SL.Sem Idealize.ShloMosaic.StableHlo
open Cert.Reference2Ideal.Value (res_main_v125 res_main_v323 res_main_v324 res_main_v133 res_main_v138 res_main_v143 res_main_v148 res_main_v153 res_main_v158 res_main_v163 res_main_v168 res_main_v173 res_main_v178 res_main_v183 res_main_v188 res_main_v193 res_main_v198 res_main_v203 res_main_v208 res_main_v213 res_main_v218 res_main_v223 res_main_v228 res_main_v233 res_main_v238 res_main_v243 res_main_v248 res_main_v253 res_main_v258 res_main_v263 res_main_v268 res_main_v273 res_main_v278 res_main_v283)
open Cert.Reference2Ideal.Hand (stAt)

variable (m : (ℓ : Loc nD τ sig) → Buf (Elt Ideal) ℓ)
variable (W : Valuation Cert.Reference2Ideal.τ Cert.Reference2Ideal.sig (Elt Ideal))

/-- The states after 0, 1, …, 31 chunks. -/
def states : Fin 32 → FVec Ideal S1x4x64x128 .f32 :=
  ![res_main_v125 W, res_main_v133 W, res_main_v138 W, res_main_v143 W, res_main_v148 W, res_main_v153 W, res_main_v158 W, res_main_v163 W,
    res_main_v168 W, res_main_v173 W, res_main_v178 W, res_main_v183 W, res_main_v188 W, res_main_v193 W, res_main_v198 W, res_main_v203 W,
    res_main_v208 W, res_main_v213 W, res_main_v218 W, res_main_v223 W, res_main_v228 W, res_main_v233 W, res_main_v238 W, res_main_v243 W,
    res_main_v248 W, res_main_v253 W, res_main_v258 W, res_main_v263 W, res_main_v268 W, res_main_v273 W, res_main_v278 W, res_main_v283 W]

/-- A state as one layer of the stack. -/
def layer (x : FVec Ideal S1x4x64x128 .f32) : FVec Ideal S1x1x4x64x128 .f32 :=
  broadcastInDim S1x1x4x64x128 ![1, 2, 3, 4] bcast_S1x4x64x128_S1x1x4x64x128_1_2_3_4 x

/-- Sixteen layers stacked. -/
def stack (a : Fin 16 → FVec Ideal S1x1x4x64x128 .f32) : FVec Ideal S16x1x4x64x128 .f32 :=
  concatenate S16x1x4x64x128 0 [⟨S1x1x4x64x128, a 0⟩, ⟨S1x1x4x64x128, a 1⟩, ⟨S1x1x4x64x128, a 2⟩, ⟨S1x1x4x64x128, a 3⟩, ⟨S1x1x4x64x128, a 4⟩, ⟨S1x1x4x64x128, a 5⟩, ⟨S1x1x4x64x128, a 6⟩, ⟨S1x1x4x64x128, a 7⟩, ⟨S1x1x4x64x128, a 8⟩, ⟨S1x1x4x64x128, a 9⟩, ⟨S1x1x4x64x128, a 10⟩, ⟨S1x1x4x64x128, a 11⟩, ⟨S1x1x4x64x128, a 12⟩, ⟨S1x1x4x64x128, a 13⟩, ⟨S1x1x4x64x128, a 14⟩, ⟨S1x1x4x64x128, a 15⟩]
    concatenates_S1x1x4x64x128_S1x1x4x64x128_S1x1x4x64x128_S1x1x4x64x128_S1x1x4x64x128_S1x1x4x64x128_S1x1x4x64x128_S1x1x4x64x128_S1x1x4x64x128_S1x1x4x64x128_S1x1x4x64x128_S1x1x4x64x128_S1x1x4x64x128_S1x1x4x64x128_S1x1x4x64x128_S1x1x4x64x128_S16x1x4x64x128_d0

/-- A read once the last state is there. -/
abbrev late (c : Dev nD) (x : Ref sig .tc) := upto (List.drop 94 hostOps0_2) (mid m c) 192 (Proc.devRef .tc x)

set_option maxHeartbeats 16000000 in
theorem V_first (c : Dev nD) (hX : W (Proc.devRef .tc Cert.Reference2Ideal.main_arg0) = m ((c : Thread nD τ).loc main_arg0)) :
    upto (List.drop 94 hostOps0_2) (mid m c) 194 (Proc.devRef .tc main_v339) = stack fun i => layer (states W (Fin.castLE (by decide) i)) := by
  let r := late m c
  have e : (![r main_v307, r main_v308, r main_v309, r main_v310, r main_v311, r main_v312, r main_v313, r main_v314, r main_v315, r main_v316, r main_v317, r main_v318, r main_v319, r main_v320, r main_v321, r main_v322] : Fin 16 → FVec Ideal S1x1x4x64x128 .f32) = fun i => layer (states W (Fin.castLE (by decide) i)) := by
    funext i
    fin_cases i <;> dsimp [r, late]
    all_goals
      after_reads_simp
      rw [mid_zero m W]
      try rw [mid_decay m W, mid_kv m W c hX]
      rfl
  rw [← e]
  after_reads_simp
  rfl

set_option maxHeartbeats 16000000 in
theorem V_second (c : Dev nD) (hX : W (Proc.devRef .tc Cert.Reference2Ideal.main_arg0) = m ((c : Thread nD τ).loc main_arg0)) :
    upto (List.drop 94 hostOps0_2) (mid m c) 194 (Proc.devRef .tc main_v340) = stack fun i => layer (states W (Fin.natAdd 16 i)) := by
  let r := late m c
  have e : (![r main_v323, r main_v324, r main_v325, r main_v326, r main_v327, r main_v328, r main_v329, r main_v330, r main_v331, r main_v332, r main_v333, r main_v334, r main_v335, r main_v336, r main_v337, r main_v338] : Fin 16 → FVec Ideal S1x1x4x64x128 .f32) = fun i => layer (states W (Fin.natAdd 16 i)) := by
    funext i
    fin_cases i <;> dsimp [r, late]
    all_goals
      after_reads_simp
      rw [mid_zero m W, mid_decay m W, mid_kv m W c hX]
      rfl
  rw [← e]
  after_reads_simp
  rfl

theorem V_states (c : Dev nD) (hX : W (Proc.devRef .tc Cert.Reference2Ideal.main_arg0) = m ((c : Thread nD τ).loc main_arg0)) :
    stT m c = laid (res_main_v324 W) (hmT m c) := by
  have e0 : upto (List.drop 94 hostOps0_2) (mid m c) 195 (Proc.devRef .tc main_v146)
      = broadcastInDim S0x1x4x64x128 ![] bcast_S_S0x1x4x64x128 (constant (F := Ideal) S_ .f32 0x00000000#32) := by
    after_reads_simp
    exact mid_empty m c
  have e1 : upto (List.drop 94 hostOps0_2) (mid m c) 195 (Proc.devRef .tc main_v341) = res_main_v323 W := by
    after_reads_simp
    rw [V_first m W c hX, V_second m W c hX]
    rfl
  have e2 : V m c main_v71 = mid m c (Proc.devRef .tc main_v71) := by
    rw [V_eq]
    after_reads_simp
  rw [stT, hmT, e2, V_eq]
  after_reads_simp
  rw [e0, e1]
  rfl

theorem st_apply (c : Dev nD) (hX : W (Proc.devRef .tc Cert.Reference2Ideal.main_arg0) = m ((c : Thread nD τ).loc main_arg0))
    (N : Fin 32) (h g : Fin 4) (d : Fin 64) (e : Fin 128) : stT m c (ix4 N h (lane g d) e) = if g = h then stAt W N h d e else 0 := by
  rw [V_states m W c hX]
  exact laid_apply _ _ N h g d e (hm_apply m c h 0 g d)

end Cert.Kernel2Ideal.Hand
-- ==== Proof.RetTurn.lean ====
module

public import proofs.«01_k».proof.Proof.RetRef

@[expose] public section

set_option maxRecDepth 16384

noncomputable section

/-! The reference's operands at an index of its arguments. -/

namespace Cert.Reference2Ideal.Hand

open Cert.Reference2Ideal Cert.Reference2Ideal.Gen Cert.Reference2Ideal.Value Idealize.ShloMosaic Idealize.ShloMosaic.TcCoe
open Idealize.SL.Sem Idealize.ShloMosaic.StableHlo

variable (W : Valuation τ sig (Elt Ideal))

abbrev X : FVec Ideal S2048x1536 .f32 := W (Proc.devRef .tc main_arg0)
abbrev G : FVec Ideal S2048x512 .f32 := W (Proc.devRef .tc main_arg1)

/-- The two halves of a head's 64 lanes. -/
def low (e : Fin 32) : Fin 64 := ⟨e.val, by omega⟩
def high (e : Fin 32) : Fin 64 := ⟨32 + e.val, by omega⟩

theorem low_or_high (d : Fin 64) : (∃ e, d = low e) ∨ ∃ e, d = high e := by
  by_cases hd : d.val < 32
  · exact .inl ⟨⟨d.val, hd⟩, rfl⟩
  · exact .inr ⟨⟨d.val - 32, by omega⟩, Fin.ext (by simp only [high]; omega)⟩

/-- The query's and the key's columns. -/
def col (h : Fin 4) (d : Fin 64) : Fin 1536 := ⟨64 * h.val + d.val, by omega⟩
def col' (h : Fin 4) (d : Fin 64) : Fin 1536 := ⟨256 + (64 * h.val + d.val), by omega⟩

/-- The turn of the two halves of the lanes. -/
def turned (lo hi : FVec Ideal S1x2048x4x32 .f32) (co si : FVec Ideal S1x2048x1x32 .f32) : FVec Ideal S1x2048x4x64 .f32 :=
  concatenate S1x2048x4x64 3
    [⟨S1x2048x4x32, subf (mulf lo (broadcastInDim S1x2048x4x32 ![0, 1, 2, 3] bcast_S1x2048x1x32_S1x2048x4x32_0_1_2_3 co))
        (mulf hi (broadcastInDim S1x2048x4x32 ![0, 1, 2, 3] bcast_S1x2048x1x32_S1x2048x4x32_0_1_2_3 si))⟩,
     ⟨S1x2048x4x32, addf (mulf lo (broadcastInDim S1x2048x4x32 ![0, 1, 2, 3] bcast_S1x2048x1x32_S1x2048x4x32_0_1_2_3 si))
        (mulf hi (broadcastInDim S1x2048x4x32 ![0, 1, 2, 3] bcast_S1x2048x1x32_S1x2048x4x32_0_1_2_3 co))⟩]
    concatenates_S1x2048x4x32_S1x2048x4x32_S1x2048x4x64_d3

section
variable (lo hi : FVec Ideal S1x2048x4x32 .f32) (co si : FVec Ideal S1x2048x1x32 .f32) (T : Fin 2048) (h : Fin 4) (e : Fin 32)

theorem turned_low : turned lo hi co si (ix4 0 T h (low e)) = lo (ix4 0 T h e) * co (ix4 0 T 0 e) - hi (ix4 0 T h e) * si (ix4 0 T 0 e) := by
  unfold low
  pointwise [turned]

theorem turned_high : turned lo hi co si (ix4 0 T h (high e)) = lo (ix4 0 T h e) * si (ix4 0 T 0 e) + hi (ix4 0 T h e) * co (ix4 0 T 0 e) := by
  unfold high
  pointwise [turned]
end

variable (N : Fin 32) (i : Fin 64) (h : Fin 4) (T : Fin 2048) (e : Fin 32)

theorem at_col {a b : Fin 1536} (e : a.val = b.val) : X W (ix2 T a) = X W (ix2 T b) := by rw [Fin.ext e]

theorem x_low : res_main_v22 W (ix4 0 T h e) = X W (ix2 T (col h (low e))) := by
  unfold X col low
  pointwise [res_main_v22, res_main_v4]
  exact at_col W T (by simp only; omega)

theorem x_high : res_main_v23 W (ix4 0 T h e) = X W (ix2 T (col h (high e))) := by
  unfold X col high
  pointwise [res_main_v23, res_main_v4]
  exact at_col W T (by simp only; omega)

theorem y_low : res_main_v53 W (ix4 0 T h e) = X W (ix2 T (col' h (low e))) := by
  unfold X col' low
  pointwise [res_main_v53, res_main_v35]
  exact at_col W T (by simp only; omega)

theorem y_high : res_main_v54 W (ix4 0 T h e) = X W (ix2 T (col' h (high e))) := by
  unfold X col' high
  pointwise [res_main_v54, res_main_v35]
  exact at_col W T (by simp only; omega)

theorem tables : res_main_v50 W = res_main_v19 W ∧ res_main_v52 W = res_main_v21 W := ⟨rfl, rfl⟩

theorem cut (Z : FVec Ideal S1x2048x4x64 .f32) (d : Fin 64) :
    shapeCast S1x32x64x4x64 Z shapeCasts_S1x2048x4x64_S1x32x64x4x64 (ix5 0 N i h d) = Z (ix4 0 (row N i) h d) := by
  unfold row
  pointwise
  exact congrArg (fun T => Z (ix4 0 T h d)) (Fin.ext (by simp only; omega))

theorem q_turned (d : Fin 64) : qAt W N i h d = turned (res_main_v22 W) (res_main_v23 W) (res_main_v19 W) (res_main_v21 W) (ix4 0 (row N i) h d) := by
  exact cut N i h (turned (res_main_v22 W) (res_main_v23 W) (res_main_v19 W) (res_main_v21 W)) d

theorem k_turned (d : Fin 64) : kAt W N i h d
    = turned (res_main_v53 W) (res_main_v54 W) (res_main_v19 W) (res_main_v21 W) (ix4 0 (row N i) h d) * Ideal.ofBits .f32 0x3E000000#32 := by
  rw [← (tables W).1, ← (tables W).2]
  refine (cut N i h (mulf (turned (res_main_v53 W) (res_main_v54 W) (res_main_v50 W) (res_main_v52 W))
    (broadcastInDim S1x2048x4x64 ![] bcast_S_S1x2048x4x64 (constant S_ .f32 0x3E000000#32))) d).trans ?_
  pointwise

theorem v_at (b : Fin 128) : vAt W N i h b = X W (ix2 (row N i) ⟨512 + 128 * h.val + b.val, by omega⟩) := by
  unfold vAt X row
  pointwise [res_main_v114]
  exact congrArg₂ (fun a b => X W (ix2 a b)) (Fin.ext (by simp only; omega)) (Fin.ext (by simp only; omega))

theorem o_at (b : Fin 128) : oAt W N i h b = G W (ix2 (row N i) ⟨128 * h.val + b.val, by omega⟩) := by
  unfold oAt G row
  pointwise [res_main_v335]
  exact congrArg₂ (fun a b => G W (ix2 a b)) (Fin.ext (by simp only; omega)) (Fin.ext (by simp only; omega))

end Cert.Reference2Ideal.Hand
-- ==== Proof.RetKnown.lean ====
module

public import proofs.«01_k».proof.Proof.RetLoads
public import proofs.«01_k».proof.Proof.RetStates
public import proofs.«01_k».proof.Proof.RetTurn

@[expose] public section

set_option maxRecDepth 16384

noncomputable section

/-! A chunk's operands are the reference's. -/

namespace Cert.Kernel2Ideal.Hand

open Cert.Kernel2Ideal Cert.Kernel2Ideal.Gen Idealize.ShloMosaic Idealize.ShloMosaic.TcCoe
open Idealize.ShloMosaic.Tactic Idealize.SL.Sem
open Cert.Reference2Ideal.Hand (row low high low_or_high col col' cosAt sinAt qAt kAt vAt oAt stAt decAt qdAt kdAt q_turned k_turned turned_low
  turned_high x_low x_high y_low y_high v_at o_at)

variable (m : (ℓ : Loc nD τ sig) → Buf (Elt Ideal) ℓ)
variable (W : Valuation Cert.Reference2Ideal.τ Cert.Reference2Ideal.sig (Elt Ideal))

theorem fold_low (e : Fin 32) : fold (low e) = e := Fin.ext (Nat.mod_eq_of_lt e.isLt)
theorem fold_high (e : Fin 32) : fold (high e) = e := Fin.ext (by simp only [fold, high]; omega)
theorem mate_low (e : Fin 32) : mate (low e) = high e := Fin.ext (by simp only [mate, low, high]; omega)
theorem mate_high (e : Fin 32) : mate (high e) = low e := Fin.ext (by simp only [mate, low, high]; omega)

/-- The arguments are the same. -/
def Same (c : Dev nD) : Prop := Cert.Reference2Ideal.Hand.X W = X m c ∧ Cert.Reference2Ideal.Hand.G W = G m c

/-- A chunk's operands are the reference's at chunk `N`. -/
structure Fed (K : Chunk Ideal) (W : Valuation Cert.Reference2Ideal.τ Cert.Reference2Ideal.sig (Elt Ideal)) (N : Fin 32) : Prop where
  pq : ∀ (i : Fin 64) (l : Fin 256), K.pq (ix2 i l) = Cert.Reference2Ideal.Hand.X W (ix2 (row N i) ⟨l.val, by omega⟩)
  pk : ∀ (i : Fin 64) (l : Fin 256), K.pk (ix2 i l) = Cert.Reference2Ideal.Hand.X W (ix2 (row N i) ⟨256 + l.val, by omega⟩)
  v : ∀ i h e, K.v h (ix2 i e) = vAt W N i h e
  s : ∀ h d e, K.s h (ix2 (lane h d) e) = stAt W N h d e
  cos : ∀ i h d, K.cos (ix2 i (lane h d)) = cosAt W (row N i) (fold d)
  sin : ∀ i h d, K.sin (ix2 i (lane h d)) = if d.val < 32 then -sinAt W (row N i) (fold d) else sinAt W (row N i) (fold d)
  dec : ∀ h i j, K.dec (ix3 h i j) = decAt W h i j
  hm : ∀ h i g d, K.hm (ix3 h i (lane g d)) = if g = h then 1 else 0
  qd : ∀ h i g d, K.qd (ix3 h i (lane g d)) = if g = h then qdAt W i h else 0
  kd : ∀ h i g d, K.kd (ix3 h i (lane g d)) = if g = h then kdAt W i h else 0

namespace Fed

variable {W} {K : Chunk Ideal} {N : Fin 32} (H : Fed K W N) (i : Fin 64) (h : Fin 4)

include H

theorem sin_low (e : Fin 32) : K.sin (ix2 i (lane h (low e))) = -sinAt W (row N i) e := by
  rw [H.sin, if_pos (by exact e.isLt), fold_low]

theorem sin_high (e : Fin 32) : K.sin (ix2 i (lane h (high e))) = sinAt W (row N i) e := by
  rw [H.sin, if_neg (by simp only [high]; omega), fold_high]

theorem q_apply (d : Fin 64) : K.q (ix2 i (lane h d)) = qAt W N i h d := by
  rw [Chunk.q, turn_apply, H.pq, H.pq, H.cos, q_turned]
  rcases low_or_high d with ⟨e, rfl⟩ | ⟨e, rfl⟩
  · rw [turned_low, x_low, x_high, H.sin_low, fold_low, mate_low, mul_neg, ← sub_eq_add_neg]
    rfl
  · rw [turned_high, x_low, x_high, H.sin_high, fold_high, mate_high, add_comm]
    rfl

theorem k_apply (d : Fin 64) : K.k (ix2 i (lane h d)) = kAt W N i h d := by
  have e : K.k (ix2 i (lane h d)) = turn K.pk K.cos K.sin (ix2 i (lane h d)) * eighth (F := Ideal) (ix2 i (lane h d)) := rfl
  rw [e, eighth_apply, k_turned, turn_apply, H.pk, H.pk, H.cos]
  refine congrArg (· * _) ?_
  rcases low_or_high d with ⟨e, rfl⟩ | ⟨e, rfl⟩
  · rw [turned_low, y_low, y_high, H.sin_low, fold_low, mate_low, mul_neg, ← sub_eq_add_neg]
    rfl
  · rw [turned_high, y_low, y_high, H.sin_high, fold_high, mate_high, add_comm]
    rfl

/-- What the chunk works on. -/
def known (O : Fin 64 → Fin 4 → Fin 128 → EReal) (ho : ∀ i h e, K.o h (ix2 i e) = O i h e) : Known K where
  Q i h d := qAt W N i h d
  Y i h d := kAt W N i h d
  V i h e := vAt W N i h e
  O := O
  S h d e := stAt W N h d e
  A h i j := decAt W h i j
  qd i h := qdAt W i h
  kd i h := kdAt W i h
  hq := H.q_apply
  hk := H.k_apply
  hv := H.v
  ho := ho
  hs := H.s
  hdec := H.dec
  hhm := H.hm
  hqd := H.qd
  hkd := H.kd

end Fed

variable {m W} {c : Dev nD} (S : Same m W c) (t : Fin cfg0.N) (n : Fin 8)

include S

theorem fed : Fed ((reads m c t).chunk n) W (nth t n) where
  pq i l := by rw [load_pq, S.1]
  pk i l := by rw [load_pk, S.1]
  v i h e := by rw [load_v, v_at, S.1]
  s h d e := by rw [load_s, st_apply m W c S.1, if_pos rfl]
  cos i h d := by rw [load_cos, cos_apply m W]
  sin i h d := by rw [load_sin, sin_apply m W]
  dec h i j := by rw [load_dec, dec_apply m W]
  hm h i g d := by rw [load_hm, hm_apply m]
  qd h i g d := by rw [load_qd, qd_apply m W]
  kd h i g d := by rw [load_kd, kd_apply m W]

/-- What chunk `n` of point `t` works on. -/
def known : Known ((reads m c t).chunk n) :=
  (fed S t n).known (fun i h e => oAt W (nth t n) i h e) fun i h e => by rw [load_o, o_at, S.2]

end Cert.Kernel2Ideal.Hand
-- ==== Proof.RetDown.lean ====
module

public import proofs.«01_k».proof.Proof.RetRef

@[expose] public section

set_option maxRecDepth 16384

noncomputable section

/-! The gradients of the states a chunk leaves, from the last chunk down. -/

namespace Cert.Reference2Ideal.Hand

open Cert.Reference2Ideal Cert.Reference2Ideal.Gen Cert.Reference2Ideal.Value Idealize.ShloMosaic Idealize.ShloMosaic.TcCoe
open Idealize.SL.Sem Idealize.ShloMosaic.StableHlo

variable (W : Valuation τ sig (Elt Ideal))

/-- The gradients of the states that chunks 0, 1, …, 31 leave. -/
def dsts : Fin 32 → FVec Ideal S1x4x64x128 .f32 :=
  ![res_main_v501 W, res_main_v496 W, res_main_v491 W, res_main_v486 W, res_main_v481 W, res_main_v476 W, res_main_v471 W, res_main_v466 W,
    res_main_v461 W, res_main_v456 W, res_main_v451 W, res_main_v446 W, res_main_v441 W, res_main_v436 W, res_main_v431 W, res_main_v426 W,
    res_main_v421 W, res_main_v416 W, res_main_v411 W, res_main_v406 W, res_main_v401 W, res_main_v396 W, res_main_v391 W, res_main_v386 W,
    res_main_v381 W, res_main_v376 W, res_main_v371 W, res_main_v366 W, res_main_v361 W, res_main_v356 W, res_main_v351 W, res_main_v343 W]

theorem inb_layer (n : ℕ) (hn : n < 32) : S32x1x4x64x128.Slices ![n, 0, 0, 0, 0] S1x1x4x64x128 := by
  interval_cases n <;> decide

/-- One step down: a chunk's contribution, and the gradient after it decayed. -/
def stepOf (n : ℕ) (hn : n < 32) (x : FVec Ideal S1x4x64x128 .f32) : FVec Ideal S1x4x64x128 .f32 :=
  addf (shapeCast S1x4x64x128 (extractStridedSlice S1x1x4x64x128 ![n, 0, 0, 0, 0] (res_main_v344 W) (inb_layer n hn)) shapeCasts_S1x1x4x64x128_S1x4x64x128)
    (mulf x (broadcastInDim S1x4x64x128 ![0, 1, 2, 3] bcast_S1x4x1x1_S1x4x64x128_0_1_2_3 (res_main_v111 W)))

theorem dsts_step (N : Fin 31) : dsts W N.castSucc = stepOf W (N.val + 1) (by omega) (dsts W N.succ) := by
  fin_cases N <;> rfl

theorem stepOf_apply (n : ℕ) (hn : n < 32) (x : FVec Ideal S1x4x64x128 .f32) (h : Fin 4) (d : Fin 64) (e : Fin 128) :
    stepOf W n hn x (ix4 0 h d e) = (∑ i : Fin 64, oAt W ⟨n, hn⟩ i h e * (qAt W ⟨n, hn⟩ i h d * qdAt W i h)) + x (ix4 0 h d e) * gamAt W h := by
  rw [← inner]
  pointwise [stepOf, res_main_v344]

theorem dst_eq (N : Fin 32) (h : Fin 4) (d : Fin 64) (e : Fin 128) : dstAt W N h d e = dsts W N (ix4 0 h d e) := by
  fin_cases N
  all_goals
    unfold dstAt
    pointwise [res_main_v542, res_main_v541, dsts]

theorem dst_last (h : Fin 4) (d : Fin 64) (e : Fin 128) : dstAt W 31 h d e = 0 := by
  rw [dst_eq]
  pointwise [dsts, res_main_v343]

theorem dst_step (N : ℕ) (hN : N + 1 < 32) (h : Fin 4) (d : Fin 64) (e : Fin 128) : dstAt W ⟨N, by omega⟩ h d e
    = (∑ i : Fin 64, oAt W ⟨N + 1, hN⟩ i h e * (qAt W ⟨N + 1, hN⟩ i h d * qdAt W i h)) + dstAt W ⟨N + 1, hN⟩ h d e * gamAt W h := by
  rw [dst_eq, dst_eq]
  exact (congrFun (dsts_step W ⟨N, by omega⟩) _).trans (stepOf_apply W (N + 1) hN _ h d e)

/-- The decay of head `h` over a chunk. -/
abbrev decay (h : Fin 4) : ℝ := (1 - (2 : ℝ) ^ (-(5 + (h.val : ℤ)))) ^ 64

theorem decay_pow (h : Fin 4) : Ideal.pow (Ideal.ofBits .f32 0x40000000#32) (Ideal.ofBits .f32 0xC0A00000#32
    - (FloatOps.sitofp .f32 (BitVec.ofNat 32 h.val) : Ideal .f32)) = (((2 : ℝ) ^ (-(5 + (h.val : ℤ))) : ℝ) : EReal) := by
  have e2 : Ideal.ofBits .f32 0x40000000#32 = ((2 : ℝ) : EReal) := by
    simp [Ideal.ofBits, Ideal.ieee, -EReal.coe_mul]; norm_num
  have e5 : Ideal.ofBits .f32 0xC0A00000#32 = ((-5 : ℝ) : EReal) := by
    simp [Ideal.ofBits, Ideal.ieee, -EReal.coe_mul, -EReal.coe_neg]; norm_num
  have eh : (FloatOps.sitofp .f32 (BitVec.ofNat 32 h.val) : Ideal .f32) = ((h.val : ℝ) : EReal) := by
    show ((((BitVec.ofNat 32 h.val).toInt : ℝ)) : EReal) = _
    congr 1
    fin_cases h <;> simp [BitVec.toInt]
  rw [e2, e5, eh, ← EReal.coe_sub]
  show ((Real.rpow 2 (-5 - (h.val : ℝ)) : ℝ) : EReal) = _
  rw [← Real.rpow_intCast]
  congr 2
  push_cast; ring

theorem gam_eq (h : Fin 4) : gamAt W h = (decay h : EReal) := by
  have e64 : Ideal.ofBits .f32 0x42800000#32 = ((64 : ℝ) : EReal) := by
    simp [Ideal.ofBits, Ideal.ieee, -EReal.coe_mul]; norm_num
  have hp : ¬ 1 - (2 : ℝ) ^ (-(5 + (h.val : ℤ))) ≤ 0 := by fin_cases h <;> norm_num
  refine Eq.trans (b := Ideal.exp (Ideal.log (1 - Ideal.pow (Ideal.ofBits .f32 0x40000000#32) (Ideal.ofBits .f32 0xC0A00000#32
    - (FloatOps.sitofp .f32 (BitVec.ofNat 32 h.val) : Ideal .f32))) * Ideal.ofBits .f32 0x42800000#32)) ?_ ?_
  · unfold gamAt
    pointwise [res_main_v111, res_main_v76]
  · rw [decay_pow, e64, ← EReal.coe_one, ← EReal.coe_sub]
    show Ideal.exp ((if 1 - (2 : ℝ) ^ (-(5 + (h.val : ℤ))) ≤ 0 then ⊥ else ((Real.log (1 - (2 : ℝ) ^ (-(5 + (h.val : ℤ)))) : ℝ) : EReal)) * _) = _
    rw [if_neg hp, ← EReal.coe_mul]
    show ((Real.exp _ : ℝ) : EReal) = _
    rw [mul_comm, show (64 : ℝ) = ((64 : ℕ) : ℝ) by norm_num, Real.exp_nat_mul, Real.exp_log (not_le.mp hp)]

end Cert.Reference2Ideal.Hand
-- ==== Proof.RetGrad.lean ====
module

public import proofs.«01_k».proof.Proof.RetKnown
public import proofs.«01_k».proof.Proof.RetDown

@[expose] public section

set_option maxRecDepth 16384

noncomputable section

/-! The state's gradient the kernel carries is the reference's: down the chunks of a point, and from a point to the next. -/

namespace Cert.Kernel2Ideal.Hand

open Cert.Kernel2Ideal Cert.Kernel2Ideal.Gen Idealize.ShloMosaic Idealize.ShloMosaic.TcCoe
open Idealize.ShloMosaic.Tactic Idealize.SL.Sem
open Cert.Reference2Ideal.Hand (gamAt dstAt dst_step dst_last gam_eq)

variable {m : (ℓ : Loc nD τ sig) → Buf (Elt Ideal) ℓ}
variable {W : Valuation Cert.Reference2Ideal.τ Cert.Reference2Ideal.sig (Elt Ideal)}

/-- The named decays are the host's. -/
theorem gamma_apply (h : Fin 4) : (gamma (F := Ideal) h : EReal) = gamAt W h := by
  rw [gam_eq]
  fin_cases h
  all_goals
    refine congrArg (fun r : ℝ => (r : EReal)) ?_
    norm_num [Cert.Reference2Ideal.Hand.decay]

variable {c : Dev nD} (S : Same m W c) (t : Fin cfg0.N)

include S

theorem grad_apply (D : Fin 4 → FVec Ideal S256x128 .f32) (hD : ∀ h d e, D h (ix2 (lane h d) e) = dstAt W (nth t 7) h d e) :
    ∀ (j : ℕ) (_ : j ≤ 8) (hj : j ≤ 8 * (3 - t.val) + 7) (h : Fin 4) (d : Fin 64) (e : Fin 128),
      (reads m c t).grad D j h (ix2 (lane h d) e) = dstAt W ⟨8 * (3 - t.val) + 7 - j, by omega⟩ h d e
  | 0, _, _, h, d, e => hD h d e
  | j + 1, h8, hj, h, d, e => by
    have ih := grad_apply D hD j (by omega) (by omega) h d e
    rw [Loads.grad, (known S t _).next_apply, ih, gamma_apply (W := W)]
    have hs := dst_step W (8 * (3 - t.val) + 7 - (j + 1)) (by omega) h d e
    have hn : nth t ⟨7 - j, by omega⟩ = ⟨8 * (3 - t.val) + 7 - (j + 1) + 1, by omega⟩ := Fin.ext (by simp only [nth]; omega)
    have hn' : (⟨8 * (3 - t.val) + 7 - j, by omega⟩ : Fin 32) = ⟨8 * (3 - t.val) + 7 - (j + 1) + 1, by omega⟩ := Fin.ext (by simp only; omega)
    rw [hs, hn', add_comm]
    refine congrArg (· + _) (Finset.sum_congr rfl fun i _ => ?_)
    simp only [known, hn]
    exact mul_comm _ _

omit S

/-- The gradient the scratch holds, back as the next point starts from it. -/
theorem start_apply (Y : Vec Ideal S4x256x128 .f32) (h : Fin 4) (l : Fin 256) (e : Fin 128) : start Y h (ix2 l e) = Y (ix3 h l e) := by
  have e1 : ∀ Z : FVec Ideal S1x256x128 .f32, shapeCast S256x128 (shapeCast S256x128 Z shapeCasts_S1x256x128_S256x128) shapeCasts_S256x128_S256x128
      (ix2 l e) = Z (ix3 0 l e) := fun Z => by pointwise
  refine (e1 _).trans ((whole_load (M := scM0_0) (Memref.isWhole_whole cc0_scratch0) Y
    (Rect.unit (s := S4x256x128) ![h.val, 0, 0] S1x256x128.size (inb_d h)) (ix3 0 l e)).trans (congrArg Y ?_))
  blk_ext

theorem start0_apply (h : Fin 4) (l : Fin 256) (e : Fin 128) : start0 (F := Ideal) h (ix2 l e) = 0 := by
  have e1 : ∀ Z : FVec Ideal S1x256x128 .f32, shapeCast S256x128 (shapeCast S256x128 Z shapeCasts_S1x256x128_S256x128) shapeCasts_S256x128_S256x128
      (ix2 l e) = Z (ix3 0 l e) := fun Z => by pointwise
  refine (e1 _).trans ?_
  rw [fill, View.readCov_fill _ _ _ _ _ (by decide)]
  have e2 : ∀ i : S4x256x128.Idx, k0_pay2 (F := Ideal) i = 0 := fun i => by pointwise [k0_pay2]
  exact e2 _

theorem scratch_apply (L : Loads Ideal) (D : Fin 4 → FVec Ideal S256x128 .f32) (R : List (View.Piece (Elt Ideal) S4x256x128 .f32))
    (h : Fin 4) (l : Fin 256) (e : Fin 128) : View.canon (L.scratch D ++ R) (ix3 h l e) = L.grad D 8 h (ix2 l e) := by
  have hp : ∀ (h : Fin 4) (x : (L.carried D h).1.shape.Idx), (L.carried D h).2 x
      = (fun i : S4x256x128.Idx => L.grad D 8 (i 0) (ix2 (i 1) (i 2))) ((L.carried D h).1.emb x) := fun h x => by
    change S1x256x128.Idx at x
    idx_vars x
    obtain rfl : x0 = 0 := Subsingleton.elim (α := Fin 1) _ _
    have e1 : (L.carried D h).1.emb (ix3 0 x1 x2) = (ix3 h x1 x2 : S4x256x128.Idx) := by
      show (Rect.unit (s := S4x256x128) ![h.val, 0, 0] S1x256x128.size (inb_d h)).emb (ix3 0 x1 x2) = _
      blk_ext
    rw [e1]
    have e2 : ∀ Z : FVec Ideal S256x128 .f32, shapeCast S1x256x128 Z shapeCasts_S256x128_S1x256x128 (ix3 0 x1 x2) = Z (ix2 x1 x2) :=
      fun Z => by pointwise
    exact e2 (L.grad D 8 h)
  refine View.canon_append_of_piecesOf (Val := Elt Ideal) (fun i : S4x256x128.Idx => L.grad D 8 (i 0) (ix2 (i 1) (i 2))) R (L.scratch D)
    ⟨hp 3, hp 2, hp 1, hp 0, trivial⟩ (ix3 h l e) ⟨L.carried D h, by fin_cases h <;> simp [Loads.scratch], ?_⟩
  refine (Rect.mem_set_unit (inb := inb_d h)).mpr fun a => ?_
  fin_cases a <;> simp

include S

/-- The state's gradient a point starts from. -/
def begin_ (m : (ℓ : Loc nD τ sig) → Buf (Elt Ideal) ℓ) (c : Dev nD) (t : Fin cfg0.N) : Fin 4 → FVec Ideal S256x128 .f32 :=
  if t.val = 0 then start0 else start (outsAt0 m c (t.val - 1) (Nat.lt_of_le_of_lt (Nat.sub_le _ _) t.isLt)).2

omit S in
theorem out_eq (t : Fin cfg0.N) : (outsAt0 m c t.val t.isLt).1 = View.canon ((reads m c t).pieces (begin_ m c t)) := by
  have h4 : t.val < 4 := t.isLt
  by_cases h0 : t.val = 0
  · rw [begin_, if_pos h0]; exact out_A m c t (by omega)
  · rw [begin_, if_neg h0]; exact out_B m c t (by omega) _ rfl

omit S in
theorem scr_apply (t : Fin cfg0.N) (h : Fin 4) (l : Fin 256) (e : Fin 128) :
    (outsAt0 m c t.val t.isLt).2 (ix3 h l e) = (reads m c t).grad (begin_ m c t) 8 h (ix2 l e) := by
  have h4 : t.val < 4 := t.isLt
  by_cases h0 : t.val = 0
  · rw [begin_, if_pos h0, scr_A m c t (by omega)]; exact scratch_apply _ _ _ h l e
  · rw [begin_, if_neg h0, scr_B m c t (by omega) _ rfl, ← List.append_nil (Loads.scratch _ _)]; exact scratch_apply _ _ _ h l e

theorem begin_apply : ∀ (k : ℕ) (hk : k < cfg0.N) (h : Fin 4) (d : Fin 64) (e : Fin 128),
    begin_ m c ⟨k, hk⟩ h (ix2 (lane h d) e) = dstAt W (nth ⟨k, hk⟩ 7) h d e
  | 0, hk, h, d, e => by
    rw [begin_, if_pos rfl, start0_apply]
    exact (dst_last W h d e).symm
  | k + 1, hk, h, d, e => by
    have h4 : k + 1 < 4 := hk
    have ih := begin_apply k (by omega)
    rw [begin_, if_neg (by simp), start_apply]
    refine (scr_apply (m := m) (c := c) ⟨k, by omega⟩ h (lane h d) e).trans ?_
    rw [grad_apply S ⟨k, by omega⟩ _ ih 8 le_rfl (by simp only; omega)]
    refine congrArg (fun N => dstAt W N h d e) (Fin.ext ?_)
    simp only [nth]
    omega

/-- The gradient chunk `n` of point `t` starts from. -/
theorem chunk_grad (n : Fin 8) (h : Fin 4) (d : Fin 64) (e : Fin 128) :
    (reads m c t).grad (begin_ m c t) (7 - n.val) h (ix2 (lane h d) e) = dstAt W (nth t n) h d e := by
  rw [grad_apply S t _ (begin_apply S t.val t.isLt) (7 - n.val) (by omega) (by omega)]
  refine congrArg (fun N => dstAt W N h d e) (Fin.ext ?_)
  simp only [nth]
  omega

end Cert.Kernel2Ideal.Hand
-- ==== Proof.RetFinal.lean ====
module

public import proofs.«01_k».proof.Proof.RetGrad

@[expose] public section

set_option maxRecDepth 16384

noncomputable section

/-! The kernel's result is the reference's: each chunk's six stores are the gradients of its rows. -/

namespace Cert.Kernel2Ideal.Hand

open Cert.Kernel2Ideal Cert.Kernel2Ideal.Gen Idealize.ShloMosaic Idealize.ShloMosaic.TcCoe
open Idealize.ShloMosaic.Tactic Idealize.SL.Sem
open Idealize.ShloMosaic.Pipeline (Dat)
open Cert.Reference2Ideal.Value (res_main_v564 res_main_v567 res_main_v568 res_main_v569 res_main_v585 res_main_v586)
open Cert.Reference2Ideal.Hand (row low high low_or_high cosAt sinAt dstAt scAt dscAt scores dscores dq0 dk0 dvs_apply unturn_lo unturn_hi
  grads grads_q grads_k grads_v tables)

variable {m : (ℓ : Loc nD τ sig) → Buf (Elt Ideal) ℓ}
variable {W : Valuation Cert.Reference2Ideal.τ Cert.Reference2Ideal.sig (Elt Ideal)}

section halves
variable (T : Fin 2048) (h : Fin 4) (e : Fin 32)

theorem q_low : res_main_v585 W (ix4 0 T h e) = res_main_v564 W (ix4 0 T h (low e)) := by unfold low; pointwise [res_main_v585]
theorem q_high : res_main_v586 W (ix4 0 T h e) = res_main_v564 W (ix4 0 T h (high e)) := by unfold high; pointwise [res_main_v586]
theorem k_low : res_main_v568 W (ix4 0 T h e) = res_main_v567 W (ix4 0 T h (low e)) := by unfold low; pointwise [res_main_v568]
theorem k_high : res_main_v569 W (ix4 0 T h e) = res_main_v567 W (ix4 0 T h (high e)) := by unfold high; pointwise [res_main_v569]
end halves

variable {c : Dev nD} (S : Same m W c) (t : Fin cfg0.N) (n : Fin 8)

include S

/-- The chunk's gradients of scores and of turned queries and keys. -/
theorem dA_eq (h : Fin 4) (i j : Fin 64) : ((reads m c t).chunk n).dA h (ix2 i j) = dscAt W (nth t n) h i j := by
  rw [(known S t n).dA_apply, dscores]
  rfl

theorem sc_eq (h : Fin 4) (i j : Fin 64) : ((reads m c t).chunk n).sc h (ix2 i j) = scAt W (nth t n) h i j := by
  rw [(known S t n).sc_apply, scores]
  rfl

theorem dq0_eq (i : Fin 64) (h : Fin 4) (d : Fin 64) :
    ((reads m c t).chunk n).dq0 (ix2 i (lane h d)) = res_main_v564 W (ix4 0 (row (nth t n) i) h d) := by
  rw [(known S t n).dq0_apply, dq0]
  simp only [dA_eq S]
  rfl

/-- The state's gradient the chunk starts from. -/
abbrev from_ : Fin 4 → FVec Ideal S256x128 .f32 := (reads m c t).grad (begin_ m c t) (7 - n.val)

theorem dk0_eq (i : Fin 64) (h : Fin 4) (d : Fin 64) :
    ((reads m c t).chunk n).dk0 (from_ (m := m) (c := c) t n) (ix2 i (lane h d)) * Ideal.ofBits .f32 0x3E000000#32
      = res_main_v567 W (ix4 0 (row (nth t n) i) h d) := by
  rw [(known S t n).dk0_apply, dk0]
  simp only [dA_eq S, from_, chunk_grad S, mul_comm (dstAt _ _ _ _ _)]
  rfl

theorem dv_eq (i : Fin 64) (h : Fin 4) (e : Fin 128) : ((reads m c t).chunk n).dv (from_ (m := m) (c := c) t n) h (ix2 i e)
    = grads W (ix2 (row (nth t n) i) ⟨512 + (128 * h.val + e.val), by omega⟩) := by
  rw [(known S t n).dv_apply, grads_v, dvs_apply]
  simp only [sc_eq S, from_, chunk_grad S, mul_comm (dstAt _ _ _ _ _), mul_comm _ (scAt _ _ _ _ _)]
  rfl

/-- The turn's transpose, over rows that agree with the reference's. -/
theorem back_eq (y : FVec Ideal S64x256 .f32) (Y : FVec Ideal S1x2048x4x64 .f32) (lo hi : FVec Ideal S1x2048x4x32 .f32) (i : Fin 64) (h : Fin 4) (d : Fin 64)
    (hy : ∀ d, y (ix2 i (lane h d)) = Y (ix4 0 (row (nth t n) i) h d))
    (hlo : ∀ e, lo (ix4 0 (row (nth t n) i) h e) = Y (ix4 0 (row (nth t n) i) h (low e)))
    (hhi : ∀ e, hi (ix4 0 (row (nth t n) i) h e) = Y (ix4 0 (row (nth t n) i) h (high e))) :
    back y ((reads m c t).chunk n).cos ((reads m c t).chunk n).sin (ix2 i (lane h d))
      = Cert.Reference2Ideal.Hand.unturn lo hi (Cert.Reference2Ideal.Value.res_main_v19 W) (Cert.Reference2Ideal.Value.res_main_v21 W)
          (ix4 0 (row (nth t n) i) h d) := by
  rw [back_apply, (fed S t n).cos, hy, hy]
  rcases low_or_high d with ⟨e, rfl⟩ | ⟨e, rfl⟩
  · rw [mate_low, (fed S t n).sin_high, fold_low]
    refine Eq.trans ?_ (unturn_lo _ _ _ _ (row (nth t n) i) h e).symm
    rw [hlo, hhi]
  · rw [mate_high, (fed S t n).sin_low, fold_high, mul_neg, ← neg_mul, add_comm]
    refine Eq.trans ?_ (unturn_hi _ _ _ _ (row (nth t n) i) h e).symm
    rw [hlo, hhi]

theorem dq_eq (i : Fin 64) (h : Fin 4) (d : Fin 64) :
    ((reads m c t).chunk n).dq (ix2 i (lane h d)) = grads W (ix2 (row (nth t n) i) ⟨64 * h.val + d.val, by omega⟩) := by
  rw [Chunk.dq, grads_q]
  exact back_eq S t n _ (res_main_v564 W) _ _ i h d (dq0_eq S t n i h) (fun e => q_low _ h e) (fun e => q_high _ h e)

theorem dk_eq (i : Fin 64) (h : Fin 4) (d : Fin 64) : ((reads m c t).chunk n).dk (from_ (m := m) (c := c) t n) (ix2 i (lane h d))
    = grads W (ix2 (row (nth t n) i) ⟨256 + (64 * h.val + d.val), by omega⟩) := by
  rw [Chunk.dk, grads_k, (tables W).1, (tables W).2]
  refine back_eq S t n _ (res_main_v567 W) _ _ i h d (fun d => ?_) (fun e => k_low _ h e) (fun e => k_high _ h e)
  rw [← dk0_eq S]
  exact congrArg (_ * ·) (eighth_apply _)

/-- The rows of the result a point writes. -/
def rows (W : Valuation Cert.Reference2Ideal.τ Cert.Reference2Ideal.sig (Elt Ideal)) (t : Fin cfg0.N) (y : S512x1024.Idx) : EReal :=
  grads W (ix2 (at_ t (y 0)) (y 1))

omit S in
theorem rows_at (i : Fin 64) (j : Fin 1024) : rows W t (ix2 ⟨64 * n.val + i.val, by omega⟩ j) = grads W (ix2 (row (nth t n) i) j) := by
  rw [← row_nth]; rfl

omit S in
theorem lanes (l : Fin 256) : ∃ h d, l = lane h d :=
  ⟨⟨l.val / 64, by omega⟩, ⟨l.val % 64, by omega⟩, Fin.ext (by simp only [lane]; omega)⟩

theorem piece_q (x : S64x256.Idx) : ((reads m c t).chunk n).dq x = rows W t ((Rect.unit (s := S512x1024) ![64 * n.val, 0] S64x256.size (inb_g n)).emb x) := by
  idx_vars x
  obtain ⟨h, d, rfl⟩ := lanes x1
  rw [dq_eq S, ← rows_at]
  refine congrArg (rows W t) ?_
  unfold lane
  blk_ext

theorem piece_k (x : S64x256.Idx) : ((reads m c t).chunk n).dk (from_ (m := m) (c := c) t n) x
    = rows W t ((Rect.unit (s := S512x1024) ![64 * n.val, 256] S64x256.size (inb_g' n)).emb x) := by
  idx_vars x
  obtain ⟨h, d, rfl⟩ := lanes x1
  rw [dk_eq S, ← rows_at]
  refine congrArg (rows W t) ?_
  unfold lane
  blk_ext

theorem piece_v (h : Fin 4) (x : S64x128.Idx) : ((reads m c t).chunk n).dv (from_ (m := m) (c := c) t n) h x
    = rows W t ((Rect.unit (s := S512x1024) ![64 * n.val, 512 + 128 * h.val] S64x128.size (inb_gv n h)).emb x) := by
  idx_vars x
  rw [dv_eq S, ← rows_at]
  refine congrArg (rows W t) ?_
  blk_ext

omit S in
theorem piecesOf_append {s : Shape} {e : EltTy} (Y : s.Idx → Elt Ideal e) : ∀ (L L' : List (View.Piece (Elt Ideal) s e)),
    View.PiecesOf Y L → View.PiecesOf Y L' → View.PiecesOf Y (L ++ L')
  | [], _, _, h' => h'
  | _ :: L, L', h, h' => ⟨h.1, piecesOf_append Y L L' h.2 h'⟩

theorem chunk_pieces : View.PiecesOf (rows W t) ((reads m c t).chunkPieces (begin_ m c t) n) :=
  ⟨piece_v S t n 3, piece_v S t n 2, piece_v S t n 1, piece_v S t n 0, piece_k S t n, piece_q S t n, trivial⟩

theorem all_pieces : View.PiecesOf (rows W t) ((reads m c t).pieces (begin_ m c t)) :=
  piecesOf_append _ _ _ (chunk_pieces S t 0) (piecesOf_append _ _ _ (chunk_pieces S t 1) (piecesOf_append _ _ _ (chunk_pieces S t 2)
    (piecesOf_append _ _ _ (chunk_pieces S t 3) (piecesOf_append _ _ _ (chunk_pieces S t 4) (piecesOf_append _ _ _ (chunk_pieces S t 5)
      (piecesOf_append _ _ _ (chunk_pieces S t 6) (chunk_pieces S t 7)))))))

omit S

theorem mem_pieces (L : Loads Ideal) (D : Fin 4 → FVec Ideal S256x128 .f32) (p : View.Piece (Elt Ideal) S512x1024 .f32)
    (hp : p ∈ L.chunkPieces D n) : p ∈ L.pieces D := by
  simp only [Loads.pieces, List.mem_append]
  fin_cases n <;> tauto

theorem covered (L : Loads Ideal) (D : Fin 4 → FVec Ideal S256x128 .f32) (y : S512x1024.Idx) : ∃ p ∈ L.pieces D, y ∈ p.1.set := by
  idx_vars y
  obtain ⟨n, hn⟩ : ∃ n : Fin 8, n.val = y0.val / 64 := ⟨⟨y0.val / 64, by omega⟩, rfl⟩
  by_cases h1 : y1.val < 256
  · refine ⟨_, mem_pieces n L D ⟨Rect.unit ![64 * n.val, 0] S64x256.size (inb_g n), (L.chunk n).dq⟩ (by simp [Loads.chunkPieces]),
      (Rect.mem_set_unit (inb := inb_g n)).mpr fun a => ?_⟩
    fin_cases a <;> simp <;> omega
  by_cases h2 : y1.val < 512
  · refine ⟨_, mem_pieces n L D ⟨Rect.unit ![64 * n.val, 256] S64x256.size (inb_g' n), (L.chunk n).dk (L.grad D (7 - n.val))⟩
      (by simp [Loads.chunkPieces]),
      (Rect.mem_set_unit (inb := inb_g' n)).mpr fun a => ?_⟩
    fin_cases a <;> simp <;> omega
  · obtain ⟨h, hh⟩ : ∃ h : Fin 4, h.val = (y1.val - 512) / 128 := ⟨⟨(y1.val - 512) / 128, by omega⟩, rfl⟩
    refine ⟨_, mem_pieces n L D ⟨Rect.unit ![64 * n.val, 512 + 128 * h.val] S64x128.size (inb_gv n h),
      (L.chunk n).dv (L.grad D (7 - n.val)) h⟩ (by unfold Loads.chunkPieces; clear hh; fin_cases h <;> simp),
      (Rect.mem_set_unit (inb := inb_gv n h)).mpr fun a => ?_⟩
    fin_cases a <;> simp <;> omega

theorem emb9 (y0 : Fin 512) (y1 : Fin 1024) : (win0_9.blk t).view.emb (ix2 y0 y1) = ix2 (at_ t y0) y1 := by
  unfold at_
  blk_ext [idx t]

include S in
theorem final : (dats m 0 c).arrAt 9 (cfgs 0).N = grads W := by
  refine (dats m 0 c).arrAt_eq_of_covers 9 _ (by decide +kernel) fun t hf y => ?_
  blk_simp
  rw [after0_9, out_eq]
  idx_vars y
  rw [emb9 t y0 y1, ← List.append_nil (Loads.pieces _ _)]
  exact View.canon_append_of_piecesOf (Val := Elt Ideal) (rows W t) [] _ (all_pieces S t) _ (covered _ _ _)

end Cert.Kernel2Ideal.Hand
-- ==== Proof.Update.lean ====
module

public import proofs.«01_k».proof.Proof.Gen.Kernel5Ideal.Value
public import proofs.«01_k».proof.Proof.Gen.Reference5Ideal.Run
public import Idealize.ShloMosaic.Lib.Pipeline.ValueKit
public import Idealize.ShloMosaic.Lib.Pipeline.ReadBack
public import Idealize.ShloMosaic.Lib.Pointwise

@[expose] public section

set_option maxRecDepth 16384

noncomputable section

/-! The optimiser's step on the sum of the four parts of a gradient. -/

namespace Cert.Reference5Ideal.Spec

open Cert.Reference5Ideal Cert.Reference5Ideal.Gen Idealize.ShloMosaic Idealize.ShloMosaic.TcCoe Idealize.SL.Sem

/-- The same number everywhere. -/
abbrev num (b : BitVec 32) : FVec Ideal S1x1024x464 .f32 := broadcastInDim S1x1024x464 ![] bcast_S_S1x1024x464 (constant S_ .f32 b)

/-- The gradient, the sum of its parts. -/
def grad (p : FVec Ideal S4x464x1024 .bf16) : FVec Ideal S1x1024x464 .f32 :=
  broadcastInDim S1x1024x464 ![1, 2] bcast_S1024x464_S1x1024x464_1_2 (transpose S1024x464 [1, 0] (Host.reduceAdd (extf .f32 p bitsLt_bf16_f32) (constant S_ .f32 0x00000000#32) reducesTo_S4x464x1024_S464x1024_d0 h_S_) transposes_S464x1024_S1024x464_1_0)

/-- The first moment. -/
def first (g a : FVec Ideal S1x1024x464 .f32) : FVec Ideal S1x1024x464 .f32 := addf (mulf (num 0x3F666666#32) a) (mulf (num 0x3DCCCCCD#32) g)

/-- The second moment. -/
def second (g b : FVec Ideal S1x1024x464 .f32) : FVec Ideal S1x1024x464 .f32 := addf (mulf (num 0x3F7FBE77#32) b) (mulf (num 0x3A83126F#32) (mulf g g))

/-- The step, from the moments and the weight. -/
def step (a b w : FVec Ideal S1x1024x464 .f32) : FVec Ideal S1x1024x464 .f32 :=
  mulf (num 0xBA83126F#32) (addf (Host.divf (Host.divf a (num 0x3F26BD02#32)) (addf (Host.sqrt (Host.divf b (num 0x3C231ACC#32))) (num 0x322BCC77#32))) (mulf (num 0x3C23D70A#32) w))

/-- Laid out by columns. -/
def laid (y : FVec Ideal S1x1024x464 .f32) : FVec Ideal S464x1024 .f32 :=
  transpose S464x1024 [1, 0] (shapeCast _ y shapeCasts_S1x1024x464_S1024x464) transposes_S1024x464_S464x1024_1_0

theorem laid_apply (y : FVec Ideal S1x1024x464 .f32) (r : Fin 464) (j : Fin 1024) : laid y (ix2 r j) = y (ix3 0 j r) := by
  pointwise [laid]

theorem grad_apply (p : FVec Ideal S4x464x1024 .bf16) (r : Fin 464) (j : Fin 1024) :
    grad p (ix3 0 j r) = p (ix3 0 r j) + p (ix3 1 r j) + p (ix3 2 r j) + p (ix3 3 r j) := by
  pointwise [grad]
  rw [Fin.sum_univ_four]

/-- The reference's run, its results by name. -/
theorem run_step (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v29) = laid (grad (m ((c.tc : Thread nD τ).loc main_arg0)))
      ∧ r.2.mem ((c.tc : Thread nD τ).loc main_v31) = laid (step (first (grad (m ((c.tc : Thread nD τ).loc main_arg0))) (m ((c.tc : Thread nD τ).loc main_arg2)))
          (second (grad (m ((c.tc : Thread nD τ).loc main_arg0))) (m ((c.tc : Thread nD τ).loc main_arg3))) (m ((c.tc : Thread nD τ).loc main_arg1)))
      ∧ r.2.mem ((c.tc : Thread nD τ).loc main_v33) = laid (first (grad (m ((c.tc : Thread nD τ).loc main_arg0))) (m ((c.tc : Thread nD τ).loc main_arg2)))
      ∧ r.2.mem ((c.tc : Thread nD τ).loc main_v35) = laid (second (grad (m ((c.tc : Thread nD τ).loc main_arg0))) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Cert.Reference5Ideal.Value.run m ρ

end Cert.Reference5Ideal.Spec

namespace Cert.Kernel5Ideal.Hand

open Cert.Kernel5Ideal Cert.Kernel5Ideal.Gen Idealize.ShloMosaic Idealize.ShloMosaic.TcCoe
open Idealize.ShloMosaic.Tactic Idealize.SL.Sem
open Idealize.ShloMosaic.Pipeline (Dat)
open Cert.Reference5Ideal.Spec (grad first second step laid laid_apply grad_apply)

variable (m : (ℓ : Loc nD τ sig) → Buf (Elt Ideal) ℓ) (c : Dev nD) (t : Fin cfg0.N) (r : Fin 232) (j : Fin 1024)

/-- Where each window's block lies at a point. -/
theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

/-- The row of the arrays that is row `r` of point `t`'s tile. -/
def row (t : Fin cfg0.N) (r : Fin 232) : Fin 464 := ⟨t.val * 232 + r.val, by
  have hN : t.val < 2 := lt_of_lt_of_eq t.isLt N_0
  omega⟩

abbrev Parts : FVec Ideal S4x464x1024 .bf16 := m ((c : Thread nD τ).loc main_arg0)
abbrev Wt : FVec Ideal S1x1024x464 .f32 := m ((c : Thread nD τ).loc main_arg1)
abbrev Mo : FVec Ideal S1x1024x464 .f32 := m ((c : Thread nD τ).loc main_arg2)
abbrev Va : FVec Ideal S1x1024x464 .f32 := m ((c : Thread nD τ).loc main_arg3)

/-- The gradient and the moments after the step. -/
abbrev Gr := grad (Parts m c)
abbrev Mo' := first (Gr m c) (Mo m c)
abbrev Va' := second (Gr m c) (Va m c)

theorem read0 (d : Fin 4) : iblk m c 0 t (ix3 d r j) = Parts m c (ix3 d (row t r) j) := by
  unfold row
  blk_point [iblk, V, idx t]
theorem read1 : iblk m c 1 t (ix2 r j) = Wt m c (ix3 0 j (row t r)) := by
  unfold row
  blk_point [iblk, V, idx t]
theorem read2 : iblk m c 2 t (ix2 r j) = Mo m c (ix3 0 j (row t r)) := by
  unfold row
  blk_point [iblk, V, idx t]
theorem read3 : iblk m c 3 t (ix2 r j) = Va m c (ix3 0 j (row t r)) := by
  unfold row
  blk_point [iblk, V, idx t]

/-- A point's rows of the sum. -/
theorem sum_apply : k0_pay2 (F := Ideal) (View.ld (iblk m c 0 t) r0_0) (View.ld (iblk m c 0 t) r0_1) (View.ld (iblk m c 0 t) r0_2)
    (View.ld (iblk m c 0 t) r0_3) (ix2 r j) = Gr m c (ix3 0 j (row t r)) := by
  refine Eq.trans ?_ (grad_apply (Parts m c) (row t r) j).symm
  pointwise [k0_pay2]
  blk_point
  all_goals exact read0 m c t r j _

theorem first_apply : k0_pay6 (F := Ideal) (iblk m c 0 t) (iblk m c 1 t) (iblk m c 2 t) (iblk m c 3 t) (ix2 r j) = Mo' m c (ix3 0 j (row t r)) := by
  unfold k0_pay6
  pointwise [k0_pay4, first]
  erw [sum_apply m c t r j, read2 m c t r j]

theorem second_apply : k0_pay7 (F := Ideal) (iblk m c 0 t) (iblk m c 1 t) (iblk m c 2 t) (iblk m c 3 t) (ix2 r j) = Va' m c (ix3 0 j (row t r)) := by
  unfold k0_pay7
  pointwise [k0_pay5, second]
  erw [sum_apply m c t r j, read3 m c t r j]

theorem step_apply : k0_pay1 (F := Ideal) (k0_pay3 (View.ld (iblk m c 1 t) r0_4)) (k0_pay6 (iblk m c 0 t) (iblk m c 1 t) (iblk m c 2 t) (iblk m c 3 t))
    (k0_pay7 (iblk m c 0 t) (iblk m c 1 t) (iblk m c 2 t) (iblk m c 3 t)) (Scalar.ofBits .f32 0x3F26BD02#32) (ix2 r j)
    = step (Mo' m c) (Va' m c) (Wt m c) (ix3 0 j (row t r)) := by
  pointwise [k0_pay1, k0_pay3, step]
  erw [first_apply m c t r j, second_apply m c t r j, read1 m c t r j]

theorem whole {e : FVec Ideal S232x1024 .f32} : View.canon (Val := Elt Ideal) (e := .f32) [⟨r0_4, e⟩] = e :=
  View.canon_unit_zero (funext fun a => by fin_cases a <;> rfl) _ _

theorem final4 : (dats m 0 c).arrAt 4 (cfgs 0).N = laid (Gr m c) := by
  refine (dats m 0 c).arrAt_eq_of_covers 4 _ (by decide +kernel) fun t hf y => ?_
  blk_simp
  rw [after0_4, out0_4, whole]
  idx_vars y
  rw [show (win0_4.blk t).view.emb (ix2 y0 y1) = ix2 (row t y0) y1 from by unfold row; blk_ext [idx t], laid_apply]
  exact sum_apply m c t y0 y1

theorem final5 : (dats m 0 c).arrAt 5 (cfgs 0).N = laid (step (Mo' m c) (Va' m c) (Wt m c)) := by
  refine (dats m 0 c).arrAt_eq_of_covers 5 _ (by decide +kernel) fun t hf y => ?_
  blk_simp
  rw [after0_5, out0_5, whole]
  idx_vars y
  rw [show (win0_5.blk t).view.emb (ix2 y0 y1) = ix2 (row t y0) y1 from by unfold row; blk_ext [idx t], laid_apply]
  exact step_apply m c t y0 y1

theorem final6 : (dats m 0 c).arrAt 6 (cfgs 0).N = laid (Mo' m c) := by
  refine (dats m 0 c).arrAt_eq_of_covers 6 _ (by decide +kernel) fun t hf y => ?_
  blk_simp
  rw [after0_6, out0_6, whole]
  idx_vars y
  rw [show (win0_6.blk t).view.emb (ix2 y0 y1) = ix2 (row t y0) y1 from by unfold row; blk_ext [idx t], laid_apply]
  exact first_apply m c t y0 y1

theorem final7 : (dats m 0 c).arrAt 7 (cfgs 0).N = laid (Va' m c) := by
  refine (dats m 0 c).arrAt_eq_of_covers 7 _ (by decide +kernel) fun t hf y => ?_
  blk_simp
  rw [after0_7, out0_7, whole]
  idx_vars y
  rw [show (win0_7.blk t).view.emb (ix2 y0 y1) = ix2 (row t y0) y1 from by unfold row; blk_ext [idx t], laid_apply]
  exact second_apply m c t y0 y1

end Cert.Kernel5Ideal.Hand
end
-- ==== Proof.RetRun.lean ====
module

public import proofs.«01_k».proof.Proof.RetRef

@[expose] public section

set_option maxRecDepth 16384

noncomputable section

/-! The reference's run, its result in the parts the proof reads. -/

namespace Cert.Reference2Ideal.Hand

open Cert.Reference2Ideal Cert.Reference2Ideal.Gen Cert.Reference2Ideal.Value Idealize.ShloMosaic Idealize.ShloMosaic.TcCoe
open Idealize.SL.Sem Idealize.ShloMosaic.StableHlo

variable (m : (ℓ : Loc nD τ sig) → Buf (Elt Ideal) ℓ) (ρ : Dev nD → PrngReg)

theorem run_grads : θ_run defs (onTc (τ := τ) (main (F := Ideal))) ⟨m, fun _ => 0, ρ⟩ fun r => ∀ c : Dev nD,
      r.2.mem ((c : Thread nD τ).loc main_v602) = grads (launchContents m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (by unfold grads unturn dvs; rfl), (h c).2⟩) (run m ρ)

end Cert.Reference2Ideal.Hand
-- ==== Proof.FwdPieces.lean ====
module

public import proofs.«01_k».proof.Proof.RetPieces
public import proofs.«01_k».proof.Proof.Gen.Kernel3Ideal.Value

@[expose] public section

set_option maxRecDepth 16384

noncomputable section

/-! What a grid point of the retention stores, as pieces: eight chunks, each saving the state it starts from and storing
    its rows of the output. -/

namespace Cert.Kernel3Ideal.Hand

open Cert.Kernel3Ideal Cert.Kernel3Ideal.Gen Idealize.ShloMosaic Idealize.ShloMosaic.TcCoe
open Idealize.ShloMosaic.Tactic Idealize.SL.Sem
open Cert.Kernel2Ideal.Hand (Chunk tile r inb_p inb_p' inb_v inb_c inb_4 inb_4' inb_d inb_s inb_o)

variable {F : FTy → Type} [FloatOps F] [Named F]

/-- The decay of the state over a chunk. -/
def gamma : Fin 4 → F .f32 :=
  ![Named.named κ "gamma0" 0x3E063AE5#32, Named.named κ "gamma1" 0x3EBADF84#32, Named.named κ "gamma2" 0x3F1AF7A1#32,
    Named.named κ "gamma3" 0x3F474682#32]

/-- A chunk's rows of the output. -/
def result (K : Chunk F) (h : Fin 4) : FVec F S64x128 .f32 :=
  addf (matmul dot_S64x64_S64x128_S64x128_1_0_0_1_n_n none (r _ (K.sc h)) (r _ (K.v h)) (constant S64x128 .f32 0x00000000#32))
    (matmul dot_S64x256_S256x128_S64x128_1_0_0_1_n_n none (r _ (mulf K.q (tile K.qd h))) (r _ (K.s h)) (constant S64x128 .f32 0x00000000#32))

/-- The state a chunk leaves. -/
def leaves (K : Chunk F) (h : Fin 4) : FVec F S256x128 .f32 :=
  addf (mulf (K.s h) (broadcast S256x128 (gamma h)))
    (matmul dot_S64x256_S64x128_S256x128_0_0_1_1_n_n none (r _ (mulf K.k (tile K.kd h))) (r _ (K.v h)) (constant S256x128 .f32 0x00000000#32))

/-- What a point's loads read of its blocks. -/
structure Loads (F : FTy → Type) where
  p : (r : Rect S512x1536) → r.shape.Idx → F .f32
  cos : (r : Rect S512x256) → r.shape.Idx → F .f32
  sin : (r : Rect S512x256) → r.shape.Idx → F .f32
  dec : (r : Rect S4x64x64) → r.shape.Idx → F .f32
  hm : (r : Rect S4x64x256) → r.shape.Idx → F .f32
  qd : (r : Rect S4x64x256) → r.shape.Idx → F .f32
  kd : (r : Rect S4x64x256) → r.shape.Idx → F .f32

/-- The operands of the point's chunk `n`, over the state it starts from. -/
def Loads.chunk (L : Loads F) (n : Fin 8) (s : Fin 4 → FVec F S256x128 .f32) : Chunk F where
  pq := L.p (Rect.unit ![64 * n.val, 0] S64x256.size (inb_p n))
  pk := L.p (Rect.unit ![64 * n.val, 256] S64x256.size (inb_p' n))
  v h := L.p (Rect.unit ![64 * n.val, 512 + 128 * h.val] S64x128.size (inb_v n h))
  s := s
  o h := L.p (Rect.unit ![64 * n.val, 512 + 128 * h.val] S64x128.size (inb_v n h))
  cos := shapeCast S64x256 (L.cos (Rect.unit ![64 * n.val, 0] S64x256.size (inb_c n))) shapeCasts_S64x256_S64x256
  sin := shapeCast S64x256 (L.sin (Rect.unit ![64 * n.val, 0] S64x256.size (inb_c n))) shapeCasts_S64x256_S64x256
  dec := shapeCast S4x64x64 (L.dec (Rect.unit ![0, 0, 0] S4x64x64.size inb_4)) shapeCasts_S4x64x64_S4x64x64
  hm := shapeCast S4x64x256 (L.hm (Rect.unit ![0, 0, 0] S4x64x256.size inb_4')) shapeCasts_S4x64x256_S4x64x256
  qd := shapeCast S4x64x256 (L.qd (Rect.unit ![0, 0, 0] S4x64x256.size inb_4')) shapeCasts_S4x64x256_S4x64x256
  kd := shapeCast S4x64x256 (L.kd (Rect.unit ![0, 0, 0] S4x64x256.size inb_4')) shapeCasts_S4x64x256_S4x64x256

/-- The state after the point's first `j` chunks. -/
def Loads.state (L : Loads F) (D : Fin 4 → FVec F S256x128 .f32) : ℕ → Fin 4 → FVec F S256x128 .f32
  | 0 => D
  | j + 1 => leaves (L.chunk ⟨j % 8, Nat.mod_lt _ (by decide)⟩ (L.state D j))

/-- What chunk `n` stores of head `h`: its rows, and the state it starts from. -/
def Loads.row (L : Loads F) (D : Fin 4 → FVec F S256x128 .f32) (n : Fin 8) (h : Fin 4) : View.Piece (Elt F) S512x512 .f32 :=
  ⟨Rect.unit ![64 * n.val, 128 * h.val] S64x128.size (inb_o n h), result (L.chunk n (L.state D n.val)) h⟩
def Loads.save (L : Loads F) (D : Fin 4 → FVec F S256x128 .f32) (n : Fin 8) (h : Fin 4) : View.Piece (Elt F) S8x4x256x128 .f32 :=
  ⟨Rect.unit ![n.val, h.val, 0, 0] S1x1x256x128.size (inb_s n h), shapeCast S1x1x256x128 (L.state D n.val h) shapeCasts_S256x128_S1x1x256x128⟩

/-- Every chunk's and head's piece, the last first. -/
def all {α : Type} (f : Fin 8 → Fin 4 → α) : List α :=
  [f 7 3, f 7 2, f 7 1, f 7 0, f 6 3, f 6 2, f 6 1, f 6 0, f 5 3, f 5 2, f 5 1, f 5 0, f 4 3, f 4 2, f 4 1, f 4 0,
    f 3 3, f 3 2, f 3 1, f 3 0, f 2 3, f 2 2, f 2 1, f 2 0, f 1 3, f 1 2, f 1 1, f 1 0, f 0 3, f 0 2, f 0 1, f 0 0]

/-- What the point leaves in the carried scratch. -/
def Loads.carried (L : Loads F) (D : Fin 4 → FVec F S256x128 .f32) (h : Fin 4) : View.Piece (Elt F) S4x256x128 .f32 :=
  ⟨Rect.unit ![h.val, 0, 0] S1x256x128.size (inb_d h), shapeCast S1x256x128 (L.state D 8 h) shapeCasts_S256x128_S1x256x128⟩

def Loads.scratch (L : Loads F) (D : Fin 4 → FVec F S256x128 .f32) : List (View.Piece (Elt F) S4x256x128 .f32) :=
  [L.carried D 3, L.carried D 2, L.carried D 1, L.carried D 0]

variable (m : (ℓ : Loc nD τ sig) → Buf (Elt F) ℓ)

/-- A point's loads. -/
def reads (c : Dev nD) (t : Fin cfg0.N) : Loads F where
  p r := (ms0_0 t).view.readAt (Elt F) r.toLoadRect ((hs0_0 t).unread (iblk m c 0 t))
  cos r := (ms0_1 t).view.readAt (Elt F) r.toLoadRect ((hs0_1 t).unread (iblk m c 1 t))
  sin r := (ms0_2 t).view.readAt (Elt F) r.toLoadRect ((hs0_2 t).unread (iblk m c 2 t))
  dec r := (ms0_3 t).view.readAt (Elt F) r.toLoadRect ((hs0_3 t).unread (iblk m c 3 t))
  hm r := (ms0_4 t).view.readAt (Elt F) r.toLoadRect ((hs0_4 t).unread (iblk m c 4 t))
  qd r := (ms0_5 t).view.readAt (Elt F) r.toLoadRect ((hs0_5 t).unread (iblk m c 5 t))
  kd r := (ms0_6 t).view.readAt (Elt F) r.toLoadRect ((hs0_6 t).unread (iblk m c 6 t))

/-- The state a point that is not the first starts from. -/
def start (X : Vec F S4x256x128 .f32) (h : Fin 4) : FVec F S256x128 .f32 :=
  shapeCast S256x128 (scM0_0.view.readAt (Elt F) (Rect.unit (s := S4x256x128) ![h.val, 0, 0] S1x256x128.size (inb_d h)).toLoadRect
    ((Memref.isWhole_whole _).unread X)) shapeCasts_S1x256x128_S256x128

/-- The scratch as the first point fills it. -/
def fill : List (View.Piece (Elt F) S4x256x128 .f32) :=
  [⟨Rect.unit ![0, 0, 0] S4x256x128.size inb_S4x256x128_S4x256x128_0_0_0, k0_pay4⟩]

/-- The state the first point starts from. -/
def start0 (h : Fin 4) : FVec F S256x128 .f32 :=
  shapeCast S256x128 (scM0_0.view.readCov (Val := Elt F) fill (Rect.unit (s := S4x256x128) ![h.val, 0, 0] S1x256x128.size (inb_d h)).toLoadRect)
    shapeCasts_S1x256x128_S256x128

section
variable (c : Dev nD) (t : Fin cfg0.N) (h0 : ¬t.val % 4 = 0) (X : Vec F S4x256x128 .f32)
    (hX : (outsAt0 m c (t.val - 1) (Nat.lt_of_le_of_lt (Nat.sub_le _ _) t.isLt)).2.2 = X)

include h0 hX

set_option maxHeartbeats 4000000 in
theorem out_B : (outsAt0 m c t.val t.isLt).1 = View.canon (all ((reads m c t).row (start X))) := by
  rw [outsAt0_B m c t h0, hX]
  funext y
  refine (View.read_writes_junk_apply_eq_canon (Val := Elt F) VO0_7 y _).trans (congrFun (congrArg View.canon ?_) y)
  sl_kernel_rfl

set_option maxHeartbeats 4000000 in
theorem save_B : (outsAt0 m c t.val t.isLt).2.1 = View.canon (all ((reads m c t).save (start X))) := by
  rw [outsAt0_B m c t h0, hX]
  funext y
  refine (View.read_writes_junk_apply_eq_canon (Val := Elt F) VO0_8 y _).trans (congrFun (congrArg View.canon ?_) y)
  sl_kernel_rfl

set_option maxHeartbeats 4000000 in
theorem scr_B : (outsAt0 m c t.val t.isLt).2.2 = View.canon ((reads m c t).scratch (start X)) := by
  rw [outsAt0_B m c t h0, hX]
  funext y
  refine (View.read_writes_junk_apply_eq_canon (Val := Elt F) VS0_0 y _).trans (congrFun (congrArg View.canon ?_) y)
  sl_kernel_rfl

end

section
variable (c : Dev nD) (t : Fin cfg0.N) (h0 : t.val % 4 = 0)

include h0

set_option maxHeartbeats 4000000 in
theorem out_A : (outsAt0 m c t.val t.isLt).1 = View.canon (all ((reads m c t).row start0)) := by
  rw [outsAt0_A m c t h0]
  funext y
  refine (View.read_writes_junk_apply_eq_canon (Val := Elt F) VO0_7 y _).trans (congrFun (congrArg View.canon ?_) y)
  sl_kernel_rfl

set_option maxHeartbeats 4000000 in
theorem save_A : (outsAt0 m c t.val t.isLt).2.1 = View.canon (all ((reads m c t).save start0)) := by
  rw [outsAt0_A m c t h0]
  funext y
  refine (View.read_writes_junk_apply_eq_canon (Val := Elt F) VO0_8 y _).trans (congrFun (congrArg View.canon ?_) y)
  sl_kernel_rfl

set_option maxHeartbeats 4000000 in
theorem scr_A : (outsAt0 m c t.val t.isLt).2.2 = View.canon ((reads m c t).scratch start0 ++ fill) := by
  rw [outsAt0_A m c t h0]
  funext y
  refine (View.read_writes_junk_apply_eq_canon (Val := Elt F) VS0_0 y _).trans (congrFun (congrArg View.canon ?_) y)
  sl_kernel_rfl

end

end Cert.Kernel3Ideal.Hand
end
-- ==== Proof.FwdTables.lean ====
module

public import proofs.«01_k».proof.Proof.FwdPieces
public import proofs.«01_k».proof.Proof.RetTables

@[expose] public section

set_option maxRecDepth 16384

noncomputable section

/-! The tables the retention's windows read, at an index, over the values of the gradient's reference. -/

namespace Cert.Kernel3Ideal.Hand

open Cert.Kernel3Ideal Cert.Kernel3Ideal.Gen Idealize.ShloMosaic Idealize.ShloMosaic.TcCoe
open Idealize.ShloMosaic.Tactic Idealize.SL.Sem Idealize.ShloMosaic.StableHlo
open Cert.Reference2Ideal.Value (res_main_v17 res_main_v19 res_main_v21 res_main_v116 res_main_v121 res_main_v325)
open Cert.Reference2Ideal.Hand (cosAt sinAt decAt qdAt kdAt)
open Cert.Kernel2Ideal.Hand (lane fold spread spread_apply maskOf mask_apply scaled scaled_apply)

variable (m : (ℓ : Loc nD τ sig) → Buf (Elt Ideal) ℓ)
variable (W : Valuation Cert.Reference2Ideal.τ Cert.Reference2Ideal.sig (Elt Ideal))

/-- The kernel's tables. -/
abbrev cosT (c : Dev nD) : FVec Ideal S2048x256 .f32 := V m c main_v18
abbrev sinT (c : Dev nD) : FVec Ideal S2048x256 .f32 := V m c main_v23
abbrev decT (c : Dev nD) : FVec Ideal S4x64x64 .f32 := V m c main_v44
abbrev hmT (c : Dev nD) : FVec Ideal S4x64x256 .f32 := V m c main_v71
abbrev qdT (c : Dev nD) : FVec Ideal S4x64x256 .f32 := V m c main_v74
abbrev kdT (c : Dev nD) : FVec Ideal S4x64x256 .f32 := V m c main_v77

/-- The buffers before the last stretch of host lines. -/
def mid (c : Dev nD) : Valuation τ sig (Elt Ideal) := after hostOps0_1 (after hostOps0 (fun b => m (c, b)))

theorem V_eq (c : Dev nD) (r : Ref sig .tc) : V m c r = after hostOps0_2 (mid m c) (no_index (Proc.devRef .tc r)) := by
  unfold V mid
  rw [← StableHlo.after_append, ← StableHlo.after_append]
  rfl

theorem V_cos (c : Dev nD) : cosT m c = spread (Host.cos (res_main_v17 W)) (Host.cos (res_main_v17 W)) := by
  have e : upto hostOps0 (fun b => m (c, b)) 17 (Proc.devRef .tc main_v13) = Host.cos (res_main_v17 W) := by
    after_reads_simp
    rfl
  rw [cosT, V_eq]
  unfold mid
  after_reads_simp
  rw [e]
  rfl

theorem V_sin (c : Dev nD) : sinT m c = spread (Host.negf (Host.sin (res_main_v17 W))) (Host.sin (res_main_v17 W)) := by
  have e : upto hostOps0 (fun b => m (c, b)) 22 (Proc.devRef .tc main_v19) = Host.negf (Host.sin (res_main_v17 W)) := by
    after_reads_simp
    rfl
  have e' : upto hostOps0 (fun b => m (c, b)) 22 (Proc.devRef .tc main_v14) = Host.sin (res_main_v17 W) := by
    after_reads_simp
    rfl
  rw [sinT, V_eq]
  unfold mid
  after_reads_simp
  rw [e, e']
  rfl

theorem V_dec (c : Dev nD) : broadcastInDim Cert.Reference2Ideal.S1x1x4x64x64 ![2, 3, 4] Cert.Reference2Ideal.Gen.bcast_S4x64x64_S1x1x4x64x64_2_3_4 (decT m c)
    = res_main_v116 W := by
  rw [decT, V_eq]
  unfold mid
  after_reads_simp
  rfl

theorem cos_apply (c : Dev nD) (T : Fin 2048) (h : Fin 4) (d : Fin 64) : cosT m c (ix2 T (lane h d)) = cosAt W T (fold d) := by
  unfold cosAt
  rw [V_cos m W, spread_apply]
  simp only [ite_self]
  pointwise [res_main_v19]

theorem sin_apply (c : Dev nD) (T : Fin 2048) (h : Fin 4) (d : Fin 64) :
    sinT m c (ix2 T (lane h d)) = if d.val < 32 then -sinAt W T (fold d) else sinAt W T (fold d) := by
  unfold sinAt
  rw [V_sin m W, spread_apply]
  pointwise [res_main_v21]

theorem dec_apply (c : Dev nD) (h : Fin 4) (i j : Fin 64) : decT m c (ix3 h i j) = decAt W h i j := by
  unfold decAt
  rw [← V_dec m W c]
  pointwise

/-- Each lane's head. -/
theorem heads (c : Dev nD) : ∀ l : Fin 256, (mid m c (Proc.devRef .tc main_v62) : IVec S256 32) (ix1 l) = BitVec.ofNat 32 (l.val / 64) := by
  unfold mid
  after_reads_simp
  exact of_decide_eq_true (by sl_kernel_rfl)

theorem hm_apply (c : Dev nD) (h : Fin 4) (i : Fin 64) (g : Fin 4) (d : Fin 64) : hmT m c (ix3 h i (lane g d)) = if g = h then 1 else 0 := by
  have e : hmT m c = maskOf (mid m c (Proc.devRef .tc main_v62)) := by
    rw [hmT, V_eq]
    unfold maskOf
    after_reads_simp
  rw [e]
  exact mask_apply _ (heads m c) h g i d

theorem qd_apply (c : Dev nD) (h : Fin 4) (i : Fin 64) (g : Fin 4) (d : Fin 64) : qdT m c (ix3 h i (lane g d)) = if g = h then qdAt W i h else 0 := by
  have e : qdT m c = scaled (hmT m c) (mid m c (Proc.devRef .tc main_v52)) := by
    rw [qdT, hmT, V_eq, V_eq]
    unfold scaled
    after_reads_simp
  have e' : broadcastInDim Cert.Reference2Ideal.S1x1x64x4x1 ![2, 3] Cert.Reference2Ideal.Gen.bcast_S64x4_S1x1x64x4x1_2_3
      (transpose Cert.Reference2Ideal.S64x4 [1, 0] (mid m c (Proc.devRef .tc main_v52)) Cert.Reference2Ideal.Gen.transposes_S4x64_S64x4_1_0) = res_main_v325 W := by
    unfold mid
    after_reads_simp
    rfl
  rw [e, scaled_apply _ _ h g i d (hm_apply m c h i g d), qdAt, ← e']
  pointwise

theorem kd_apply (c : Dev nD) (h : Fin 4) (i : Fin 64) (g : Fin 4) (d : Fin 64) : kdT m c (ix3 h i (lane g d)) = if g = h then kdAt W i h else 0 := by
  have e : kdT m c = scaled (hmT m c) (mid m c (Proc.devRef .tc main_v60)) := by
    rw [kdT, hmT, V_eq, V_eq]
    unfold scaled
    after_reads_simp
  have e' : broadcastInDim Cert.Reference2Ideal.S1x1x64x4x1 ![2, 3] Cert.Reference2Ideal.Gen.bcast_S64x4_S1x1x64x4x1_2_3
      (transpose Cert.Reference2Ideal.S64x4 [1, 0] (mid m c (Proc.devRef .tc main_v60)) Cert.Reference2Ideal.Gen.transposes_S4x64_S64x4_1_0) = res_main_v121 W := by
    unfold mid
    after_reads_simp
    rfl
  rw [e, scaled_apply _ _ h g i d (hm_apply m c h i g d), kdAt, ← e']
  pointwise

end Cert.Kernel3Ideal.Hand
end
-- ==== Proof.FwdLoads.lean ====
module

public import proofs.«01_k».proof.Proof.FwdTables
public import proofs.«01_k».proof.Proof.RetKnown

@[expose] public section

set_option maxRecDepth 16384

noncomputable section

/-! What a point's loads read, over the values of the gradient's reference. -/

namespace Cert.Kernel3Ideal.Hand

open Cert.Kernel3Ideal Cert.Kernel3Ideal.Gen Idealize.ShloMosaic Idealize.ShloMosaic.TcCoe
open Idealize.ShloMosaic.Tactic Idealize.SL.Sem
open Cert.Reference2Ideal.Hand (row stAt v_at)
open Cert.Kernel2Ideal.Hand (lane whole_load Fed)

variable (m : (ℓ : Loc nD τ sig) → Buf (Elt Ideal) ℓ)

/-- Where each window's block lies at a point. -/
theorem idx : ∀ t : Fin cfg0.N, win0_0.index t = ![t.val, 0] ∧ win0_1.index t = ![t.val, 0] ∧ win0_2.index t = ![t.val, 0]
    ∧ win0_3.index t = ![0, 0, 0] ∧ win0_4.index t = ![0, 0, 0] ∧ win0_5.index t = ![0, 0, 0] ∧ win0_6.index t = ![0, 0, 0]
    ∧ win0_7.index t = ![t.val, 0] ∧ win0_8.index t = ![t.val, 0, 0, 0] :=
  (by decide +kernel : ∀ t : Fin grid0.N, _)

abbrev X (c : Dev nD) : FVec Ideal S2048x1536 .f32 := m ((c : Thread nD τ).loc main_arg0)

theorem lt_four (t : Fin cfg0.N) : t.val < 4 := t.isLt

/-- The chunk that is chunk `n` of point `t`. -/
def nth (t : Fin cfg0.N) (n : Fin 8) : Fin 32 := ⟨8 * t.val + n.val, by have := lt_four t; omega⟩

/-- The row of the arrays that is row `i` of a point's block. -/
def at_ (t : Fin cfg0.N) (i : Fin 512) : Fin 2048 := ⟨512 * t.val + i.val, by have := lt_four t; omega⟩

theorem row_nth (t : Fin cfg0.N) (n : Fin 8) (i : Fin 64) : at_ t ⟨64 * n.val + i.val, by omega⟩ = row (nth t n) i :=
  Fin.ext (by simp only [at_, row, nth]; omega)

section
variable (c : Dev nD) (t : Fin cfg0.N)

theorem blk0 (i : Fin 512) (j : Fin 1536) : iblk m c 0 t (ix2 i j) = X m c (ix2 (at_ t i) j) := by
  unfold at_
  blk_point [iblk, V, idx t]

theorem blk1 (i : Fin 512) (l : Fin 256) : iblk m c 1 t (ix2 i l) = cosT m c (ix2 (at_ t i) l) := by
  unfold at_
  blk_point [iblk, idx t]

theorem blk2 (i : Fin 512) (l : Fin 256) : iblk m c 2 t (ix2 i l) = sinT m c (ix2 (at_ t i) l) := by
  unfold at_
  blk_point [iblk, idx t]

theorem blk3 (h : Fin 4) (i j : Fin 64) : iblk m c 3 t (ix3 h i j) = decT m c (ix3 h i j) := by
  blk_point [iblk, idx t]

theorem blk4 (h : Fin 4) (i : Fin 64) (l : Fin 256) : iblk m c 4 t (ix3 h i l) = hmT m c (ix3 h i l) := by
  blk_point [iblk, idx t]

theorem blk5 (h : Fin 4) (i : Fin 64) (l : Fin 256) : iblk m c 5 t (ix3 h i l) = qdT m c (ix3 h i l) := by
  blk_point [iblk, idx t]

theorem blk6 (h : Fin 4) (i : Fin 64) (l : Fin 256) : iblk m c 6 t (ix3 h i l) = kdT m c (ix3 h i l) := by
  blk_point [iblk, idx t]

end

variable (W : Valuation Cert.Reference2Ideal.τ Cert.Reference2Ideal.sig (Elt Ideal)) (c : Dev nD) (hX : Cert.Reference2Ideal.Hand.X W = X m c)
  (t : Fin cfg0.N) (n : Fin 8) (s : Fin 4 → FVec Ideal S256x128 .f32) (hs : ∀ h d e, s h (ix2 (lane h d) e) = stAt W (nth t n) h d e)

include hX hs

set_option maxHeartbeats 1600000 in
/-- A chunk's operands are the reference's. -/
theorem fed : Fed ((reads m c t).chunk n s) W (nth t n) where
  pq i l := by
    rw [hX, ← row_nth, ← blk0]
    refine (whole_load (hs0_0 t) (iblk m c 0 t) _ _).trans (congrArg (iblk m c 0 t) ?_)
    blk_ext
  pk i l := by
    rw [hX, ← row_nth, ← blk0]
    refine (whole_load (hs0_0 t) (iblk m c 0 t) _ _).trans (congrArg (iblk m c 0 t) ?_)
    blk_ext
  v i h e := by
    rw [v_at, hX, ← row_nth, ← blk0]
    refine (whole_load (hs0_0 t) (iblk m c 0 t) _ _).trans (congrArg (iblk m c 0 t) ?_)
    blk_ext
  s := hs
  cos i h d := by
    rw [← cos_apply m W c _ h d, ← row_nth, ← blk1]
    simp only [Loads.chunk]
    pointwise
    refine (whole_load (hs0_1 t) (iblk m c 1 t) _ _).trans (congrArg (iblk m c 1 t) ?_)
    blk_ext
  sin i h d := by
    rw [← sin_apply m W c _ h d, ← row_nth, ← blk2]
    simp only [Loads.chunk]
    pointwise
    refine (whole_load (hs0_2 t) (iblk m c 2 t) _ _).trans (congrArg (iblk m c 2 t) ?_)
    blk_ext
  dec h i j := by
    rw [← dec_apply m W c, ← blk3 m c t]
    simp only [Loads.chunk]
    pointwise
    refine (whole_load (hs0_3 t) (iblk m c 3 t) _ _).trans (congrArg (iblk m c 3 t) ?_)
    blk_ext
  hm h i g d := by
    rw [← hm_apply m c h i g d, ← blk4 m c t]
    simp only [Loads.chunk]
    pointwise
    refine (whole_load (hs0_4 t) (iblk m c 4 t) _ _).trans (congrArg (iblk m c 4 t) ?_)
    blk_ext
  qd h i g d := by
    rw [← qd_apply m W c h i g d, ← blk5 m c t]
    simp only [Loads.chunk]
    pointwise
    refine (whole_load (hs0_5 t) (iblk m c 5 t) _ _).trans (congrArg (iblk m c 5 t) ?_)
    blk_ext
  kd h i g d := by
    rw [← kd_apply m W c h i g d, ← blk6 m c t]
    simp only [Loads.chunk]
    pointwise
    refine (whole_load (hs0_6 t) (iblk m c 6 t) _ _).trans (congrArg (iblk m c 6 t) ?_)
    blk_ext

end Cert.Kernel3Ideal.Hand
end
-- ==== Proof.FwdRef.lean ====
module

public import proofs.«01_k».proof.Proof.RetStates
public import proofs.«01_k».proof.Proof.Gen.Reference3Ideal.Run

@[expose] public section

set_option maxRecDepth 16384

noncomputable section

/-! The retention's output and the states its chunks start from, over the values of the gradient's reference. -/

namespace Cert.Reference3Ideal.Hand

open Cert.Reference3Ideal Cert.Reference3Ideal.Gen Idealize.ShloMosaic Idealize.ShloMosaic.TcCoe
open Idealize.SL.Sem Idealize.ShloMosaic.StableHlo
open Cert.Reference2Ideal.Value (res_main_v112 res_main_v114 res_main_v118 res_main_v123 res_main_v124 res_main_v125 res_main_v127 res_main_v111
  res_main_v323 res_main_v324 res_main_v327)
open Cert.Reference2Ideal.Hand (row qAt kAt vAt stAt scAt qdAt kdAt gamAt)
open Cert.Kernel2Ideal.Hand (lane states)

variable (W : Valuation Cert.Reference2Ideal.τ Cert.Reference2Ideal.sig (Elt Ideal))

/-- The output: each chunk's scores over its values, and its queries over the state before it. -/
def outs : FVec Ideal S2048x512 .f32 :=
  shapeCast S2048x512 (shapeCast S1x2048x4x128 (addf
    (transpose S1x32x64x4x128 [0, 1, 4, 2, 3] (Host.dotGeneral (φ₁ := .f32) (φ₂ := .f32) dot_S1x32x64x4x128_S1x32x4x64x64_S1x32x4x128x64_2_4_4_3_013_012 none
      (res_main_v114 W) (res_main_v118 W)) transposes_S1x32x4x128x64_S1x32x64x4x128_0_1_4_2_3)
    (transpose S1x32x64x4x128 [0, 1, 4, 2, 3] (Host.dotGeneral (φ₁ := .f32) (φ₂ := .f32) dot_S32x1x4x64x128_S1x32x64x4x64_S1x32x4x128x64_3_4_4_2_102_013 none
      (res_main_v324 W) (res_main_v327 W)) transposes_S1x32x4x128x64_S1x32x64x4x128_0_1_4_2_3))
    shapeCasts_S1x32x64x4x128_S1x2048x4x128) shapeCasts_S1x2048x4x128_S2048x512

/-- A head's states, alone. -/
def head (h : ℕ) (hs : S32x1x4x64x128.Slices ![0, 0, h, 0, 0] S32x1x1x64x128) (Z : FVec Ideal S32x1x4x64x128 .f32) : FVec Ideal S32x64x128 .f32 :=
  shapeCast S32x64x128 (extractStridedSlice S32x1x1x64x128 ![0, 0, h, 0, 0] Z hs) shapeCasts_S32x1x1x64x128_S32x64x128

/-- A head's states among all lanes. -/
def wide (lo hi : ℕ) (hp : S32x64x128.Pads (![0, lo, 0] : Fin 3 → Nat) ![0, hi, 0] ![0, 0, 0] S32x256x128) (x : FVec Ideal S32x64x128 .f32) :
    FVec Ideal S32x1x256x128 .f32 :=
  broadcastInDim S32x1x256x128 ![0, 2, 3] bcast_S32x256x128_S32x1x256x128_0_2_3
    (pad S32x256x128 ![0, lo, 0] ![0, hi, 0] ![0, 0, 0] x (sitofp .f32 (constantI S_ 32 0#32)) hp h_S_)

/-- The saved states: each head's on its own lanes. -/
def saved : FVec Ideal S32x4x256x128 .f32 :=
  concatenate S32x4x256x128 1
    [⟨S32x1x256x128, wide 0 192 pads_S32x64x128_S32x256x128_000_01920_000 (head 0 slices_S32x1x4x64x128_S32x1x1x64x128_0_0_0_0_0 (res_main_v324 W))⟩,
     ⟨S32x1x256x128, wide 64 128 pads_S32x64x128_S32x256x128_000_641280_000 (head 1 slices_S32x1x4x64x128_S32x1x1x64x128_0_0_1_0_0 (res_main_v324 W))⟩,
     ⟨S32x1x256x128, wide 128 64 pads_S32x64x128_S32x256x128_000_128640_000 (head 2 slices_S32x1x4x64x128_S32x1x1x64x128_0_0_2_0_0 (res_main_v324 W))⟩,
     ⟨S32x1x256x128, wide 192 0 pads_S32x64x128_S32x256x128_000_19200_000 (head 3 slices_S32x1x4x64x128_S32x1x1x64x128_0_0_3_0_0 (res_main_v324 W))⟩]
    concatenates_S32x1x256x128_S32x1x256x128_S32x1x256x128_S32x1x256x128_S32x4x256x128_d1

theorem outs_apply (N : Fin 32) (i : Fin 64) (h : Fin 4) (e : Fin 128) : outs W (ix2 (row N i) ⟨128 * h.val + e.val, by omega⟩)
    = (∑ j : Fin 64, vAt W N j h e * scAt W N h i j) + ∑ d : Fin 64, stAt W N h d e * (qAt W N i h d * qdAt W i h) := by
  have e1 : ∀ Z : FVec Ideal S1x32x64x4x128 .f32, shapeCast S2048x512 (shapeCast S1x2048x4x128 Z shapeCasts_S1x32x64x4x128_S1x2048x4x128)
      shapeCasts_S1x2048x4x128_S2048x512 (ix2 (row N i) ⟨128 * h.val + e.val, by omega⟩) = Z (ix5 0 N i h e) := fun Z => by
    unfold row
    pointwise
  refine (e1 _).trans ?_
  pointwise [res_main_v327]

theorem zero_word : (FloatOps.sitofp .f32 0#32 : Ideal .f32) = (0 : EReal) := by
  show ((((0#32 : BitVec 32).toInt : ℝ)) : EReal) = 0
  norm_num

theorem pick {p q : Prop} [Decidable p] [Decidable q] (a : p → EReal) (z b : EReal) (hpq : p ↔ q) (ha : ∀ h, a h = b) (hz : z = 0) :
    (if h : p then a h else z) = if q then b else 0 := by
  by_cases hp : p
  · rw [dif_pos hp, if_pos (hpq.mp hp), ha]
  · rw [dif_neg hp, if_neg (fun hq => hp (hpq.mpr hq)), hz]

theorem saved_apply (N : Fin 32) (h g : Fin 4) (d : Fin 64) (e : Fin 128) : saved W (ix4 N h (lane g d) e) = if g = h then stAt W N h d e else 0 := by
  unfold lane
  fin_cases h <;> pointwise [saved, wide, head]
  all_goals
    refine pick _ _ _ (by fin_cases g <;> simp <;> omega) (fun hp => ?_) zero_word
    refine congrArg (fun l => res_main_v324 W (ix5 N 0 _ l e)) (Fin.ext ?_)
    have h4 := g.isLt
    have h64 := d.isLt
    simp only
    omega

/-- What a chunk adds to the state. -/
theorem added (N : Fin 32) (h : Fin 4) (d : Fin 64) (e : Fin 128) :
    res_main_v124 W (ix5 N 0 h d e) = ∑ i : Fin 64, kAt W N i h d * kdAt W i h * vAt W N i h e := by
  pointwise [res_main_v124, res_main_v123]

theorem inb_layer (n : ℕ) (hn : n < 32) : S32x1x4x64x128.Slices ![n, 0, 0, 0, 0] S1x1x4x64x128 := by
  interval_cases n <;> decide

/-- One step: the state decayed, and a chunk's contribution. -/
def stepOf (n : ℕ) (hn : n < 32) (x : FVec Ideal S1x4x64x128 .f32) : FVec Ideal S1x4x64x128 .f32 :=
  addf (mulf x (broadcastInDim S1x4x64x128 ![0, 1, 2, 3] bcast_S1x4x1x1_S1x4x64x128_0_1_2_3 (res_main_v111 W)))
    (shapeCast S1x4x64x128 (extractStridedSlice S1x1x4x64x128 ![n, 0, 0, 0, 0] (res_main_v127 W) (inb_layer n hn)) shapeCasts_S1x1x4x64x128_S1x4x64x128)

theorem states_step (N : Fin 31) : states W N.succ = stepOf W N.val (by omega) (states W N.castSucc) := by
  fin_cases N <;> rfl

theorem stepOf_apply (n : ℕ) (hn : n < 32) (x : FVec Ideal S1x4x64x128 .f32) (h : Fin 4) (d : Fin 64) (e : Fin 128) :
    stepOf W n hn x (ix4 0 h d e) = x (ix4 0 h d e) * gamAt W h + ∑ i : Fin 64, kAt W ⟨n, hn⟩ i h d * kdAt W i h * vAt W ⟨n, hn⟩ i h e := by
  rw [← added]
  pointwise [stepOf, res_main_v127]

theorem st_eq (N : Fin 32) (h : Fin 4) (d : Fin 64) (e : Fin 128) : stAt W N h d e = states W N (ix4 0 h d e) := by
  fin_cases N
  all_goals
    unfold stAt
    pointwise [res_main_v324, res_main_v323, states]

theorem st_first (h : Fin 4) (d : Fin 64) (e : Fin 128) : stAt W 0 h d e = 0 := by
  rw [st_eq]
  pointwise [states, res_main_v125]

theorem st_step (N : ℕ) (hN : N + 1 < 32) (h : Fin 4) (d : Fin 64) (e : Fin 128) : stAt W ⟨N + 1, hN⟩ h d e
    = stAt W ⟨N, by omega⟩ h d e * gamAt W h + ∑ i : Fin 64, kAt W ⟨N, by omega⟩ i h d * kdAt W i h * vAt W ⟨N, by omega⟩ i h e := by
  rw [st_eq, st_eq]
  exact (congrFun (states_step W ⟨N, by omega⟩) _).trans (stepOf_apply W N (by omega) _ h d e)

end Cert.Reference3Ideal.Hand
end
-- ==== Proof.FwdFinal.lean ====
module

public import proofs.«01_k».proof.Proof.FwdLoads
public import proofs.«01_k».proof.Proof.FwdRef
public import proofs.«01_k».proof.Proof.RetFinal

@[expose] public section

set_option maxRecDepth 16384

noncomputable section

/-! The retention's two results are the reference's: the state the kernel carries, up the chunks of a point and from a
    point to the next, and what each chunk stores. -/

namespace Cert.Kernel3Ideal.Hand

open Cert.Kernel3Ideal Cert.Kernel3Ideal.Gen Idealize.ShloMosaic Idealize.ShloMosaic.TcCoe
open Idealize.ShloMosaic.Tactic Idealize.SL.Sem
open Idealize.ShloMosaic.Pipeline (Dat)
open Cert.Reference2Ideal.Hand (row qAt kAt vAt scAt stAt qdAt kdAt gamAt gam_eq scores)
open Cert.Reference3Ideal.Hand (outs saved outs_apply saved_apply st_first st_step)
open Cert.Kernel2Ideal.Hand (Chunk Fed Known tile_apply sum_head lane lanes whole_load inb_d inb_o inb_s)

variable {m : (ℓ : Loc nD τ sig) → Buf (Elt Ideal) ℓ}
variable {W : Valuation Cert.Reference2Ideal.τ Cert.Reference2Ideal.sig (Elt Ideal)}

section
variable {K : Chunk Ideal} {N : Fin 32} (H : Fed K W N)

/-- The named decays are the host's. -/
theorem gamma_apply (h : Fin 4) : (gamma (F := Ideal) h : EReal) = gamAt W h := by
  rw [gam_eq]
  fin_cases h
  all_goals
    refine congrArg (fun r : ℝ => (r : EReal)) ?_
    norm_num [Cert.Reference2Ideal.Hand.decay]

include H

theorem result_apply (i : Fin 64) (h : Fin 4) (e : Fin 128) :
    result K h (ix2 i e) = (∑ j, scAt W N h i j * vAt W N j h e) + ∑ d, qAt W N i h d * qdAt W i h * stAt W N h d e := by
  have hsc : ∀ j, K.sc h (ix2 i j) = scAt W N h i j := fun j => by
    rw [(H.known (fun i h e => K.o h (ix2 i e)) fun _ _ _ => rfl).sc_apply, scores]
    rfl
  pointwise [result]
  rw [sum_head _ h fun g d hg => by rw [tile_apply, H.qd, if_neg hg, mul_zero, zero_mul]]
  simp only [tile_apply, H.q_apply, H.qd, if_true, H.s, H.v, hsc]

theorem leaves_apply (hoff : ∀ h g d e, g ≠ h → K.s h (ix2 (lane g d) e) = 0) (h g : Fin 4) (d : Fin 64) (e : Fin 128) :
    leaves K h (ix2 (lane g d) e)
      = if g = h then stAt W N h d e * gamAt W h + ∑ i, kAt W N i h d * kdAt W i h * vAt W N i h e else 0 := by
  pointwise [leaves]
  simp only [tile_apply, H.kd, H.v, gamma_apply (W := W)]
  by_cases hg : g = h
  · subst hg
    simp only [if_true, H.s, H.k_apply]
  · simp only [if_neg hg, hoff _ _ _ _ hg, mul_zero, zero_mul, Finset.sum_const_zero, add_zero]

end

variable {c : Dev nD} (hX : Cert.Reference2Ideal.Hand.X W = X m c) (t : Fin cfg0.N)

section up
variable (D : Fin 4 → FVec Ideal S256x128 .f32)
  (hD : ∀ h g d e, D h (ix2 (lane g d) e) = if g = h then stAt W (nth t 0) h d e else 0)

include hX hD

theorem state_apply : ∀ (j : ℕ) (hj : j < 8) (h g : Fin 4) (d : Fin 64) (e : Fin 128),
    (reads m c t).state D j h (ix2 (lane g d) e) = if g = h then stAt W (nth t ⟨j, hj⟩) h d e else 0
  | 0, _, h, g, d, e => hD h g d e
  | j + 1, hj, h, g, d, e => by
    have ih := state_apply j (by omega)
    have hm : (⟨j % 8, Nat.mod_lt _ (by decide)⟩ : Fin 8) = ⟨j, by omega⟩ := Fin.ext (Nat.mod_eq_of_lt (by omega))
    rw [Loads.state, hm, leaves_apply (fed m W c hX t _ _ fun h d e => by rw [ih, if_pos rfl]) (fun h g d e hg => (ih h g d e).trans (if_neg hg))]
    have hN : 8 * t.val + j + 1 < 32 := by have := lt_four t; omega
    exact congrArg (fun x : EReal => if g = h then x else 0) (st_step W (8 * t.val + j) hN h d e).symm

/-- The chunk's operands, over the state it starts from. -/
theorem fed_at (n : Fin 8) : Fed ((reads m c t).chunk n ((reads m c t).state D n.val)) W (nth t n) :=
  fed m W c hX t n _ fun h d e => by rw [state_apply hX t D hD n.val n.isLt, if_pos rfl]

theorem state_last (ht : 8 * t.val + 8 < 32) (h g : Fin 4) (d : Fin 64) (e : Fin 128) :
    (reads m c t).state D 8 h (ix2 (lane g d) e) = if g = h then stAt W ⟨8 * t.val + 8, ht⟩ h d e else 0 := by
  have hs := state_apply hX t D hD 7 (by decide)
  have e8 : (reads m c t).state D 8 = leaves ((reads m c t).chunk 7 ((reads m c t).state D (7 : Fin 8).val)) := rfl
  rw [e8, leaves_apply (fed_at hX t D hD 7) fun h g d e hg => (hs h g d e).trans (if_neg hg)]
  exact congrArg (fun x : EReal => if g = h then x else 0) (st_step W (8 * t.val + 7) ht h d e).symm

end up

/-- The state the scratch holds, back as the next point starts from it. -/
theorem start_apply (Y : Vec Ideal S4x256x128 .f32) (h : Fin 4) (l : Fin 256) (e : Fin 128) : start Y h (ix2 l e) = Y (ix3 h l e) := by
  have e1 : ∀ Z : FVec Ideal S1x256x128 .f32, shapeCast S256x128 Z shapeCasts_S1x256x128_S256x128 (ix2 l e) = Z (ix3 0 l e) := fun Z => by pointwise
  refine (e1 _).trans ((whole_load (M := scM0_0) (Memref.isWhole_whole cc0_scratch0) Y
    (Rect.unit (s := S4x256x128) ![h.val, 0, 0] S1x256x128.size (inb_d h)) (ix3 0 l e)).trans (congrArg Y ?_))
  blk_ext

theorem start0_apply (h : Fin 4) (l : Fin 256) (e : Fin 128) : start0 (F := Ideal) h (ix2 l e) = 0 := by
  have e1 : ∀ Z : FVec Ideal S1x256x128 .f32, shapeCast S256x128 Z shapeCasts_S1x256x128_S256x128 (ix2 l e) = Z (ix3 0 l e) := fun Z => by pointwise
  refine (e1 _).trans ?_
  rw [fill, View.readCov_fill _ _ _ _ _ (by decide)]
  have e2 : ∀ i : S4x256x128.Idx, k0_pay4 (F := Ideal) i = 0 := fun i => by pointwise [k0_pay4]
  exact e2 _

theorem scratch_apply (L : Loads Ideal) (D : Fin 4 → FVec Ideal S256x128 .f32) (R : List (View.Piece (Elt Ideal) S4x256x128 .f32))
    (h : Fin 4) (l : Fin 256) (e : Fin 128) : View.canon (L.scratch D ++ R) (ix3 h l e) = L.state D 8 h (ix2 l e) := by
  have hp : ∀ (h : Fin 4) (x : (L.carried D h).1.shape.Idx), (L.carried D h).2 x
      = (fun i : S4x256x128.Idx => L.state D 8 (i 0) (ix2 (i 1) (i 2))) ((L.carried D h).1.emb x) := fun h x => by
    change S1x256x128.Idx at x
    idx_vars x
    obtain rfl : x0 = 0 := Subsingleton.elim (α := Fin 1) _ _
    have e1 : (L.carried D h).1.emb (ix3 0 x1 x2) = (ix3 h x1 x2 : S4x256x128.Idx) := by
      show (Rect.unit (s := S4x256x128) ![h.val, 0, 0] S1x256x128.size (inb_d h)).emb (ix3 0 x1 x2) = _
      blk_ext
    rw [e1]
    have e2 : ∀ Z : FVec Ideal S256x128 .f32, shapeCast S1x256x128 Z shapeCasts_S256x128_S1x256x128 (ix3 0 x1 x2) = Z (ix2 x1 x2) :=
      fun Z => by pointwise
    exact e2 (L.state D 8 h)
  refine View.canon_append_of_piecesOf (Val := Elt Ideal) (fun i : S4x256x128.Idx => L.state D 8 (i 0) (ix2 (i 1) (i 2))) R (L.scratch D)
    ⟨hp 3, hp 2, hp 1, hp 0, trivial⟩ (ix3 h l e) ⟨L.carried D h, by fin_cases h <;> simp [Loads.scratch], ?_⟩
  refine (Rect.mem_set_unit (inb := inb_d h)).mpr fun a => ?_
  fin_cases a <;> simp

/-- The state a point starts from. -/
def begin_ (m : (ℓ : Loc nD τ sig) → Buf (Elt Ideal) ℓ) (c : Dev nD) (t : Fin cfg0.N) : Fin 4 → FVec Ideal S256x128 .f32 :=
  if t.val = 0 then start0 else start (outsAt0 m c (t.val - 1) (Nat.lt_of_le_of_lt (Nat.sub_le _ _) t.isLt)).2.2

/-- What a point stores and leaves. -/
theorem point_eq : (outsAt0 m c t.val t.isLt).1 = View.canon (all ((reads m c t).row (begin_ m c t)))
    ∧ (outsAt0 m c t.val t.isLt).2.1 = View.canon (all ((reads m c t).save (begin_ m c t)))
    ∧ ∀ h l e, (outsAt0 m c t.val t.isLt).2.2 (ix3 h l e) = (reads m c t).state (begin_ m c t) 8 h (ix2 l e) := by
  have h4 := lt_four t
  by_cases h0 : t.val = 0
  · rw [begin_, if_pos h0]
    refine ⟨out_A m c t (by omega), save_A m c t (by omega), fun h l e => ?_⟩
    rw [scr_A m c t (by omega)]
    exact scratch_apply _ _ _ h l e
  · rw [begin_, if_neg h0]
    refine ⟨out_B m c t (by omega) _ rfl, save_B m c t (by omega) _ rfl, fun h l e => ?_⟩
    rw [scr_B m c t (by omega) _ rfl, ← List.append_nil (Loads.scratch _ _)]
    exact scratch_apply _ _ _ h l e

include hX

theorem begin_apply : ∀ (k : ℕ) (hk : k < cfg0.N) (h g : Fin 4) (d : Fin 64) (e : Fin 128),
    begin_ m c ⟨k, hk⟩ h (ix2 (lane g d) e) = if g = h then stAt W (nth ⟨k, hk⟩ 0) h d e else 0
  | 0, hk, h, g, d, e => by
    rw [begin_, if_pos rfl, start0_apply]
    have e0 : stAt W (nth ⟨0, hk⟩ 0) h d e = 0 := st_first W h d e
    rw [e0, ite_self]
  | k + 1, hk, h, g, d, e => by
    have h4 : k + 1 < 4 := hk
    have ih := begin_apply k (by omega)
    rw [begin_, if_neg (by simp), start_apply]
    refine ((point_eq (m := m) (c := c) ⟨k, by omega⟩).2.2 h (lane g d) e).trans ?_
    exact state_last hX ⟨k, by omega⟩ _ ih (by simp only; omega) h g d e

/-- The rows of the two results a point writes. -/
def rows (W : Valuation Cert.Reference2Ideal.τ Cert.Reference2Ideal.sig (Elt Ideal)) (t : Fin cfg0.N) (y : S512x512.Idx) : EReal :=
  outs W (ix2 (at_ t (y 0)) (y 1))
def layers (W : Valuation Cert.Reference2Ideal.τ Cert.Reference2Ideal.sig (Elt Ideal)) (t : Fin cfg0.N) (y : S8x4x256x128.Idx) : EReal :=
  saved W (ix4 (nth t (y 0)) (y 1) (y 2) (y 3))

omit hX in
theorem rows_at (n : Fin 8) (i : Fin 64) (j : Fin 512) : rows W t (ix2 ⟨64 * n.val + i.val, by omega⟩ j) = outs W (ix2 (row (nth t n) i) j) := by
  rw [← row_nth]; rfl

theorem piece_row (n : Fin 8) (h : Fin 4) (x : S64x128.Idx) :
    result ((reads m c t).chunk n ((reads m c t).state (begin_ m c t) n.val)) h x
      = rows W t ((Rect.unit (s := S512x512) ![64 * n.val, 128 * h.val] S64x128.size (inb_o n h)).emb x) := by
  idx_vars x
  rw [result_apply (fed_at hX t _ (begin_apply hX t.val t.isLt) n)]
  refine Eq.trans (b := rows W t (ix2 ⟨64 * n.val + x0.val, by omega⟩ ⟨128 * h.val + x1.val, by omega⟩)) ?_ (congrArg (rows W t) ?_)
  · rw [rows_at, outs_apply]
    simp only [mul_comm]
  · blk_ext

theorem piece_save (n : Fin 8) (h : Fin 4) (x : S1x1x256x128.Idx) :
    shapeCast S1x1x256x128 ((reads m c t).state (begin_ m c t) n.val h) shapeCasts_S256x128_S1x1x256x128 x
      = layers W t ((Rect.unit (s := S8x4x256x128) ![n.val, h.val, 0, 0] S1x1x256x128.size (inb_s n h)).emb x) := by
  idx_vars x
  obtain rfl : x0 = 0 := Subsingleton.elim (α := Fin 1) _ _
  obtain rfl : x1 = 0 := Subsingleton.elim (α := Fin 1) _ _
  have e1 : ∀ Z : FVec Ideal S256x128 .f32, shapeCast S1x1x256x128 Z shapeCasts_S256x128_S1x1x256x128 (ix4 0 0 x2 x3) = Z (ix2 x2 x3) :=
    fun Z => by pointwise
  rw [e1]
  obtain ⟨g, d, rfl⟩ := lanes x2
  rw [state_apply hX t _ (begin_apply hX t.val t.isLt) n.val n.isLt, ← saved_apply]
  refine congrArg (layers W t) (a₁ := (ix4 n h (lane g d) x3 : S8x4x256x128.Idx)) ?_
  blk_ext

omit hX in
/-- Pieces that agree, one chunk and head at a time. -/
theorem piecesOf_all {s : Shape} {e : EltTy} (Y : s.Idx → Elt Ideal e) (f : Fin 8 → Fin 4 → View.Piece (Elt Ideal) s e)
    (hf : ∀ n h, ∀ x, (f n h).2 x = Y ((f n h).1.emb x)) : View.PiecesOf Y (all f) :=
  ⟨hf 7 3, hf 7 2, hf 7 1, hf 7 0, hf 6 3, hf 6 2, hf 6 1, hf 6 0, hf 5 3, hf 5 2, hf 5 1, hf 5 0, hf 4 3, hf 4 2, hf 4 1, hf 4 0, hf 3 3, hf 3 2, hf
    3 1, hf 3 0, hf 2 3, hf 2 2, hf 2 1, hf 2 0, hf 1 3, hf 1 2, hf 1 1, hf 1 0, hf 0 3, hf 0 2, hf 0 1, hf 0 0, trivial⟩

theorem all_rows : View.PiecesOf (rows W t) (all ((reads m c t).row (begin_ m c t))) :=
  piecesOf_all _ ((reads m c t).row (begin_ m c t)) fun n h x => piece_row hX t n h x

theorem all_layers : View.PiecesOf (layers W t) (all ((reads m c t).save (begin_ m c t))) :=
  piecesOf_all _ ((reads m c t).save (begin_ m c t)) fun n h x => piece_save hX t n h x

omit hX in
theorem mem_all {α : Type} (f : Fin 8 → Fin 4 → α) (n : Fin 8) (h : Fin 4) : f n h ∈ all f := by
  fin_cases n <;> fin_cases h <;> simp [all]

omit hX in
theorem covered_rows (L : Loads Ideal) (D : Fin 4 → FVec Ideal S256x128 .f32) (y : S512x512.Idx) : ∃ p ∈ all (L.row D), y ∈ p.1.set := by
  idx_vars y
  refine ⟨_, mem_all _ ⟨y0.val / 64, by omega⟩ ⟨y1.val / 128, by omega⟩, (Rect.mem_set_unit (inb := inb_o _ _)).mpr fun a => ?_⟩
  fin_cases a <;> simp <;> omega

omit hX in
theorem covered_layers (L : Loads Ideal) (D : Fin 4 → FVec Ideal S256x128 .f32) (y : S8x4x256x128.Idx) : ∃ p ∈ all (L.save D), y ∈ p.1.set := by
  idx_vars y
  refine ⟨_, mem_all _ y0 y1, (Rect.mem_set_unit (inb := inb_s _ _)).mpr fun a => ?_⟩
  fin_cases a <;> simp

omit hX in
theorem emb7 (y0 y1 : Fin 512) : (win0_7.blk t).view.emb (ix2 y0 y1) = ix2 (at_ t y0) y1 := by
  unfold at_
  blk_ext [idx t]

omit hX in
theorem emb8 (y0 : Fin 8) (y1 : Fin 4) (y2 : Fin 256) (y3 : Fin 128) : (win0_8.blk t).view.emb (ix4 y0 y1 y2 y3) = ix4 (nth t y0) y1 y2 y3 := by
  unfold nth
  blk_ext [idx t]

theorem final_outs : (dats m 0 c).arrAt 7 (cfgs 0).N = outs W := by
  refine (dats m 0 c).arrAt_eq_of_covers 7 _ (by decide +kernel) fun t hf y => ?_
  blk_simp
  rw [after0_7, (point_eq t).1]
  idx_vars y
  rw [emb7 t y0 y1, ← List.append_nil (all _)]
  exact View.canon_append_of_piecesOf (Val := Elt Ideal) (rows W t) [] _ (all_rows hX t) _ (covered_rows _ _ _)

theorem final_saved : (dats m 0 c).arrAt 8 (cfgs 0).N = saved W := by
  refine (dats m 0 c).arrAt_eq_of_covers 8 _ (by decide +kernel) fun t hf y => ?_
  blk_simp
  rw [after0_8, (point_eq t).2.1]
  idx_vars y
  rw [emb8 t y0 y1 y2 y3, ← List.append_nil (all _)]
  exact View.canon_append_of_piecesOf (Val := Elt Ideal) (layers W t) [] _ (all_layers hX t) _ (covered_layers _ _ _)

end Cert.Kernel3Ideal.Hand
end
-- ==== Proof.FwdRun.lean ====
module

public import proofs.«01_k».proof.Proof.FwdRef
public import proofs.«01_k».proof.Proof.RetTurn

@[expose] public section

set_option maxRecDepth 16384

noncomputable section

/-! The retention's run, its two results over the values of the gradient's reference. -/

namespace Cert.Reference3Ideal.Hand

open Cert.Reference3Ideal Cert.Reference3Ideal.Gen Cert.Reference3Ideal.Value Idealize.ShloMosaic Idealize.ShloMosaic.TcCoe
open Idealize.SL.Sem Idealize.ShloMosaic.StableHlo Idealize.ShloMosaic.Tactic

/-- The gradient's arguments at a projection: the gradient itself does not enter. -/
def given (x : FVec Ideal S2048x1536 .f32) : Valuation Cert.Reference2Ideal.τ Cert.Reference2Ideal.sig (Elt Ideal) :=
  Function.update (fun _ _ => default) (Proc.devRef .tc Cert.Reference2Ideal.main_arg0) x

theorem given_arg (x : FVec Ideal S2048x1536 .f32) : Cert.Reference2Ideal.Hand.X (given x) = x := Function.update_self ..

variable (m : (ℓ : Loc nD τ sig) → Buf (Elt Ideal) ℓ) (ρ : Dev nD → PrngReg)

/-- The projection a memory holds. -/
abbrev P (c : Dev nD) : FVec Ideal S2048x1536 .f32 := m ((c : Thread nD τ).loc main_arg0)

theorem run_given : θ_run defs (onTc (τ := τ) (main (F := Ideal))) ⟨m, fun _ => 0, ρ⟩ fun r => ∀ c : Dev nD,
      r.2.mem ((c : Thread nD τ).loc main_v332) = outs (given (P m c))
      ∧ r.2.mem ((c : Thread nD τ).loc main_v349) = saved (given (P m c))
      ∧ r.2.mem ((c : Thread nD τ).loc main_arg0) = m ((c : Thread nD τ).loc main_arg0) :=
  (θ_run defs _ _).mono (fun r h c => ⟨(h c).1.trans (by sl_kernel_rfl), (h c).2.1.trans (by sl_kernel_rfl), (h c).2.2⟩) (run m ρ)

end Cert.Reference3Ideal.Hand
end
-- ==== Proof.PrepRef.lean ====
module

public import proofs.«01_k».proof.Proof.Gen.Reference4Ideal.Run
public import Idealize.ShloMosaic.Lib.Pointwise

@[expose] public section

set_option maxRecDepth 16384

noncomputable section

/-! The nine results of the reference, as functions of its ten arguments: the projection of the normalised input, the
    shift by a token and what is taken from the shifted columns. -/

namespace Cert.Reference4Ideal.Spec

open Cert.Reference4Ideal Cert.Reference4Ideal.Gen Idealize.ShloMosaic Idealize.ShloMosaic.TcCoe

/-- The rows, normalised and scaled by the gain. -/
def unit (x : FVec Ideal S1x2048x1024 .f32) (g : FVec Ideal S1x1024 .f32) : FVec Ideal S1x2048x1024 .f32 :=
  mulf (mulf x (broadcastInDim S1x2048x1024 ![0, 1, 2] bcast_S1x2048x1_S1x2048x1024_0_1_2 (Host.rsqrt (addf (Host.divf (broadcastInDim S1x2048x1 ![0, 1] bcast_S1x2048_S1x2048x1_0_1 (Host.reduceAdd (mulf x x) (constant S_ .f32 0x00000000#32) reducesTo_S1x2048x1024_S1x2048_d2 h_S_)) (broadcastInDim S1x2048x1 ![] bcast_S_S1x2048x1 (constant S_ .f32 0x44800000#32))) (broadcastInDim S1x2048x1 ![] bcast_S_S1x2048x1 (constant S_ .f32 0x358637BD#32)))))) (broadcastInDim S1x2048x1024 ![0, 1, 2] bcast_S1x1x1024_S1x2048x1024_0_1_2 (broadcastInDim S1x1x1024 ![2] bcast_S1024_S1x1x1024_2 (shapeCast _ g shapeCasts_S1x1024_S1024)))

/-- The projection. -/
def proj (x : FVec Ideal S1x2048x1024 .f32) (g : FVec Ideal S1x1024 .f32) (w : FVec Ideal S1x1024x3712 .f32) : FVec Ideal S1x2048x3712 .f32 :=
  Host.dotGeneral dot_S1x2048x1024_S1024x3712_S1x2048x3712_2_0_01_1_n_n none (unit x g) (shapeCast _ w shapeCasts_S1x1024x3712_S1024x3712)

/-- Its columns for the recurrence. -/
def tail (p : FVec Ideal S1x2048x3712 .f32) : FVec Ideal S1x2048x2176 .f32 :=
  extractStridedSlice S1x2048x2176 ![0, 0, 1536] p slices_S1x2048x3712_S1x2048x2176_0_0_1536

/-- Each token's columns mixed with those of the token before. -/
def mixed (q : FVec Ideal S1x2048x2176 .f32) (mu : FVec Ideal S1x2176 .f32) : FVec Ideal S1x2048x2176 .f32 :=
  addf q (mulf (broadcastInDim S1x2048x2176 ![0, 1, 2] bcast_S1x1x2176_S1x2048x2176_0_1_2 (broadcastInDim S1x1x2176 ![2] bcast_S2176_S1x1x2176_2 (shapeCast _ mu shapeCasts_S1x2176_S2176))) (subf (extractStridedSlice S1x2048x2176 ![0, 0, 0] (pad S1x2049x2176 ![0, 1, 0] ![0, 0, 0] ![0, 0, 0] q (sitofp .f32 (constantI S_ 32 0#32)) pads_S1x2048x2176_S1x2049x2176_000_100_000 h_S_) slices_S1x2049x2176_S1x2048x2176_0_0_0) q))

/-- A row of 512, repeated on every token. -/
def wide (b : FVec Ideal S1x512 .f32) : FVec Ideal S1x2048x512 .f32 :=
  broadcastInDim S1x2048x512 ![0, 1, 2] bcast_S1x1x512_S1x2048x512_0_1_2 (broadcastInDim S1x1x512 ![2] bcast_S512_S1x1x512_2 (shapeCast _ b shapeCasts_S1x512_S512))

/-- A number, everywhere. -/
def num (b : BitVec 32) : FVec Ideal S1x2048x512 .f32 :=
  broadcastInDim S1x2048x512 ![] bcast_S_S1x2048x512 (constant S_ .f32 b)

/-- What the decay is a function of, negated. -/
def slow (s : FVec Ideal S1x2048x2176 .f32) (wl : FVec Ideal S1x64x512 .f32) (w0 : FVec Ideal S1x512 .f32) : FVec Ideal S1x2048x512 .f32 :=
  Host.negf (addf (wide w0) (Host.dotGeneral dot_S1x2048x64_S64x512_S1x2048x512_2_0_01_1_n_n none (Host.tanh (extractStridedSlice S1x2048x64 ![0, 0, 2048] s slices_S1x2048x2176_S1x2048x64_0_0_2048)) (shapeCast _ wl shapeCasts_S1x64x512_S64x512)))

/-- The decay. -/
def decay (z : FVec Ideal S1x2048x512 .f32) : FVec Ideal S1x2048x512 .f32 :=
  Host.exp (Host.negf (Host.exp (subf (Host.negf (select (cmpf .une (subf z (num 0x00000000#32)) (subf z (num 0x00000000#32))) (addf z (num 0x00000000#32)) (addf (maximumf z (num 0x00000000#32)) (Host.log1p (Host.exp (Host.negf (Host.absf (subf z (num 0x00000000#32))))))))) (num 0x3F000000#32))))

/-- The in-context rate. -/
def rate (s : FVec Ideal S1x2048x2176 .f32) (al : FVec Ideal S1x64x512 .f32) (a0 : FVec Ideal S1x512 .f32) : FVec Ideal S1x2048x512 .f32 :=
  Host.divf (num 0x3F800000#32) (addf (num 0x3F800000#32) (Host.exp (Host.negf (addf (wide a0) (Host.dotGeneral dot_S1x2048x64_S64x512_S1x2048x512_2_0_01_1_n_n none (extractStridedSlice S1x2048x64 ![0, 0, 2112] s slices_S1x2048x2176_S1x2048x64_0_0_2112) (shapeCast _ al shapeCasts_S1x64x512_S64x512))))))

/-- The key columns. -/
def keys (s : FVec Ideal S1x2048x2176 .f32) : FVec Ideal S1x2048x512 .f32 :=
  extractStridedSlice S1x2048x512 ![0, 0, 512] s slices_S1x2048x2176_S1x2048x512_0_0_512

/-- The key the state is written with. -/
def written (s : FVec Ideal S1x2048x2176 .f32) (a : FVec Ideal S1x2048x512 .f32) (ka : FVec Ideal S1x512 .f32) : FVec Ideal S1x2048x512 .f32 :=
  mulf (keys s) (addf (num 0x3F800000#32) (mulf (subf a (num 0x3F800000#32)) (wide ka)))

/-- The keys by heads, before they are normalised. -/
def heads (s : FVec Ideal S1x2048x2176 .f32) (kk : FVec Ideal S1x512 .f32) : FVec Ideal S1x2048x8x64 .f32 :=
  shapeCast _ (mulf (keys s) (wide kk)) shapeCasts_S1x2048x512_S1x2048x8x64

/-- The normalised keys by heads. -/
def normed (h : FVec Ideal S1x2048x8x64 .f32) : FVec Ideal S1x2048x8x64 .f32 :=
  Host.divf h (broadcastInDim S1x2048x8x64 ![0, 1, 2, 3] bcast_S1x2048x8x1_S1x2048x8x64_0_1_2_3 (maximumf (Host.sqrt (broadcastInDim S1x2048x8x1 ![0, 1, 2] bcast_S1x2048x8_S1x2048x8x1_0_1_2 (Host.reduceAdd (mulf h h) (constant S_ .f32 0x00000000#32) reducesTo_S1x2048x8x64_S1x2048x8_d3 h_S_))) (broadcastInDim S1x2048x8x1 ![] bcast_S_S1x2048x8x1 (constant S_ .f32 0x2B8CBCCC#32))))

/-- Columns as an array of rows, one per token. -/
def flat (y : FVec Ideal S1x2048x512 .f32) : FVec Ideal S2048x512 .f32 := shapeCast _ y shapeCasts_S1x2048x512_S2048x512

/-- The columns for the retention, as rows. -/
def flatRet (p : FVec Ideal S1x2048x3712 .f32) : FVec Ideal S2048x1536 .f32 :=
  shapeCast _ (extractStridedSlice S1x2048x1536 ![0, 0, 0] p slices_S1x2048x3712_S1x2048x1536_0_0_0) shapeCasts_S1x2048x1536_S2048x1536

/-- The columns for the recurrence, as rows. -/
def flatTail (q : FVec Ideal S1x2048x2176 .f32) : FVec Ideal S2048x2176 .f32 := shapeCast _ q shapeCasts_S1x2048x2176_S2048x2176

/-- The normalised keys, as rows. -/
def flatHeads (h : FVec Ideal S1x2048x8x64 .f32) : FVec Ideal S2048x512 .f32 := shapeCast _ h shapeCasts_S1x2048x8x64_S2048x512

/-- The receptance, value and gate columns. -/
def recept (s : FVec Ideal S1x2048x2176 .f32) : FVec Ideal S1x2048x512 .f32 := extractStridedSlice S1x2048x512 ![0, 0, 0] s slices_S1x2048x2176_S1x2048x512_0_0_0
def values (s : FVec Ideal S1x2048x2176 .f32) : FVec Ideal S1x2048x512 .f32 := extractStridedSlice S1x2048x512 ![0, 0, 1024] s slices_S1x2048x2176_S1x2048x512_0_0_1024
def gates (s : FVec Ideal S1x2048x2176 .f32) : FVec Ideal S1x2048x512 .f32 := extractStridedSlice S1x2048x512 ![0, 0, 1536] s slices_S1x2048x2176_S1x2048x512_0_0_1536

section
variable (m : (ℓ : Loc nD τ sig) → Buf (Elt Ideal) ℓ) (c : Dev nD)

/-- The columns of a memory's arguments, mixed. -/
def P : FVec Ideal S1x2048x3712 .f32 := proj (m ((c : Thread nD τ).loc main_arg0)) (m ((c : Thread nD τ).loc main_arg1)) (m ((c : Thread nD τ).loc main_arg2))
def S : FVec Ideal S1x2048x2176 .f32 := mixed (tail (P m c)) (m ((c : Thread nD τ).loc main_arg3))

theorem res84 : Value.res_main_v84 m c = flat (decay (slow (S m c) (m ((c : Thread nD τ).loc main_arg4)) (m ((c : Thread nD τ).loc main_arg5)))) := by
  unfold Value.res_main_v84; rfl
theorem res85 : Value.res_main_v85 m c = flat (written (S m c) (rate (S m c) (m ((c : Thread nD τ).loc main_arg6)) (m ((c : Thread nD τ).loc main_arg7))) (m ((c : Thread nD τ).loc main_arg9))) := by
  unfold Value.res_main_v85; rfl
theorem res87 : Value.res_main_v87 m c = flatHeads (normed (heads (S m c) (m ((c : Thread nD τ).loc main_arg8)))) := by
  unfold Value.res_main_v87; rfl
theorem res88 : Value.res_main_v88 m c = flat (rate (S m c) (m ((c : Thread nD τ).loc main_arg6)) (m ((c : Thread nD τ).loc main_arg7))) := by
  unfold Value.res_main_v88; rfl
end

/-- The shifted columns of a token. -/
theorem mixed_zero (q : FVec Ideal S1x2048x2176 .f32) (mu : FVec Ideal S1x2176 .f32) (r : Fin 2048) (hr : r.val = 0) (j : Fin 2176) :
    mixed q mu (ix3 0 r j) = q (ix3 0 r j) + mu (ix2 0 j) * (0 - q (ix3 0 r j)) := by
  have h0 : r = 0 := Fin.ext hr
  have hz : (FloatOps.sitofp .f32 0#32 : Ideal .f32) = (0 : EReal) := by
    show (((0#32 : BitVec 32).toInt : ℝ) : EReal) = 0
    norm_num
  subst h0
  pointwise [mixed]
  rw [hz]

theorem mixed_succ (q : FVec Ideal S1x2048x2176 .f32) (mu : FVec Ideal S1x2176 .f32) (r r' : Fin 2048) (hr : r.val = r'.val + 1) (j : Fin 2176) :
    mixed q mu (ix3 0 r j) = q (ix3 0 r j) + mu (ix2 0 j) * (q (ix3 0 r' j) - q (ix3 0 r j)) := by
  pointwise [mixed]
  rw [dif_pos ⟨by omega, by omega⟩, show (⟨r.val - 1, by omega⟩ : Fin 2048) = r' from Fin.ext (by simp only; omega)]

end Cert.Reference4Ideal.Spec

end
-- ==== Proof.PrepRows.lean ====
module

public import proofs.«01_k».proof.Proof.Gen.Kernel4Ideal.Value
public import proofs.«01_k».proof.Proof.PrepRef
public import Idealize.ShloMosaic.Lib.Pipeline.ValueKit
public import Idealize.ShloMosaic.Lib.Pipeline.ReadBack
public import Idealize.ShloMosaic.Lib.Pointwise

@[expose] public section

set_option maxRecDepth 16384

noncomputable section

/-! The projected rows of a point's tile, and the row it keeps for the next. -/

namespace Cert.Kernel4Ideal.Hand

open Cert.Kernel4Ideal Cert.Kernel4Ideal.Gen Idealize.ShloMosaic Idealize.ShloMosaic.TcCoe
open Idealize.ShloMosaic.Tactic Idealize.SL.Sem
open Idealize.ShloMosaic.Pipeline (Dat)
open Cert.Reference4Ideal.Spec (unit proj tail mixed mixed_zero mixed_succ flatRet flatTail)

variable (m : (ℓ : Loc nD τ sig) → Buf (Elt Ideal) ℓ)

/-- Where each window's block lies at a point. -/
theorem idx : ∀ t : Fin cfg0.N, win0_0.index t = ![0, t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![t.val, 0] ∧ win0_12.index t = ![t.val, 0] ∧ win0_13.index t = ![t.val, 0] ∧ win0_14.index t = ![t.val, 0]
    ∧ win0_15.index t = ![t.val, 0] ∧ win0_16.index t = ![t.val, 0] ∧ win0_17.index t = ![t.val, 0] ∧ win0_18.index t = ![t.val, 0]
    ∧ win0_19.index t = ![t.val, 0] :=
  (by decide +kernel : ∀ t : Fin grid0.N, _)

/-- The row of the arrays that is row `r` of point `t`'s tile. -/
def row (t : Fin cfg0.N) (r : Fin 256) : Fin 2048 := ⟨t.val * 256 + r.val, by
  have hN : t.val < 8 := lt_of_lt_of_eq t.isLt N_0
  omega⟩

abbrev X (c : Dev nD) : FVec Ideal S1x2048x1024 .f32 := m ((c : Thread nD τ).loc main_arg0)
abbrev G (c : Dev nD) : FVec Ideal S1x1024 .f32 := m ((c : Thread nD τ).loc main_arg1)
abbrev W (c : Dev nD) : FVec Ideal S1x1024x3712 .f32 := m ((c : Thread nD τ).loc main_arg2)
abbrev Mu (c : Dev nD) : FVec Ideal S1x2176 .f32 := m ((c : Thread nD τ).loc main_arg3)

theorem read0 (c : Dev nD) (t : Fin cfg0.N) (r : Fin 256) (d : Fin 1024) :
    iblk m c 0 t (ix3 0 r d) = X m c (ix3 0 (row t r) d) := by
  unfold row
  blk_point [iblk, V, idx t]

theorem read1 (c : Dev nD) (t : Fin cfg0.N) (d : Fin 1024) : iblk m c 1 t (ix2 0 d) = G m c (ix2 0 d) := by
  blk_point [iblk, V, idx t]

theorem read2 (c : Dev nD) (t : Fin cfg0.N) (j : Fin 3712) (d : Fin 1024) : iblk m c 2 t (ix2 j d) = W m c (ix3 0 d j) := by
  blk_point [iblk, V, idx t]

theorem read3 (c : Dev nD) (t : Fin cfg0.N) (j : Fin 2176) : iblk m c 3 t (ix2 0 j) = Mu m c (ix2 0 j) := by
  blk_point [iblk, V, idx t]

/-- The columns for the recurrence, in a point's tile. -/
def cols (c : Dev nD) (t : Fin cfg0.N) : FVec Ideal S256x2176 .f32 :=
  k0_pay6 (iblk m c 0 t) (iblk m c 1 t) (View.ld (iblk m c 2 t) (Rect.unit ![1536, 0] ![2176, 1024] inb_S3712x1024_S2176x1024_1536_0))

theorem unit_apply (c : Dev nD) (t : Fin cfg0.N) (i : Fin 256) (d : Fin 1024) :
    k0_pay4 (F := Ideal) (iblk m c 0 t) (iblk m c 1 t) (ix2 i d) = unit (X m c) (G m c) (ix3 0 (row t i) d) := by
  pointwise [k0_pay4, unit]
  simp only [read0, read1]

theorem cols_apply (c : Dev nD) (t : Fin cfg0.N) (i : Fin 256) (j : Fin 2176) :
    cols m c t (ix2 i j) = tail (proj (X m c) (G m c) (W m c)) (ix3 0 (row t i) j) := by
  pointwise [cols, k0_pay6, tail, proj]
  simp only [unit_apply]
  blk_point [iblk, V, idx t]

theorem out11 (c : Dev nD) (t : Fin cfg0.N) : (outsAt0 m c t.val t.isLt).1
    = k0_pay5 (iblk m c 0 t) (iblk m c 1 t) (View.ld (iblk m c 2 t) (Rect.unit ![0, 0] ![1536, 1024] inb_S3712x1024_S1536x1024_0_0)) := by
  by_cases h0 : t.val % 8 = 0
  · rw [outsAt0_A m c t h0]; frame_out; rfl
  · rw [outsAt0_B m c t h0]; frame_out; rfl

theorem out12 (c : Dev nD) (t : Fin cfg0.N) : (outsAt0 m c t.val t.isLt).2.1 = cols m c t := by
  by_cases h0 : t.val % 8 = 0
  · rw [outsAt0_A m c t h0]; frame_out; rfl
  · rw [outsAt0_B m c t h0]; frame_out; rfl

theorem kept (c : Dev nD) (t : Fin cfg0.N) : (outsAt0 m c t.val t.isLt).2.2.2.2.2.2.2.2.2 = k0_pay9 (cols m c t) := by
  by_cases h0 : t.val % 8 = 0
  · rw [outsAt0_A m c t h0]; frame_out; rfl
  · rw [outsAt0_B m c t h0]; frame_out; rfl

/-- The row before a point's tile: none before the first. -/
def before (c : Dev nD) (t : Fin cfg0.N) : FVec Ideal S1x2176 .f32 := fun j =>
  if t.val = 0 then 0 else cols m c ⟨t.val - 1, Nat.lt_of_le_of_lt (Nat.sub_le _ _) t.isLt⟩ (ix2 255 (j 1))

theorem before_first (c : Dev nD) (t : Fin cfg0.N) (h0 : t.val % 8 = 0) : (View.whole cc0_scratch0).readCov (Val := Elt Ideal)
    [⟨Rect.unit ![0, 0] ![8, 2176] inb_S8x2176_S8x2176_0_0, k0_pay3 (F := Ideal)⟩]
    (Rect.unit ![7, 0] ![1, 2176] inb_S8x2176_S1x2176_7_0).toLoadRect = before m c t := by
  have hN : t.val < 8 := lt_of_lt_of_eq t.isLt N_0
  funext j
  rw [before, if_pos (by omega)]
  refine (congrFun (View.readCov_fill _ _ _ _ _ (by decide)) j).trans ?_
  have e : ∀ i : S8x2176.Idx, k0_pay3 (F := Ideal) i = 0 := fun i => by pointwise [k0_pay3]
  exact e _

theorem before_next (c : Dev nD) (t : Fin cfg0.N) (h0 : ¬ t.val % 8 = 0) : View.ld (Val := Elt Ideal)
    (outsAt0 m c (t.val - 1) (Nat.lt_of_le_of_lt (Nat.sub_le _ _) t.isLt)).2.2.2.2.2.2.2.2.2
    (Rect.unit ![7, 0] ![1, 2176] inb_S8x2176_S1x2176_7_0) = before m c t := by
  funext j
  change S1x2176.Idx at j
  idx_vars j
  rw [before, if_neg (by omega)]
  rw [kept m c ⟨t.val - 1, Nat.lt_of_le_of_lt (Nat.sub_le _ _) t.isLt⟩]
  obtain rfl : j0 = 0 := Subsingleton.elim (α := Fin 1) _ _
  have e : ∀ v : FVec Ideal S256x2176 .f32, k0_pay9 v (ix2 7 j1) = v (ix2 255 j1) := fun v => by pointwise [k0_pay9]
  refine Eq.trans ?_ (e _)
  refine congrArg (k0_pay9 _) (?_ : (Rect.unit (s := S8x2176) ![7, 0] ![1, 2176] inb_S8x2176_S1x2176_7_0).emb (ix2 0 j1) = ix2 7 j1)
  blk_ext

/-- The mixed columns of a point's tile. -/
def shifted (c : Dev nD) (t : Fin cfg0.N) : FVec Ideal S256x2176 .f32 :=
  k0_pay8 (cols m c t) (iblk m c 3 t) (before m c t) (iota Kind.tc S256x2176 32 [0] iota_S256x2176_d0_w32) k0_pay7

theorem shifted_apply (c : Dev nD) (t : Fin cfg0.N) (i : Fin 256) (j : Fin 2176) :
    shifted m c t (ix2 i j) = mixed (tail (proj (X m c) (G m c) (W m c))) (Mu m c) (ix3 0 (row t i) j) := by
  have hN : t.val < 8 := lt_of_lt_of_eq t.isLt N_0
  pointwise [shifted, k0_pay8, k0_pay7]
  have so : ∀ a b : EReal, Scalar.select 1#1 a b = a := fun _ _ => rfl
  have sz : ∀ a b : EReal, Scalar.select 0#1 a b = b := fun _ _ => rfl
  rw [read3]
  by_cases h0 : i.val = 0
  · obtain rfl : i = 0 := Fin.ext h0
    have hs : IntOp.cmpi .eq (BitVec.ofNat 32 (0 : Fin 256).val) 0#32 = 1#1 := by decide
    rw [hs, so, cols_apply]
    by_cases ht : t.val = 0
    · rw [mixed_zero _ _ _ (by simp only [row, ht, h0, Nat.zero_mul]), before, if_pos ht]
    · rw [mixed_succ _ _ _ (row ⟨t.val - 1, Nat.lt_of_le_of_lt (Nat.sub_le _ _) t.isLt⟩ 255) (by simp only [row]; omega), before, if_neg ht]
      exact congrArg (fun z : EReal => _ + _ * (z - _)) (cols_apply m c _ _ _)
  · have hs : IntOp.cmpi .eq (BitVec.ofNat 32 i.val) 0#32 = 0#1 := by
      have hne : BitVec.ofNat 32 i.val ≠ 0#32 := fun h => h0 (by
        have h2 := congrArg BitVec.toNat h
        simp only [BitVec.toNat_ofNat] at h2
        omega)
      show BitVec.ofBool (BitVec.ofNat 32 i.val == 0#32) = 0#1
      rw [beq_eq_false_iff_ne.mpr hne]
      rfl
    rw [hs, sz, mixed_succ _ _ _ (row t ⟨i.val - 1, by omega⟩) (by simp only [row]; omega), cols_apply, cols_apply,
      show (⟨(i.val + 256 - 1) % 256, Nat.mod_lt _ (by decide)⟩ : Fin 256) = ⟨i.val - 1, by omega⟩ from Fin.ext (by simp only; omega)]

theorem rest (c : Dev nD) (t : Fin cfg0.N) : (outsAt0 m c t.val t.isLt).2.2.1 = k0_pay21 (shifted m c t)
    ∧ (outsAt0 m c t.val t.isLt).2.2.2.1 = k0_pay17 (k0_pay15 (cols m c t) (iblk m c 3 t) (before m c t) (iota Kind.tc S256x2176 32 [0] iota_S256x2176_d0_w32) k0_pay7 (iblk m c 4 t) (iblk m c 8 t))
        (k0_pay16 (cols m c t) (iblk m c 3 t) (before m c t) (iota Kind.tc S256x2176 32 [0] iota_S256x2176_d0_w32) k0_pay7 (iblk m c 4 t) (iblk m c 8 t))
    ∧ (outsAt0 m c t.val t.isLt).2.2.2.2.1 = k0_pay20 (extractStridedSlice S256x512 ![0, 512] (shifted m c t) slices_S256x2176_o0_512_S256x512)
        (extractStridedSlice S256x128 ![0, 2048] (shifted m c t) slices_S256x2176_o0_2048_S256x128) (iblk m c 5 t) (iblk m c 7 t) (k0_pay12 (iblk m c 9 t))
    ∧ (outsAt0 m c t.val t.isLt).2.2.2.2.2.1 = k0_pay1 (shifted m c t)
    ∧ (outsAt0 m c t.val t.isLt).2.2.2.2.2.2.1 = k0_pay19 (extractStridedSlice S256x512 ![0, 512] (shifted m c t) slices_S256x2176_o0_512_S256x512) (iblk m c 6 t) (k0_pay13 (iblk m c 10 t))
    ∧ (outsAt0 m c t.val t.isLt).2.2.2.2.2.2.2.1 = k0_pay18 (extractStridedSlice S256x128 ![0, 2048] (shifted m c t) slices_S256x2176_o0_2048_S256x128) (iblk m c 5 t) (k0_pay12 (iblk m c 9 t))
    ∧ (outsAt0 m c t.val t.isLt).2.2.2.2.2.2.2.2.1 = k0_pay2 (shifted m c t) := by
  by_cases h0 : t.val % 8 = 0
  · rw [outsAt0_A m c t h0]
    refine ⟨?_, ?_, ?_, ?_, ?_, ?_, ?_⟩ <;>
    · frame_out
      rw [before_first m c t h0]
      rfl
  · rw [outsAt0_B m c t h0]
    refine ⟨?_, ?_, ?_, ?_, ?_, ?_, ?_⟩ <;>
    · frame_out
      rw [read_unread_whole, before_next m c t h0]
      rfl

end Cert.Kernel4Ideal.Hand
end
-- ==== Proof.PrepMix.lean ====
module

public import proofs.«01_k».proof.Proof.PrepRows
public import Idealize.ShloMosaic.Lib.StableHlo.RunRead

@[expose] public section

set_option maxRecDepth 16384

noncomputable section

/-! What a point stores, row by row, apart from the normalised keys. -/

namespace Cert.Kernel4Ideal.Hand

open Cert.Kernel4Ideal Cert.Kernel4Ideal.Gen Idealize.ShloMosaic Idealize.ShloMosaic.TcCoe
open Idealize.ShloMosaic.Tactic Idealize.SL.Sem
open Idealize.ShloMosaic.Pipeline (Dat)
open Cert.Reference4Ideal.Spec (unit proj tail mixed wide num slow decay rate keys written flat flatRet flatTail recept values gates)

variable (m : (ℓ : Loc nD τ sig) → Buf (Elt Ideal) ℓ)

abbrev Wl (c : Dev nD) : FVec Ideal S1x64x512 .f32 := m ((c : Thread nD τ).loc main_arg4)
abbrev W0 (c : Dev nD) : FVec Ideal S1x512 .f32 := m ((c : Thread nD τ).loc main_arg5)
abbrev Al (c : Dev nD) : FVec Ideal S1x64x512 .f32 := m ((c : Thread nD τ).loc main_arg6)
abbrev A0 (c : Dev nD) : FVec Ideal S1x512 .f32 := m ((c : Thread nD τ).loc main_arg7)
abbrev Kk (c : Dev nD) : FVec Ideal S1x512 .f32 := m ((c : Thread nD τ).loc main_arg8)
abbrev Ka (c : Dev nD) : FVec Ideal S1x512 .f32 := m ((c : Thread nD τ).loc main_arg9)

/-- The projection, and its columns mixed. -/
abbrev P (c : Dev nD) := proj (X m c) (G m c) (W m c)
abbrev S (c : Dev nD) := mixed (tail (P m c)) (Mu m c)

/-- The entries of a matrix of ones and zeros, by blocks. -/
theorem same : ∀ u v : Fin 2, (FloatOps.uitofp .f32 (IntOp.cmpi .eq (IntOp.addi (BitVec.ofNat 32 u.val) 0#32) (BitVec.ofNat 32 v.val)) : Ideal .f32)
    = if u.val = v.val then (1 : EReal) else 0 := by
  intro u v
  have e : ∀ b : BitVec 1, (FloatOps.uitofp .f32 b : Ideal .f32) = ((b.toNat : ℝ) : EReal) := fun _ => rfl
  rw [e]
  fin_cases u <;> fin_cases v <;> simp [IntOp.cmpi, IntOp.addi]

/-- A sum with a factor that is zero in one half. -/
theorem sum_low (f : Fin 128 → EReal) (g : Fin 64 → EReal) :
    ∑ x : Fin 128, f x * (if h : x.val < 64 then g ⟨x.val, h⟩ else 0) = ∑ k : Fin 64, f ⟨k.val, by omega⟩ * g k := by
  rw [Fin.sum_univ_two_halves 64 64 rfl]
  have hz : ∀ k : Fin 64, ¬ 64 + k.val < 64 := fun k => by omega
  simp only [Fin.is_lt, dite_true, hz, dite_false, mul_zero, Finset.sum_const_zero, add_zero]

theorem sum_high (f : Fin 128 → EReal) (g : Fin 64 → EReal) :
    ∑ x : Fin 128, f x * (if h : x.val < 64 then 0 else g ⟨x.val - 64, by omega⟩) = ∑ k : Fin 64, f ⟨64 + k.val, by omega⟩ * g k := by
  rw [Fin.sum_univ_two_halves 64 64 rfl]
  have hz : ∀ k : Fin 64, ¬ 64 + k.val < 64 := fun k => by omega
  simp only [Fin.is_lt, dite_true, hz, dite_false, mul_zero, Finset.sum_const_zero, zero_add, Nat.add_sub_cancel_left]

section
variable (c : Dev nD) (t : Fin cfg0.N)

theorem read4 (j : Fin 512) : iblk m c 4 t (ix2 0 j) = W0 m c (ix2 0 j) := by blk_point [iblk, V, idx t]
theorem read5 (j : Fin 512) : iblk m c 5 t (ix2 0 j) = A0 m c (ix2 0 j) := by blk_point [iblk, V, idx t]
theorem read6 (j : Fin 512) : iblk m c 6 t (ix2 0 j) = Kk m c (ix2 0 j) := by blk_point [iblk, V, idx t]
theorem read7 (j : Fin 512) : iblk m c 7 t (ix2 0 j) = Ka m c (ix2 0 j) := by blk_point [iblk, V, idx t]

theorem read8 (j : Fin 512) (k : Fin 128) : iblk m c 8 t (ix2 j k) = if h : k.val < 64 then Wl m c (ix3 0 ⟨k.val, h⟩ j) else 0 := by
  have e : iblk m c 8 t (ix2 j k) = (V m c main_v3 : FVec Ideal S512x128 .f32) (ix2 j k) := by blk_point [iblk, idx t]
  rw [e]
  unfold V
  after_reads_simp
  pointwise

theorem read9 (j : Fin 512) (k : Fin 128) : iblk m c 9 t (ix2 j k) = if h : k.val < 64 then 0 else Al m c (ix3 0 ⟨k.val - 64, by omega⟩ j) := by
  have e : iblk m c 9 t (ix2 j k) = (V m c main_v7 : FVec Ideal S512x128 .f32) (ix2 j k) := by blk_point [iblk, idx t]
  rw [e]
  unfold V
  after_reads_simp
  pointwise

theorem read10 (a : Fin 256) (b : Fin 128) : iblk m c 10 t (ix2 a b) = if a.val / 64 % 2 = b.val / 64 then (1 : EReal) else 0 := by
  have e : iblk m c 10 t (ix2 a b) = (V m c main_v19 : FVec Ideal S256x128 .f32) (ix2 a b) := by blk_point [iblk, idx t]
  rw [e]
  unfold V
  after_reads_simp
  pointwise
  exact same ⟨a.val / 64 % 2, by omega⟩ ⟨b.val / 64, by omega⟩

theorem out13_apply (i : Fin 256) (j : Fin 512) : (outsAt0 m c t.val t.isLt).2.2.1 (ix2 i j) = flat (recept (S m c)) (ix2 (row t i) j) := by
  rw [(rest m c t).1]
  pointwise [k0_pay21, flat, recept]
  rw [shifted_apply]

theorem out16_apply (i : Fin 256) (j : Fin 512) : (outsAt0 m c t.val t.isLt).2.2.2.2.2.1 (ix2 i j) = flat (values (S m c)) (ix2 (row t i) j) := by
  rw [(rest m c t).2.2.2.1]
  pointwise [k0_pay1, flat, values]
  rw [shifted_apply]

theorem out19_apply (i : Fin 256) (j : Fin 512) : (outsAt0 m c t.val t.isLt).2.2.2.2.2.2.2.2.1 (ix2 i j) = flat (gates (S m c)) (ix2 (row t i) j) := by
  rw [(rest m c t).2.2.2.2.2.2]
  pointwise [k0_pay2, flat, gates]
  rw [shifted_apply]

theorem rate_apply (i : Fin 256) (j : Fin 512) : k0_pay18 (F := Ideal) (extractStridedSlice S256x128 ![0, 2048] (shifted m c t) slices_S256x2176_o0_2048_S256x128)
    (iblk m c 5 t) (k0_pay12 (iblk m c 9 t)) (ix2 i j) = rate (S m c) (Al m c) (A0 m c) (ix3 0 (row t i) j) := by
  pointwise [k0_pay18, k0_pay12, rate, wide, num]
  simp only [read5, read9, shifted_apply]
  rw [sum_high (fun x => S m c (ix3 0 (row t i) ⟨2048 + x.val, by omega⟩)) fun k => Al m c (ix3 0 k j)]
  simp only [← Nat.add_assoc]
  rfl

theorem slow_apply (i : Fin 256) (j : Fin 512) : k0_pay14 (F := Ideal) (cols m c t) (iblk m c 3 t) (before m c t) (iota Kind.tc S256x2176 32 [0] iota_S256x2176_d0_w32) k0_pay7 (iblk m c 4 t)
    (iblk m c 8 t) (ix2 i j) = slow (S m c) (Wl m c) (W0 m c) (ix3 0 (row t i) j) := by
  have hs : ∀ k, k0_pay8 (F := Ideal) (cols m c t) (iblk m c 3 t) (before m c t) (iota Kind.tc S256x2176 32 [0] iota_S256x2176_d0_w32) k0_pay7 (ix2 i k)
    = S m c (ix3 0 (row t i) k) := fun k => shifted_apply m c t i k
  pointwise [k0_pay14, k0_pay11, slow, wide, num]
  simp only [read4, read8, hs]
  rw [sum_low (fun x => Ideal.tanh (S m c (ix3 0 (row t i) ⟨2048 + x.val, by omega⟩))) fun k => Wl m c (ix3 0 k j), zero_sub]

theorem out14_apply (i : Fin 256) (j : Fin 512) : (outsAt0 m c t.val t.isLt).2.2.2.1 (ix2 i j) = flat (decay (slow (S m c) (Wl m c) (W0 m c))) (ix2 (row t i) j) := by
  rw [(rest m c t).2.1]
  pointwise [k0_pay17, k0_pay15, k0_pay16, flat, decay, num]
  rw [slow_apply, if_neg (not_not.mpr rfl), zero_sub, zero_sub, zero_sub]
  rfl

theorem out15_apply (i : Fin 256) (j : Fin 512) : (outsAt0 m c t.val t.isLt).2.2.2.2.1 (ix2 i j)
    = flat (written (S m c) (rate (S m c) (Al m c) (A0 m c)) (Ka m c)) (ix2 (row t i) j) := by
  rw [(rest m c t).2.2.1]
  pointwise [k0_pay20, flat, written, keys, num, wide]
  simp only [rate_apply, shifted_apply, read7]

theorem out18_apply (i : Fin 256) (j : Fin 512) : (outsAt0 m c t.val t.isLt).2.2.2.2.2.2.2.1 (ix2 i j)
    = flat (rate (S m c) (Al m c) (A0 m c)) (ix2 (row t i) j) := by
  rw [(rest m c t).2.2.2.2.2.1, rate_apply]
  pointwise [flat]

end

end Cert.Kernel4Ideal.Hand
end
-- ==== Proof.PrepFinal.lean ====
module

public import proofs.«01_k».proof.Proof.PrepMix

@[expose] public section

set_option maxRecDepth 16384

noncomputable section

/-! The results, apart from the normalised keys, are the reference's. -/

namespace Cert.Kernel4Ideal.Hand

open Cert.Kernel4Ideal Cert.Kernel4Ideal.Gen Idealize.ShloMosaic Idealize.ShloMosaic.TcCoe
open Idealize.ShloMosaic.Tactic Idealize.SL.Sem
open Idealize.ShloMosaic.Pipeline (Dat)
open Cert.Reference4Ideal.Spec (unit proj tail mixed slow decay rate written flat flatRet flatTail recept values gates)

variable (m : (ℓ : Loc nD τ sig) → Buf (Elt Ideal) ℓ) (c : Dev nD)

theorem out11_apply (t : Fin cfg0.N) (i : Fin 256) (j : Fin 1536) : (outsAt0 m c t.val t.isLt).1 (ix2 i j) = flatRet (P m c) (ix2 (row t i) j) := by
  rw [out11]
  pointwise [k0_pay5, flatRet, proj]
  simp only [unit_apply]
  blk_point [iblk, V, idx t]

theorem out12_apply (t : Fin cfg0.N) (i : Fin 256) (j : Fin 2176) : (outsAt0 m c t.val t.isLt).2.1 (ix2 i j) = flatTail (tail (P m c)) (ix2 (row t i) j) := by
  rw [out12, cols_apply]
  pointwise [flatTail]

theorem final11 : (dats m 0 c).arrAt 11 (cfgs 0).N = flatRet (P m c) := by
  refine (dats m 0 c).arrAt_eq_of_covers 11 _ (by decide +kernel) fun t hf y => ?_
  blk_simp
  rw [after0_11]
  idx_vars y
  rw [show (win0_11.blk t).view.emb (ix2 y0 y1) = ix2 (row t y0) y1 from by unfold row; blk_ext [idx t]]
  exact out11_apply m c t y0 y1

theorem final12 : (dats m 0 c).arrAt 12 (cfgs 0).N = flatTail (tail (P m c)) := by
  refine (dats m 0 c).arrAt_eq_of_covers 12 _ (by decide +kernel) fun t hf y => ?_
  blk_simp
  rw [after0_12]
  idx_vars y
  rw [show (win0_12.blk t).view.emb (ix2 y0 y1) = ix2 (row t y0) y1 from by unfold row; blk_ext [idx t]]
  exact out12_apply m c t y0 y1

theorem final13 : (dats m 0 c).arrAt 13 (cfgs 0).N = flat (recept (S m c)) := by
  refine (dats m 0 c).arrAt_eq_of_covers 13 _ (by decide +kernel) fun t hf y => ?_
  blk_simp
  rw [after0_13]
  idx_vars y
  rw [show (win0_13.blk t).view.emb (ix2 y0 y1) = ix2 (row t y0) y1 from by unfold row; blk_ext [idx t]]
  exact out13_apply m c t y0 y1

theorem final14 : (dats m 0 c).arrAt 14 (cfgs 0).N = flat (decay (slow (S m c) (Wl m c) (W0 m c))) := by
  refine (dats m 0 c).arrAt_eq_of_covers 14 _ (by decide +kernel) fun t hf y => ?_
  blk_simp
  rw [after0_14]
  idx_vars y
  rw [show (win0_14.blk t).view.emb (ix2 y0 y1) = ix2 (row t y0) y1 from by unfold row; blk_ext [idx t]]
  exact out14_apply m c t y0 y1

theorem final15 : (dats m 0 c).arrAt 15 (cfgs 0).N = flat (written (S m c) (rate (S m c) (Al m c) (A0 m c)) (Ka m c)) := by
  refine (dats m 0 c).arrAt_eq_of_covers 15 _ (by decide +kernel) fun t hf y => ?_
  blk_simp
  rw [after0_15]
  idx_vars y
  rw [show (win0_15.blk t).view.emb (ix2 y0 y1) = ix2 (row t y0) y1 from by unfold row; blk_ext [idx t]]
  exact out15_apply m c t y0 y1

theorem final16 : (dats m 0 c).arrAt 16 (cfgs 0).N = flat (values (S m c)) := by
  refine (dats m 0 c).arrAt_eq_of_covers 16 _ (by decide +kernel) fun t hf y => ?_
  blk_simp
  rw [after0_16]
  idx_vars y
  rw [show (win0_16.blk t).view.emb (ix2 y0 y1) = ix2 (row t y0) y1 from by unfold row; blk_ext [idx t]]
  exact out16_apply m c t y0 y1

theorem final18 : (dats m 0 c).arrAt 18 (cfgs 0).N = flat (rate (S m c) (Al m c) (A0 m c)) := by
  refine (dats m 0 c).arrAt_eq_of_covers 18 _ (by decide +kernel) fun t hf y => ?_
  blk_simp
  rw [after0_18]
  idx_vars y
  rw [show (win0_18.blk t).view.emb (ix2 y0 y1) = ix2 (row t y0) y1 from by unfold row; blk_ext [idx t]]
  exact out18_apply m c t y0 y1

theorem final19 : (dats m 0 c).arrAt 19 (cfgs 0).N = flat (gates (S m c)) := by
  refine (dats m 0 c).arrAt_eq_of_covers 19 _ (by decide +kernel) fun t hf y => ?_
  blk_simp
  rw [after0_19]
  idx_vars y
  rw [show (win0_19.blk t).view.emb (ix2 y0 y1) = ix2 (row t y0) y1 from by unfold row; blk_ext [idx t]]
  exact out19_apply m c t y0 y1

end Cert.Kernel4Ideal.Hand
end
-- ==== Proof.PrepKeys.lean ====
module

public import proofs.«01_k».proof.Proof.PrepMix

@[expose] public section

set_option maxRecDepth 16384

noncomputable section

/-! The normalised keys: the sums over each head's 64 columns, taken by a product with a matrix of ones and zeros. -/

namespace Cert.Kernel4Ideal.Hand

open Cert.Kernel4Ideal Cert.Kernel4Ideal.Gen Idealize.ShloMosaic Idealize.ShloMosaic.TcCoe
open Idealize.ShloMosaic.Tactic Idealize.SL.Sem
open Idealize.ShloMosaic.Pipeline (Dat)

/-- The four groups of 128 columns, one below the other. -/
def stacked (x : FVec Ideal S256x512 .f32) : FVec Ideal S1024x128 .f32 :=
  concatenate S1024x128 0 [⟨S256x128, extractStridedSlice S256x128 ![0, 0] x slices_S256x512_o0_0_S256x128⟩,
    ⟨S256x128, extractStridedSlice S256x128 ![0, 128] x slices_S256x512_o0_128_S256x128⟩,
    ⟨S256x128, extractStridedSlice S256x128 ![0, 256] x slices_S256x512_o0_256_S256x128⟩,
    ⟨S256x128, extractStridedSlice S256x128 ![0, 384] x slices_S256x512_o0_384_S256x128⟩] concatenates_S256x128_S256x128_S256x128_S256x128_S1024x128_d0

/-- An array beside what its rounding leaves. -/
def paired (x : FVec Ideal S1024x128 .f32) : FVec Ideal S1024x256 .f32 :=
  concatenate S1024x256 1 [⟨S1024x128, extf .f32 (truncf .bf16 x bitsLt_bf16_f32) bitsLt_bf16_f32⟩,
    ⟨S1024x128, subf x (extf .f32 (truncf .bf16 x bitsLt_bf16_f32) bitsLt_bf16_f32)⟩] concatenates_S1024x128_S1024x128_S1024x256_d1

/-- The groups, side by side again. -/
def beside (y : FVec Ideal S1024x128 .f32) : FVec Ideal S256x512 .f32 :=
  concatenate S256x512 1 [⟨S256x128, extractStridedSlice S256x128 ![0, 0] y slices_S1024x128_o0_0_S256x128⟩,
    ⟨S256x128, extractStridedSlice S256x128 ![256, 0] y slices_S1024x128_o256_0_S256x128⟩,
    ⟨S256x128, extractStridedSlice S256x128 ![512, 0] y slices_S1024x128_o512_0_S256x128⟩,
    ⟨S256x128, extractStridedSlice S256x128 ![768, 0] y slices_S1024x128_o768_0_S256x128⟩] concatenates_S256x128_S256x128_S256x128_S256x128_S256x512_d1

/-- The product with the matrix of ones and zeros. -/
def summed (x : FVec Ideal S1024x128 .f32) (o : FVec Ideal S256x128 .f32) : FVec Ideal S1024x128 .f32 :=
  matmul dot_S1024x256_S256x128_S1024x128_1_0_0_1_n_n none (paired x) o (constant S1024x128 .f32 0x00000000#32)

theorem stacked_apply (x : FVec Ideal S256x512 .f32) (p : Fin 4) (i : Fin 256) (l : Fin 128) :
    stacked x (ix2 ⟨256 * p.val + i.val, by omega⟩ l) = x (ix2 i ⟨128 * p.val + l.val, by omega⟩) := by
  fin_cases p
  · pointwise [stacked]
  · pointwise [stacked]
  · pointwise [stacked]
    rw [dif_neg (by omega), dif_neg (by omega), dif_pos (by omega)]
    refine congrArg x (congrArg₂ ix2 (Fin.ext ?_) (Fin.ext ?_)) <;> simp only <;> omega
  · pointwise [stacked]
    rw [dif_neg (by omega), dif_neg (by omega), dif_neg (by omega)]
    refine congrArg x (congrArg₂ ix2 (Fin.ext ?_) (Fin.ext ?_)) <;> simp only <;> omega

theorem beside_apply (y : FVec Ideal S1024x128 .f32) (p : Fin 4) (i : Fin 256) (l : Fin 128) :
    beside y (ix2 i ⟨128 * p.val + l.val, by omega⟩) = y (ix2 ⟨256 * p.val + i.val, by omega⟩ l) := by
  fin_cases p
  · pointwise [beside]
  · pointwise [beside]
  · pointwise [beside]
    rw [dif_neg (by omega), dif_neg (by omega), dif_pos (by omega)]
    refine congrArg y (congrArg₂ ix2 (Fin.ext ?_) (Fin.ext ?_)) <;> simp only <;> omega
  · pointwise [beside]
    rw [dif_neg (by omega), dif_neg (by omega), dif_neg (by omega)]
    refine congrArg y (congrArg₂ ix2 (Fin.ext ?_) (Fin.ext ?_)) <;> simp only <;> omega

theorem summed_apply (x : FVec Ideal S1024x128 .f32) (o : FVec Ideal S256x128 .f32)
    (ho : ∀ a b, o (ix2 a b) = if a.val / 64 % 2 = b.val / 64 then (1 : EReal) else 0)
    (hf : ∀ r l, ∃ z : ℝ, (x (ix2 r l) : EReal) = z) (r : Fin 1024) (g : Fin 2) (d : Fin 64) :
    summed x o (ix2 r ⟨64 * g.val + d.val, by omega⟩) = ∑ e : Fin 64, x (ix2 r ⟨64 * g.val + e.val, by omega⟩) := by
  have hz : ∀ l, (x (ix2 r l) - x (ix2 r l) : EReal) = 0 := fun l => by
    obtain ⟨z, hz⟩ := hf r l
    rw [hz, ← EReal.coe_sub, sub_self, EReal.coe_zero]
  pointwise [summed, paired]
  simp only [ho, hz, zero_mul, Finset.sum_const_zero, add_zero, mul_ite, mul_one, mul_zero, ite_self]
  rw [Fin.sum_univ_two_halves 64 64 rfl]
  have e0 : ∀ k : Fin 64, k.val / 64 % 2 = 0 := fun k => by omega
  have e1 : ∀ k : Fin 64, (64 + k.val) / 64 % 2 = 1 := fun k => by omega
  have eg : (64 * g.val + d.val) / 64 = g.val := by omega
  simp only [e0, e1, eg]
  fin_cases g
  · simp
  · simp

/-- The column of a head. -/
def col (h : Fin 8) (d : Fin 64) : Fin 512 := ⟨64 * h.val + d.val, by omega⟩

theorem key_apply (u : FVec Ideal S256x512 .f32) (b : FVec Ideal S1x512 .f32) (o : FVec Ideal S256x128 .f32)
    (ho : ∀ a b, o (ix2 a b) = if a.val / 64 % 2 = b.val / 64 then (1 : EReal) else 0)
    (hf : ∀ i j, ∃ r : ℝ, (u (ix2 i j) * b (ix2 0 j) : EReal) = r) (i : Fin 256) (h : Fin 8) (d : Fin 64) :
    k0_pay19 u b o (ix2 i (col h d)) = Ideal.div (u (ix2 i (col h d)) * b (ix2 0 (col h d)))
      (max (Ideal.sqrt (∑ e, (u (ix2 i (col h e)) * b (ix2 0 (col h e))) * (u (ix2 i (col h e)) * b (ix2 0 (col h e))))) (Ideal.ofBits FTy.f32 0x2B8CBCCC#32)) := by
  have e1 : k0_pay19 u b o = divf (mulf u (broadcastTo S256x512 b broadcasts_S1x512_S256x512)) (maximumf (sqrt (beside (summed (stacked
      (mulf (mulf u (broadcastTo S256x512 b broadcasts_S1x512_S256x512)) (mulf u (broadcastTo S256x512 b broadcasts_S1x512_S256x512)))) o)))
      (broadcast S256x512 (Scalar.ofBits .f32 0x2B8CBCCC#32))) := rfl
  have e2 : ∀ e : Fin 64, col h e = ⟨128 * (h.val / 2) + (64 * (h.val % 2) + e.val), by omega⟩ := fun e => Fin.ext (by simp only [col]; omega)
  have e3 : ∀ y : FVec Ideal S1024x128 .f32, beside y (ix2 i (col h d)) = y (ix2 ⟨256 * (h.val / 2) + i.val, by omega⟩ ⟨64 * (h.val % 2) + d.val, by omega⟩) := fun y => by
    rw [e2]
    exact beside_apply y ⟨h.val / 2, by omega⟩ i ⟨64 * (h.val % 2) + d.val, by omega⟩
  have e4 : ∀ (x : FVec Ideal S256x512 .f32) (e : Fin 64), stacked x (ix2 ⟨256 * (h.val / 2) + i.val, by omega⟩ ⟨64 * (h.val % 2) + e.val, by omega⟩) = x (ix2 i (col h e)) := fun x e => by
    rw [e2]
    exact stacked_apply x ⟨h.val / 2, by omega⟩ i ⟨64 * (h.val % 2) + e.val, by omega⟩
  have e5 : ∀ i j, mulf (mulf u (broadcastTo S256x512 b broadcasts_S1x512_S256x512)) (mulf u (broadcastTo S256x512 b broadcasts_S1x512_S256x512)) (ix2 i j)
      = u (ix2 i j) * b (ix2 0 j) * (u (ix2 i j) * b (ix2 0 j)) := fun i j => by pointwise
  have e6 : summed (stacked (mulf (mulf u (broadcastTo S256x512 b broadcasts_S1x512_S256x512)) (mulf u (broadcastTo S256x512 b broadcasts_S1x512_S256x512)))) o
      (ix2 ⟨256 * (h.val / 2) + i.val, by omega⟩ ⟨64 * (h.val % 2) + d.val, by omega⟩) = ∑ e, (u (ix2 i (col h e)) * b (ix2 0 (col h e))) * (u (ix2 i (col h e)) * b (ix2 0 (col h e))) := by
    refine (summed_apply _ o ho ?_ _ ⟨h.val % 2, by omega⟩ d).trans (Finset.sum_congr rfl fun e _ => (e4 _ e).trans (e5 _ _))
    intro r l
    obtain ⟨z, hz⟩ := hf ⟨r.val % 256, by omega⟩ ⟨128 * (r.val / 256) + l.val, by omega⟩
    refine ⟨z * z, ?_⟩
    have er : r = ⟨256 * (r.val / 256) + r.val % 256, by omega⟩ := Fin.ext (by simp only; omega)
    have es := stacked_apply (mulf (mulf u (broadcastTo S256x512 b broadcasts_S1x512_S256x512)) (mulf u (broadcastTo S256x512 b broadcasts_S1x512_S256x512)))
      ⟨r.val / 256, by omega⟩ ⟨r.val % 256, by omega⟩ l
    rw [e5, hz] at es
    rw [er, EReal.coe_mul]
    exact es
  rw [e1, ← e6, ← e3 (summed _ _)]
  pointwise

end Cert.Kernel4Ideal.Hand
end
-- ==== Proof.PrepNorm.lean ====
module

public import proofs.«01_k».proof.Proof.PrepKeys
public import proofs.«01_k».proof.Defs

@[expose] public section

set_option maxRecDepth 16384

noncomputable section

/-! From finite arguments the keys are finite, and the normalised keys are the reference's. -/

namespace Cert.Kernel4Ideal.Hand

open Cert.Kernel4Ideal Cert.Kernel4Ideal.Gen Idealize.ShloMosaic Idealize.ShloMosaic.TcCoe
open Idealize.ShloMosaic.Tactic Idealize.SL.Sem
open Idealize.ShloMosaic.Pipeline (Dat)
open Cert.Reference4Ideal.Spec (unit proj tail mixed wide keys heads normed flatHeads mixed_zero mixed_succ)

/-- An extended real that is a real. -/
def IsReal (z : EReal) : Prop := ∃ r : ℝ, z = r

theorem IsReal.add {a b : EReal} : IsReal a → IsReal b → IsReal (a + b)
  | ⟨x, hx⟩, ⟨y, hy⟩ => ⟨x + y, by rw [hx, hy, EReal.coe_add]⟩
theorem IsReal.sub {a b : EReal} : IsReal a → IsReal b → IsReal (a - b)
  | ⟨x, hx⟩, ⟨y, hy⟩ => ⟨x - y, by rw [hx, hy, EReal.coe_sub]⟩
theorem IsReal.mul {a b : EReal} : IsReal a → IsReal b → IsReal (a * b)
  | ⟨x, hx⟩, ⟨y, hy⟩ => ⟨x * y, by rw [hx, hy, EReal.coe_mul]⟩
theorem IsReal.zero : IsReal 0 := ⟨0, rfl⟩
theorem IsReal.sum {n : ℕ} {f : Fin n → EReal} (h : ∀ i, IsReal (f i)) : IsReal (∑ i, f i) :=
  Finset.sum_induction f IsReal (fun _ _ => IsReal.add) IsReal.zero fun i _ => h i

/-- The factor a row is scaled with. -/
theorem scale_real (f : Fin 1024 → EReal) (hf : ∀ k, IsReal (f k)) :
    IsReal (Ideal.rsqrt (Ideal.div (∑ k, f k * f k) (Ideal.ofBits FTy.f32 0x44800000#32) + Ideal.ofBits FTy.f32 0x358637BD#32)) := by
  have e1 : Ideal.ofBits FTy.f32 0x44800000#32 = ((1024 : ℝ) : EReal) := by simp [Ideal.ofBits, Ideal.ieee, -EReal.coe_mul]; norm_num
  have e2 : Ideal.ofBits FTy.f32 0x358637BD#32 = ((8796093 / 8796093022208 : ℝ) : EReal) := by simp [Ideal.ofBits, Ideal.ieee, -EReal.coe_mul]; norm_num
  choose g hg using hf
  obtain ⟨s, hs⟩ : IsReal (∑ k, f k * f k) := IsReal.sum fun k => IsReal.mul ⟨g k, hg k⟩ ⟨g k, hg k⟩
  have h0 : 0 ≤ s := by
    rw [← EReal.coe_nonneg, ← hs]
    refine Finset.sum_nonneg fun k _ => ?_
    rw [hg k, ← EReal.coe_mul, EReal.coe_nonneg]
    exact mul_self_nonneg _
  have hp : 0 < s * (1 / 1024) + 8796093 / 8796093022208 := by positivity
  rw [hs, e1, e2, Ideal.div_coe (by norm_num), ← EReal.coe_mul, ← EReal.coe_add, Ideal.rsqrt_coe, if_neg hp.not_gt, if_neg hp.ne']
  exact ⟨_, rfl⟩

section
variable {x : FVec Ideal S1x2048x1024 .f32} {g : FVec Ideal S1x1024 .f32} {w : FVec Ideal S1x1024x3712 .f32} {mu : FVec Ideal S1x2176 .f32}

theorem unit_real (hx : ∀ i, IsReal (x i)) (hg : ∀ i, IsReal (g i)) (r : Fin 2048) (d : Fin 1024) : IsReal (unit x g (ix3 0 r d)) := by
  have e : unit x g (ix3 0 r d) = x (ix3 0 r d) * Ideal.rsqrt (Ideal.div (∑ k, x (ix3 0 r k) * x (ix3 0 r k)) (Ideal.ofBits FTy.f32 0x44800000#32)
      + Ideal.ofBits FTy.f32 0x358637BD#32) * g (ix2 0 d) := by pointwise [unit]
  rw [e]
  exact ((hx _).mul (scale_real (fun k => x (ix3 0 r k)) fun k => hx _)).mul (hg _)

theorem tail_real (hx : ∀ i, IsReal (x i)) (hg : ∀ i, IsReal (g i)) (hw : ∀ i, IsReal (w i)) (r : Fin 2048) (j : Fin 2176) :
    IsReal (tail (proj x g w) (ix3 0 r j)) := by
  have e : tail (proj x g w) (ix3 0 r j) = ∑ k : Fin 1024, unit x g (ix3 0 r k) * w (ix3 0 k ⟨1536 + j.val, by omega⟩) := by pointwise [tail, proj]
  rw [e]
  exact IsReal.sum fun k => (unit_real hx hg r k).mul (hw _)

theorem mixed_real (hx : ∀ i, IsReal (x i)) (hg : ∀ i, IsReal (g i)) (hw : ∀ i, IsReal (w i)) (hmu : ∀ i, IsReal (mu i)) (r : Fin 2048) (j : Fin 2176) :
    IsReal (mixed (tail (proj x g w)) mu (ix3 0 r j)) := by
  have ht := tail_real hx hg hw
  by_cases h0 : r.val = 0
  · rw [mixed_zero _ _ r h0]
    exact (ht _ _).add ((hmu _).mul (IsReal.zero.sub (ht _ _)))
  · rw [mixed_succ _ _ r ⟨r.val - 1, by omega⟩ (by simp only; omega)]
    exact (ht _ _).add ((hmu _).mul ((ht _ _).sub (ht _ _)))
end

/-- What the condition says of an entry. -/
theorem real_of {s : Shape} (a : FVec Ideal s .f32) {k : Fin 0 → Fin s.rank} (hb : Cert.Pre_finite4.S_.BroadcastsInDim s k)
    (h : cmpf .olt (Host.absf a) (broadcastInDim s k hb (constant Cert.Pre_finite4.S_ .f32 0x7F800000#32)) = fun _ => 1#1) (i) : IsReal (a i) := by
  have e := congrFun h i
  have et : Ideal.ofBits FTy.f32 0x7F800000#32 = ⊤ := by simp [Ideal.ofBits, Ideal.ieee]
  have e' : BitVec.ofBool (decide (max (a i : EReal) (-(a i)) < Ideal.ofBits FTy.f32 0x7F800000#32)) = 1#1 := e
  rw [et] at e'
  have hlt : max (a i : EReal) (-(a i)) < ⊤ := by
    by_contra hn
    rw [decide_eq_false hn] at e'
    exact absurd e' (by decide)
  have h1 : (a i : EReal) ≠ ⊤ := fun hh => by simp [hh] at hlt
  have h2 : (a i : EReal) ≠ ⊥ := fun hh => by simp [hh] at hlt
  exact ⟨EReal.toReal (a i), (EReal.coe_toReal h1 h2).symm⟩

section
variable (m : (ℓ : Loc nD τ sig) → Buf (Elt Ideal) ℓ) (c : Dev nD)

theorem key_real [hp : Cert.Pre_finite4.Facts] (h : Cert.Pre_Kernel4Ideal_finite4 m) (r : Fin 2048) (j : Fin 2176) (i : Fin 512) :
    IsReal (S m c (ix3 0 r j) * Kk m c (ix2 0 i)) := by
  obtain ⟨h0, h1, h2, h3, h4⟩ := h c
  exact (mixed_real (real_of _ _ h0) (real_of _ _ h1) (real_of _ _ h2) (real_of _ _ h3) r j).mul (real_of _ _ h4 _)

theorem normed_apply (r : Fin 2048) (h : Fin 8) (d : Fin 64) : flatHeads (normed (heads (S m c) (Kk m c))) (ix2 r (col h d))
    = Ideal.div (keys (S m c) (ix3 0 r (col h d)) * Kk m c (ix2 0 (col h d)))
      (max (Ideal.sqrt (∑ e, (keys (S m c) (ix3 0 r (col h e)) * Kk m c (ix2 0 (col h e))) * (keys (S m c) (ix3 0 r (col h e)) * Kk m c (ix2 0 (col h e)))))
        (Ideal.ofBits FTy.f32 0x2B8CBCCC#32)) := by
  have e1 : ∀ y : FVec Ideal Cert.Reference4Ideal.S1x2048x8x64 .f32, flatHeads y (ix2 r (col h d)) = y (ix4 0 r h d) := fun y => by
    unfold col
    pointwise [flatHeads]
  have e2 : ∀ e : Fin 64, heads (S m c) (Kk m c) (ix4 0 r h e) = keys (S m c) (ix3 0 r (col h e)) * Kk m c (ix2 0 (col h e)) := fun e => by
    unfold col
    pointwise [heads, wide]
    simp only [Nat.mul_comm]
  rw [e1]
  simp only [← e2]
  pointwise [normed]

theorem out17_apply [hp : Cert.Pre_finite4.Facts] (hf : Cert.Pre_Kernel4Ideal_finite4 m) (t : Fin cfg0.N) (i : Fin 256) (j : Fin 512) :
    (outsAt0 m c t.val t.isLt).2.2.2.2.2.2.1 (ix2 i j) = flatHeads (normed (heads (S m c) (Kk m c))) (ix2 (row t i) j) := by
  have e : ∀ i j, extractStridedSlice S256x512 ![0, 512] (shifted m c t) slices_S256x2176_o0_512_S256x512 (ix2 i j)
      = keys (S m c) (ix3 0 (row t i) j) := fun i j => by
    pointwise [keys]
    rw [shifted_apply]
  have ek : ∀ (r : Fin 2048) (j : Fin 512), keys (S m c) (ix3 0 r j) = S m c (ix3 0 r ⟨512 + j.val, by omega⟩) := fun r j => by pointwise [keys]
  obtain ⟨h, d, rfl⟩ : ∃ h d, j = col h d := ⟨⟨j.val / 64, by omega⟩, ⟨j.val % 64, by omega⟩, Fin.ext (by simp only [col]; omega)⟩
  rw [(rest m c t).2.2.2.2.1, normed_apply, key_apply _ _ _ ?_ ?_]
  · simp only [e, read6]
  · intro a b
    pointwise [k0_pay13]
    rw [read10]
  · intro i j
    rw [e, ek, read6]
    exact key_real m c hf _ _ _

theorem final17 [hp : Cert.Pre_finite4.Facts] (hf : Cert.Pre_Kernel4Ideal_finite4 m) : (dats m 0 c).arrAt 17 (cfgs 0).N = flatHeads (normed (heads (S m c) (Kk m c))) := by
  refine (dats m 0 c).arrAt_eq_of_covers 17 _ (by decide +kernel) fun t ht y => ?_
  blk_simp
  rw [after0_17]
  idx_vars y
  rw [show (win0_17.blk t).view.emb (ix2 y0 y1) = ix2 (row t y0) y1 from by unfold row; blk_ext [idx t]]
  exact out17_apply m c hf t y0 y1
end

end Cert.Kernel4Ideal.Hand

end
-- ==== Proof.PrepRun.lean ====
module

public import proofs.«01_k».proof.Proof.PrepFinal
public import proofs.«01_k».proof.Proof.PrepNorm
public import proofs.«01_k».proof.Proof.Gen.Kernel4Ideal.Value
public import proofs.«01_k».proof.Proof.Gen.Reference4Ideal.Run
public import Idealize.ShloMosaic.Lib.Claim
public import Idealize.ShloMosaic.Adequacy

@[expose] public section

noncomputable section

/-! The reference's and the kernel's runs, one beside the other. -/

open Idealize.ShloMosaic Idealize.ShloMosaic.TcCoe Idealize.SL.Sem

namespace Cert.Reference4Ideal.Spec

theorem run_args : Cert.quiescent_Reference4Ideal (hReference4Ideal := Cert.Reference4Ideal.Gen.facts) := fun m g _ =>
  (θ_run defs _ _).mono (fun r h => ⟨fun c => (h c).2.2.2.2.2.2.2.2.2, sem_eq_zero_of_no_sems (by decide) r.2⟩) (Value.run m g)

end Cert.Reference4Ideal.Spec

namespace Cert.Kernel4Ideal.Hand

open Cert.Kernel4Ideal.Gen

/-- The shapes the condition of finiteness is read at. -/
theorem conditions : Cert.Pre_finite4.Facts := ⟨by decide, by decide, by decide, by decide, by decide⟩

section
variable (m : (ℓ : Loc nD τ sig) → Buf (Elt Ideal) ℓ) (m' : (ℓ : Loc Cert.Reference4Ideal.nD Cert.Reference4Ideal.τ Cert.Reference4Ideal.sig) → Buf (Elt Ideal) ℓ) (c : Dev nD)

/-- The two memories' arguments are the same. -/
def Same : Prop := m' (c.tc.loc Cert.Reference4Ideal.main_arg0) = m (c.tc.loc main_arg0) ∧ m' (c.tc.loc Cert.Reference4Ideal.main_arg1) = m (c.tc.loc main_arg1)
  ∧ m' (c.tc.loc Cert.Reference4Ideal.main_arg2) = m (c.tc.loc main_arg2) ∧ m' (c.tc.loc Cert.Reference4Ideal.main_arg3) = m (c.tc.loc main_arg3)
  ∧ m' (c.tc.loc Cert.Reference4Ideal.main_arg4) = m (c.tc.loc main_arg4) ∧ m' (c.tc.loc Cert.Reference4Ideal.main_arg5) = m (c.tc.loc main_arg5)
  ∧ m' (c.tc.loc Cert.Reference4Ideal.main_arg6) = m (c.tc.loc main_arg6) ∧ m' (c.tc.loc Cert.Reference4Ideal.main_arg7) = m (c.tc.loc main_arg7)
  ∧ m' (c.tc.loc Cert.Reference4Ideal.main_arg8) = m (c.tc.loc main_arg8) ∧ m' (c.tc.loc Cert.Reference4Ideal.main_arg9) = m (c.tc.loc main_arg9)

variable {m m' c}

theorem Same.columns (h : Same m m' c) : Cert.Reference4Ideal.Spec.S m' c = S m c := by
  obtain ⟨h0, h1, h2, h3, -⟩ := h
  unfold Cert.Reference4Ideal.Spec.S Cert.Reference4Ideal.Spec.P
  rw [h0, h1, h2, h3]

theorem Same.res84 (h : Same m m' c) : Cert.Reference4Ideal.Value.res_main_v84 m' c = (dats m 0 c).arrAt 14 (cfgs 0).N := by
  rw [Cert.Reference4Ideal.Spec.res84, final14, h.columns, h.2.2.2.2.1, h.2.2.2.2.2.1]

theorem Same.res85 (h : Same m m' c) : Cert.Reference4Ideal.Value.res_main_v85 m' c = (dats m 0 c).arrAt 15 (cfgs 0).N := by
  rw [Cert.Reference4Ideal.Spec.res85, final15, h.columns, h.2.2.2.2.2.2.1, h.2.2.2.2.2.2.2.1, h.2.2.2.2.2.2.2.2.2]

theorem Same.res87 (h : Same m m' c) (hf : Cert.Pre_Kernel4Ideal_finite4 (hPre_finite4 := conditions) m) :
    Cert.Reference4Ideal.Value.res_main_v87 m' c = (dats m 0 c).arrAt 17 (cfgs 0).N := by
  rw [Cert.Reference4Ideal.Spec.res87, final17 (hp := conditions) m c hf, h.columns, h.2.2.2.2.2.2.2.2.1]

theorem Same.res88 (h : Same m m' c) : Cert.Reference4Ideal.Value.res_main_v88 m' c = (dats m 0 c).arrAt 18 (cfgs 0).N := by
  rw [Cert.Reference4Ideal.Spec.res88, final18, h.columns, h.2.2.2.2.2.2.1, h.2.2.2.2.2.2.2.1]
end

/-- What is prepared for the recurrence. -/
theorem prepared : Cert.algebraic_Kernel4Ideal_Reference4Ideal_pre_finite4 (hKernel4Ideal := Cert.Kernel4Ideal.Gen.facts)
    (hReference4Ideal := Cert.Reference4Ideal.Gen.facts) (hPre_finite4 := conditions) := by
  pair_intro
  · exact Cert.Kernel4Ideal.Value.run_blocks m g
  · run_from Cert.Reference4Ideal.Value.run m' g'
    · exact (final11 m c).symm
    · exact (final12 m c).symm
    · exact (final13 m c).symm
    · exact Same.res84 (hagree c)
    · exact Same.res85 (hagree c)
    · exact (final16 m c).symm
    · exact Same.res87 (hagree c) hpre
    · exact Same.res88 (hagree c)
    · exact (final19 m c).symm

end Cert.Kernel4Ideal.Hand

end
-- ==== Proof.Recurrence.lean ====
module

public import proofs.«01_k».proof.Proof.Gen.Kernel7Ideal.Frame

/-! The forward recurrence, run at one grid point and over the grid: every load and store of its body stays within the
buffers it is handed, whatever they hold, so the call ends, with the arrays it was given unchanged. Nothing is said here
of what it leaves in its three results. -/

@[expose] public section

set_option maxRecDepth 16384

noncomputable section

namespace Cert.Kernel7Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Programs that give back what they were handed -/

/-- Run on core `c` from `P`, the program ends with `P`. -/
def Keeps (c : Dev nD) (P : sProp 𝕄) {α : Type} (p : Prog (TpuEff nD τ sig (Elt F) Λ₀ .tc) α) : Prop :=
  P ⊢ wp frame (wpE (defs₀ (F := F)) Variants.none (c : Thread nD τ) none) Set.univ p fun _ => P

/-- `P` includes the buffer behind `m`, whole, at contents that may change. -/
def Holds (c : Dev nD) (P : sProp 𝕄) {sp : Space} {s : Shape} {e : EltTy} (m : Memref sig .tc sp s e) : Prop :=
  P ⊢ iprop((∃ f, m.view.loc (c : Thread nD τ) ↦[m.view.set]{fullShare} f)
    ∗ ((∃ f, m.view.loc (c : Thread nD τ) ↦[m.view.set]{fullShare} f) -∗ P))

variable {c : Dev nD} {P : sProp (MT nD τ sig Unit (Elt F) ℕ (UR sig nD τ) ℕ)}

theorem Keeps.pure {α : Type} (a : α) : Keeps (F := F) c P (Pure.pure a) := by
  unfold Keeps
  exact le_wp_ret _ (wpE (defs₀ (F := F)) Variants.none (c : Thread nD τ) none) Set.univ a fun _ => P

theorem Keeps.bind {α β : Type} {p : Prog (TpuEff nD τ sig (Elt F) Λ₀ .tc) α} {k : α → Prog (TpuEff nD τ sig (Elt F) Λ₀ .tc) β}
    (hp : Keeps c P p) (hk : ∀ a, Keeps c P (k a)) : Keeps c P (p >>= k) := by
  unfold Keeps
  rw [wp_bind]
  exact BI.Entails.trans hp (wp_mono _ _ _ fun a => hk a)

theorem Keeps.load {cs : CoreSpace} {s : Shape} {e : EltTy} {m : Memref sig .tc cs s e} {r : LoadRect s} {hl : m.view.LoadsAt r}
    (h : Holds c P m) : Keeps c P (Prog.lift (.load m r hl)) := by
  unfold Keeps
  refine BIBase.Entails.trans h ?_
  iintro ⟨⟨%f, H⟩, K⟩
  have w : iprop((m.view.loc (c : Thread nD τ) ↦[m.view.set]{fullShare} f)
        ∗ ((m.view.loc (c : Thread nD τ) ↦[m.view.set]{fullShare} f)
          -∗ wp frame (wpE (defs₀ (F := F)) Variants.none (c : Thread nD τ) none) Set.univ (.ret (m.view.readAt (Elt F) r f)) fun _ => P))
      ⊢ wp frame (wpE (defs₀ (F := F)) Variants.none (c : Thread nD τ) none) Set.univ (Prog.lift (.load m r hl)) fun _ => P :=
    BI.wand_elim (wp_load (defs := defs₀ (F := F)) Variants.none (c : Thread nD τ) none Set.univ (View.setOn_subset_set _ _))
  iapply w
  isplitl [H]; · iexact H
  iintro H
  iapply (le_wp_ret _ (wpE (defs₀ (F := F)) Variants.none (c : Thread nD τ) none) Set.univ (m.view.readAt (Elt F) r f) fun _ => P)
  iapply K
  iexists f; iexact H

theorem Keeps.store {cs : CoreSpace} {s : Shape} {e : EltTy} {m : Memref sig .tc cs s e} {r : Rect s} {w : r.shape.Idx → Elt F e}
    {Mk : Finset r.shape.Idx} {hx : (m.access r).Stores Mk} {hm : Mk = Finset.univ ∨ ∀ a, r.stride a = 1}
    (h : Holds c P m) : Keeps c P (Prog.lift (.store m r w Mk hx hm)) := by
  unfold Keeps
  refine BIBase.Entails.trans h ?_
  iintro ⟨⟨%f, H⟩, K⟩
  have hs : (m.access r).setOn Mk ⊆ m.view.set := (View.setOn_subset_set _ _).trans (View.set_slice_subset _ _)
  have step : iprop((m.view.loc (c : Thread nD τ) ↦[m.view.set]{fullShare} f)
        ∗ ((m.view.loc (c : Thread nD τ) ↦[m.view.set]{fullShare} (m.access r).write (Elt F) f w Mk)
          -∗ wp frame (wpE (defs₀ (F := F)) Variants.none (c : Thread nD τ) none) Set.univ (Prog.ret PUnit.unit) fun _ => P))
      ⊢ wp frame (wpE (defs₀ (F := F)) Variants.none (c : Thread nD τ) none) Set.univ (Prog.lift (.store m r w Mk hx hm)) fun _ => P :=
    BI.wand_elim (wp_store (defs := defs₀ (F := F)) Variants.none (c : Thread nD τ) none Set.univ (k := Prog.ret) (Q := fun _ => P)
      (hx := hx) (hm := hm) (w := w) (f := f) hs)
  iapply step
  isplitl [H]; · iexact H
  iintro H
  iapply (le_wp_ret _ (wpE (defs₀ (F := F)) Variants.none (c : Thread nD τ) none) Set.univ PUnit.unit fun _ => P)
  iapply K
  iexists _; iexact H

/-! ## The body -/

set_option maxHeartbeats 40000000 in
/-- The first half of the steps. -/
theorem first_half (i : grid0.Coords) (arg1 : Memref sig .tc .vmem S64x512 .f32) (harg1 : arg1.IsWhole) (arg2 : Memref
    sig .tc .vmem S64x512 .f32) (harg2 : arg2.IsWhole) (arg3 : Memref sig .tc .vmem S64x512 .f32) (harg3 :
    arg3.IsWhole) (arg4 : Memref sig .tc .vmem S64x512 .f32) (harg4 : arg4.IsWhole) (arg5 : Memref sig .tc .vmem
    S64x512 .f32) (harg5 : arg5.IsWhole) (arg6 : Memref sig .tc .vmem S64x512 .f32) (harg6 : arg6.IsWhole) (arg7 :
    Memref sig .tc .vmem S64x512 .f32) (harg7 : arg7.IsWhole) (arg8 : Memref sig .tc .vmem S64x64x512 .f32) (harg8 :
    arg8.IsWhole) (arg9 : Memref sig .tc .vmem S64x512 .f32) (harg9 : arg9.IsWhole) (arg10 : Memref sig .tc .vmem
    S64x512 .f32) (harg10 : arg10.IsWhole) (arg11 : Memref sig .tc .vmem S64x512 .f32) (harg11 : arg11.IsWhole) (arg12
    : Memref sig .tc .vmem S64x512 .f32) (harg12 : arg12.IsWhole)  (h1 : Holds c P arg1) (h2 : Holds c P arg2) (h3 :
    Holds c P arg3) (h4 : Holds c P arg4) (h5 : Holds c P arg5) (h6 : Holds c P arg6) (h7 : Holds c P arg7) (h8 :
    Holds c P arg8) (h9 : Holds c P arg9) (h10 : Holds c P arg10) (h11 : Holds c P arg11) (h12 : Holds c P arg12) :
    Keeps (F := F) c P (k0_part145 (F := F) i arg1 harg1 arg2 harg2 arg3 harg3 arg4 harg4 arg5 harg5 arg6 harg6 arg7
    harg7 arg8 harg8 arg9 harg9 arg10 harg10 arg11 harg11 arg12 harg12 ) := by
  delta k0_part145
  repeat' first
    | with_reducible refine Keeps.bind ?_ fun _ => ?_
    | with_reducible exact Keeps.load (by assumption)
    | with_reducible exact Keeps.store (by assumption)
    | with_reducible exact Keeps.pure _
    | extract_lets
    | split
    | first
      | delta k0_part1 | delta k0_part2 | delta k0_part3 | delta k0_part4 | delta k0_part5 | delta k0_part6
      | delta k0_part7 | delta k0_part8 | delta k0_part9 | delta k0_part10 | delta k0_part11 | delta k0_part12
      | delta k0_part13 | delta k0_part14 | delta k0_part15 | delta k0_part16 | delta k0_part17 | delta k0_part18
      | delta k0_part19 | delta k0_part20 | delta k0_part21 | delta k0_part22 | delta k0_part23 | delta k0_part24
      | delta k0_part25 | delta k0_part26 | delta k0_part27 | delta k0_part28 | delta k0_part29 | delta k0_part30
      | delta k0_part31 | delta k0_part32 | delta k0_part33 | delta k0_part34 | delta k0_part35 | delta k0_part36
      | delta k0_part37 | delta k0_part38 | delta k0_part39 | delta k0_part40 | delta k0_part41 | delta k0_part42
      | delta k0_part43 | delta k0_part44 | delta k0_part45 | delta k0_part46 | delta k0_part47 | delta k0_part48
      | delta k0_part49 | delta k0_part50 | delta k0_part51 | delta k0_part52 | delta k0_part53 | delta k0_part54
      | delta k0_part55 | delta k0_part56 | delta k0_part57 | delta k0_part58 | delta k0_part59 | delta k0_part60

set_option maxHeartbeats 40000000 in
/-- The steps after them, but for the last ones. -/
theorem second_half (i : grid0.Coords) (arg1 : Memref sig .tc .vmem S64x512 .f32) (harg1 : arg1.IsWhole) (arg2 :
    Memref sig .tc .vmem S64x512 .f32) (harg2 : arg2.IsWhole) (arg3 : Memref sig .tc .vmem S64x512 .f32) (harg3 :
    arg3.IsWhole) (arg4 : Memref sig .tc .vmem S64x512 .f32) (harg4 : arg4.IsWhole) (arg5 : Memref sig .tc .vmem
    S64x512 .f32) (harg5 : arg5.IsWhole) (arg6 : Memref sig .tc .vmem S64x512 .f32) (harg6 : arg6.IsWhole) (arg7 :
    Memref sig .tc .vmem S64x512 .f32) (harg7 : arg7.IsWhole) (arg8 : Memref sig .tc .vmem S64x64x512 .f32) (harg8 :
    arg8.IsWhole) (arg9 : Memref sig .tc .vmem S64x512 .f32) (harg9 : arg9.IsWhole) (arg10 : Memref sig .tc .vmem
    S64x512 .f32) (harg10 : arg10.IsWhole) (arg11 : Memref sig .tc .vmem S64x512 .f32) (harg11 : arg11.IsWhole) (arg12
    : Memref sig .tc .vmem S64x512 .f32) (harg12 : arg12.IsWhole) (v14 : FVec F S384x128 .bf16) (v16 : FVec F S64x512
    .f32) (v18 : FVec F S64x512 .f32) (v20 : FVec F S64x512 .f32) (v24 : FVec F S64x512 .f32) (v27 : FVec F S64x512
    .f32) (v48 : FVec F S64x512 .f32) (v49 : FVec F S512x64 .f32) (v2994 : FVec F S64x512 .f32) (v2998 : FVec F
    S64x512 .f32) (v3016 : FVec F S64x512 .f32) (v3027 : FVec F S256x128 .f32) (h1 : Holds c P arg1) (h2 : Holds c P
    arg2) (h3 : Holds c P arg3) (h4 : Holds c P arg4) (h5 : Holds c P arg5) (h6 : Holds c P arg6) (h7 : Holds c P
    arg7) (h8 : Holds c P arg8) (h9 : Holds c P arg9) (h10 : Holds c P arg10) (h11 : Holds c P arg11) (h12 : Holds c P
    arg12) : Keeps (F := F) c P (k0_part146 (F := F) i arg1 harg1 arg2 harg2 arg3 harg3 arg4 harg4 arg5 harg5 arg6
    harg6 arg7 harg7 arg8 harg8 arg9 harg9 arg10 harg10 arg11 harg11 arg12 harg12 v14 v16 v18 v20 v24 v27 v48 v49
    v2994 v2998 v3016 v3027) := by
  delta k0_part146
  repeat' first
    | with_reducible refine Keeps.bind ?_ fun _ => ?_
    | with_reducible exact Keeps.load (by assumption)
    | with_reducible exact Keeps.store (by assumption)
    | with_reducible exact Keeps.pure _
    | extract_lets
    | split
    | first
      | delta k0_part61 | delta k0_part62 | delta k0_part63 | delta k0_part64 | delta k0_part65 | delta k0_part66
      | delta k0_part67 | delta k0_part68 | delta k0_part69 | delta k0_part70 | delta k0_part71 | delta k0_part72
      | delta k0_part73 | delta k0_part74 | delta k0_part75 | delta k0_part76 | delta k0_part77 | delta k0_part78
      | delta k0_part79 | delta k0_part80 | delta k0_part81 | delta k0_part82 | delta k0_part83 | delta k0_part84
      | delta k0_part85 | delta k0_part86 | delta k0_part87 | delta k0_part88 | delta k0_part89 | delta k0_part90
      | delta k0_part91 | delta k0_part92 | delta k0_part93 | delta k0_part94 | delta k0_part95 | delta k0_part96
      | delta k0_part97 | delta k0_part98 | delta k0_part99 | delta k0_part100 | delta k0_part101 | delta k0_part102
      | delta k0_part103 | delta k0_part104 | delta k0_part105 | delta k0_part106 | delta k0_part107
      | delta k0_part108 | delta k0_part109 | delta k0_part110 | delta k0_part111 | delta k0_part112
      | delta k0_part113 | delta k0_part114 | delta k0_part115 | delta k0_part116 | delta k0_part117
      | delta k0_part118 | delta k0_part119 | delta k0_part120

set_option maxHeartbeats 40000000 in
/-- The body: every load and store of it is of a buffer it holds. -/
theorem body (i : grid0.Coords) (arg1 : Memref sig .tc .vmem S64x512 .f32) (harg1 : arg1.IsWhole) (arg2 : Memref sig
    .tc .vmem S64x512 .f32) (harg2 : arg2.IsWhole) (arg3 : Memref sig .tc .vmem S64x512 .f32) (harg3 : arg3.IsWhole)
    (arg4 : Memref sig .tc .vmem S64x512 .f32) (harg4 : arg4.IsWhole) (arg5 : Memref sig .tc .vmem S64x512 .f32)
    (harg5 : arg5.IsWhole) (arg6 : Memref sig .tc .vmem S64x512 .f32) (harg6 : arg6.IsWhole) (arg7 : Memref sig .tc
    .vmem S64x512 .f32) (harg7 : arg7.IsWhole) (arg8 : Memref sig .tc .vmem S64x64x512 .f32) (harg8 : arg8.IsWhole)
    (arg9 : Memref sig .tc .vmem S64x512 .f32) (harg9 : arg9.IsWhole) (arg10 : Memref sig .tc .vmem S64x512 .f32)
    (harg10 : arg10.IsWhole) (arg11 : Memref sig .tc .vmem S64x512 .f32) (harg11 : arg11.IsWhole) (arg12 : Memref sig
    .tc .vmem S64x512 .f32) (harg12 : arg12.IsWhole)  (h1 : Holds c P arg1) (h2 : Holds c P arg2) (h3 : Holds c P
    arg3) (h4 : Holds c P arg4) (h5 : Holds c P arg5) (h6 : Holds c P arg6) (h7 : Holds c P arg7) (h8 : Holds c P
    arg8) (h9 : Holds c P arg9) (h10 : Holds c P arg10) (h11 : Holds c P arg11) (h12 : Holds c P arg12) : Keeps (F :=
    F) c P (cc0_wkv_fwd (F := F) i arg1 harg1 arg2 harg2 arg3 harg3 arg4 harg4 arg5 harg5 arg6 harg6 arg7 harg7 arg8
    harg8 arg9 harg9 arg10 harg10 arg11 harg11 arg12 harg12 ) := by
  delta cc0_wkv_fwd
  repeat' first
    | with_reducible refine Keeps.bind ?_ fun _ => ?_
    | with_reducible exact Keeps.load (by assumption)
    | with_reducible exact Keeps.store (by assumption)
    | with_reducible exact Keeps.pure _
    | extract_lets
    | split
    | with_reducible exact first_half _ _ _ _ _ _ _ _ _ _ _ _ _ _ _ _ _ _ _ _ _ _ _ _ _ (by assumption) (by assumption) (by assumption) (by assumption) (by assumption) (by assumption) (by assumption) (by assumption) (by assumption) (by assumption) (by assumption) (by assumption)
    | with_reducible exact second_half _ _ _ _ _ _ _ _ _ _ _ _ _ _ _ _ _ _ _ _ _ _ _ _ _ _ _ _ _ _ _ _ _ _ _ _ _ (by assumption) (by assumption) (by assumption) (by assumption) (by assumption) (by assumption) (by assumption) (by assumption) (by assumption) (by assumption) (by assumption) (by assumption)
    | first
      | delta k0_part121 | delta k0_part122 | delta k0_part123 | delta k0_part124 | delta k0_part125
      | delta k0_part126 | delta k0_part127 | delta k0_part128 | delta k0_part129 | delta k0_part130
      | delta k0_part131 | delta k0_part132 | delta k0_part133 | delta k0_part134 | delta k0_part135
      | delta k0_part136 | delta k0_part137 | delta k0_part138 | delta k0_part139 | delta k0_part140
      | delta k0_part141 | delta k0_part142 | delta k0_part143 | delta k0_part144

/-! ## At one grid point -/

theorem Holds.owned {sp : Space} {s : Shape} {e : EltTy} (m : Memref sig .tc sp s e) :
    Holds (F := F) c iprop(∃ X, owns (c : Thread nD τ) m fullShare X) m := by
  unfold Holds owns
  iintro ⟨%X, %f, -, H⟩
  isplitl [H]
  · iexists f; iexact H
  iintro ⟨%f', H⟩
  iexists (m.view.read (Elt F) f')
  iexists f'
  isplitr
  · ipureintro; rfl
  iexact H

theorem Holds.left {Q : sProp 𝕄} {sp : Space} {s : Shape} {e : EltTy} {m : Memref sig .tc sp s e} (h : Holds c P m) :
    Holds c iprop(P ∗ Q) m := by
  unfold Holds at h ⊢
  iintro ⟨HP, HQ⟩
  ihave H := h $$ HP
  icases H with ⟨H, K⟩
  isplitl [H]; · iexact H
  iintro H
  isplitl [K H]
  · iapply K; iexact H
  iexact HQ

theorem Holds.right {Q : sProp 𝕄} {sp : Space} {s : Shape} {e : EltTy} {m : Memref sig .tc sp s e} (h : Holds c P m) :
    Holds c iprop(Q ∗ P) m := by
  unfold Holds at h ⊢
  iintro ⟨HQ, HP⟩
  ihave H := h $$ HP
  icases H with ⟨H, K⟩
  isplitl [H]; · iexact H
  iintro H
  isplitl [HQ]; · iexact HQ
  iapply K; iexact H

variable (m : (ℓ : Loc nD τ sig) → Buf (Elt F) ℓ) (ρ : Dev nD → PrngReg)

/-- Every window is forgotten: the claim reads none of the arrays behind them. -/
def forgets : Fin 9 → Bool := fun _ => true

/-- The launch's data: the arrays as the call finds them, nothing named of what the body leaves in the windows. -/
def dats (_ : Fin 1) (c : Dev nD) : Dat τ (Elt F) Unit ℕ (UR sig nD τ) ℕ cfg0 c where
  A w := Gen.V m c (Pipeline.arrRef spec0 w)
  after w t := Pipeline.Dat.unnamed (cfg := cfg0) w t
  Φ _ := Pipeline.ΦA spec0 c
  q _ := fullShare
  owed _ := 0

theorem A_eq (c : Dev nD) (w : Fin cfg0.W) : (dats m 0 c).A w = Gen.V m c (Pipeline.arrRef spec0 w) := by
  dsimp only [dats]

/-- What the body is handed at a point, and hands back: the scratch buffers, the nine windows' buffers, each at some contents. -/
def handed (c : Dev nD) (t : Fin cfg0.N) : sProp 𝕄 :=
  iprop((((∃ X, owns (c : Thread nD τ) (Memref.whole cc0_scratch0) fullShare X)
      ∗ (∃ X, owns (c : Thread nD τ) (Memref.whole cc0_scratch1) fullShare X)
      ∗ (∃ X, owns (c : Thread nD τ) (Memref.whole cc0_scratch2) fullShare X)) ∗ (∃ r, prngReg c r))
    ∗ (dats m 0 c).owesAt () t.castSucc
    ∗ (∃ X, owns (c : Thread nD τ) (Gen.st0_0 t) fullShare X)
    ∗ (∃ X, owns (c : Thread nD τ) (Gen.st0_1 t) fullShare X)
    ∗ (∃ X, owns (c : Thread nD τ) (Gen.st0_2 t) fullShare X)
    ∗ (∃ X, owns (c : Thread nD τ) (Gen.st0_3 t) fullShare X)
    ∗ (∃ X, owns (c : Thread nD τ) (Gen.st0_4 t) fullShare X)
    ∗ (∃ X, owns (c : Thread nD τ) (Gen.st0_5 t) fullShare X)
    ∗ (∃ X, owns (c : Thread nD τ) (Gen.st0_6 t) fullShare X)
    ∗ (∃ X, owns (c : Thread nD τ) (Gen.st0_7 t) fullShare X)
    ∗ (∃ X, owns (c : Thread nD τ) (Gen.st0_8 t) fullShare X))

theorem scratch_eq (c : Dev nD) :
    (Pipeline.ΦA spec0 c : sProp 𝕄)
      = iprop(((∃ X, owns (c : Thread nD τ) (Memref.whole cc0_scratch0) fullShare X)
        ∗ (∃ X, owns (c : Thread nD τ) (Memref.whole cc0_scratch1) fullShare X)
        ∗ (∃ X, owns (c : Thread nD τ) (Memref.whole cc0_scratch2) fullShare X)) ∗ (∃ r, prngReg c r)) := by
  unfold Pipeline.ΦA
  rw [Gen.scopedRest0_eq]
  simp only [owns_whole]

theorem keeps_point (c : Dev nD) (t : Fin cfg0.N) : Keeps c (handed m c t) (Gen.bodyAt0 t) := by
  unfold Gen.bodyAt0 handed
  refine body _ _ _ _ _ _ _ _ _ _ _ _ _ _ _ _ _ _ _ _ _ _ _ _ _ ?_ ?_ ?_ ?_ ?_ ?_ ?_ ?_ ?_ ?_ ?_ ?_
  · exact (Holds.owned _).left.right.right
  · exact (Holds.owned _).left.right.right.right
  · exact (Holds.owned _).left.right.right.right.right
  · exact (Holds.owned _).left.right.right.right.right.right
  · exact (Holds.owned _).left.right.right.right.right.right.right
  · exact (Holds.owned _).left.right.right.right.right.right.right.right
  · exact (Holds.owned _).left.right.right.right.right.right.right.right.right
  · exact (Holds.owned _).left.right.right.right.right.right.right.right.right.right
  · exact (Holds.owned _).right.right.right.right.right.right.right.right.right.right
  · exact (Holds.owned _).left.left.left
  · exact (Holds.owned _).left.right.left.left
  · exact (Holds.owned _).right.right.left.left

theorem row (t : Fin cfg0.N) :
    defs₀ (F := F) .tc cfg0.body (cfg0.bodyArgs t (cfg0.slots t)) = Gen.bodyAt0 t := by
  unfold defs₀; rw [Defs.onTc_tc]

theorem obligation (c : Dev nD) : BodyObligation (dats (F := F) m 0 c) (defs₀ (F := F)) Variants.none () Set.univ forgets :=
  fun t => by
    rw [Gen.bigSep_W0, Gen.bigSep_W0, row]
    have hp : (dats m 0 c).Φ t.castSucc = _ := scratch_eq c
    have hq : (dats m 0 c).Φ t.succ = _ := scratch_eq c
    rw [hp, hq]
    exact triple_restated (keeps_point m c t) rfl .rfl fun _ => .rfl

/-! ## Over the grid -/

set_option backward.isDefEq.respectTransparency.types false in
/-- The program ends from any memory, with every buffer that no window stages as the call found it. -/
theorem run : θ_run defs (onTc (τ := τ) (main (F := F))) (s₀ m ρ) (fun r =>
    Pipeline.RDat.FramePost (cfgs 0) (fun c => (dats m 0 c).toRForget forgets) (Gen.V m) r ∧ r.2.sem = fun _ => 0) :=
  Pipeline.θ_run_frame_forget (Q' := _) cfgs (dats m) (0 : Fin 1) Gen.launch0 defs₀ Variants.none forgets m ρ main
    (hbody := fun c => (obligation m c).loose) (hshare := fun c => (dats m 0 c).share_full fun _ => rfl)
    (howed := fun _ _ => rfl) (V := Gen.V m) (hmain := Gen.hmain m Variants.none) (hA := A_eq m) (hΦ := fun _ _ => rfl)

/-- The program ends, its arguments unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c =>
    ⟨((h.1 c).2 main_arg0 (Pipeline.mem_restRefs_of main_arg0 (by decide) (by decide))).trans (Gen.V_main_arg0 m c),
      ((h.1 c).2 main_arg1 (Pipeline.mem_restRefs_of main_arg1 (by decide) (by decide))).trans (Gen.V_main_arg1 m c),
      ((h.1 c).2 main_arg2 (Pipeline.mem_restRefs_of main_arg2 (by decide) (by decide))).trans (Gen.V_main_arg2 m c),
      ((h.1 c).2 main_arg3 (Pipeline.mem_restRefs_of main_arg3 (by decide) (by decide))).trans (Gen.V_main_arg3 m c),
      ((h.1 c).2 main_arg4 (Pipeline.mem_restRefs_of main_arg4 (by decide) (by decide))).trans (Gen.V_main_arg4 m c),
      ((h.1 c).2 main_arg5 (Pipeline.mem_restRefs_of main_arg5 (by decide) (by decide))).trans (Gen.V_main_arg5 m c)⟩, h.2⟩)
    (run m ρ)

end Cert.Kernel7Ideal.Hand

end
-- ==== Proof.lean ====
/- The claims about the gradients of the input projection and of the retention, about the retention, about the input
   projection with what it prepares for the recurrence, about the sums of the projection's gradient and its optimiser
   step; and that the forward recurrence ends with its arguments unchanged. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Halves
public import proofs.«01_k».proof.Proof.Gain
public import proofs.«01_k».proof.Proof.RetFinal
public import proofs.«01_k».proof.Proof.Update
public import proofs.«01_k».proof.Proof.RetRun
public import proofs.«01_k».proof.Proof.FwdFinal
public import proofs.«01_k».proof.Proof.FwdRun
public import proofs.«01_k».proof.Proof.PrepRun
public import proofs.«01_k».proof.Proof.Recurrence
public import Idealize.ShloMosaic.Lib.Claim
public import Idealize.ShloMosaic.Adequacy
public import Idealize.ShloMosaic.Init

@[expose] public section

noncomputable section

namespace Cert.Proof

open Idealize.ShloMosaic Idealize.ShloMosaic.TcCoe Idealize.ShloMosaic.Tactic Idealize.SL.Sem

/-- The four named decays. -/
theorem named : Cert.preserves_Kernel2_Kernel2Ideal :=
  ⟨IdealRules.named_const.statement _ "gamma3" .f32 _ _ rfl, IdealRules.named_const.statement _ "gamma2" .f32 _ _ rfl,
    IdealRules.named_const.statement _ "gamma1" .f32 _ _ rfl, IdealRules.named_const.statement _ "gamma0" .f32 _ _ rfl⟩

/-- The retention's gradient. -/
theorem retention : Cert.algebraic_Kernel2Ideal_Reference2Ideal (hKernel2Ideal := Cert.Kernel2Ideal.Gen.facts)
    (hReference2Ideal := Cert.Reference2Ideal.Gen.facts) := by
  pair_intro
  · exact Cert.Kernel2Ideal.Value.run_blocks m g
  · run_from Cert.Reference2Ideal.Hand.run_grads m' g'
    exact (Cert.Kernel2Ideal.Hand.final (m := m) (W := StableHlo.launchContents m' c) ⟨(hagree c).1, (hagree c).2⟩).symm

/-- The same four decays, in the retention. -/
theorem named_forward : Cert.preserves_Kernel3_Kernel3Ideal :=
  ⟨IdealRules.named_const.statement _ "gamma0" .f32 _ _ rfl, IdealRules.named_const.statement _ "gamma1" .f32 _ _ rfl,
    IdealRules.named_const.statement _ "gamma2" .f32 _ _ rfl, IdealRules.named_const.statement _ "gamma3" .f32 _ _ rfl⟩

/-- The retention. -/
theorem forward : Cert.algebraic_Kernel3Ideal_Reference3Ideal (hKernel3Ideal := Cert.Kernel3Ideal.Gen.facts)
    (hReference3Ideal := Cert.Reference3Ideal.Gen.facts) := by
  pair_intro
  · exact Cert.Kernel3Ideal.Value.run_blocks m g
  · run_from Cert.Reference3Ideal.Hand.run_given m' g'
    · exact (Cert.Kernel3Ideal.Hand.final_outs (m := m) (Cert.Reference3Ideal.Hand.given_arg _)).symm
    · exact (Cert.Kernel3Ideal.Hand.final_saved (m := m) (Cert.Reference3Ideal.Hand.given_arg _)).symm

/-- The optimiser's step on the input projection's weight. -/
theorem update : Cert.algebraic_Kernel5Ideal_Reference5Ideal (hKernel5Ideal := Cert.Kernel5Ideal.Gen.facts)
    (hReference5Ideal := Cert.Reference5Ideal.Gen.facts) := by
  pair_intro
  · exact Cert.Kernel5Ideal.Value.run_blocks m g
  · run_from Cert.Reference5Ideal.Spec.run_step m' g'
    · exact (Cert.Kernel5Ideal.Hand.final4 m c).symm
    · exact (Cert.Kernel5Ideal.Hand.final5 m c).symm
    · exact (Cert.Kernel5Ideal.Hand.final6 m c).symm
    · exact (Cert.Kernel5Ideal.Hand.final7 m c).symm

/-- The sum of two devices' halves of the weight's gradient. -/
theorem pairs : Cert.algebraic_Kernel6Ideal_Reference6Ideal (hKernel6Ideal := Cert.Kernel6Ideal.Gen.facts)
    (hReference6Ideal := Cert.Reference6Ideal.Gen.facts) := by
  pair_intro
  · exact Cert.Kernel6Ideal.Value.run m g
  · run_from Cert.Reference6Ideal.Value.run m' g'
    rfl

/-- The forward recurrence ends in its own arithmetic: its program has the text of its ideal program. -/
theorem recurrence : Cert.quiescent_Kernel7 (hKernel7 := Cert.Kernel7.Gen.facts) := fun m g _ =>
  Eq.mpr (by sl_kernel_rfl) (Cert.Kernel7Ideal.Hand.frame (F := Bits) m g)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel4Ideal.Hand.conditions, by
  refine ⟨fun m g _ => Cert.Kernel.Gen.frame m g, fun m g _ => Cert.KernelIdeal.Gen.frame m g, ?_,
    fun m g _ => Cert.Kernel2.Gen.frame m g, fun m g _ => Cert.Kernel2Ideal.Gen.frame m g, ?_,
    fun m g _ => Cert.Kernel3.Gen.frame m g, fun m g _ => Cert.Kernel3Ideal.Gen.frame m g, ?_,
    fun m g _ => Cert.Kernel4.Gen.frame m g, fun m g _ => Cert.Kernel4Ideal.Gen.frame m g, fun m g _ => Cert.Kernel4Ideal.Gen.frame m g,
    fun m g _ => Cert.Reference4Ideal.Spec.run_args m g trivial, fun m g _ => Cert.Reference4Ideal.Spec.run_args m g trivial,
    fun m g _ => Cert.Kernel5.Gen.frame m g, fun m g _ => Cert.Kernel5Ideal.Gen.frame m g, ?_,
    fun m g _ => Cert.Kernel6.Gen.frame m g, fun m g _ => Cert.Kernel6Ideal.Gen.frame m g, ?_,
    recurrence, fun m g _ => Cert.Kernel7Ideal.Hand.frame m g, ?_,
    trivial, ?_, named, retention, named_forward, forward, trivial, Cert.Kernel4Ideal.Hand.prepared,
    trivial, update, trivial, pairs, trivial⟩
  · intro m g _
    exact (θ_run Cert.ReferenceIdeal.defs _ _).mono (fun r h => ⟨fun c => (h c).2.2.2.2, sem_eq_zero_of_no_sems (by decide) r.2⟩)
      (Cert.ReferenceIdeal.Value.run m g)
  · intro m g _
    exact (θ_run Cert.Reference2Ideal.defs _ _).mono (fun r h => ⟨fun c => (h c).2, sem_eq_zero_of_no_sems (by decide) r.2⟩)
      (Cert.Reference2Ideal.Value.run m g)
  · intro m g _
    exact (θ_run Cert.Reference3Ideal.defs _ _).mono (fun r h => ⟨fun c => (h c).2.2, sem_eq_zero_of_no_sems (by decide) r.2⟩)
      (Cert.Reference3Ideal.Value.run m g)
  · intro m g _
    exact (θ_run Cert.Reference5Ideal.defs _ _).mono (fun r h => ⟨fun c => (h c).2.2.2.2, sem_eq_zero_of_no_sems (by decide) r.2⟩)
      (Cert.Reference5Ideal.Value.run m g)
  · intro m g _
    exact (θ_run Cert.Reference6Ideal.defs _ _).mono (fun r h => ⟨fun c => (h c).2, sem_eq_zero_of_no_sems (by decide) r.2⟩)
      (Cert.Reference6Ideal.Value.run m g)
  · intro m g _
    exact (θ_run Cert.Reference7Ideal.defs _ _).mono (fun r h => ⟨fun c => (h c).2.2.2, sem_eq_zero_of_no_sems (by decide) r.2⟩)
      (Cert.Reference7Ideal.Value.run m g)
  · pair_intro
    · run_from Cert.KernelIdeal.Gen.run_main m g
    · run_from Cert.ReferenceIdeal.Value.run m' g'
      · obtain ⟨h0, h1, h2, h3, h4⟩ := hagree c
        refine Eq.trans (b := Cert.ReferenceIdeal.Spec.dX (m' ((c : Thread Cert.ReferenceIdeal.nD Cert.ReferenceIdeal.τ).loc Cert.ReferenceIdeal.main_arg0)) (m' ((c : Thread Cert.ReferenceIdeal.nD Cert.ReferenceIdeal.τ).loc Cert.ReferenceIdeal.main_arg1))
          (m' ((c : Thread Cert.ReferenceIdeal.nD Cert.ReferenceIdeal.τ).loc Cert.ReferenceIdeal.main_arg2)) (m' ((c : Thread Cert.ReferenceIdeal.nD Cert.ReferenceIdeal.τ).loc Cert.ReferenceIdeal.main_arg3)) (m' ((c : Thread Cert.ReferenceIdeal.nD Cert.ReferenceIdeal.τ).loc Cert.ReferenceIdeal.main_arg4))) (by unfold Cert.ReferenceIdeal.Value.res_main_v44; rfl) ?_
        rw [h0, h1, h2, h3, h4]
        exact (Cert.KernelIdeal.Hand.final7 m c).symm
      · exact (Cert.KernelIdeal.Hand.final8 m c).symm
      · exact (Cert.KernelIdeal.Hand.final9 m c).symm
      · exact (Cert.KernelIdeal.Hand.final10 m c).symm⟩

end Cert.Proof

end
